-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_scores_finite_joined [hPre_scores_finite_joined : Cert.Pre_scores_finite_joined.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_scores_finite_joined.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_scores_finite_joined [hPre_scores_finite_joined : Cert.Pre_scores_finite_joined.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_scores_finite_joined.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_diff_finite [hPre_diff_finite : Cert.Pre_diff_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_diff_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_diff_finite [hPre_diff_finite : Cert.Pre_diff_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_diff_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_diff_finite_joined [hPre_diff_finite_joined : Cert.Pre_diff_finite_joined.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_diff_finite_joined.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_diff_finite_joined [hPre_diff_finite_joined : Cert.Pre_diff_finite_joined.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_diff_finite_joined.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_scores_finite_context [hPre_scores_finite_context : Cert.Pre_scores_finite_context.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_scores_finite_context.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_scores_finite_context [hPre_scores_finite_context : Cert.Pre_scores_finite_context.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_scores_finite_context.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_diff_finite_context [hPre_diff_finite_context : Cert.Pre_diff_finite_context.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_diff_finite_context.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_diff_finite_context [hPre_diff_finite_context : Cert.Pre_diff_finite_context.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_diff_finite_context.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_scores_finite_joined [hKernel6Ideal : Cert.Kernel6Ideal.Facts] [hPre_scores_finite_joined : Cert.Pre_scores_finite_joined.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_scores_finite_joined m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_scores_finite_joined [hReference6Ideal : Cert.Reference6Ideal.Facts] [hPre_scores_finite_joined : Cert.Pre_scores_finite_joined.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_scores_finite_joined m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_diff_finite [hKernel8Ideal : Cert.Kernel8Ideal.Facts] [hPre_diff_finite : Cert.Pre_diff_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_diff_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_diff_finite [hReference8Ideal : Cert.Reference8Ideal.Facts] [hPre_diff_finite : Cert.Pre_diff_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_diff_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_diff_finite_joined [hKernel9Ideal : Cert.Kernel9Ideal.Facts] [hPre_diff_finite_joined : Cert.Pre_diff_finite_joined.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_diff_finite_joined m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_diff_finite_joined [hReference9Ideal : Cert.Reference9Ideal.Facts] [hPre_diff_finite_joined : Cert.Pre_diff_finite_joined.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_diff_finite_joined m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_scores_finite_context [hKernel15Ideal : Cert.Kernel15Ideal.Facts] [hPre_scores_finite_context : Cert.Pre_scores_finite_context.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_scores_finite_context m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_scores_finite_context [hReference15Ideal : Cert.Reference15Ideal.Facts] [hPre_scores_finite_context : Cert.Pre_scores_finite_context.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_scores_finite_context m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Kernel16Ideal_pre_diff_finite_context [hKernel16Ideal : Cert.Kernel16Ideal.Facts] [hPre_diff_finite_context : Cert.Pre_diff_finite_context.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_diff_finite_context m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Reference16Ideal_pre_diff_finite_context [hReference16Ideal : Cert.Reference16Ideal.Facts] [hPre_diff_finite_context : Cert.Pre_diff_finite_context.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_diff_finite_context m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v99) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal_pre_scores_finite_joined [hKernel6Ideal : Cert.Kernel6Ideal.Facts] [hReference6Ideal : Cert.Reference6Ideal.Facts] [hPre_scores_finite_joined : Cert.Pre_scores_finite_joined.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_scores_finite_joined m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_diff_finite [hKernel8Ideal : Cert.Kernel8Ideal.Facts] [hReference8Ideal : Cert.Reference8Ideal.Facts] [hPre_diff_finite : Cert.Pre_diff_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_diff_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v66) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal_pre_diff_finite_joined [hKernel9Ideal : Cert.Kernel9Ideal.Facts] [hReference9Ideal : Cert.Reference9Ideal.Facts] [hPre_diff_finite_joined : Cert.Pre_diff_finite_joined.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_diff_finite_joined m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v69) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v103) = v0 c
          ∧ r.2.mem ((c.tc : Thread Cert.Reference10Ideal.nD Cert.Reference10Ideal.τ).loc Cert.Reference10Ideal.main_v105) = v1 c
          ∧ r.2.mem ((c.tc : Thread Cert.Reference10Ideal.nD Cert.Reference10Ideal.τ).loc Cert.Reference10Ideal.main_v107) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v108) = v0 c
          ∧ r.2.mem ((c.tc : Thread Cert.Reference11Ideal.nD Cert.Reference11Ideal.τ).loc Cert.Reference11Ideal.main_v110) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v93) = v0 c
          ∧ r.2.mem ((c.tc : Thread Cert.Reference12Ideal.nD Cert.Reference12Ideal.τ).loc Cert.Reference12Ideal.main_v95) = v1 c
          ∧ r.2.mem ((c.tc : Thread Cert.Reference12Ideal.nD Cert.Reference12Ideal.τ).loc Cert.Reference12Ideal.main_v97) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v93) = v0 c
          ∧ r.2.mem ((c.tc : Thread Cert.Reference13Ideal.nD Cert.Reference13Ideal.τ).loc Cert.Reference13Ideal.main_v95) = v1 c
          ∧ r.2.mem ((c.tc : Thread Cert.Reference13Ideal.nD Cert.Reference13Ideal.τ).loc Cert.Reference13Ideal.main_v97) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v98) = v0 c
          ∧ r.2.mem ((c.tc : Thread Cert.Reference14Ideal.nD Cert.Reference14Ideal.τ).loc Cert.Reference14Ideal.main_v100) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_scores_finite_context [hKernel15Ideal : Cert.Kernel15Ideal.Facts] [hReference15Ideal : Cert.Reference15Ideal.Facts] [hPre_scores_finite_context : Cert.Pre_scores_finite_context.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_scores_finite_context m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal_pre_diff_finite_context [hKernel16Ideal : Cert.Kernel16Ideal.Facts] [hReference16Ideal : Cert.Reference16Ideal.Facts] [hPre_diff_finite_context : Cert.Pre_diff_finite_context.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_diff_finite_context m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v61) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v18) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_scores_finite : Cert.Pre_scores_finite.Facts) (hPre_scores_finite_joined : Cert.Pre_scores_finite_joined.Facts) (hPre_diff_finite : Cert.Pre_diff_finite.Facts) (hPre_diff_finite_joined : Cert.Pre_diff_finite_joined.Facts) (hPre_scores_finite_context : Cert.Pre_scores_finite_context.Facts) (hPre_diff_finite_context : Cert.Pre_diff_finite_context.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_scores_finite_joined (hKernel6Ideal := hKernel6Ideal) (hPre_scores_finite_joined := hPre_scores_finite_joined)
    ∧ quiescent_Reference6Ideal (hReference6Ideal := hReference6Ideal)
    ∧ quiescent_Reference6Ideal_pre_scores_finite_joined (hReference6Ideal := hReference6Ideal) (hPre_scores_finite_joined := hPre_scores_finite_joined)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_diff_finite (hKernel8Ideal := hKernel8Ideal) (hPre_diff_finite := hPre_diff_finite)
    ∧ quiescent_Reference8Ideal (hReference8Ideal := hReference8Ideal)
    ∧ quiescent_Reference8Ideal_pre_diff_finite (hReference8Ideal := hReference8Ideal) (hPre_diff_finite := hPre_diff_finite)
    ∧ quiescent_Kernel9 (hKernel9 := hKernel9)
    ∧ quiescent_Kernel9Ideal (hKernel9Ideal := hKernel9Ideal)
    ∧ quiescent_Kernel9Ideal_pre_diff_finite_joined (hKernel9Ideal := hKernel9Ideal) (hPre_diff_finite_joined := hPre_diff_finite_joined)
    ∧ quiescent_Reference9Ideal (hReference9Ideal := hReference9Ideal)
    ∧ quiescent_Reference9Ideal_pre_diff_finite_joined (hReference9Ideal := hReference9Ideal) (hPre_diff_finite_joined := hPre_diff_finite_joined)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_scores_finite_context (hKernel15Ideal := hKernel15Ideal) (hPre_scores_finite_context := hPre_scores_finite_context)
    ∧ quiescent_Reference15Ideal (hReference15Ideal := hReference15Ideal)
    ∧ quiescent_Reference15Ideal_pre_scores_finite_context (hReference15Ideal := hReference15Ideal) (hPre_scores_finite_context := hPre_scores_finite_context)
    ∧ quiescent_Kernel16 (hKernel16 := hKernel16)
    ∧ quiescent_Kernel16Ideal (hKernel16Ideal := hKernel16Ideal)
    ∧ quiescent_Kernel16Ideal_pre_diff_finite_context (hKernel16Ideal := hKernel16Ideal) (hPre_diff_finite_context := hPre_diff_finite_context)
    ∧ quiescent_Reference16Ideal (hReference16Ideal := hReference16Ideal)
    ∧ quiescent_Reference16Ideal_pre_diff_finite_context (hReference16Ideal := hReference16Ideal) (hPre_diff_finite_context := hPre_diff_finite_context)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_scores_finite_joined (hKernel6Ideal := hKernel6Ideal) (hReference6Ideal := hReference6Ideal) (hPre_scores_finite_joined := hPre_scores_finite_joined)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_diff_finite (hKernel8Ideal := hKernel8Ideal) (hReference8Ideal := hReference8Ideal) (hPre_diff_finite := hPre_diff_finite)
    ∧ preserves_Kernel9_Kernel9Ideal
    ∧ algebraic_Kernel9Ideal_Reference9Ideal_pre_diff_finite_joined (hKernel9Ideal := hKernel9Ideal) (hReference9Ideal := hReference9Ideal) (hPre_diff_finite_joined := hPre_diff_finite_joined)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_scores_finite_context (hKernel15Ideal := hKernel15Ideal) (hReference15Ideal := hReference15Ideal) (hPre_scores_finite_context := hPre_scores_finite_context)
    ∧ preserves_Kernel16_Kernel16Ideal
    ∧ algebraic_Kernel16Ideal_Reference16Ideal_pre_diff_finite_context (hKernel16Ideal := hKernel16Ideal) (hReference16Ideal := hReference16Ideal) (hPre_diff_finite_context := hPre_diff_finite_context)
    ∧ preserves_Kernel17_Kernel17Ideal
    ∧ algebraic_Kernel17Ideal_Reference17Ideal (hKernel17Ideal := hKernel17Ideal) (hReference17Ideal := hReference17Ideal)
-- ==== Pre_diff_finite.lean ====
abbrev S8192x512 : Shape := ⟨2, ![8192, 512]⟩
abbrev S4x64 : Shape := ⟨2, ![4, 64]⟩
abbrev S1x128 : Shape := ⟨2, ![1, 128]⟩
abbrev S1024x512 : Shape := ⟨2, ![1024, 512]⟩
abbrev S8192x9728 : Shape := ⟨2, ![8192, 9728]⟩
abbrev S1024x2048 : Shape := ⟨2, ![1024, 2048]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S1024x512 : S_.BroadcastsInDim S1024x512 (![] : Fin 0 → Fin S1024x512.rank)
  reducesTo_S1024x512_S_d0_1 : S1024x512.ReducesTo [0, 1] S_
  slices_S8192x9728_S8192x512_0_8192 : S8192x9728.Slices ![0, 8192] S8192x512
  slices_S1024x2048_S1024x512_0_1536 : S1024x2048.Slices ![0, 1536] S1024x512

variable [Facts]

def fn_part1 {F : FTy → Type} [FloatOps F] (main_arg5 : FVec F S8192x9728 .bf16) (main_arg6 : FVec F S1024x2048 .bf16) (main_v15 : IVec S_ 1) (main_v17 : FVec F S1024x512 .f32) : IVec S_ 1 :=
  let main_cst_4 : FVec F S_ .f32 := constant S_ .f32 0x7F800000#32
  let main_v18 : FVec F S1024x512 .f32 := broadcastInDim S1024x512 ![] bcast_S_S1024x512 main_cst_4
  let main_v19 : IVec S1024x512 1 := cmpf .olt main_v17 main_v18
  let main_c_5 : IVec S_ 1 := constantI S_ 1 1#1
  let main_v20 : IVec S_ 1 := (fun x v => Host.reduce IntOp.andi x v reducesTo_S1024x512_S_d0_1 h_S_) main_v19 main_c_5
  let main_v21 : IVec S_ 1 := andi main_v15 main_v20
  let main_v22 : FVec F S8192x512 .bf16 := (extractStridedSlice S8192x512 ![0, 8192] · slices_S8192x9728_S8192x512_0_8192) main_arg5
  let main_v23 : FVec F S8192x512 .f32 := (extf .f32 · bitsLt_bf16_f32) main_v22
  let main_v24 : FVec F S8192x512 .f32 := Host.absf main_v23
  let main_cst_6 : FVec F S_ .f32 := constant S_ .f32 0x7F800000#32
  let main_v25 : FVec F S8192x512 .f32 := broadcastInDim S8192x512 ![] bcast_S_S8192x512 main_cst_6
  let main_v26 : IVec S8192x512 1 := cmpf .olt main_v24 main_v25
  let main_c_7 : IVec S_ 1 := constantI S_ 1 1#1
  let main_v27 : IVec S_ 1 := (fun x v => Host.reduce IntOp.andi x v reducesTo_S8192x512_S_d0_1 h_S_) main_v26 main_c_7
  let main_v28 : IVec S_ 1 := andi main_v21 main_v27
  let main_v29 : FVec F S1024x512 .bf16 := (extractStridedSlice S1024x512 ![0, 1536] · slices_S1024x2048_S1024x512_0_1536) main_arg6
  let main_v30 : FVec F S1024x512 .f32 := (extf .f32 · bitsLt_bf16_f32) main_v29
  let main_v31 : FVec F S1024x512 .f32 := Host.absf main_v30
  let main_cst_8 : FVec F S_ .f32 := constant S_ .f32 0x7F800000#32
  let main_v32 : FVec F S1024x512 .f32 := broadcastInDim S1024x512 ![] bcast_S_S1024x512 main_cst_8
  let main_v33 : IVec S1024x512 1 := cmpf .olt main_v31 main_v32
  let main_c_9 : IVec S_ 1 := constantI S_ 1 1#1
  let main_v34 : IVec S_ 1 := (fun x v => Host.reduce IntOp.andi x v reducesTo_S1024x512_S_d0_1 h_S_) main_v33 main_c_9
  let main_v35 : IVec S_ 1 := andi main_v28 main_v34
  main_v35

def fn {F : FTy → Type} [FloatOps F] (main_arg0 : FVec F S8192x512 .bf16) (main_arg1 : FVec F S4x64 .f32) (main_arg2 : FVec F S1x128 .f32) (main_arg3 : FVec F S8192x512 .bf16) (main_arg4 : FVec F S1024x512 .bf16) (main_arg5 : FVec F S8192x9728 .bf16) (main_arg6 : FVec F S1024x2048 .bf16) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  let main_v10 : FVec F S8192x512 .f32 := (extf .f32 · bitsLt_bf16_f32) main_arg3
  let main_v11 : FVec F S8192x512 .f32 := Host.absf main_v10
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  let main_c_3 : IVec S_ 1 := constantI S_ 1 1#1
  let main_v14 : IVec S_ 1 := (fun x v => Host.reduce IntOp.andi x v reducesTo_S8192x512_S_d0_1 h_S_) main_v13 main_c_3
  let main_v15 : IVec S_ 1 := andi main_v9 main_v14
  let main_v16 : FVec F S1024x512 .f32 := (extf .f32 · bitsLt_bf16_f32) main_arg4
  let main_v17 : FVec F S1024x512 .f32 := Host.absf main_v16
  fn_part1 (F := F) main_arg5 main_arg6 main_v15 main_v17
-- ==== Pre_diff_finite_context.lean ====
abbrev S9216x512 : Shape := ⟨2, ![9216, 512]⟩
abbrev S4x64 : Shape := ⟨2, ![4, 64]⟩
abbrev S1x128 : Shape := ⟨2, ![1, 128]⟩
abbrev S9216x9728 : Shape := ⟨2, ![9216, 9728]⟩
abbrev S1024x512 : Shape := ⟨2, ![1024, 512]⟩
abbrev S_ : Shape := ⟨0, ![]⟩

class Facts : Prop where
  slices_S9216x512_S1024x512_8192_0 : S9216x512.Slices ![8192, 0] S1024x512
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  slices_S9216x9728_S1024x512_8192_8192 : S9216x9728.Slices ![8192, 8192] S1024x512

variable [Facts]

def fn_part1 {F : FTy → Type} [FloatOps F] (main_arg4 : FVec F S9216x9728 .bf16) (main_v17 : IVec S_ 1) : IVec S_ 1 :=
  let main_v18 : FVec F S1024x512 .bf16 := (extractStridedSlice S1024x512 ![8192, 8192] · slices_S9216x9728_S1024x512_8192_8192) main_arg4
  let main_v19 : FVec F S1024x512 .f32 := (extf .f32 · bitsLt_bf16_f32) main_v18
  let main_v20 : FVec F S1024x512 .f32 := Host.absf main_v19
  let main_cst_4 : FVec F S_ .f32 := constant S_ .f32 0x7F800000#32
  let main_v21 : FVec F S1024x512 .f32 := broadcastInDim S1024x512 ![] bcast_S_S1024x512 main_cst_4
  let main_v22 : IVec S1024x512 1 := cmpf .olt main_v20 main_v21
  let main_c_5 : IVec S_ 1 := constantI S_ 1 1#1
  let main_v23 : IVec S_ 1 := (fun x v => Host.reduce IntOp.andi x v reducesTo_S1024x512_S_d0_1 h_S_) main_v22 main_c_5
  let main_v24 : IVec S_ 1 := andi main_v17 main_v23
  main_v24

def fn {F : FTy → Type} [FloatOps F] (main_arg0 : FVec F S9216x512 .bf16) (main_arg1 : FVec F S4x64 .f32) (main_arg2 : FVec F S1x128 .f32) (main_arg3 : FVec F S9216x512 .bf16) (main_arg4 : FVec F S9216x9728 .bf16) : IVec S_ 1 :=
  let main_v0 : FVec F S1024x512 .bf16 := (extractStridedSlice S1024x512 ![8192, 0] · slices_S9216x512_S1024x512_8192_0) main_arg0
  let main_v1 : FVec F S1024x512 .f32 := (extf .f32 · bitsLt_bf16_f32) main_v0
  let main_v2 : FVec F S1024x512 .f32 := Host.absf main_v1
  let main_cst : FVec F S_ .f32 := constant S_ .f32 0x7F800000#32
  let main_v3 : FVec F S1024x512 .f32 := broadcastInDim S1024x512 ![] bcast_S_S1024x512 main_cst
  let main_v4 : IVec S1024x512 1 := cmpf .olt main_v2 main_v3
  let main_c : IVec S_ 1 := constantI S_ 1 1#1
  let main_v5 : IVec S_ 1 := (fun x v => Host.reduce IntOp.andi x v reducesTo_S1024x512_S_d0_1 h_S_) main_v4 main_c
  let main_v6 : FVec F S4x64 .f32 := Host.absf main_arg1
  let main_cst_0 : FVec F S_ .f32 := constant S_ .f32 0x7F800000#32
  let main_v7 : FVec F S4x64 .f32 := broadcastInDim S4x64 ![] bcast_S_S4x64 main_cst_0
  let main_v8 : IVec S4x64 1 := cmpf .olt main_v6 main_v7
  let main_c_1 : IVec S_ 1 := constantI S_ 1 1#1
  let main_v9 : IVec S_ 1 := (fun x v => Host.reduce IntOp.andi x v reducesTo_S4x64_S_d0_1 h_S_) main_v8 main_c_1
  let main_v10 : IVec S_ 1 := andi main_v5 main_v9
  let main_v11 : FVec F S1024x512 .bf16 := (extractStridedSlice S1024x512 ![8192, 0] · slices_S9216x512_S1024x512_8192_0) main_arg3
  let main_v12 : FVec F S1024x512 .f32 := (extf .f32 · bitsLt_bf16_f32) main_v11
  let main_v13 : FVec F S1024x512 .f32 := Host.absf main_v12
  let main_cst_2 : FVec F S_ .f32 := constant S_ .f32 0x7F800000#32
  let main_v14 : FVec F S1024x512 .f32 := broadcastInDim S1024x512 ![] bcast_S_S1024x512 main_cst_2
  let main_v15 : IVec S1024x512 1 := cmpf .olt main_v13 main_v14
  let main_c_3 : IVec S_ 1 := constantI S_ 1 1#1
  let main_v16 : IVec S_ 1 := (fun x v => Host.reduce IntOp.andi x v reducesTo_S1024x512_S_d0_1 h_S_) main_v15 main_c_3
  let main_v17 : IVec S_ 1 := andi main_v10 main_v16
  fn_part1 (F := F) main_arg4 main_v17
-- ==== Pre_diff_finite_joined.lean ====
abbrev S9216x512 : Shape := ⟨2, ![9216, 512]⟩
abbrev S4x64 : Shape := ⟨2, ![4, 64]⟩
abbrev S1x128 : Shape := ⟨2, ![1, 128]⟩
abbrev S9216x9728 : Shape := ⟨2, ![9216, 9728]⟩
abbrev S8192x512 : Shape := ⟨2, ![8192, 512]⟩
abbrev S_ : Shape := ⟨0, ![]⟩

class Facts : Prop where
  slices_S9216x512_S8192x512_0_0 : S9216x512.Slices ![0, 0] S8192x512
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S9216x512 : S_.BroadcastsInDim S9216x512 (![] : Fin 0 → Fin S9216x512.rank)
  reducesTo_S9216x512_S_d0_1 : S9216x512.ReducesTo [0, 1] S_
  slices_S9216x9728_S9216x512_0_8192 : S9216x9728.Slices ![0, 8192] S9216x512

variable [Facts]

def fn_part1 {F : FTy → Type} [FloatOps F] (main_v16 : IVec S_ 1) (main_v17 : FVec F S9216x512 .bf16) : IVec S_ 1 :=
  let main_v18 : FVec F S9216x512 .f32 := (extf .f32 · bitsLt_bf16_f32) main_v17
  let main_v19 : FVec F S9216x512 .f32 := Host.absf main_v18
  let main_cst_4 : FVec F S_ .f32 := constant S_ .f32 0x7F800000#32
  let main_v20 : FVec F S9216x512 .f32 := broadcastInDim S9216x512 ![] bcast_S_S9216x512 main_cst_4
  let main_v21 : IVec S9216x512 1 := cmpf .olt main_v19 main_v20
  let main_c_5 : IVec S_ 1 := constantI S_ 1 1#1
  let main_v22 : IVec S_ 1 := (fun x v => Host.reduce IntOp.andi x v reducesTo_S9216x512_S_d0_1 h_S_) main_v21 main_c_5
  let main_v23 : IVec S_ 1 := andi main_v16 main_v22
  main_v23

def fn {F : FTy → Type} [FloatOps F] (main_arg0 : FVec F S9216x512 .bf16) (main_arg1 : FVec F S4x64 .f32) (main_arg2 : FVec F S1x128 .f32) (main_arg3 : FVec F S9216x512 .bf16) (main_arg4 : FVec F S9216x9728 .bf16) : IVec S_ 1 :=
  let main_v0 : FVec F S8192x512 .bf16 := (extractStridedSlice S8192x512 ![0, 0] · slices_S9216x512_S8192x512_0_0) main_arg0
  let main_v1 : FVec F S8192x512 .f32 := (extf .f32 · bitsLt_bf16_f32) main_v0
  let main_v2 : FVec F S8192x512 .f32 := Host.absf main_v1
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  let main_v6 : FVec F S4x64 .f32 := Host.absf main_arg1
  let main_cst_0 : FVec F S_ .f32 := constant S_ .f32 0x7F800000#32
  let main_v7 : FVec F S4x64 .f32 := broadcastInDim S4x64 ![] bcast_S_S4x64 main_cst_0
  let main_v8 : IVec S4x64 1 := cmpf .olt main_v6 main_v7
  let main_c_1 : IVec S_ 1 := constantI S_ 1 1#1
  let main_v9 : IVec S_ 1 := (fun x v => Host.reduce IntOp.andi x v reducesTo_S4x64_S_d0_1 h_S_) main_v8 main_c_1
  let main_v10 : IVec S_ 1 := andi main_v5 main_v9
  let main_v11 : FVec F S9216x512 .f32 := (extf .f32 · bitsLt_bf16_f32) main_arg3
  let main_v12 : FVec F S9216x512 .f32 := Host.absf main_v11
  let main_cst_2 : FVec F S_ .f32 := constant S_ .f32 0x7F800000#32
  let main_v13 : FVec F S9216x512 .f32 := broadcastInDim S9216x512 ![] bcast_S_S9216x512 main_cst_2
  let main_v14 : IVec S9216x512 1 := cmpf .olt main_v12 main_v13
  let main_c_3 : IVec S_ 1 := constantI S_ 1 1#1
  let main_v15 : IVec S_ 1 := (fun x v => Host.reduce IntOp.andi x v reducesTo_S9216x512_S_d0_1 h_S_) main_v14 main_c_3
  let main_v16 : IVec S_ 1 := andi main_v10 main_v15
  let main_v17 : FVec F S9216x512 .bf16 := (extractStridedSlice S9216x512 ![0, 8192] · slices_S9216x9728_S9216x512_0_8192) main_arg4
  fn_part1 (F := F) main_v16 main_v17
-- ==== Pre_scores_finite.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S8192x2048 .bf16) (main_arg1 : FVec F S8192x2048 .bf16) (main_arg2 : FVec F S1024x2048 .bf16) (main_arg3 : FVec F S8192x1024 .bf16) (main_arg4 : FVec F S1024x1024 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S1024x2048 .f32 := (extf .f32 · bitsLt_bf16_f32) main_arg2
  let main_v12 : FVec F S1024x2048 .f32 := Host.absf main_v11
  let main_cst_2 : FVec F S_ .f32 := constant S_ .f32 0x7F800000#32
  let main_v13 : FVec F S1024x2048 .f32 := broadcastInDim S1024x2048 ![] bcast_S_S1024x2048 main_cst_2
  let main_v14 : IVec S1024x2048 1 := cmpf .olt main_v12 main_v13
  let main_c_3 : IVec S_ 1 := constantI S_ 1 1#1
  let main_v15 : IVec S_ 1 := (fun x v => Host.reduce IntOp.andi x v reducesTo_S1024x2048_S_d0_1 h_S_) main_v14 main_c_3
  let main_v16 : IVec S_ 1 := andi main_v10 main_v15
  main_v16
-- ==== Pre_scores_finite_context.lean ====
abbrev S9216x2048 : Shape := ⟨2, ![9216, 2048]⟩
abbrev S9216x1024 : Shape := ⟨2, ![9216, 1024]⟩
abbrev S1024x2048 : Shape := ⟨2, ![1024, 2048]⟩
abbrev S_ : Shape := ⟨0, ![]⟩

class Facts : Prop where
  slices_S9216x2048_S1024x2048_8192_0 : S9216x2048.Slices ![8192, 0] S1024x2048
  bitsLt_bf16_f32 : FTy.bits .bf16 < FTy.bits .f32
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : FVec F S9216x2048 .bf16) (main_arg1 : FVec F S9216x2048 .bf16) (main_arg2 : FVec F S9216x1024 .bf16) : IVec S_ 1 :=
  let main_v0 : FVec F S1024x2048 .bf16 := (extractStridedSlice S1024x2048 ![8192, 0] · slices_S9216x2048_S1024x2048_8192_0) main_arg0
  let main_v1 : FVec F S1024x2048 .f32 := (extf .f32 · bitsLt_bf16_f32) main_v0
  let main_v2 : FVec F S1024x2048 .f32 := Host.absf main_v1
  let main_cst : FVec F S_ .f32 := constant S_ .f32 0x7F800000#32
  let main_v3 : FVec F S1024x2048 .f32 := broadcastInDim S1024x2048 ![] bcast_S_S1024x2048 main_cst
  let main_v4 : IVec S1024x2048 1 := cmpf .olt main_v2 main_v3
  let main_c : IVec S_ 1 := constantI S_ 1 1#1
  let main_v5 : IVec S_ 1 := (fun x v => Host.reduce IntOp.andi x v reducesTo_S1024x2048_S_d0_1 h_S_) main_v4 main_c
  let main_v6 : FVec F S1024x2048 .bf16 := (extractStridedSlice S1024x2048 ![8192, 0] · slices_S9216x2048_S1024x2048_8192_0) main_arg1
  let main_v7 : FVec F S1024x2048 .f32 := (extf .f32 · bitsLt_bf16_f32) main_v6
  let main_v8 : FVec F S1024x2048 .f32 := Host.absf main_v7
  let main_cst_0 : FVec F S_ .f32 := constant S_ .f32 0x7F800000#32
  let main_v9 : FVec F S1024x2048 .f32 := broadcastInDim S1024x2048 ![] bcast_S_S1024x2048 main_cst_0
  let main_v10 : IVec S1024x2048 1 := cmpf .olt main_v8 main_v9
  let main_c_1 : IVec S_ 1 := constantI S_ 1 1#1
  let main_v11 : IVec S_ 1 := (fun x v => Host.reduce IntOp.andi x v reducesTo_S1024x2048_S_d0_1 h_S_) main_v10 main_c_1
  let main_v12 : IVec S_ 1 := andi main_v5 main_v11
  main_v12
-- ==== Pre_scores_finite_joined.lean ====
abbrev S9216x2048 : Shape := ⟨2, ![9216, 2048]⟩
abbrev S9216x1024 : Shape := ⟨2, ![9216, 1024]⟩
abbrev S8192x2048 : Shape := ⟨2, ![8192, 2048]⟩
abbrev S_ : Shape := ⟨0, ![]⟩

class Facts : Prop where
  slices_S9216x2048_S8192x2048_0_0 : S9216x2048.Slices ![0, 0] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S9216x2048 : S_.BroadcastsInDim S9216x2048 (![] : Fin 0 → Fin S9216x2048.rank)
  reducesTo_S9216x2048_S_d0_1 : S9216x2048.ReducesTo [0, 1] S_

variable [Facts]

def fn {F : FTy → Type} [FloatOps F] (main_arg0 : FVec F S9216x2048 .bf16) (main_arg1 : FVec F S9216x2048 .bf16) (main_arg2 : FVec F S9216x1024 .bf16) : IVec S_ 1 :=
  let main_v0 : FVec F S8192x2048 .bf16 := (extractStridedSlice S8192x2048 ![0, 0] · slices_S9216x2048_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  let main_v6 : FVec F S9216x2048 .f32 := (extf .f32 · bitsLt_bf16_f32) main_arg1
  let main_v7 : FVec F S9216x2048 .f32 := Host.absf main_v6
  let main_cst_0 : FVec F S_ .f32 := constant S_ .f32 0x7F800000#32
  let main_v8 : FVec F S9216x2048 .f32 := broadcastInDim S9216x2048 ![] bcast_S_S9216x2048 main_cst_0
  let main_v9 : IVec S9216x2048 1 := cmpf .olt main_v7 main_v8
  let main_c_1 : IVec S_ 1 := constantI S_ 1 1#1
  let main_v10 : IVec S_ 1 := (fun x v => Host.reduce IntOp.andi x v reducesTo_S9216x2048_S_d0_1 h_S_) main_v9 main_c_1
  let main_v11 : IVec S_ 1 := andi main_v5 main_v10
  main_v11
-- ==== Kernel.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩
abbrev S2048x256 : Shape := ⟨2, ![2048, 256]⟩
abbrev S256x256 : Shape := ⟨2, ![256, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1024x2048, .bf16⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩
abbrev S4x2048x8x256 : Shape := ⟨4, ![4, 2048, 8, 256]⟩
abbrev S4x256x8x256 : Shape := ⟨4, ![4, 256, 8, 256]⟩
abbrev S4x2304x8x256 : Shape := ⟨4, ![4, 2304, 8, 256]⟩
abbrev S4x256x8x128 : Shape := ⟨4, ![4, 256, 8, 128]⟩
abbrev S4x2048x8x128 : Shape := ⟨4, ![4, 2048, 8, 128]⟩
abbrev S4x2304x8x128 : Shape := ⟨4, ![4, 2304, 8, 128]⟩
abbrev S4x8x2048x2304 : Shape := ⟨4, ![4, 8, 2048, 2304]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1024x2048, .bf16⟩
  | .hbm, ⟨3, _⟩ => ⟨S8192x1024, .bf16⟩
  | .hbm, ⟨4, _⟩ => ⟨S1024x1024, .bf16⟩
  | .hbm, ⟨5, _⟩ => ⟨S8192x2048, .f32⟩
  | .hbm, ⟨6, _⟩ => ⟨S4x2048x8x256, .f32⟩
  | .hbm, ⟨7, _⟩ => ⟨S1024x2048, .f32⟩
  | .hbm, ⟨8, _⟩ => ⟨S4x256x8x256, .f32⟩
  | .hbm, ⟨9, _⟩ => ⟨S8192x2048, .f32⟩
  | .hbm, ⟨10, _⟩ => ⟨S4x2048x8x256, .f32⟩
  | .hbm, ⟨11, _⟩ => ⟨S4x2304x8x256, .f32⟩
  | .hbm, ⟨12, _⟩ => ⟨S1024x1024, .f32⟩
  | .hbm, ⟨13, _⟩ => ⟨S4x256x8x128, .f32⟩
  | .hbm, ⟨14, _⟩ => ⟨S8192x1024, .f32⟩
  | .hbm, ⟨15, _⟩ => ⟨S4x2048x8x128, .f32⟩
  | .hbm, ⟨16, _⟩ => ⟨S4x2304x8x128, .f32⟩
  | .hbm, ⟨17, _⟩ => ⟨S4x8x2048x2304, .f32⟩
  | .hbm, ⟨18, _⟩ => ⟨S_, .f32⟩
  | .hbm, ⟨19, _⟩ => ⟨S4x8x2048, .f32⟩
  | .hbm, ⟨20, _⟩ => ⟨S_, .f32⟩
  | .hbm, ⟨21, _⟩ => ⟨S4x8x2048, .f32⟩
  | .hbm, ⟨22, _⟩ => ⟨S4x8x2048, .f32⟩
  | .hbm, ⟨23, _⟩ => ⟨S4x8x2048x1, .f32⟩
  | .hbm, ⟨24, _⟩ => ⟨S4x8x2048x2304, .f32⟩
  | .hbm, ⟨25, _⟩ => ⟨S4x8x2048x2304, .f32⟩
  | .hbm, ⟨26, _⟩ => ⟨S4x8x2048x2304, .f32⟩
  | .hbm, ⟨27, _⟩ => ⟨S_, .f32⟩
  | .hbm, ⟨28, _⟩ => ⟨S4x8x2048, .f32⟩
  | .hbm, ⟨29, _⟩ => ⟨S4x8x2048x1, .f32⟩
  | .hbm, ⟨30, _⟩ => ⟨S4x8x2048x2304, .f32⟩
  | .hbm, ⟨31, _⟩ => ⟨S4x8x2048x2304, .f32⟩
  | .hbm, ⟨32, _⟩ => ⟨S4x8x128x2048, .f32⟩
  | .hbm, ⟨33, _⟩ => ⟨S4x2048x8x128, .f32⟩
  | .hbm, ⟨34, _⟩ => ⟨S8192x1024, .f32⟩
  | .hbm, ⟨35, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel2.lean ====
abbrev S9216x2048 : Shape := ⟨2, ![9216, 2048]⟩
abbrev S8x1x12288 : Shape := ⟨3, ![8, 1, 12288]⟩
abbrev S2x2048x9728 : Shape := ⟨3, ![2, 2048, 9728]⟩
abbrev S9216x9728 : Shape := ⟨2, ![9216, 9728]⟩
abbrev S1024x2048 : Shape := ⟨2, ![1024, 2048]⟩
abbrev S1x1x2048 : Shape := ⟨3, ![1, 1, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S1x2048 : Shape := ⟨2, ![1, 2048]⟩
abbrev S2048x512 : Shape := ⟨2, ![2048, 512]⟩

abbrev nBuf : Space → Nat
  | .hbm => 4
  | .vmem => 11
  | .smem => 0
  | _ => 0

abbrev bufTy : (tb : Table) → Fin (tcTables nBuf tb) → BufTy
  | .hbm, ⟨0, _⟩ => ⟨S9216x2048, .f32⟩
  | .hbm, ⟨1, _⟩ => ⟨S8x1x12288, .f32⟩
  | .hbm, ⟨2, _⟩ => ⟨S2x2048x9728, .bf16⟩
  | .hbm, ⟨3, _⟩ => ⟨S9216x9728, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c2048_i32 : BitVec 32 := 2048#32
  let v2 : BitVec 32 := Scalar.divsi v1 c2048_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2048_i32 c0_i32_2
  let v9 : BitVec 32 := Scalar.extui v8
  let c0_i32_3 : BitVec 32 := 0#32
  let v10 : BitVec 1 := Scalar.cmpi .slt c2048_i32 c0_i32_3
  let v11 : BitVec 32 := Scalar.extui v10
  let v12 : BitVec 32 := Scalar.subi v9 v11
  let v13 : BitVec 1 := Scalar.cmpi .ne v7 v12
  let v14 : BitVec 32 := Scalar.remsi v1 c2048_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.minsi v18 c4_i32
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c2048_i32 : BitVec 32 := 2048#32
  let v2 : BitVec 32 := Scalar.divsi v1 c2048_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2048_i32 c0_i32_2
  let v9 : BitVec 32 := Scalar.extui v8
  let c0_i32_3 : BitVec 32 := 0#32
  let v10 : BitVec 1 := Scalar.cmpi .slt c2048_i32 c0_i32_3
  let v11 : BitVec 32 := Scalar.extui v10
  let v12 : BitVec 32 := Scalar.subi v9 v11
  let v13 : BitVec 1 := Scalar.cmpi .ne v7 v12
  let v14 : BitVec 32 := Scalar.remsi v1 c2048_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.minsi v18 c4_i32
  let c0_i32_5 : BitVec 32 := 0#32
  let c1_i32_6 : BitVec 32 := 1#32
  let c0_i32_7 : BitVec 32 := 0#32
  ![v19.toNat, c0_i32_5.toNat, c1_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S9216x2048 : Shape := ⟨2, ![9216, 2048]⟩
abbrev S8x1x12288 : Shape := ⟨3, ![8, 1, 12288]⟩
abbrev S2x2048x9728 : Shape := ⟨3, ![2, 2048, 9728]⟩
abbrev S8x1x2048 : Shape := ⟨3, ![8, 1, 2048]⟩
abbrev S8x2048 : Shape := ⟨2, ![8, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x2048 : Shape := ⟨2, ![1, 2048]⟩
abbrev S1024x2048 : Shape := ⟨2, ![1024, 2048]⟩
abbrev S_ : Shape := ⟨0, ![]⟩
abbrev S9216 : Shape := ⟨1, ![9216]⟩
abbrev S9216x1 : Shape := ⟨2, ![9216, 1]⟩
abbrev S1x2048x9728 : Shape := ⟨3, ![1, 2048, 9728]⟩
abbrev S2048x9728 : Shape := ⟨2, ![2048, 9728]⟩
abbrev S9216x9728 : Shape := ⟨2, ![9216, 9728]⟩

abbrev nBuf : Space → Nat
  | .hbm => 54
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S8x1x12288, .f32⟩
  | .hbm, ⟨2, _⟩ => ⟨S2x2048x9728, .bf16⟩
  | .hbm, ⟨3, _⟩ => ⟨S8x1x2048, .f32⟩
  | .hbm, ⟨4, _⟩ => ⟨S8x2048, .f32⟩
  | .hbm, ⟨5, _⟩ => ⟨S8x1x2048, .f32⟩
  | .hbm, ⟨6, _⟩ => ⟨S8x2048, .f32⟩
  | .hbm, ⟨7, _⟩ => ⟨S4x2048, .f32⟩
  | .hbm, ⟨8, _⟩ => ⟨S4x1x2048, .f32⟩
  | .hbm, ⟨9, _⟩ => ⟨S4x2048x2048, .f32⟩
  | .hbm, ⟨10, _⟩ => ⟨S8192x2048, .f32⟩
  | .hbm, ⟨11, _⟩ => ⟨S1x2048, .f32⟩
  | .hbm, ⟨12, _⟩ => ⟨S1024x2048, .f32⟩
  | .hbm, ⟨13, _⟩ => ⟨S9216x2048, .f32⟩
  | .hbm, ⟨14, _⟩ => ⟨S4x2048, .f32⟩
  | .hbm, ⟨15, _⟩ => ⟨S4x1x2048, .f32⟩
  | .hbm, ⟨16, _⟩ => ⟨S4x2048x2048, .f32⟩
  | .hbm, ⟨17, _⟩ => ⟨S8192x2048, .f32⟩
  | .hbm, ⟨18, _⟩ => ⟨S1x2048, .f32⟩
  | .hbm, ⟨19, _⟩ => ⟨S1024x2048, .f32⟩
  | .hbm, ⟨20, _⟩ => ⟨S9216x2048, .f32⟩
  | .hbm, ⟨21, _⟩ => ⟨S_, .f32⟩
  | .hbm, ⟨22, _⟩ => ⟨S9216, .f32⟩
  | .hbm, ⟨23, _⟩ => ⟨S9216x1, .f32⟩
  | .hbm, ⟨24, _⟩ => ⟨S_, .f32⟩
  | .hbm, ⟨25, _⟩ => ⟨S9216x1, .f32⟩
  | .hbm, ⟨26, _⟩ => ⟨S9216x1, .f32⟩
  | .hbm, ⟨27, _⟩ => ⟨S9216x2048, .f32⟩
  | .hbm, ⟨28, _⟩ => ⟨S9216x2048, .f32⟩
  | .hbm, ⟨29, _⟩ => ⟨S9216x2048, .f32⟩
  | .hbm, ⟨30, _⟩ => ⟨S_, .f32⟩
  | .hbm, ⟨31, _⟩ => ⟨S9216, .f32⟩
  | .hbm, ⟨32, _⟩ => ⟨S9216x1, .f32⟩
  | .hbm, ⟨33, _⟩ => ⟨S_, .f32⟩
  | .hbm, ⟨34, _⟩ => ⟨S9216x1, .f32⟩
  | .hbm, ⟨35, _⟩ => ⟨S9216x1, .f32⟩
  | .hbm, ⟨36, _⟩ => ⟨S9216x2048, .f32⟩
  | .hbm, ⟨37, _⟩ => ⟨S9216x2048, .f32⟩
  | .hbm, ⟨38, _⟩ => ⟨S_, .f32⟩
  | .hbm, ⟨39, _⟩ => ⟨S9216x1, .f32⟩
  | .hbm, ⟨40, _⟩ => ⟨S9216x1, .f32⟩
  | .hbm, ⟨41, _⟩ => ⟨S9216x1, .f32⟩
  | .hbm, ⟨42, _⟩ => ⟨S9216x2048, .f32⟩
  | .hbm, ⟨43, _⟩ => ⟨S9216x2048, .f32⟩
  | .hbm, ⟨44, _⟩ => ⟨S_, .f32⟩
  | .hbm, ⟨45, _⟩ => ⟨S9216x2048, .f32⟩
  | .hbm, ⟨46, _⟩ => ⟨S9216x2048, .f32⟩
  | .hbm, ⟨47, _⟩ => ⟨S9216x2048, .f32⟩
  | .hbm, ⟨48, _⟩ => ⟨S9216x2048, .f32⟩
  | .hbm, ⟨49, _⟩ => ⟨S1x2048x9728, .bf16⟩
  | .hbm, ⟨50, _⟩ => ⟨S2048x9728, .bf16⟩
  | .hbm, ⟨51, _⟩ => ⟨S2048x9728, .f32⟩
  | .hbm, ⟨52, _⟩ => ⟨S9216x9728, .f32⟩
  | .hbm, ⟨53, _⟩ => ⟨S9216x9728, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Kernel3.lean ====
abbrev S9216x2048 : Shape := ⟨2, ![9216, 2048]⟩
abbrev S9216x9728 : Shape := ⟨2, ![9216, 9728]⟩
abbrev S9216x1024 : Shape := ⟨2, ![9216, 1024]⟩
abbrev S9216x512 : Shape := ⟨2, ![9216, 512]⟩
abbrev S8x1x12288 : Shape := ⟨3, ![8, 1, 12288]⟩
abbrev S3x2048 : Shape := ⟨2, ![3, 2048]⟩
abbrev S2x1024x2048 : Shape := ⟨3, ![2, 1024, 2048]⟩
abbrev S2x512x2048 : Shape := ⟨3, ![2, 512, 2048]⟩
abbrev S2x2048x2048 : Shape := ⟨3, ![2, 2048, 2048]⟩
abbrev S1x2048 : Shape := ⟨2, ![1, 2048]⟩
abbrev S256x2048 : Shape := ⟨2, ![256, 2048]⟩
abbrev S256x6144 : Shape := ⟨2, ![256, 6144]⟩
abbrev S256x1024 : Shape := ⟨2, ![256, 1024]⟩
abbrev S256x512 : Shape := ⟨2, ![256, 512]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x1x2048 : Shape := ⟨3, ![1, 1, 2048]⟩
abbrev S1024x2048 : Shape := ⟨2, ![1024, 2048]⟩
abbrev S512x2048 : Shape := ⟨2, ![512, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 14
  | .vmem => 21
  | .smem => 0
  | _ => 0

abbrev bufTy : (tb : Table) → Fin (tcTables nBuf tb) → BufTy
  | .hbm, ⟨0, _⟩ => ⟨S9216x2048, .f32⟩
  | .hbm, ⟨1, _⟩ => ⟨S9216x9728, .bf16⟩
  | .hbm, ⟨2, _⟩ => ⟨S9216x1024, .bf16⟩
  | .hbm, ⟨3, _⟩ => ⟨S9216x512, .bf16⟩
  | .hbm, ⟨4, _⟩ => ⟨S9216x512, .bf16⟩
  | .hbm, ⟨5, _⟩ => ⟨S8x1x12288, .f32⟩
  | .hbm, ⟨6, _⟩ => ⟨S3x2048, .f32⟩
  | .hbm, ⟨7, _⟩ => ⟨S2x1024x2048, .bf16⟩
  | .hbm, ⟨8, _⟩ => ⟨S2x512x2048, .bf16⟩
  | .hbm, ⟨9, _⟩ => ⟨S2x512x2048, .bf16⟩
  | .hbm, ⟨10, _⟩ => ⟨S2x2048x2048, .bf16⟩
  | .hbm, ⟨11, _⟩ => ⟨S1x2048, .f32⟩
  | .hbm, ⟨12, _⟩ => ⟨S1x2048, .f32⟩
  | .hbm, ⟨13, _⟩ => ⟨S9216x2048, .f32⟩
  | .local _ .vmem, ⟨0, _⟩ => ⟨S256x2048, .f32⟩
  | .local _ .vmem, ⟨1, _⟩ => ⟨S256x2048, .f32⟩
  | .local _ .vmem, ⟨2, _⟩ => ⟨S256x6144, .bf16⟩
  | .local _ .vmem, ⟨3, _⟩ => ⟨S256x6144, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S3x2048, .f32⟩
  | .local _ .vmem, ⟨11, _⟩ => ⟨S1x1024x2048, .bf16⟩
  | .local _ .vmem, ⟨12, _⟩ => ⟨S1x512x2048, .bf16⟩
  | .local _ .vmem, ⟨13, _⟩ => ⟨S1x512x2048, .bf16⟩
  | .local _ .vmem, ⟨14, _⟩ => ⟨S1x2048x2048, .bf16⟩
  | .local _ .vmem, ⟨15, _⟩ => ⟨S1x1x2048, .f32⟩
  | .local _ .vmem, ⟨16, _⟩ => ⟨S1x1x2048, .f32⟩
  | .local _ .vmem, ⟨17, _⟩ => ⟨S1x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c2_i32 : BitVec 32 := 2#32
  let c0_i32_5 : BitVec 32 := 0#32
  ![v18.toNat, c0_i32_4.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S9216x2048 : Shape := ⟨2, ![9216, 2048]⟩
abbrev S9216x9728 : Shape := ⟨2, ![9216, 9728]⟩
abbrev S9216x1024 : Shape := ⟨2, ![9216, 1024]⟩
abbrev S9216x512 : Shape := ⟨2, ![9216, 512]⟩
abbrev S8x1x12288 : Shape := ⟨3, ![8, 1, 12288]⟩
abbrev S3x2048 : Shape := ⟨2, ![3, 2048]⟩
abbrev S2x1024x2048 : Shape := ⟨3, ![2, 1024, 2048]⟩
abbrev S2x512x2048 : Shape := ⟨3, ![2, 512, 2048]⟩
abbrev S2x2048x2048 : Shape := ⟨3, ![2, 2048, 2048]⟩
abbrev S1x2048 : Shape := ⟨2, ![1, 2048]⟩
abbrev S8x1x2048 : Shape := ⟨3, ![8, 1, 2048]⟩
abbrev S8x2048 : Shape := ⟨2, ![8, 2048]⟩
abbrev S2048 : Shape := ⟨1, ![2048]⟩
abbrev S_ : Shape := ⟨0, ![]⟩
abbrev S1x1024x2048 : Shape := ⟨3, ![1, 1024, 2048]⟩
abbrev S1024x2048 : Shape := ⟨2, ![1024, 2048]⟩
abbrev S1x512x2048 : Shape := ⟨3, ![1, 512, 2048]⟩
abbrev S512x2048 : Shape := ⟨2, ![512, 2048]⟩
abbrev S1x2048x2048 : Shape := ⟨3, ![1, 2048, 2048]⟩
abbrev S2048x2048 : Shape := ⟨2, ![2048, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S9216 : Shape := ⟨1, ![9216]⟩
abbrev S9216x1 : Shape := ⟨2, ![9216, 1]⟩

abbrev nBuf : Space → Nat
  | .hbm => 127
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x9728, .bf16⟩
  | .hbm, ⟨2, _⟩ => ⟨S9216x1024, .bf16⟩
  | .hbm, ⟨3, _⟩ => ⟨S9216x512, .bf16⟩
  | .hbm, ⟨4, _⟩ => ⟨S9216x512, .bf16⟩
  | .hbm, ⟨5, _⟩ => ⟨S8x1x12288, .f32⟩
  | .hbm, ⟨6, _⟩ => ⟨S3x2048, .f32⟩
  | .hbm, ⟨7, _⟩ => ⟨S2x1024x2048, .bf16⟩
  | .hbm, ⟨8, _⟩ => ⟨S2x512x2048, .bf16⟩
  | .hbm, ⟨9, _⟩ => ⟨S2x512x2048, .bf16⟩
  | .hbm, ⟨10, _⟩ => ⟨S2x2048x2048, .bf16⟩
  | .hbm, ⟨11, _⟩ => ⟨S1x2048, .f32⟩
  | .hbm, ⟨12, _⟩ => ⟨S1x2048, .f32⟩
  | .hbm, ⟨13, _⟩ => ⟨S8x1x2048, .f32⟩
  | .hbm, ⟨14, _⟩ => ⟨S8x2048, .f32⟩
  | .hbm, ⟨15, _⟩ => ⟨S9216x2048, .bf16⟩
  | .hbm, ⟨16, _⟩ => ⟨S9216x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S9216x2048, .f32⟩
  | .hbm, ⟨21, _⟩ => ⟨S9216x2048, .f32⟩
  | .hbm, ⟨22, _⟩ => ⟨S9216x2048, .f32⟩
  | .hbm, ⟨23, _⟩ => ⟨S9216x2048, .f32⟩
  | .hbm, ⟨24, _⟩ => ⟨S_, .f32⟩
  | .hbm, ⟨25, _⟩ => ⟨S9216x2048, .f32⟩
  | .hbm, ⟨26, _⟩ => ⟨S9216x2048, .f32⟩
  | .hbm, ⟨27, _⟩ => ⟨S_, .f32⟩
  | .hbm, ⟨28, _⟩ => ⟨S9216x2048, .f32⟩
  | .hbm, ⟨29, _⟩ => ⟨S9216x2048, .f32⟩
  | .hbm, ⟨30, _⟩ => ⟨S9216x2048, .bf16⟩
  | .hbm, ⟨31, _⟩ => ⟨S9216x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S9216x2048, .f32⟩
  | .hbm, ⟨36, _⟩ => ⟨S9216x2048, .f32⟩
  | .hbm, ⟨37, _⟩ => ⟨S9216x2048, .f32⟩
  | .hbm, ⟨38, _⟩ => ⟨S9216x2048, .f32⟩
  | .hbm, ⟨39, _⟩ => ⟨S_, .f32⟩
  | .hbm, ⟨40, _⟩ => ⟨S9216x2048, .f32⟩
  | .hbm, ⟨41, _⟩ => ⟨S9216x2048, .f32⟩
  | .hbm, ⟨42, _⟩ => ⟨S_, .f32⟩
  | .hbm, ⟨43, _⟩ => ⟨S9216x2048, .f32⟩
  | .hbm, ⟨44, _⟩ => ⟨S9216x2048, .f32⟩
  | .hbm, ⟨45, _⟩ => ⟨S9216x2048, .bf16⟩
  | .hbm, ⟨46, _⟩ => ⟨S9216x2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S9216x2048, .f32⟩
  | .hbm, ⟨51, _⟩ => ⟨S9216x2048, .f32⟩
  | .hbm, ⟨52, _⟩ => ⟨S9216x2048, .f32⟩
  | .hbm, ⟨53, _⟩ => ⟨S9216x2048, .f32⟩
  | .hbm, ⟨54, _⟩ => ⟨S_, .f32⟩
  | .hbm, ⟨55, _⟩ => ⟨S9216x2048, .f32⟩
  | .hbm, ⟨56, _⟩ => ⟨S9216x2048, .f32⟩
  | .hbm, ⟨57, _⟩ => ⟨S_, .f32⟩
  | .hbm, ⟨58, _⟩ => ⟨S9216x2048, .f32⟩
  | .hbm, ⟨59, _⟩ => ⟨S9216x2048, .f32⟩
  | .hbm, ⟨60, _⟩ => ⟨S9216x1024, .f32⟩
  | .hbm, ⟨61, _⟩ => ⟨S1x1024x2048, .bf16⟩
  | .hbm, ⟨62, _⟩ => ⟨S1024x2048, .bf16⟩
  | .hbm, ⟨63, _⟩ => ⟨S1024x2048, .f32⟩
  | .hbm, ⟨64, _⟩ => ⟨S9216x2048, .f32⟩
  | .hbm, ⟨65, _⟩ => ⟨S9216x2048, .f32⟩
  | .hbm, ⟨66, _⟩ => ⟨S9216x512, .f32⟩
  | .hbm, ⟨67, _⟩ => ⟨S1x512x2048, .bf16⟩
  | .hbm, ⟨68, _⟩ => ⟨S512x2048, .bf16⟩
  | .hbm, ⟨69, _⟩ => ⟨S512x2048, .f32⟩
  | .hbm, ⟨70, _⟩ => ⟨S9216x2048, .f32⟩
  | .hbm, ⟨71, _⟩ => ⟨S9216x2048, .f32⟩
  | .hbm, ⟨72, _⟩ => ⟨S9216x2048, .f32⟩
  | .hbm, ⟨73, _⟩ => ⟨S9216x512, .f32⟩
  | .hbm, ⟨74, _⟩ => ⟨S1x512x2048, .bf16⟩
  | .hbm, ⟨75, _⟩ => ⟨S512x2048, .bf16⟩
  | .hbm, ⟨76, _⟩ => ⟨S512x2048, .f32⟩
  | .hbm, ⟨77, _⟩ => ⟨S9216x2048, .f32⟩
  | .hbm, ⟨78, _⟩ => ⟨S9216x2048, .f32⟩
  | .hbm, ⟨79, _⟩ => ⟨S9216x2048, .f32⟩
  | .hbm, ⟨80, _⟩ => ⟨S1x2048x2048, .bf16⟩
  | .hbm, ⟨81, _⟩ => ⟨S2048x2048, .bf16⟩
  | .hbm, ⟨82, _⟩ => ⟨S2048x2048, .f32⟩
  | .hbm, ⟨83, _⟩ => ⟨S9216x2048, .f32⟩
  | .hbm, ⟨84, _⟩ => ⟨S4x2048, .f32⟩
  | .hbm, ⟨85, _⟩ => ⟨S4x1x2048, .f32⟩
  | .hbm, ⟨86, _⟩ => ⟨S4x2048x2048, .f32⟩
  | .hbm, ⟨87, _⟩ => ⟨S8192x2048, .f32⟩
  | .hbm, ⟨88, _⟩ => ⟨S1x2048, .f32⟩
  | .hbm, ⟨89, _⟩ => ⟨S1024x2048, .f32⟩
  | .hbm, ⟨90, _⟩ => ⟨S9216x2048, .f32⟩
  | .hbm, ⟨91, _⟩ => ⟨S9216x2048, .f32⟩
  | .hbm, ⟨92, _⟩ => ⟨S2048, .f32⟩
  | .hbm, ⟨93, _⟩ => ⟨S2048, .f32⟩
  | .hbm, ⟨94, _⟩ => ⟨S_, .f32⟩
  | .hbm, ⟨95, _⟩ => ⟨S9216x2048, .f32⟩
  | .hbm, ⟨96, _⟩ => ⟨S9216x2048, .f32⟩
  | .hbm, ⟨97, _⟩ => ⟨S9216x2048, .f32⟩
  | .hbm, ⟨98, _⟩ => ⟨S_, .f32⟩
  | .hbm, ⟨99, _⟩ => ⟨S9216, .f32⟩
  | .hbm, ⟨100, _⟩ => ⟨S9216x1, .f32⟩
  | .hbm, ⟨101, _⟩ => ⟨S_, .f32⟩
  | .hbm, ⟨102, _⟩ => ⟨S9216x1, .f32⟩
  | .hbm, ⟨103, _⟩ => ⟨S9216x1, .f32⟩
  | .hbm, ⟨104, _⟩ => ⟨S9216x2048, .f32⟩
  | .hbm, ⟨105, _⟩ => ⟨S9216x2048, .f32⟩
  | .hbm, ⟨106, _⟩ => ⟨S9216x2048, .f32⟩
  | .hbm, ⟨107, _⟩ => ⟨S_, .f32⟩
  | .hbm, ⟨108, _⟩ => ⟨S9216, .f32⟩
  | .hbm, ⟨109, _⟩ => ⟨S9216x1, .f32⟩
  | .hbm, ⟨110, _⟩ => ⟨S_, .f32⟩
  | .hbm, ⟨111, _⟩ => ⟨S9216x1, .f32⟩
  | .hbm, ⟨112, _⟩ => ⟨S9216x1, .f32⟩
  | .hbm, ⟨113, _⟩ => ⟨S9216x2048, .f32⟩
  | .hbm, ⟨114, _⟩ => ⟨S9216x2048, .f32⟩
  | .hbm, ⟨115, _⟩ => ⟨S_, .f32⟩
  | .hbm, ⟨116, _⟩ => ⟨S9216x1, .f32⟩
  | .hbm, ⟨117, _⟩ => ⟨S9216x1, .f32⟩
  | .hbm, ⟨118, _⟩ => ⟨S9216x1, .f32⟩
  | .hbm, ⟨119, _⟩ => ⟨S9216x2048, .f32⟩
  | .hbm, ⟨120, _⟩ => ⟨S9216x2048, .f32⟩
  | .hbm, ⟨121, _⟩ => ⟨S1x2048, .f32⟩
  | .hbm, ⟨122, _⟩ => ⟨S9216x2048, .f32⟩
  | .hbm, ⟨123, _⟩ => ⟨S9216x2048, .f32⟩
  | .hbm, ⟨124, _⟩ => ⟨S1x2048, .f32⟩
  | .hbm, ⟨125, _⟩ => ⟨S9216x2048, .f32⟩
  | .hbm, ⟨126, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_5 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_6 : Ref sig .tc := ⟨.hbm, 98, rfl⟩
abbrev main_v78 : Ref sig .tc := ⟨.hbm, 99, rfl⟩
abbrev main_v79 : Ref sig .tc := ⟨.hbm, 100, rfl⟩
abbrev main_cst_7 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_8 : Ref sig .tc := ⟨.hbm, 107, rfl⟩
abbrev main_v85 : Ref sig .tc := ⟨.hbm, 108, rfl⟩
abbrev main_v86 : Ref sig .tc := ⟨.hbm, 109, rfl⟩
abbrev main_cst_9 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_10 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩

abbrev nD : Nat := 1
abbrev τ : Topo := Topo.v7x

variable {F : FTy → Type} [FloatOps F]
-- ==== Kernel4.lean ====
abbrev S9216x2048 : Shape := ⟨2, ![9216, 2048]⟩
abbrev S8x1x12288 : Shape := ⟨3, ![8, 1, 12288]⟩
abbrev S2x2048x9728 : Shape := ⟨3, ![2, 2048, 9728]⟩
abbrev S8192x9728 : Shape := ⟨2, ![8192, 9728]⟩
abbrev S1024x2048 : Shape := ⟨2, ![1024, 2048]⟩
abbrev S1x1x2048 : Shape := ⟨3, ![1, 1, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S1x2048 : Shape := ⟨2, ![1, 2048]⟩
abbrev S2048x512 : Shape := ⟨2, ![2048, 512]⟩

abbrev nBuf : Space → Nat
  | .hbm => 4
  | .vmem => 11
  | .smem => 0
  | _ => 0

abbrev bufTy : (tb : Table) → Fin (tcTables nBuf tb) → BufTy
  | .hbm, ⟨0, _⟩ => ⟨S9216x2048, .f32⟩
  | .hbm, ⟨1, _⟩ => ⟨S8x1x12288, .f32⟩
  | .hbm, ⟨2, _⟩ => ⟨S2x2048x9728, .bf16⟩
  | .hbm, ⟨3, _⟩ => ⟨S8192x9728, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c2048_i32 : BitVec 32 := 2048#32
  let v2 : BitVec 32 := Scalar.divsi v1 c2048_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2048_i32 c0_i32_2
  let v9 : BitVec 32 := Scalar.extui v8
  let c0_i32_3 : BitVec 32 := 0#32
  let v10 : BitVec 1 := Scalar.cmpi .slt c2048_i32 c0_i32_3
  let v11 : BitVec 32 := Scalar.extui v10
  let v12 : BitVec 32 := Scalar.subi v9 v11
  let v13 : BitVec 1 := Scalar.cmpi .ne v7 v12
  let v14 : BitVec 32 := Scalar.remsi v1 c2048_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.minsi v18 c4_i32
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c2048_i32 : BitVec 32 := 2048#32
  let v2 : BitVec 32 := Scalar.divsi v1 c2048_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2048_i32 c0_i32_2
  let v9 : BitVec 32 := Scalar.extui v8
  let c0_i32_3 : BitVec 32 := 0#32
  let v10 : BitVec 1 := Scalar.cmpi .slt c2048_i32 c0_i32_3
  let v11 : BitVec 32 := Scalar.extui v10
  let v12 : BitVec 32 := Scalar.subi v9 v11
  let v13 : BitVec 1 := Scalar.cmpi .ne v7 v12
  let v14 : BitVec 32 := Scalar.remsi v1 c2048_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.minsi v18 c4_i32
  let c0_i32_5 : BitVec 32 := 0#32
  let c1_i32_6 : BitVec 32 := 1#32
  let c0_i32_7 : BitVec 32 := 0#32
  ![v19.toNat, c0_i32_5.toNat, c1_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S9216x2048 : Shape := ⟨2, ![9216, 2048]⟩
abbrev S8x1x12288 : Shape := ⟨3, ![8, 1, 12288]⟩
abbrev S2x2048x9728 : Shape := ⟨3, ![2, 2048, 9728]⟩
abbrev S8x1x2048 : Shape := ⟨3, ![8, 1, 2048]⟩
abbrev S8x2048 : Shape := ⟨2, ![8, 2048]⟩
abbrev S8192x2048 : Shape := ⟨2, ![8192, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S_ : Shape := ⟨0, ![]⟩
abbrev S8192 : Shape := ⟨1, ![8192]⟩
abbrev S8192x1 : Shape := ⟨2, ![8192, 1]⟩
abbrev S1x2048x9728 : Shape := ⟨3, ![1, 2048, 9728]⟩
abbrev S2048x9728 : Shape := ⟨2, ![2048, 9728]⟩
abbrev S8192x9728 : Shape := ⟨2, ![8192, 9728]⟩

abbrev nBuf : Space → Nat
  | .hbm => 49
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S8x1x12288, .f32⟩
  | .hbm, ⟨2, _⟩ => ⟨S2x2048x9728, .bf16⟩
  | .hbm, ⟨3, _⟩ => ⟨S8x1x2048, .f32⟩
  | .hbm, ⟨4, _⟩ => ⟨S8x2048, .f32⟩
  | .hbm, ⟨5, _⟩ => ⟨S8x1x2048, .f32⟩
  | .hbm, ⟨6, _⟩ => ⟨S8x2048, .f32⟩
  | .hbm, ⟨7, _⟩ => ⟨S8192x2048, .f32⟩
  | .hbm, ⟨8, _⟩ => ⟨S4x2048, .f32⟩
  | .hbm, ⟨9, _⟩ => ⟨S4x1x2048, .f32⟩
  | .hbm, ⟨10, _⟩ => ⟨S4x2048x2048, .f32⟩
  | .hbm, ⟨11, _⟩ => ⟨S8192x2048, .f32⟩
  | .hbm, ⟨12, _⟩ => ⟨S4x2048, .f32⟩
  | .hbm, ⟨13, _⟩ => ⟨S4x1x2048, .f32⟩
  | .hbm, ⟨14, _⟩ => ⟨S4x2048x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S1x2048x9728, .bf16⟩
  | .hbm, ⟨45, _⟩ => ⟨S2048x9728, .bf16⟩
  | .hbm, ⟨46, _⟩ => ⟨S2048x9728, .f32⟩
  | .hbm, ⟨47, _⟩ => ⟨S8192x9728, .f32⟩
  | .hbm, ⟨48, _⟩ => ⟨S8192x9728, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel5.lean ====
abbrev S9216x2048 : Shape := ⟨2, ![9216, 2048]⟩
abbrev S8192x9728 : Shape := ⟨2, ![8192, 9728]⟩
abbrev S8192x1024 : Shape := ⟨2, ![8192, 1024]⟩
abbrev S8192x512 : Shape := ⟨2, ![8192, 512]⟩
abbrev S8x1x12288 : Shape := ⟨3, ![8, 1, 12288]⟩
abbrev S3x2048 : Shape := ⟨2, ![3, 2048]⟩
abbrev S2x1024x2048 : Shape := ⟨3, ![2, 1024, 2048]⟩
abbrev S2x512x2048 : Shape := ⟨3, ![2, 512, 2048]⟩
abbrev S2x2048x2048 : Shape := ⟨3, ![2, 2048, 2048]⟩
abbrev S1x2048 : Shape := ⟨2, ![1, 2048]⟩
abbrev S8192x2048 : Shape := ⟨2, ![8192, 2048]⟩
abbrev S256x2048 : Shape := ⟨2, ![256, 2048]⟩
abbrev S256x6144 : Shape := ⟨2, ![256, 6144]⟩
abbrev S256x1024 : Shape := ⟨2, ![256, 1024]⟩
abbrev S256x512 : Shape := ⟨2, ![256, 512]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x1x2048 : Shape := ⟨3, ![1, 1, 2048]⟩
abbrev S1024x2048 : Shape := ⟨2, ![1024, 2048]⟩
abbrev S512x2048 : Shape := ⟨2, ![512, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 14
  | .vmem => 21
  | .smem => 0
  | _ => 0

abbrev bufTy : (tb : Table) → Fin (tcTables nBuf tb) → BufTy
  | .hbm, ⟨0, _⟩ => ⟨S9216x2048, .f32⟩
  | .hbm, ⟨1, _⟩ => ⟨S8192x9728, .bf16⟩
  | .hbm, ⟨2, _⟩ => ⟨S8192x1024, .bf16⟩
  | .hbm, ⟨3, _⟩ => ⟨S8192x512, .bf16⟩
  | .hbm, ⟨4, _⟩ => ⟨S8192x512, .bf16⟩
  | .hbm, ⟨5, _⟩ => ⟨S8x1x12288, .f32⟩
  | .hbm, ⟨6, _⟩ => ⟨S3x2048, .f32⟩
  | .hbm, ⟨7, _⟩ => ⟨S2x1024x2048, .bf16⟩
  | .hbm, ⟨8, _⟩ => ⟨S2x512x2048, .bf16⟩
  | .hbm, ⟨9, _⟩ => ⟨S2x512x2048, .bf16⟩
  | .hbm, ⟨10, _⟩ => ⟨S2x2048x2048, .bf16⟩
  | .hbm, ⟨11, _⟩ => ⟨S1x2048, .f32⟩
  | .hbm, ⟨12, _⟩ => ⟨S1x2048, .f32⟩
  | .hbm, ⟨13, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x6144, .bf16⟩
  | .local _ .vmem, ⟨3, _⟩ => ⟨S256x6144, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S3x2048, .f32⟩
  | .local _ .vmem, ⟨11, _⟩ => ⟨S1x1024x2048, .bf16⟩
  | .local _ .vmem, ⟨12, _⟩ => ⟨S1x512x2048, .bf16⟩
  | .local _ .vmem, ⟨13, _⟩ => ⟨S1x512x2048, .bf16⟩
  | .local _ .vmem, ⟨14, _⟩ => ⟨S1x2048x2048, .bf16⟩
  | .local _ .vmem, ⟨15, _⟩ => ⟨S1x1x2048, .f32⟩
  | .local _ .vmem, ⟨16, _⟩ => ⟨S1x1x2048, .f32⟩
  | .local _ .vmem, ⟨17, _⟩ => ⟨S1x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c2_i32 : BitVec 32 := 2#32
  let c0_i32_5 : BitVec 32 := 0#32
  ![v18.toNat, c0_i32_4.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S9216x2048 : Shape := ⟨2, ![9216, 2048]⟩
abbrev S8192x9728 : Shape := ⟨2, ![8192, 9728]⟩
abbrev S8192x1024 : Shape := ⟨2, ![8192, 1024]⟩
abbrev S8192x512 : Shape := ⟨2, ![8192, 512]⟩
abbrev S8x1x12288 : Shape := ⟨3, ![8, 1, 12288]⟩
abbrev S3x2048 : Shape := ⟨2, ![3, 2048]⟩
abbrev S2x1024x2048 : Shape := ⟨3, ![2, 1024, 2048]⟩
abbrev S2x512x2048 : Shape := ⟨3, ![2, 512, 2048]⟩
abbrev S2x2048x2048 : Shape := ⟨3, ![2, 2048, 2048]⟩
abbrev S1x2048 : Shape := ⟨2, ![1, 2048]⟩
abbrev S8x1x2048 : Shape := ⟨3, ![8, 1, 2048]⟩
abbrev S8x2048 : Shape := ⟨2, ![8, 2048]⟩
abbrev S8192x2048 : Shape := ⟨2, ![8192, 2048]⟩
abbrev S2048 : Shape := ⟨1, ![2048]⟩
abbrev S_ : Shape := ⟨0, ![]⟩
abbrev S1x1024x2048 : Shape := ⟨3, ![1, 1024, 2048]⟩
abbrev S1024x2048 : Shape := ⟨2, ![1024, 2048]⟩
abbrev S1x512x2048 : Shape := ⟨3, ![1, 512, 2048]⟩
abbrev S512x2048 : Shape := ⟨2, ![512, 2048]⟩
abbrev S1x2048x2048 : Shape := ⟨3, ![1, 2048, 2048]⟩
abbrev S2048x2048 : Shape := ⟨2, ![2048, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192 : Shape := ⟨1, ![8192]⟩
abbrev S8192x1 : Shape := ⟨2, ![8192, 1]⟩

abbrev nBuf : Space → Nat
  | .hbm => 125
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S8192x9728, .bf16⟩
  | .hbm, ⟨2, _⟩ => ⟨S8192x1024, .bf16⟩
  | .hbm, ⟨3, _⟩ => ⟨S8192x512, .bf16⟩
  | .hbm, ⟨4, _⟩ => ⟨S8192x512, .bf16⟩
  | .hbm, ⟨5, _⟩ => ⟨S8x1x12288, .f32⟩
  | .hbm, ⟨6, _⟩ => ⟨S3x2048, .f32⟩
  | .hbm, ⟨7, _⟩ => ⟨S2x1024x2048, .bf16⟩
  | .hbm, ⟨8, _⟩ => ⟨S2x512x2048, .bf16⟩
  | .hbm, ⟨9, _⟩ => ⟨S2x512x2048, .bf16⟩
  | .hbm, ⟨10, _⟩ => ⟨S2x2048x2048, .bf16⟩
  | .hbm, ⟨11, _⟩ => ⟨S1x2048, .f32⟩
  | .hbm, ⟨12, _⟩ => ⟨S1x2048, .f32⟩
  | .hbm, ⟨13, _⟩ => ⟨S8x1x2048, .f32⟩
  | .hbm, ⟨14, _⟩ => ⟨S8x2048, .f32⟩
  | .hbm, ⟨15, _⟩ => ⟨S8192x2048, .bf16⟩
  | .hbm, ⟨16, _⟩ => ⟨S8192x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .bf16⟩
  | .hbm, ⟨31, _⟩ => ⟨S8192x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .bf16⟩
  | .hbm, ⟨46, _⟩ => ⟨S8192x2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S8192x1024, .f32⟩
  | .hbm, ⟨61, _⟩ => ⟨S1x1024x2048, .bf16⟩
  | .hbm, ⟨62, _⟩ => ⟨S1024x2048, .bf16⟩
  | .hbm, ⟨63, _⟩ => ⟨S1024x2048, .f32⟩
  | .hbm, ⟨64, _⟩ => ⟨S8192x2048, .f32⟩
  | .hbm, ⟨65, _⟩ => ⟨S8192x2048, .f32⟩
  | .hbm, ⟨66, _⟩ => ⟨S8192x512, .f32⟩
  | .hbm, ⟨67, _⟩ => ⟨S1x512x2048, .bf16⟩
  | .hbm, ⟨68, _⟩ => ⟨S512x2048, .bf16⟩
  | .hbm, ⟨69, _⟩ => ⟨S512x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x512, .f32⟩
  | .hbm, ⟨74, _⟩ => ⟨S1x512x2048, .bf16⟩
  | .hbm, ⟨75, _⟩ => ⟨S512x2048, .bf16⟩
  | .hbm, ⟨76, _⟩ => ⟨S512x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S1x2048x2048, .bf16⟩
  | .hbm, ⟨81, _⟩ => ⟨S2048x2048, .bf16⟩
  | .hbm, ⟨82, _⟩ => ⟨S2048x2048, .f32⟩
  | .hbm, ⟨83, _⟩ => ⟨S8192x2048, .f32⟩
  | .hbm, ⟨84, _⟩ => ⟨S8192x2048, .f32⟩
  | .hbm, ⟨85, _⟩ => ⟨S4x2048, .f32⟩
  | .hbm, ⟨86, _⟩ => ⟨S4x1x2048, .f32⟩
  | .hbm, ⟨87, _⟩ => ⟨S4x2048x2048, .f32⟩
  | .hbm, ⟨88, _⟩ => ⟨S8192x2048, .f32⟩
  | .hbm, ⟨89, _⟩ => ⟨S8192x2048, .f32⟩
  | .hbm, ⟨90, _⟩ => ⟨S2048, .f32⟩
  | .hbm, ⟨91, _⟩ => ⟨S2048, .f32⟩
  | .hbm, ⟨92, _⟩ => ⟨S_, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S8192x2048, .f32⟩
  | .hbm, ⟨103, _⟩ => ⟨S8192x2048, .f32⟩
  | .hbm, ⟨104, _⟩ => ⟨S8192x2048, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S_, .f32⟩
  | .hbm, ⟨109, _⟩ => ⟨S8192x1, .f32⟩
  | .hbm, ⟨110, _⟩ => ⟨S8192x1, .f32⟩
  | .hbm, ⟨111, _⟩ => ⟨S8192x2048, .f32⟩
  | .hbm, ⟨112, _⟩ => ⟨S8192x2048, .f32⟩
  | .hbm, ⟨113, _⟩ => ⟨S_, .f32⟩
  | .hbm, ⟨114, _⟩ => ⟨S8192x1, .f32⟩
  | .hbm, ⟨115, _⟩ => ⟨S8192x1, .f32⟩
  | .hbm, ⟨116, _⟩ => ⟨S8192x1, .f32⟩
  | .hbm, ⟨117, _⟩ => ⟨S8192x2048, .f32⟩
  | .hbm, ⟨118, _⟩ => ⟨S8192x2048, .f32⟩
  | .hbm, ⟨119, _⟩ => ⟨S1x2048, .f32⟩
  | .hbm, ⟨120, _⟩ => ⟨S8192x2048, .f32⟩
  | .hbm, ⟨121, _⟩ => ⟨S8192x2048, .f32⟩
  | .hbm, ⟨122, _⟩ => ⟨S1x2048, .f32⟩
  | .hbm, ⟨123, _⟩ => ⟨S8192x2048, .f32⟩
  | .hbm, ⟨124, _⟩ => ⟨S8192x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_5 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_6 : Ref sig .tc := ⟨.hbm, 96, rfl⟩
abbrev main_v76 : Ref sig .tc := ⟨.hbm, 97, rfl⟩
abbrev main_v77 : Ref sig .tc := ⟨.hbm, 98, rfl⟩
abbrev main_cst_7 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_8 : Ref sig .tc := ⟨.hbm, 105, rfl⟩
abbrev main_v83 : Ref sig .tc := ⟨.hbm, 106, rfl⟩
abbrev main_v84 : Ref sig .tc := ⟨.hbm, 107, rfl⟩
abbrev main_cst_9 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_10 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩

abbrev nD : Nat := 1
abbrev τ : Topo := Topo.v7x

variable {F : FTy → Type} [FloatOps F]
-- ==== Kernel6.lean ====
abbrev S9216x2048 : Shape := ⟨2, ![9216, 2048]⟩
abbrev S9216x1024 : Shape := ⟨2, ![9216, 1024]⟩
abbrev S8192x1024 : Shape := ⟨2, ![8192, 1024]⟩
abbrev S2048x256 : Shape := ⟨2, ![2048, 256]⟩
abbrev S256x256 : Shape := ⟨2, ![256, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S9216x1024, .bf16⟩
  | .hbm, ⟨3, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let v1 : BitVec 32 := Scalar.addi c0_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let v1 : BitVec 32 := Scalar.addi c0_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference6Ideal.lean ====
abbrev S9216x2048 : Shape := ⟨2, ![9216, 2048]⟩
abbrev S9216x1024 : Shape := ⟨2, ![9216, 1024]⟩
abbrev S8192x2048 : Shape := ⟨2, ![8192, 2048]⟩
abbrev S4x2048x8x256 : Shape := ⟨4, ![4, 2048, 8, 256]⟩
abbrev S1024x2048 : Shape := ⟨2, ![1024, 2048]⟩
abbrev S4x256x8x256 : Shape := ⟨4, ![4, 256, 8, 256]⟩
abbrev S4x2304x8x256 : Shape := ⟨4, ![4, 2304, 8, 256]⟩
abbrev S1024x1024 : Shape := ⟨2, ![1024, 1024]⟩
abbrev S4x256x8x128 : Shape := ⟨4, ![4, 256, 8, 128]⟩
abbrev S8192x1024 : Shape := ⟨2, ![8192, 1024]⟩
abbrev S4x2048x8x128 : Shape := ⟨4, ![4, 2048, 8, 128]⟩
abbrev S4x2304x8x128 : Shape := ⟨4, ![4, 2304, 8, 128]⟩
abbrev S4x8x2048x2304 : Shape := ⟨4, ![4, 8, 2048, 2304]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩

abbrev nBuf : Space → Nat
  | .hbm => 39
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S9216x1024, .bf16⟩
  | .hbm, ⟨3, _⟩ => ⟨S8192x2048, .bf16⟩
  | .hbm, ⟨4, _⟩ => ⟨S8192x2048, .f32⟩
  | .hbm, ⟨5, _⟩ => ⟨S4x2048x8x256, .f32⟩
  | .hbm, ⟨6, _⟩ => ⟨S1024x2048, .bf16⟩
  | .hbm, ⟨7, _⟩ => ⟨S1024x2048, .f32⟩
  | .hbm, ⟨8, _⟩ => ⟨S4x256x8x256, .f32⟩
  | .hbm, ⟨9, _⟩ => ⟨S8192x2048, .bf16⟩
  | .hbm, ⟨10, _⟩ => ⟨S8192x2048, .f32⟩
  | .hbm, ⟨11, _⟩ => ⟨S4x2048x8x256, .f32⟩
  | .hbm, ⟨12, _⟩ => ⟨S4x2304x8x256, .f32⟩
  | .hbm, ⟨13, _⟩ => ⟨S1024x1024, .bf16⟩
  | .hbm, ⟨14, _⟩ => ⟨S1024x1024, .f32⟩
  | .hbm, ⟨15, _⟩ => ⟨S4x256x8x128, .f32⟩
  | .hbm, ⟨16, _⟩ => ⟨S8192x1024, .bf16⟩
  | .hbm, ⟨17, _⟩ => ⟨S8192x1024, .f32⟩
  | .hbm, ⟨18, _⟩ => ⟨S4x2048x8x128, .f32⟩
  | .hbm, ⟨19, _⟩ => ⟨S4x2304x8x128, .f32⟩
  | .hbm, ⟨20, _⟩ => ⟨S4x8x2048x2304, .f32⟩
  | .hbm, ⟨21, _⟩ => ⟨S_, .f32⟩
  | .hbm, ⟨22, _⟩ => ⟨S4x8x2048, .f32⟩
  | .hbm, ⟨23, _⟩ => ⟨S_, .f32⟩
  | .hbm, ⟨24, _⟩ => ⟨S4x8x2048, .f32⟩
  | .hbm, ⟨25, _⟩ => ⟨S4x8x2048, .f32⟩
  | .hbm, ⟨26, _⟩ => ⟨S4x8x2048x1, .f32⟩
  | .hbm, ⟨27, _⟩ => ⟨S4x8x2048x2304, .f32⟩
  | .hbm, ⟨28, _⟩ => ⟨S4x8x2048x2304, .f32⟩
  | .hbm, ⟨29, _⟩ => ⟨S4x8x2048x2304, .f32⟩
  | .hbm, ⟨30, _⟩ => ⟨S_, .f32⟩
  | .hbm, ⟨31, _⟩ => ⟨S4x8x2048, .f32⟩
  | .hbm, ⟨32, _⟩ => ⟨S4x8x2048x1, .f32⟩
  | .hbm, ⟨33, _⟩ => ⟨S4x8x2048x2304, .f32⟩
  | .hbm, ⟨34, _⟩ => ⟨S4x8x2048x2304, .f32⟩
  | .hbm, ⟨35, _⟩ => ⟨S4x8x128x2048, .f32⟩
  | .hbm, ⟨36, _⟩ => ⟨S4x2048x8x128, .f32⟩
  | .hbm, ⟨37, _⟩ => ⟨S8192x1024, .f32⟩
  | .hbm, ⟨38, _⟩ => ⟨S8192x1024, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Kernel7.lean ====
abbrev S9216x2048 : Shape := ⟨2, ![9216, 2048]⟩
abbrev S8x1x12288 : Shape := ⟨3, ![8, 1, 12288]⟩
abbrev S2x2048x9728 : Shape := ⟨3, ![2, 2048, 9728]⟩
abbrev S1024x2048 : Shape := ⟨2, ![1024, 2048]⟩
abbrev S1x1x2048 : Shape := ⟨3, ![1, 1, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S1x2048 : Shape := ⟨2, ![1, 2048]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S8x1x12288, .f32⟩
  | .hbm, ⟨2, _⟩ => ⟨S2x2048x9728, .bf16⟩
  | .hbm, ⟨3, _⟩ => ⟨S1024x2048, .bf16⟩
  | .local _ .vmem, ⟨0, _⟩ => ⟨S1024x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c1024_i32 : BitVec 32 := 1024#32
  let v1 : BitVec 32 := Scalar.muli v0 c1024_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.minsi v18 c4_i32
  let c0_i32_4 : BitVec 32 := 0#32
  let c0_i32_5 : BitVec 32 := 0#32
  let c0_i32_6 : BitVec 32 := 0#32
  ![v19.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c1024_i32 : BitVec 32 := 1024#32
  let v1 : BitVec 32 := Scalar.muli v0 c1024_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.minsi v18 c4_i32
  let c0_i32_4 : BitVec 32 := 0#32
  let c1_i32_5 : BitVec 32 := 1#32
  let c0_i32_6 : BitVec 32 := 0#32
  ![v19.toNat, c0_i32_4.toNat, c1_i32_5.toNat]

def cc0_transform_3 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S9216x2048 : Shape := ⟨2, ![9216, 2048]⟩
abbrev S8x1x12288 : Shape := ⟨3, ![8, 1, 12288]⟩
abbrev S2x2048x9728 : Shape := ⟨3, ![2, 2048, 9728]⟩
abbrev S1024x2048 : Shape := ⟨2, ![1024, 2048]⟩
abbrev S1x1x2048 : Shape := ⟨3, ![1, 1, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S8x1x12288, .f32⟩
  | .hbm, ⟨2, _⟩ => ⟨S2x2048x9728, .bf16⟩
  | .hbm, ⟨3, _⟩ => ⟨S1024x2048, .f32⟩
  | .hbm, ⟨4, _⟩ => ⟨S1x1x2048, .f32⟩
  | .hbm, ⟨5, _⟩ => ⟨S2048, .f32⟩
  | .hbm, ⟨6, _⟩ => ⟨S1x1x2048, .f32⟩
  | .hbm, ⟨7, _⟩ => ⟨S2048, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S_, .f32⟩
  | .hbm, ⟨21, _⟩ => ⟨S1024x1, .f32⟩
  | .hbm, ⟨22, _⟩ => ⟨S1024x1, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x1, .f32⟩
  | .hbm, ⟨27, _⟩ => ⟨S1024x1, .f32⟩
  | .hbm, ⟨28, _⟩ => ⟨S1024x1, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S1x2048, .f32⟩
  | .hbm, ⟨35, _⟩ => ⟨S1024x2048, .f32⟩
  | .hbm, ⟨36, _⟩ => ⟨S1024x2048, .f32⟩
  | .hbm, ⟨37, _⟩ => ⟨S1x2048, .f32⟩
  | .hbm, ⟨38, _⟩ => ⟨S1024x2048, .f32⟩
  | .hbm, ⟨39, _⟩ => ⟨S1024x2048, .f32⟩
  | .hbm, ⟨40, _⟩ => ⟨S1x2048x2048, .bf16⟩
  | .hbm, ⟨41, _⟩ => ⟨S2048x2048, .bf16⟩
  | .hbm, ⟨42, _⟩ => ⟨S2048x2048, .f32⟩
  | .hbm, ⟨43, _⟩ => ⟨S1024x2048, .f32⟩
  | .hbm, ⟨44, _⟩ => ⟨S1024x2048, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel8.lean ====
abbrev S8192x512 : Shape := ⟨2, ![8192, 512]⟩
abbrev S4x64 : Shape := ⟨2, ![4, 64]⟩
abbrev S1x128 : Shape := ⟨2, ![1, 128]⟩
abbrev S1024x512 : Shape := ⟨2, ![1024, 512]⟩
abbrev S8192x9728 : Shape := ⟨2, ![8192, 9728]⟩
abbrev S1024x2048 : Shape := ⟨2, ![1024, 2048]⟩
abbrev S2048x128 : Shape := ⟨2, ![2048, 128]⟩
abbrev S256x128 : Shape := ⟨2, ![256, 128]⟩
abbrev S1x64 : Shape := ⟨2, ![1, 64]⟩
abbrev S1 : Shape := ⟨1, ![1]⟩
abbrev S1x1 : Shape := ⟨2, ![1, 1]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S4x64, .f32⟩
  | .hbm, ⟨2, _⟩ => ⟨S1x128, .f32⟩
  | .hbm, ⟨3, _⟩ => ⟨S8192x512, .bf16⟩
  | .hbm, ⟨4, _⟩ => ⟨S1024x512, .bf16⟩
  | .hbm, ⟨5, _⟩ => ⟨S8192x9728, .bf16⟩
  | .hbm, ⟨6, _⟩ => ⟨S1024x2048, .bf16⟩
  | .hbm, ⟨7, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S4x64, .f32⟩
  | .local _ .vmem, ⟨3, _⟩ => ⟨S1x128, .f32⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S256x128, .bf16⟩
  | .local _ .vmem, ⟨11, _⟩ => ⟨S256x128, .bf16⟩
  | .local _ .vmem, ⟨12, _⟩ => ⟨S2048x128, .bf16⟩
  | .local _ .vmem, ⟨13, _⟩ => ⟨S2048x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c64_i32 : BitVec 32 := 64#32
  let v1 : BitVec 32 := Scalar.addi c64_i32 arg1
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c12_i32 : BitVec 32 := 12#32
  let v1 : BitVec 32 := Scalar.addi c12_i32 arg1
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference8Ideal.lean ====
abbrev S8192x512 : Shape := ⟨2, ![8192, 512]⟩
abbrev S4x64 : Shape := ⟨2, ![4, 64]⟩
abbrev S1x128 : Shape := ⟨2, ![1, 128]⟩
abbrev S1024x512 : Shape := ⟨2, ![1024, 512]⟩
abbrev S8192x9728 : Shape := ⟨2, ![8192, 9728]⟩
abbrev S1024x2048 : Shape := ⟨2, ![1024, 2048]⟩
abbrev S4x256x4x2x64 : Shape := ⟨5, ![4, 256, 4, 2, 64]⟩
abbrev S4x2048x4x2x64 : Shape := ⟨5, ![4, 2048, 4, 2, 64]⟩
abbrev S4x2304x4x2x64 : Shape := ⟨5, ![4, 2304, 4, 2, 64]⟩
abbrev S4x256x4x128 : Shape := ⟨4, ![4, 256, 4, 128]⟩
abbrev S4x2048x4x128 : Shape := ⟨4, ![4, 2048, 4, 128]⟩
abbrev S4x2304x4x128 : Shape := ⟨4, ![4, 2304, 4, 128]⟩
abbrev S1x64 : Shape := ⟨2, ![1, 64]⟩
abbrev S64 : Shape := ⟨1, ![64]⟩
abbrev S_ : Shape := ⟨0, ![]⟩
abbrev S1 : Shape := ⟨1, ![1]⟩
abbrev S2 : Shape := ⟨1, ![2]⟩
abbrev S4x4x2x2048x2304 : Shape := ⟨5, ![4, 4, 2, 2048, 2304]⟩
abbrev S4x4x2x2048 : Shape := ⟨4, ![4, 4, 2, 2048]⟩
abbrev S4x4x2x2048x1 : Shape := ⟨5, ![4, 4, 2, 2048, 1]⟩
abbrev S4x4x2048x2304 : Shape := ⟨4, ![4, 4, 2048, 2304]⟩
abbrev S4x4x128x2048 : Shape := ⟨4, ![4, 4, 128, 2048]⟩
abbrev S128 : Shape := ⟨1, ![128]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x64, .f32⟩
  | .hbm, ⟨2, _⟩ => ⟨S1x128, .f32⟩
  | .hbm, ⟨3, _⟩ => ⟨S8192x512, .bf16⟩
  | .hbm, ⟨4, _⟩ => ⟨S1024x512, .bf16⟩
  | .hbm, ⟨5, _⟩ => ⟨S8192x9728, .bf16⟩
  | .hbm, ⟨6, _⟩ => ⟨S1024x2048, .bf16⟩
  | .hbm, ⟨7, _⟩ => ⟨S1024x512, .f32⟩
  | .hbm, ⟨8, _⟩ => ⟨S4x256x4x2x64, .f32⟩
  | .hbm, ⟨9, _⟩ => ⟨S8192x512, .f32⟩
  | .hbm, ⟨10, _⟩ => ⟨S4x2048x4x2x64, .f32⟩
  | .hbm, ⟨11, _⟩ => ⟨S4x2304x4x2x64, .f32⟩
  | .hbm, ⟨12, _⟩ => ⟨S1024x512, .bf16⟩
  | .hbm, ⟨13, _⟩ => ⟨S1024x512, .f32⟩
  | .hbm, ⟨14, _⟩ => ⟨S4x256x4x128, .f32⟩
  | .hbm, ⟨15, _⟩ => ⟨S8192x512, .bf16⟩
  | .hbm, ⟨16, _⟩ => ⟨S8192x512, .f32⟩
  | .hbm, ⟨17, _⟩ => ⟨S4x2048x4x128, .f32⟩
  | .hbm, ⟨18, _⟩ => ⟨S4x2304x4x128, .f32⟩
  | .hbm, ⟨19, _⟩ => ⟨S8192x512, .f32⟩
  | .hbm, ⟨20, _⟩ => ⟨S4x2048x4x2x64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x64, .f32⟩
  | .hbm, ⟨30, _⟩ => ⟨S64, .f32⟩
  | .hbm, ⟨31, _⟩ => ⟨S1x64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S2, .f32⟩
  | .hbm, ⟨45, _⟩ => ⟨S4x4x2x2048x2304, .f32⟩
  | .hbm, ⟨46, _⟩ => ⟨S_, .f32⟩
  | .hbm, ⟨47, _⟩ => ⟨S4x4x2x2048, .f32⟩
  | .hbm, ⟨48, _⟩ => ⟨S_, .f32⟩
  | .hbm, ⟨49, _⟩ => ⟨S4x4x2x2048, .f32⟩
  | .hbm, ⟨50, _⟩ => ⟨S4x4x2x2048, .f32⟩
  | .hbm, ⟨51, _⟩ => ⟨S4x4x2x2048x1, .f32⟩
  | .hbm, ⟨52, _⟩ => ⟨S4x4x2x2048x2304, .f32⟩
  | .hbm, ⟨53, _⟩ => ⟨S4x4x2x2048x2304, .f32⟩
  | .hbm, ⟨54, _⟩ => ⟨S4x4x2x2048x2304, .f32⟩
  | .hbm, ⟨55, _⟩ => ⟨S_, .f32⟩
  | .hbm, ⟨56, _⟩ => ⟨S4x4x2x2048, .f32⟩
  | .hbm, ⟨57, _⟩ => ⟨S4x4x2x2048x1, .f32⟩
  | .hbm, ⟨58, _⟩ => ⟨S4x4x2x2048x2304, .f32⟩
  | .hbm, ⟨59, _⟩ => ⟨S4x4x2x2048x2304, .f32⟩
  | .hbm, ⟨60, _⟩ => ⟨S4x4x2048x2304, .f32⟩
  | .hbm, ⟨61, _⟩ => ⟨S4x4x128x2048, .f32⟩
  | .hbm, ⟨62, _⟩ => ⟨S4x2048x4x128, .f32⟩
  | .hbm, ⟨63, _⟩ => ⟨S128, .f32⟩
  | .hbm, ⟨64, _⟩ => ⟨S4x2048x4x128, .f32⟩
  | .hbm, ⟨65, _⟩ => ⟨S_, .f32⟩
  | .hbm, ⟨66, _⟩ => ⟨S4x2048x4, .f32⟩
  | .hbm, ⟨67, _⟩ => ⟨S4x2048x4x1, .f32⟩
  | .hbm, ⟨68, _⟩ => ⟨S_, .f32⟩
  | .hbm, ⟨69, _⟩ => ⟨S4x2048x4x1, .f32⟩
  | .hbm, ⟨70, _⟩ => ⟨S4x2048x4x1, .f32⟩
  | .hbm, ⟨71, _⟩ => ⟨S_, .f32⟩
  | .hbm, ⟨72, _⟩ => ⟨S4x2048x4x1, .f32⟩
  | .hbm, ⟨73, _⟩ => ⟨S4x2048x4x1, .f32⟩
  | .hbm, ⟨74, _⟩ => ⟨S4x2048x4x1, .f32⟩
  | .hbm, ⟨75, _⟩ => ⟨S4x2048x4x128, .f32⟩
  | .hbm, ⟨76, _⟩ => ⟨S4x2048x4x128, .f32⟩
  | .hbm, ⟨77, _⟩ => ⟨S1x1x1x128, .f32⟩
  | .hbm, ⟨78, _⟩ => ⟨S4x2048x4x128, .f32⟩
  | .hbm, ⟨79, _⟩ => ⟨S4x2048x4x128, .f32⟩
  | .hbm, ⟨80, _⟩ => ⟨S_, .f32⟩
  | .hbm, ⟨81, _⟩ => ⟨S4x2048x4x128, .f32⟩
  | .hbm, ⟨82, _⟩ => ⟨S4x2048x4x128, .f32⟩
  | .hbm, ⟨83, _⟩ => ⟨S8192x512, .f32⟩
  | .hbm, ⟨84, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel9.lean ====
abbrev S9216x512 : Shape := ⟨2, ![9216, 512]⟩
abbrev S4x64 : Shape := ⟨2, ![4, 64]⟩
abbrev S1x128 : Shape := ⟨2, ![1, 128]⟩
abbrev S9216x9728 : Shape := ⟨2, ![9216, 9728]⟩
abbrev S8192x512 : Shape := ⟨2, ![8192, 512]⟩
abbrev S2048x128 : Shape := ⟨2, ![2048, 128]⟩
abbrev S256x128 : Shape := ⟨2, ![256, 128]⟩
abbrev S1x64 : Shape := ⟨2, ![1, 64]⟩
abbrev S1 : Shape := ⟨1, ![1]⟩
abbrev S1x1 : Shape := ⟨2, ![1, 1]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S9216x512, .bf16⟩
  | .hbm, ⟨1, _⟩ => ⟨S4x64, .f32⟩
  | .hbm, ⟨2, _⟩ => ⟨S1x128, .f32⟩
  | .hbm, ⟨3, _⟩ => ⟨S9216x512, .bf16⟩
  | .hbm, ⟨4, _⟩ => ⟨S9216x9728, .bf16⟩
  | .hbm, ⟨5, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S4x64, .f32⟩
  | .local _ .vmem, ⟨3, _⟩ => ⟨S1x128, .f32⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S256x128, .bf16⟩
  | .local _ .vmem, ⟨11, _⟩ => ⟨S256x128, .bf16⟩
  | .local _ .vmem, ⟨12, _⟩ => ⟨S2048x128, .bf16⟩
  | .local _ .vmem, ⟨13, _⟩ => ⟨S2048x128, .bf16⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let v1 : BitVec 32 := Scalar.addi c0_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c64_i32 : BitVec 32 := 64#32
  let v1 : BitVec 32 := Scalar.addi c64_i32 arg1
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c64_i32 : BitVec 32 := 64#32
  let v1 : BitVec 32 := Scalar.addi c64_i32 arg1
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference9Ideal.lean ====
abbrev S9216x512 : Shape := ⟨2, ![9216, 512]⟩
abbrev S4x64 : Shape := ⟨2, ![4, 64]⟩
abbrev S1x128 : Shape := ⟨2, ![1, 128]⟩
abbrev S9216x9728 : Shape := ⟨2, ![9216, 9728]⟩
abbrev S1024x512 : Shape := ⟨2, ![1024, 512]⟩
abbrev S4x256x4x2x64 : Shape := ⟨5, ![4, 256, 4, 2, 64]⟩
abbrev S8192x512 : Shape := ⟨2, ![8192, 512]⟩
abbrev S4x2048x4x2x64 : Shape := ⟨5, ![4, 2048, 4, 2, 64]⟩
abbrev S4x2304x4x2x64 : Shape := ⟨5, ![4, 2304, 4, 2, 64]⟩
abbrev S4x256x4x128 : Shape := ⟨4, ![4, 256, 4, 128]⟩
abbrev S4x2048x4x128 : Shape := ⟨4, ![4, 2048, 4, 128]⟩
abbrev S4x2304x4x128 : Shape := ⟨4, ![4, 2304, 4, 128]⟩
abbrev S1x64 : Shape := ⟨2, ![1, 64]⟩
abbrev S64 : Shape := ⟨1, ![64]⟩
abbrev S_ : Shape := ⟨0, ![]⟩
abbrev S1 : Shape := ⟨1, ![1]⟩
abbrev S2 : Shape := ⟨1, ![2]⟩
abbrev S4x4x2x2048x2304 : Shape := ⟨5, ![4, 4, 2, 2048, 2304]⟩
abbrev S4x4x2x2048 : Shape := ⟨4, ![4, 4, 2, 2048]⟩
abbrev S4x4x2x2048x1 : Shape := ⟨5, ![4, 4, 2, 2048, 1]⟩
abbrev S4x4x2048x2304 : Shape := ⟨4, ![4, 4, 2048, 2304]⟩
abbrev S4x4x128x2048 : Shape := ⟨4, ![4, 4, 128, 2048]⟩
abbrev S128 : Shape := ⟨1, ![128]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S4x64, .f32⟩
  | .hbm, ⟨2, _⟩ => ⟨S1x128, .f32⟩
  | .hbm, ⟨3, _⟩ => ⟨S9216x512, .bf16⟩
  | .hbm, ⟨4, _⟩ => ⟨S9216x9728, .bf16⟩
  | .hbm, ⟨5, _⟩ => ⟨S1024x512, .bf16⟩
  | .hbm, ⟨6, _⟩ => ⟨S1024x512, .f32⟩
  | .hbm, ⟨7, _⟩ => ⟨S4x256x4x2x64, .f32⟩
  | .hbm, ⟨8, _⟩ => ⟨S8192x512, .bf16⟩
  | .hbm, ⟨9, _⟩ => ⟨S8192x512, .f32⟩
  | .hbm, ⟨10, _⟩ => ⟨S4x2048x4x2x64, .f32⟩
  | .hbm, ⟨11, _⟩ => ⟨S4x2304x4x2x64, .f32⟩
  | .hbm, ⟨12, _⟩ => ⟨S1024x512, .bf16⟩
  | .hbm, ⟨13, _⟩ => ⟨S1024x512, .f32⟩
  | .hbm, ⟨14, _⟩ => ⟨S4x256x4x128, .f32⟩
  | .hbm, ⟨15, _⟩ => ⟨S8192x512, .bf16⟩
  | .hbm, ⟨16, _⟩ => ⟨S8192x512, .f32⟩
  | .hbm, ⟨17, _⟩ => ⟨S4x2048x4x128, .f32⟩
  | .hbm, ⟨18, _⟩ => ⟨S4x2304x4x128, .f32⟩
  | .hbm, ⟨19, _⟩ => ⟨S8192x512, .bf16⟩
  | .hbm, ⟨20, _⟩ => ⟨S8192x512, .f32⟩
  | .hbm, ⟨21, _⟩ => ⟨S4x2048x4x2x64, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S2, .f32⟩
  | .hbm, ⟨46, _⟩ => ⟨S4x4x2x2048x2304, .f32⟩
  | .hbm, ⟨47, _⟩ => ⟨S_, .f32⟩
  | .hbm, ⟨48, _⟩ => ⟨S4x4x2x2048, .f32⟩
  | .hbm, ⟨49, _⟩ => ⟨S_, .f32⟩
  | .hbm, ⟨50, _⟩ => ⟨S4x4x2x2048, .f32⟩
  | .hbm, ⟨51, _⟩ => ⟨S4x4x2x2048, .f32⟩
  | .hbm, ⟨52, _⟩ => ⟨S4x4x2x2048x1, .f32⟩
  | .hbm, ⟨53, _⟩ => ⟨S4x4x2x2048x2304, .f32⟩
  | .hbm, ⟨54, _⟩ => ⟨S4x4x2x2048x2304, .f32⟩
  | .hbm, ⟨55, _⟩ => ⟨S4x4x2x2048x2304, .f32⟩
  | .hbm, ⟨56, _⟩ => ⟨S_, .f32⟩
  | .hbm, ⟨57, _⟩ => ⟨S4x4x2x2048, .f32⟩
  | .hbm, ⟨58, _⟩ => ⟨S4x4x2x2048x1, .f32⟩
  | .hbm, ⟨59, _⟩ => ⟨S4x4x2x2048x2304, .f32⟩
  | .hbm, ⟨60, _⟩ => ⟨S4x4x2x2048x2304, .f32⟩
  | .hbm, ⟨61, _⟩ => ⟨S4x4x2048x2304, .f32⟩
  | .hbm, ⟨62, _⟩ => ⟨S4x4x128x2048, .f32⟩
  | .hbm, ⟨63, _⟩ => ⟨S4x2048x4x128, .f32⟩
  | .hbm, ⟨64, _⟩ => ⟨S128, .f32⟩
  | .hbm, ⟨65, _⟩ => ⟨S4x2048x4x128, .f32⟩
  | .hbm, ⟨66, _⟩ => ⟨S_, .f32⟩
  | .hbm, ⟨67, _⟩ => ⟨S4x2048x4, .f32⟩
  | .hbm, ⟨68, _⟩ => ⟨S4x2048x4x1, .f32⟩
  | .hbm, ⟨69, _⟩ => ⟨S_, .f32⟩
  | .hbm, ⟨70, _⟩ => ⟨S4x2048x4x1, .f32⟩
  | .hbm, ⟨71, _⟩ => ⟨S4x2048x4x1, .f32⟩
  | .hbm, ⟨72, _⟩ => ⟨S_, .f32⟩
  | .hbm, ⟨73, _⟩ => ⟨S4x2048x4x1, .f32⟩
  | .hbm, ⟨74, _⟩ => ⟨S4x2048x4x1, .f32⟩
  | .hbm, ⟨75, _⟩ => ⟨S4x2048x4x1, .f32⟩
  | .hbm, ⟨76, _⟩ => ⟨S4x2048x4x128, .f32⟩
  | .hbm, ⟨77, _⟩ => ⟨S4x2048x4x128, .f32⟩
  | .hbm, ⟨78, _⟩ => ⟨S1x1x1x128, .f32⟩
  | .hbm, ⟨79, _⟩ => ⟨S4x2048x4x128, .f32⟩
  | .hbm, ⟨80, _⟩ => ⟨S4x2048x4x128, .f32⟩
  | .hbm, ⟨81, _⟩ => ⟨S_, .f32⟩
  | .hbm, ⟨82, _⟩ => ⟨S4x2048x4x128, .f32⟩
  | .hbm, ⟨83, _⟩ => ⟨S4x2048x4x128, .f32⟩
  | .hbm, ⟨84, _⟩ => ⟨S8192x512, .f32⟩
  | .hbm, ⟨85, _⟩ => ⟨S8192x512, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Kernel10.lean ====
abbrev S9216x9728 : Shape := ⟨2, ![9216, 9728]⟩
abbrev S2560x128 : Shape := ⟨2, ![2560, 128]⟩
abbrev S1x512 : Shape := ⟨2, ![1, 512]⟩
abbrev S2x512x2048 : Shape := ⟨3, ![2, 512, 2048]⟩
abbrev S9216x2048 : Shape := ⟨2, ![9216, 2048]⟩
abbrev S9216x1024 : Shape := ⟨2, ![9216, 1024]⟩
abbrev S9216x512 : Shape := ⟨2, ![9216, 512]⟩
abbrev S512x512 : Shape := ⟨2, ![512, 512]⟩
abbrev S512x128 : Shape := ⟨2, ![512, 128]⟩
abbrev S1x512x2048 : Shape := ⟨3, ![1, 512, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 18
  | .smem => 0
  | _ => 0

abbrev bufTy : (tb : Table) → Fin (tcTables nBuf tb) → BufTy
  | .hbm, ⟨0, _⟩ => ⟨S9216x9728, .bf16⟩
  | .hbm, ⟨1, _⟩ => ⟨S2560x128, .f32⟩
  | .hbm, ⟨2, _⟩ => ⟨S2560x128, .f32⟩
  | .hbm, ⟨3, _⟩ => ⟨S1x512, .f32⟩
  | .hbm, ⟨4, _⟩ => ⟨S2x512x2048, .bf16⟩
  | .hbm, ⟨5, _⟩ => ⟨S9216x2048, .bf16⟩
  | .hbm, ⟨6, _⟩ => ⟨S9216x1024, .bf16⟩
  | .hbm, ⟨7, _⟩ => ⟨S9216x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | _, _ => ⟨S9216x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_2 (i : grid0.Coords) : Fin 2 → Nat :=
  let arg0 : BitVec 32 := BitVec.ofNat 32 (i 0).val
  let c54_i32 : BitVec 32 := 54#32
  let c0_i32 : BitVec 32 := 0#32
  ![arg0.toNat, c54_i32.toNat]

def cc0_transform_3 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi c0_i32 v0
  let c8192_i32 : BitVec 32 := 8192#32
  let v2 : BitVec 1 := Scalar.cmpi .slt v1 c8192_i32
  let c2048_i32 : BitVec 32 := 2048#32
  let c0_i32_0 : BitVec 32 := 0#32
  let v3 : BitVec 1 := Scalar.cmpi .eq c2048_i32 c0_i32_0
  let c1_i32 : BitVec 32 := 1#32
  let v4 : BitVec 32 := Scalar.select v3 c1_i32 c2048_i32
  let v5 : BitVec 32 := Scalar.remsi v1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v2 v29 c4_i32
  let c0_i32_11 : BitVec 32 := 0#32
  let c0_i32_12 : BitVec 32 := 0#32
  ![v30.toNat, c0_i32_11.toNat]

def cc0_transform_4 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi c0_i32 v0
  let c8192_i32 : BitVec 32 := 8192#32
  let v2 : BitVec 1 := Scalar.cmpi .slt v1 c8192_i32
  let c2048_i32 : BitVec 32 := 2048#32
  let c0_i32_0 : BitVec 32 := 0#32
  let v3 : BitVec 1 := Scalar.cmpi .eq c2048_i32 c0_i32_0
  let c1_i32 : BitVec 32 := 1#32
  let v4 : BitVec 32 := Scalar.select v3 c1_i32 c2048_i32
  let v5 : BitVec 32 := Scalar.remsi v1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v2 v29 c4_i32
  let c0_i32_11 : BitVec 32 := 0#32
  let c0_i32_12 : BitVec 32 := 0#32
  ![v30.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S9216x9728 : Shape := ⟨2, ![9216, 9728]⟩
abbrev S2560x128 : Shape := ⟨2, ![2560, 128]⟩
abbrev S1x512 : Shape := ⟨2, ![1, 512]⟩
abbrev S2x512x2048 : Shape := ⟨3, ![2, 512, 2048]⟩
abbrev S9216x512 : Shape := ⟨2, ![9216, 512]⟩
abbrev S9216x128 : Shape := ⟨2, ![9216, 128]⟩
abbrev S2048x128 : Shape := ⟨2, ![2048, 128]⟩
abbrev S1x2048x128 : Shape := ⟨3, ![1, 2048, 128]⟩
abbrev S4x2048x128 : Shape := ⟨3, ![4, 2048, 128]⟩
abbrev S8192x128 : Shape := ⟨2, ![8192, 128]⟩
abbrev S512x128 : Shape := ⟨2, ![512, 128]⟩
abbrev S1x512x128 : Shape := ⟨3, ![1, 512, 128]⟩
abbrev S2x512x128 : Shape := ⟨3, ![2, 512, 128]⟩
abbrev S1024x128 : Shape := ⟨2, ![1024, 128]⟩
abbrev S1x512x2048 : Shape := ⟨3, ![1, 512, 2048]⟩
abbrev S512x2048 : Shape := ⟨2, ![512, 2048]⟩
abbrev S512 : Shape := ⟨1, ![512]⟩
abbrev S_ : Shape := ⟨0, ![]⟩
abbrev S9216 : Shape := ⟨1, ![9216]⟩
abbrev S9216x1 : Shape := ⟨2, ![9216, 1]⟩
abbrev S9216x2048 : Shape := ⟨2, ![9216, 2048]⟩
abbrev S9216x1x128 : Shape := ⟨3, ![9216, 1, 128]⟩
abbrev S9216x1x4x2x16 : Shape := ⟨5, ![9216, 1, 4, 2, 16]⟩
abbrev S9216x1x4x1x16 : Shape := ⟨5, ![9216, 1, 4, 1, 16]⟩
abbrev S9216x1x4x16 : Shape := ⟨4, ![9216, 1, 4, 16]⟩
abbrev S9216x1024 : Shape := ⟨2, ![9216, 1024]⟩
abbrev S9216x8x128 : Shape := ⟨3, ![9216, 8, 128]⟩
abbrev S9216x8x256 : Shape := ⟨3, ![9216, 8, 256]⟩
abbrev S9216x4x128 : Shape := ⟨3, ![9216, 4, 128]⟩
abbrev S9216x4x4x2x16 : Shape := ⟨5, ![9216, 4, 4, 2, 16]⟩
abbrev S9216x4x4x1x16 : Shape := ⟨5, ![9216, 4, 4, 1, 16]⟩
abbrev S9216x4x4x16 : Shape := ⟨4, ![9216, 4, 4, 16]⟩

abbrev nBuf : Space → Nat
  | .hbm => 116
  | .vmem => 0
  | .smem => 0
  | _ => 0

abbrev bufTy : (tb : Table) → Fin (tcTables nBuf tb) → BufTy
  | .hbm, ⟨0, _⟩ => ⟨S9216x9728, .bf16⟩
  | .hbm, ⟨1, _⟩ => ⟨S2560x128, .f32⟩
  | .hbm, ⟨2, _⟩ => ⟨S2560x128, .f32⟩
  | .hbm, ⟨3, _⟩ => ⟨S1x512, .f32⟩
  | .hbm, ⟨4, _⟩ => ⟨S2x512x2048, .bf16⟩
  | .hbm, ⟨5, _⟩ => ⟨S9216x512, .bf16⟩
  | .hbm, ⟨6, _⟩ => ⟨S9216x128, .bf16⟩
  | .hbm, ⟨7, _⟩ => ⟨S9216x512, .bf16⟩
  | .hbm, ⟨8, _⟩ => ⟨S2048x128, .f32⟩
  | .hbm, ⟨9, _⟩ => ⟨S1x2048x128, .f32⟩
  | .hbm, ⟨10, _⟩ => ⟨S4x2048x128, .f32⟩
  | .hbm, ⟨11, _⟩ => ⟨S8192x128, .f32⟩
  | .hbm, ⟨12, _⟩ => ⟨S512x128, .f32⟩
  | .hbm, ⟨13, _⟩ => ⟨S1x512x128, .f32⟩
  | .hbm, ⟨14, _⟩ => ⟨S2x512x128, .f32⟩
  | .hbm, ⟨15, _⟩ => ⟨S1024x128, .f32⟩
  | .hbm, ⟨16, _⟩ => ⟨S9216x128, .f32⟩
  | .hbm, ⟨17, _⟩ => ⟨S2048x128, .f32⟩
  | .hbm, ⟨18, _⟩ => ⟨S1x2048x128, .f32⟩
  | .hbm, ⟨19, _⟩ => ⟨S4x2048x128, .f32⟩
  | .hbm, ⟨20, _⟩ => ⟨S8192x128, .f32⟩
  | .hbm, ⟨21, _⟩ => ⟨S512x128, .f32⟩
  | .hbm, ⟨22, _⟩ => ⟨S1x512x128, .f32⟩
  | .hbm, ⟨23, _⟩ => ⟨S2x512x128, .f32⟩
  | .hbm, ⟨24, _⟩ => ⟨S1024x128, .f32⟩
  | .hbm, ⟨25, _⟩ => ⟨S9216x128, .f32⟩
  | .hbm, ⟨26, _⟩ => ⟨S1x512x2048, .bf16⟩
  | .hbm, ⟨27, _⟩ => ⟨S512x2048, .bf16⟩
  | .hbm, ⟨28, _⟩ => ⟨S9216x512, .f32⟩
  | .hbm, ⟨29, _⟩ => ⟨S512, .f32⟩
  | .hbm, ⟨30, _⟩ => ⟨S9216x512, .f32⟩
  | .hbm, ⟨31, _⟩ => ⟨S_, .f32⟩
  | .hbm, ⟨32, _⟩ => ⟨S9216, .f32⟩
  | .hbm, ⟨33, _⟩ => ⟨S9216x1, .f32⟩
  | .hbm, ⟨34, _⟩ => ⟨S_, .f32⟩
  | .hbm, ⟨35, _⟩ => ⟨S9216x1, .f32⟩
  | .hbm, ⟨36, _⟩ => ⟨S9216x1, .f32⟩
  | .hbm, ⟨37, _⟩ => ⟨S_, .f32⟩
  | .hbm, ⟨38, _⟩ => ⟨S9216x1, .f32⟩
  | .hbm, ⟨39, _⟩ => ⟨S9216x1, .f32⟩
  | .hbm, ⟨40, _⟩ => ⟨S9216x1, .f32⟩
  | .hbm, ⟨41, _⟩ => ⟨S9216x512, .f32⟩
  | .hbm, ⟨42, _⟩ => ⟨S9216x512, .f32⟩
  | .hbm, ⟨43, _⟩ => ⟨S1x512, .f32⟩
  | .hbm, ⟨44, _⟩ => ⟨S9216x512, .f32⟩
  | .hbm, ⟨45, _⟩ => ⟨S9216x512, .f32⟩
  | .hbm, ⟨46, _⟩ => ⟨S512x2048, .f32⟩
  | .hbm, ⟨47, _⟩ => ⟨S9216x2048, .f32⟩
  | .hbm, ⟨48, _⟩ => ⟨S9216x128, .f32⟩
  | .hbm, ⟨49, _⟩ => ⟨S9216x1x128, .f32⟩
  | .hbm, ⟨50, _⟩ => ⟨S9216x1x4x2x16, .f32⟩
  | .hbm, ⟨51, _⟩ => ⟨S9216x1x4x1x16, .f32⟩
  | .hbm, ⟨52, _⟩ => ⟨S9216x1x4x16, .f32⟩
  | .hbm, ⟨53, _⟩ => ⟨S9216x1x4x1x16, .f32⟩
  | .hbm, ⟨54, _⟩ => ⟨S9216x1x4x16, .f32⟩
  | .hbm, ⟨55, _⟩ => ⟨S9216x1x4x2x16, .f32⟩
  | .hbm, ⟨56, _⟩ => ⟨S9216x1x4x2x16, .f32⟩
  | .hbm, ⟨57, _⟩ => ⟨S9216x1x4x1x16, .f32⟩
  | .hbm, ⟨58, _⟩ => ⟨S9216x1x4x16, .f32⟩
  | .hbm, ⟨59, _⟩ => ⟨S9216x1x4x16, .f32⟩
  | .hbm, ⟨60, _⟩ => ⟨S9216x1x4x1x16, .f32⟩
  | .hbm, ⟨61, _⟩ => ⟨S9216x1x4x16, .f32⟩
  | .hbm, ⟨62, _⟩ => ⟨S9216x1x4x16, .f32⟩
  | .hbm, ⟨63, _⟩ => ⟨S9216x1x4x16, .f32⟩
  | .hbm, ⟨64, _⟩ => ⟨S9216x1x4x1x16, .f32⟩
  | .hbm, ⟨65, _⟩ => ⟨S9216x1x4x16, .f32⟩
  | .hbm, ⟨66, _⟩ => ⟨S9216x1x4x16, .f32⟩
  | .hbm, ⟨67, _⟩ => ⟨S9216x1x4x1x16, .f32⟩
  | .hbm, ⟨68, _⟩ => ⟨S9216x1x4x16, .f32⟩
  | .hbm, ⟨69, _⟩ => ⟨S9216x1x4x16, .f32⟩
  | .hbm, ⟨70, _⟩ => ⟨S9216x1x4x16, .f32⟩
  | .hbm, ⟨71, _⟩ => ⟨S9216x1x4x1x16, .f32⟩
  | .hbm, ⟨72, _⟩ => ⟨S9216x1x4x1x16, .f32⟩
  | .hbm, ⟨73, _⟩ => ⟨S9216x1x4x2x16, .f32⟩
  | .hbm, ⟨74, _⟩ => ⟨S9216x1x128, .f32⟩
  | .hbm, ⟨75, _⟩ => ⟨S9216x1024, .f32⟩
  | .hbm, ⟨76, _⟩ => ⟨S9216x8x128, .f32⟩
  | .hbm, ⟨77, _⟩ => ⟨S9216x8x128, .f32⟩
  | .hbm, ⟨78, _⟩ => ⟨S9216x8x256, .f32⟩
  | .hbm, ⟨79, _⟩ => ⟨S9216x512, .f32⟩
  | .hbm, ⟨80, _⟩ => ⟨S9216x4x128, .f32⟩
  | .hbm, ⟨81, _⟩ => ⟨S9216x4x4x2x16, .f32⟩
  | .hbm, ⟨82, _⟩ => ⟨S9216x4x4x1x16, .f32⟩
  | .hbm, ⟨83, _⟩ => ⟨S9216x4x4x16, .f32⟩
  | .hbm, ⟨84, _⟩ => ⟨S9216x4x4x1x16, .f32⟩
  | .hbm, ⟨85, _⟩ => ⟨S9216x4x4x16, .f32⟩
  | .hbm, ⟨86, _⟩ => ⟨S9216x1x4x2x16, .f32⟩
  | .hbm, ⟨87, _⟩ => ⟨S9216x1x4x2x16, .f32⟩
  | .hbm, ⟨88, _⟩ => ⟨S9216x1x4x1x16, .f32⟩
  | .hbm, ⟨89, _⟩ => ⟨S9216x1x4x16, .f32⟩
  | .hbm, ⟨90, _⟩ => ⟨S9216x4x4x16, .f32⟩
  | .hbm, ⟨91, _⟩ => ⟨S9216x4x4x16, .f32⟩
  | .hbm, ⟨92, _⟩ => ⟨S9216x1x4x1x16, .f32⟩
  | .hbm, ⟨93, _⟩ => ⟨S9216x1x4x16, .f32⟩
  | .hbm, ⟨94, _⟩ => ⟨S9216x4x4x16, .f32⟩
  | .hbm, ⟨95, _⟩ => ⟨S9216x4x4x16, .f32⟩
  | .hbm, ⟨96, _⟩ => ⟨S9216x4x4x16, .f32⟩
  | .hbm, ⟨97, _⟩ => ⟨S9216x1x4x1x16, .f32⟩
  | .hbm, ⟨98, _⟩ => ⟨S9216x1x4x16, .f32⟩
  | .hbm, ⟨99, _⟩ => ⟨S9216x4x4x16, .f32⟩
  | .hbm, ⟨100, _⟩ => ⟨S9216x4x4x16, .f32⟩
  | .hbm, ⟨101, _⟩ => ⟨S9216x1x4x1x16, .f32⟩
  | .hbm, ⟨102, _⟩ => ⟨S9216x1x4x16, .f32⟩
  | .hbm, ⟨103, _⟩ => ⟨S9216x4x4x16, .f32⟩
  | .hbm, ⟨104, _⟩ => ⟨S9216x4x4x16, .f32⟩
  | .hbm, ⟨105, _⟩ => ⟨S9216x4x4x16, .f32⟩
  | .hbm, ⟨106, _⟩ => ⟨S9216x4x4x1x16, .f32⟩
  | .hbm, ⟨107, _⟩ => ⟨S9216x4x4x1x16, .f32⟩
  | .hbm, ⟨108, _⟩ => ⟨S9216x4x4x2x16, .f32⟩
  | .hbm, ⟨109, _⟩ => ⟨S9216x4x128, .f32⟩
  | .hbm, ⟨110, _⟩ => ⟨S9216x2048, .f32⟩
  | .hbm, ⟨111, _⟩ => ⟨S9216x2048, .bf16⟩
  | .hbm, ⟨112, _⟩ => ⟨S9216x1024, .f32⟩
  | .hbm, ⟨113, _⟩ => ⟨S9216x1024, .bf16⟩
  | .hbm, ⟨114, _⟩ => ⟨S9216x512, .f32⟩
  | .hbm, ⟨115, _⟩ => ⟨S9216x512, .bf16⟩
  | _, _ => ⟨S9216x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩

abbrev nD : Nat := 1
abbrev τ : Topo := Topo.v7x

variable {F : FTy → Type} [FloatOps F]
-- ==== Kernel11.lean ====
abbrev S9216x9728 : Shape := ⟨2, ![9216, 9728]⟩
abbrev S2560x128 : Shape := ⟨2, ![2560, 128]⟩
abbrev S1x768 : Shape := ⟨2, ![1, 768]⟩
abbrev S2x768x2048 : Shape := ⟨3, ![2, 768, 2048]⟩
abbrev S9216x2048 : Shape := ⟨2, ![9216, 2048]⟩
abbrev S9216x512 : Shape := ⟨2, ![9216, 512]⟩
abbrev S512x768 : Shape := ⟨2, ![512, 768]⟩
abbrev S512x512 : Shape := ⟨2, ![512, 512]⟩
abbrev S512x128 : Shape := ⟨2, ![512, 128]⟩
abbrev S1x768x2048 : Shape := ⟨3, ![1, 768, 2048]⟩
abbrev S512x2048 : Shape := ⟨2, ![512, 2048]⟩
abbrev S512 : Shape := ⟨1, ![512]⟩
abbrev S512x1 : Shape := ⟨2, ![512, 1]⟩
abbrev S768x2048 : Shape := ⟨2, ![768, 2048]⟩

abbrev nBuf : Space → Nat
  | .hbm => 7
  | .vmem => 14
  | .smem => 0
  | _ => 0

abbrev bufTy : (tb : Table) → Fin (tcTables nBuf tb) → BufTy
  | .hbm, ⟨0, _⟩ => ⟨S9216x9728, .bf16⟩
  | .hbm, ⟨1, _⟩ => ⟨S2560x128, .f32⟩
  | .hbm, ⟨2, _⟩ => ⟨S2560x128, .f32⟩
  | .hbm, ⟨3, _⟩ => ⟨S1x768, .f32⟩
  | .hbm, ⟨4, _⟩ => ⟨S2x768x2048, .bf16⟩
  | .hbm, ⟨5, _⟩ => ⟨S9216x2048, .bf16⟩
  | .hbm, ⟨6, _⟩ => ⟨S9216x512, .bf16⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x768, .f32⟩
  | .local _ .vmem, ⟨9, _⟩ => ⟨S1x768x2048, .bf16⟩
  | .local _ .vmem, ⟨10, _⟩ => ⟨S512x2048, .bf16⟩
  | .local _ .vmem, ⟨11, _⟩ => ⟨S512x2048, .bf16⟩
  | .local _ .vmem, ⟨12, _⟩ => ⟨S512x512, .bf16⟩
  | .local _ .vmem, ⟨13, _⟩ => ⟨S512x512, .bf16⟩
  | _, _ => ⟨S9216x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_2 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi c0_i32 v0
  let c8192_i32 : BitVec 32 := 8192#32
  let v2 : BitVec 1 := Scalar.cmpi .slt v1 c8192_i32
  let c2048_i32 : BitVec 32 := 2048#32
  let c0_i32_0 : BitVec 32 := 0#32
  let v3 : BitVec 1 := Scalar.cmpi .eq c2048_i32 c0_i32_0
  let c1_i32 : BitVec 32 := 1#32
  let v4 : BitVec 32 := Scalar.select v3 c1_i32 c2048_i32
  let v5 : BitVec 32 := Scalar.remsi v1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v2 v29 c4_i32
  let c0_i32_11 : BitVec 32 := 0#32
  let c0_i32_12 : BitVec 32 := 0#32
  ![v30.toNat, c0_i32_11.toNat]

def cc0_transform_3 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi c0_i32 v0
  let c8192_i32 : BitVec 32 := 8192#32
  let v2 : BitVec 1 := Scalar.cmpi .slt v1 c8192_i32
  let c2048_i32 : BitVec 32 := 2048#32
  let c0_i32_0 : BitVec 32 := 0#32
  let v3 : BitVec 1 := Scalar.cmpi .eq c2048_i32 c0_i32_0
  let c1_i32 : BitVec 32 := 1#32
  let v4 : BitVec 32 := Scalar.select v3 c1_i32 c2048_i32
  let v5 : BitVec 32 := Scalar.remsi v1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v2 v29 c4_i32
  let c0_i32_11 : BitVec 32 := 0#32
  let c0_i32_12 : BitVec 32 := 0#32
  ![v30.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S9216x9728 : Shape := ⟨2, ![9216, 9728]⟩
abbrev S2560x128 : Shape := ⟨2, ![2560, 128]⟩
abbrev S1x768 : Shape := ⟨2, ![1, 768]⟩
abbrev S2x768x2048 : Shape := ⟨3, ![2, 768, 2048]⟩
abbrev S9216x768 : Shape := ⟨2, ![9216, 768]⟩
abbrev S9216x512 : Shape := ⟨2, ![9216, 512]⟩
abbrev S2048x128 : Shape := ⟨2, ![2048, 128]⟩
abbrev S1x2048x128 : Shape := ⟨3, ![1, 2048, 128]⟩
abbrev S4x2048x128 : Shape := ⟨3, ![4, 2048, 128]⟩
abbrev S8192x128 : Shape := ⟨2, ![8192, 128]⟩
abbrev S512x128 : Shape := ⟨2, ![512, 128]⟩
abbrev S1x512x128 : Shape := ⟨3, ![1, 512, 128]⟩
abbrev S2x512x128 : Shape := ⟨3, ![2, 512, 128]⟩
abbrev S1024x128 : Shape := ⟨2, ![1024, 128]⟩
abbrev S9216x128 : Shape := ⟨2, ![9216, 128]⟩
abbrev S1x768x2048 : Shape := ⟨3, ![1, 768, 2048]⟩
abbrev S768x2048 : Shape := ⟨2, ![768, 2048]⟩
abbrev S768 : Shape := ⟨1, ![768]⟩
abbrev S_ : Shape := ⟨0, ![]⟩
abbrev S9216 : Shape := ⟨1, ![9216]⟩
abbrev S9216x1 : Shape := ⟨2, ![9216, 1]⟩
abbrev S9216x2048 : Shape := ⟨2, ![9216, 2048]⟩
abbrev S9216x8x256 : Shape := ⟨3, ![9216, 8, 256]⟩
abbrev S9216x8x128 : Shape := ⟨3, ![9216, 8, 128]⟩
abbrev S9216x8x4x2x16 : Shape := ⟨5, ![9216, 8, 4, 2, 16]⟩
abbrev S9216x8x4x1x16 : Shape := ⟨5, ![9216, 8, 4, 1, 16]⟩
abbrev S9216x8x4x16 : Shape := ⟨4, ![9216, 8, 4, 16]⟩
abbrev S9216x1x4x2x16 : Shape := ⟨5, ![9216, 1, 4, 2, 16]⟩
abbrev S9216x1x4x1x16 : Shape := ⟨5, ![9216, 1, 4, 1, 16]⟩
abbrev S9216x1x4x16 : Shape := ⟨4, ![9216, 1, 4, 16]⟩
abbrev S9216x4x128 : Shape := ⟨3, ![9216, 4, 128]⟩
abbrev S9216x4x4x2x16 : Shape := ⟨5, ![9216, 4, 4, 2, 16]⟩
abbrev S9216x4x4x1x16 : Shape := ⟨5, ![9216, 4, 4, 1, 16]⟩
abbrev S9216x4x4x16 : Shape := ⟨4, ![9216, 4, 4, 16]⟩

abbrev nBuf : Space → Nat
  | .hbm => 121
  | .vmem => 0
  | .smem => 0
  | _ => 0

abbrev bufTy : (tb : Table) → Fin (tcTables nBuf tb) → BufTy
  | .hbm, ⟨0, _⟩ => ⟨S9216x9728, .bf16⟩
  | .hbm, ⟨1, _⟩ => ⟨S2560x128, .f32⟩
  | .hbm, ⟨2, _⟩ => ⟨S2560x128, .f32⟩
  | .hbm, ⟨3, _⟩ => ⟨S1x768, .f32⟩
  | .hbm, ⟨4, _⟩ => ⟨S2x768x2048, .bf16⟩
  | .hbm, ⟨5, _⟩ => ⟨S9216x768, .bf16⟩
  | .hbm, ⟨6, _⟩ => ⟨S9216x512, .bf16⟩
  | .hbm, ⟨7, _⟩ => ⟨S2048x128, .f32⟩
  | .hbm, ⟨8, _⟩ => ⟨S1x2048x128, .f32⟩
  | .hbm, ⟨9, _⟩ => ⟨S4x2048x128, .f32⟩
  | .hbm, ⟨10, _⟩ => ⟨S8192x128, .f32⟩
  | .hbm, ⟨11, _⟩ => ⟨S512x128, .f32⟩
  | .hbm, ⟨12, _⟩ => ⟨S1x512x128, .f32⟩
  | .hbm, ⟨13, _⟩ => ⟨S2x512x128, .f32⟩
  | .hbm, ⟨14, _⟩ => ⟨S1024x128, .f32⟩
  | .hbm, ⟨15, _⟩ => ⟨S9216x128, .f32⟩
  | .hbm, ⟨16, _⟩ => ⟨S2048x128, .f32⟩
  | .hbm, ⟨17, _⟩ => ⟨S1x2048x128, .f32⟩
  | .hbm, ⟨18, _⟩ => ⟨S4x2048x128, .f32⟩
  | .hbm, ⟨19, _⟩ => ⟨S8192x128, .f32⟩
  | .hbm, ⟨20, _⟩ => ⟨S512x128, .f32⟩
  | .hbm, ⟨21, _⟩ => ⟨S1x512x128, .f32⟩
  | .hbm, ⟨22, _⟩ => ⟨S2x512x128, .f32⟩
  | .hbm, ⟨23, _⟩ => ⟨S1024x128, .f32⟩
  | .hbm, ⟨24, _⟩ => ⟨S9216x128, .f32⟩
  | .hbm, ⟨25, _⟩ => ⟨S1x768x2048, .bf16⟩
  | .hbm, ⟨26, _⟩ => ⟨S768x2048, .bf16⟩
  | .hbm, ⟨27, _⟩ => ⟨S9216x768, .f32⟩
  | .hbm, ⟨28, _⟩ => ⟨S768, .f32⟩
  | .hbm, ⟨29, _⟩ => ⟨S9216x768, .f32⟩
  | .hbm, ⟨30, _⟩ => ⟨S_, .f32⟩
  | .hbm, ⟨31, _⟩ => ⟨S9216, .f32⟩
  | .hbm, ⟨32, _⟩ => ⟨S9216x1, .f32⟩
  | .hbm, ⟨33, _⟩ => ⟨S_, .f32⟩
  | .hbm, ⟨34, _⟩ => ⟨S9216x1, .f32⟩
  | .hbm, ⟨35, _⟩ => ⟨S9216x1, .f32⟩
  | .hbm, ⟨36, _⟩ => ⟨S_, .f32⟩
  | .hbm, ⟨37, _⟩ => ⟨S9216x1, .f32⟩
  | .hbm, ⟨38, _⟩ => ⟨S9216x1, .f32⟩
  | .hbm, ⟨39, _⟩ => ⟨S9216x1, .f32⟩
  | .hbm, ⟨40, _⟩ => ⟨S9216x768, .f32⟩
  | .hbm, ⟨41, _⟩ => ⟨S9216x768, .f32⟩
  | .hbm, ⟨42, _⟩ => ⟨S1x768, .f32⟩
  | .hbm, ⟨43, _⟩ => ⟨S9216x768, .f32⟩
  | .hbm, ⟨44, _⟩ => ⟨S9216x768, .f32⟩
  | .hbm, ⟨45, _⟩ => ⟨S768x2048, .f32⟩
  | .hbm, ⟨46, _⟩ => ⟨S9216x2048, .f32⟩
  | .hbm, ⟨47, _⟩ => ⟨S9216x8x256, .f32⟩
  | .hbm, ⟨48, _⟩ => ⟨S9216x8x128, .f32⟩
  | .hbm, ⟨49, _⟩ => ⟨S9216x8x128, .f32⟩
  | .hbm, ⟨50, _⟩ => ⟨S9216x8x4x2x16, .f32⟩
  | .hbm, ⟨51, _⟩ => ⟨S9216x8x4x1x16, .f32⟩
  | .hbm, ⟨52, _⟩ => ⟨S9216x8x4x16, .f32⟩
  | .hbm, ⟨53, _⟩ => ⟨S9216x8x4x1x16, .f32⟩
  | .hbm, ⟨54, _⟩ => ⟨S9216x8x4x16, .f32⟩
  | .hbm, ⟨55, _⟩ => ⟨S9216x1x4x2x16, .f32⟩
  | .hbm, ⟨56, _⟩ => ⟨S9216x1x4x2x16, .f32⟩
  | .hbm, ⟨57, _⟩ => ⟨S9216x1x4x1x16, .f32⟩
  | .hbm, ⟨58, _⟩ => ⟨S9216x1x4x16, .f32⟩
  | .hbm, ⟨59, _⟩ => ⟨S9216x8x4x16, .f32⟩
  | .hbm, ⟨60, _⟩ => ⟨S9216x8x4x16, .f32⟩
  | .hbm, ⟨61, _⟩ => ⟨S9216x1x4x1x16, .f32⟩
  | .hbm, ⟨62, _⟩ => ⟨S9216x1x4x16, .f32⟩
  | .hbm, ⟨63, _⟩ => ⟨S9216x8x4x16, .f32⟩
  | .hbm, ⟨64, _⟩ => ⟨S9216x8x4x16, .f32⟩
  | .hbm, ⟨65, _⟩ => ⟨S9216x8x4x16, .f32⟩
  | .hbm, ⟨66, _⟩ => ⟨S9216x1x4x1x16, .f32⟩
  | .hbm, ⟨67, _⟩ => ⟨S9216x1x4x16, .f32⟩
  | .hbm, ⟨68, _⟩ => ⟨S9216x8x4x16, .f32⟩
  | .hbm, ⟨69, _⟩ => ⟨S9216x8x4x16, .f32⟩
  | .hbm, ⟨70, _⟩ => ⟨S9216x1x4x1x16, .f32⟩
  | .hbm, ⟨71, _⟩ => ⟨S9216x1x4x16, .f32⟩
  | .hbm, ⟨72, _⟩ => ⟨S9216x8x4x16, .f32⟩
  | .hbm, ⟨73, _⟩ => ⟨S9216x8x4x16, .f32⟩
  | .hbm, ⟨74, _⟩ => ⟨S9216x8x4x16, .f32⟩
  | .hbm, ⟨75, _⟩ => ⟨S9216x8x4x1x16, .f32⟩
  | .hbm, ⟨76, _⟩ => ⟨S9216x8x4x1x16, .f32⟩
  | .hbm, ⟨77, _⟩ => ⟨S9216x8x4x2x16, .f32⟩
  | .hbm, ⟨78, _⟩ => ⟨S9216x8x128, .f32⟩
  | .hbm, ⟨79, _⟩ => ⟨S9216x8x256, .f32⟩
  | .hbm, ⟨80, _⟩ => ⟨S_, .f32⟩
  | .hbm, ⟨81, _⟩ => ⟨S9216x8x256, .f32⟩
  | .hbm, ⟨82, _⟩ => ⟨S9216x8x256, .f32⟩
  | .hbm, ⟨83, _⟩ => ⟨S9216x512, .f32⟩
  | .hbm, ⟨84, _⟩ => ⟨S9216x4x128, .f32⟩
  | .hbm, ⟨85, _⟩ => ⟨S9216x4x4x2x16, .f32⟩
  | .hbm, ⟨86, _⟩ => ⟨S9216x4x4x1x16, .f32⟩
  | .hbm, ⟨87, _⟩ => ⟨S9216x4x4x16, .f32⟩
  | .hbm, ⟨88, _⟩ => ⟨S9216x4x4x1x16, .f32⟩
  | .hbm, ⟨89, _⟩ => ⟨S9216x4x4x16, .f32⟩
  | .hbm, ⟨90, _⟩ => ⟨S9216x1x4x2x16, .f32⟩
  | .hbm, ⟨91, _⟩ => ⟨S9216x1x4x2x16, .f32⟩
  | .hbm, ⟨92, _⟩ => ⟨S9216x1x4x1x16, .f32⟩
  | .hbm, ⟨93, _⟩ => ⟨S9216x1x4x16, .f32⟩
  | .hbm, ⟨94, _⟩ => ⟨S9216x4x4x16, .f32⟩
  | .hbm, ⟨95, _⟩ => ⟨S9216x4x4x16, .f32⟩
  | .hbm, ⟨96, _⟩ => ⟨S9216x1x4x1x16, .f32⟩
  | .hbm, ⟨97, _⟩ => ⟨S9216x1x4x16, .f32⟩
  | .hbm, ⟨98, _⟩ => ⟨S9216x4x4x16, .f32⟩
  | .hbm, ⟨99, _⟩ => ⟨S9216x4x4x16, .f32⟩
  | .hbm, ⟨100, _⟩ => ⟨S9216x4x4x16, .f32⟩
  | .hbm, ⟨101, _⟩ => ⟨S9216x1x4x1x16, .f32⟩
  | .hbm, ⟨102, _⟩ => ⟨S9216x1x4x16, .f32⟩
  | .hbm, ⟨103, _⟩ => ⟨S9216x4x4x16, .f32⟩
  | .hbm, ⟨104, _⟩ => ⟨S9216x4x4x16, .f32⟩
  | .hbm, ⟨105, _⟩ => ⟨S9216x1x4x1x16, .f32⟩
  | .hbm, ⟨106, _⟩ => ⟨S9216x1x4x16, .f32⟩
  | .hbm, ⟨107, _⟩ => ⟨S9216x4x4x16, .f32⟩
  | .hbm, ⟨108, _⟩ => ⟨S9216x4x4x16, .f32⟩
  | .hbm, ⟨109, _⟩ => ⟨S9216x4x4x16, .f32⟩
  | .hbm, ⟨110, _⟩ => ⟨S9216x4x4x1x16, .f32⟩
  | .hbm, ⟨111, _⟩ => ⟨S9216x4x4x1x16, .f32⟩
  | .hbm, ⟨112, _⟩ => ⟨S9216x4x4x2x16, .f32⟩
  | .hbm, ⟨113, _⟩ => ⟨S9216x4x128, .f32⟩
  | .hbm, ⟨114, _⟩ => ⟨S_, .f32⟩
  | .hbm, ⟨115, _⟩ => ⟨S9216x4x128, .f32⟩
  | .hbm, ⟨116, _⟩ => ⟨S9216x4x128, .f32⟩
  | .hbm, ⟨117, _⟩ => ⟨S9216x2048, .f32⟩
  | .hbm, ⟨118, _⟩ => ⟨S9216x2048, .bf16⟩
  | .hbm, ⟨119, _⟩ => ⟨S9216x512, .f32⟩
  | .hbm, ⟨120, _⟩ => ⟨S9216x512, .bf16⟩
  | _, _ => ⟨S9216x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_cst_2 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_cst_3 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩

abbrev nD : Nat := 1
abbrev τ : Topo := Topo.v7x

variable {F : FTy → Type} [FloatOps F]
-- ==== Kernel12.lean ====
abbrev S8192x9728 : Shape := ⟨2, ![8192, 9728]⟩
abbrev S2560x128 : Shape := ⟨2, ![2560, 128]⟩
abbrev S1x512 : Shape := ⟨2, ![1, 512]⟩
abbrev S2x512x2048 : Shape := ⟨3, ![2, 512, 2048]⟩
abbrev S8192x2048 : Shape := ⟨2, ![8192, 2048]⟩
abbrev S8192x1024 : Shape := ⟨2, ![8192, 1024]⟩
abbrev S8192x512 : Shape := ⟨2, ![8192, 512]⟩
abbrev S512x512 : Shape := ⟨2, ![512, 512]⟩
abbrev S512x128 : Shape := ⟨2, ![512, 128]⟩
abbrev S1x512x2048 : Shape := ⟨3, ![1, 512, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 18
  | .smem => 0
  | _ => 0

abbrev bufTy : (tb : Table) → Fin (tcTables nBuf tb) → BufTy
  | .hbm, ⟨0, _⟩ => ⟨S8192x9728, .bf16⟩
  | .hbm, ⟨1, _⟩ => ⟨S2560x128, .f32⟩
  | .hbm, ⟨2, _⟩ => ⟨S2560x128, .f32⟩
  | .hbm, ⟨3, _⟩ => ⟨S1x512, .f32⟩
  | .hbm, ⟨4, _⟩ => ⟨S2x512x2048, .bf16⟩
  | .hbm, ⟨5, _⟩ => ⟨S8192x2048, .bf16⟩
  | .hbm, ⟨6, _⟩ => ⟨S8192x1024, .bf16⟩
  | .hbm, ⟨7, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | _, _ => ⟨S8192x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_2 (i : grid0.Coords) : Fin 2 → Nat :=
  let arg0 : BitVec 32 := BitVec.ofNat 32 (i 0).val
  let c54_i32 : BitVec 32 := 54#32
  let c0_i32 : BitVec 32 := 0#32
  ![arg0.toNat, c54_i32.toNat]

def cc0_transform_3 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi c0_i32 v0
  let c8192_i32 : BitVec 32 := 8192#32
  let v2 : BitVec 1 := Scalar.cmpi .slt v1 c8192_i32
  let c2048_i32 : BitVec 32 := 2048#32
  let c0_i32_0 : BitVec 32 := 0#32
  let v3 : BitVec 1 := Scalar.cmpi .eq c2048_i32 c0_i32_0
  let c1_i32 : BitVec 32 := 1#32
  let v4 : BitVec 32 := Scalar.select v3 c1_i32 c2048_i32
  let v5 : BitVec 32 := Scalar.remsi v1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v2 v29 c4_i32
  let c0_i32_11 : BitVec 32 := 0#32
  let c0_i32_12 : BitVec 32 := 0#32
  ![v30.toNat, c0_i32_11.toNat]

def cc0_transform_4 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi c0_i32 v0
  let c8192_i32 : BitVec 32 := 8192#32
  let v2 : BitVec 1 := Scalar.cmpi .slt v1 c8192_i32
  let c2048_i32 : BitVec 32 := 2048#32
  let c0_i32_0 : BitVec 32 := 0#32
  let v3 : BitVec 1 := Scalar.cmpi .eq c2048_i32 c0_i32_0
  let c1_i32 : BitVec 32 := 1#32
  let v4 : BitVec 32 := Scalar.select v3 c1_i32 c2048_i32
  let v5 : BitVec 32 := Scalar.remsi v1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v2 v29 c4_i32
  let c0_i32_11 : BitVec 32 := 0#32
  let c0_i32_12 : BitVec 32 := 0#32
  ![v30.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S8192x9728 : Shape := ⟨2, ![8192, 9728]⟩
abbrev S2560x128 : Shape := ⟨2, ![2560, 128]⟩
abbrev S1x512 : Shape := ⟨2, ![1, 512]⟩
abbrev S2x512x2048 : Shape := ⟨3, ![2, 512, 2048]⟩
abbrev S8192x512 : Shape := ⟨2, ![8192, 512]⟩
abbrev S8192x128 : Shape := ⟨2, ![8192, 128]⟩
abbrev S2048x128 : Shape := ⟨2, ![2048, 128]⟩
abbrev S1x2048x128 : Shape := ⟨3, ![1, 2048, 128]⟩
abbrev S4x2048x128 : Shape := ⟨3, ![4, 2048, 128]⟩
abbrev S1x512x2048 : Shape := ⟨3, ![1, 512, 2048]⟩
abbrev S512x2048 : Shape := ⟨2, ![512, 2048]⟩
abbrev S512 : Shape := ⟨1, ![512]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8192x1x128 : Shape := ⟨3, ![8192, 1, 128]⟩
abbrev S8192x1x4x2x16 : Shape := ⟨5, ![8192, 1, 4, 2, 16]⟩
abbrev S8192x1x4x1x16 : Shape := ⟨5, ![8192, 1, 4, 1, 16]⟩
abbrev S8192x1x4x16 : Shape := ⟨4, ![8192, 1, 4, 16]⟩
abbrev S8192x1024 : Shape := ⟨2, ![8192, 1024]⟩
abbrev S8192x8x128 : Shape := ⟨3, ![8192, 8, 128]⟩
abbrev S8192x8x256 : Shape := ⟨3, ![8192, 8, 256]⟩
abbrev S8192x4x128 : Shape := ⟨3, ![8192, 4, 128]⟩
abbrev S8192x4x4x2x16 : Shape := ⟨5, ![8192, 4, 4, 2, 16]⟩
abbrev S8192x4x4x1x16 : Shape := ⟨5, ![8192, 4, 4, 1, 16]⟩
abbrev S8192x4x4x16 : Shape := ⟨4, ![8192, 4, 4, 16]⟩

abbrev nBuf : Space → Nat
  | .hbm => 106
  | .vmem => 0
  | .smem => 0
  | _ => 0

abbrev bufTy : (tb : Table) → Fin (tcTables nBuf tb) → BufTy
  | .hbm, ⟨0, _⟩ => ⟨S8192x9728, .bf16⟩
  | .hbm, ⟨1, _⟩ => ⟨S2560x128, .f32⟩
  | .hbm, ⟨2, _⟩ => ⟨S2560x128, .f32⟩
  | .hbm, ⟨3, _⟩ => ⟨S1x512, .f32⟩
  | .hbm, ⟨4, _⟩ => ⟨S2x512x2048, .bf16⟩
  | .hbm, ⟨5, _⟩ => ⟨S8192x512, .bf16⟩
  | .hbm, ⟨6, _⟩ => ⟨S8192x128, .bf16⟩
  | .hbm, ⟨7, _⟩ => ⟨S8192x512, .bf16⟩
  | .hbm, ⟨8, _⟩ => ⟨S2048x128, .f32⟩
  | .hbm, ⟨9, _⟩ => ⟨S1x2048x128, .f32⟩
  | .hbm, ⟨10, _⟩ => ⟨S4x2048x128, .f32⟩
  | .hbm, ⟨11, _⟩ => ⟨S8192x128, .f32⟩
  | .hbm, ⟨12, _⟩ => ⟨S2048x128, .f32⟩
  | .hbm, ⟨13, _⟩ => ⟨S1x2048x128, .f32⟩
  | .hbm, ⟨14, _⟩ => ⟨S4x2048x128, .f32⟩
  | .hbm, ⟨15, _⟩ => ⟨S8192x128, .f32⟩
  | .hbm, ⟨16, _⟩ => ⟨S1x512x2048, .bf16⟩
  | .hbm, ⟨17, _⟩ => ⟨S512x2048, .bf16⟩
  | .hbm, ⟨18, _⟩ => ⟨S8192x512, .f32⟩
  | .hbm, ⟨19, _⟩ => ⟨S512, .f32⟩
  | .hbm, ⟨20, _⟩ => ⟨S8192x512, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x512, .f32⟩
  | .hbm, ⟨32, _⟩ => ⟨S8192x512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S512x2048, .f32⟩
  | .hbm, ⟨37, _⟩ => ⟨S8192x2048, .f32⟩
  | .hbm, ⟨38, _⟩ => ⟨S8192x128, .f32⟩
  | .hbm, ⟨39, _⟩ => ⟨S8192x1x128, .f32⟩
  | .hbm, ⟨40, _⟩ => ⟨S8192x1x4x2x16, .f32⟩
  | .hbm, ⟨41, _⟩ => ⟨S8192x1x4x1x16, .f32⟩
  | .hbm, ⟨42, _⟩ => ⟨S8192x1x4x16, .f32⟩
  | .hbm, ⟨43, _⟩ => ⟨S8192x1x4x1x16, .f32⟩
  | .hbm, ⟨44, _⟩ => ⟨S8192x1x4x16, .f32⟩
  | .hbm, ⟨45, _⟩ => ⟨S8192x1x4x2x16, .f32⟩
  | .hbm, ⟨46, _⟩ => ⟨S8192x1x4x2x16, .f32⟩
  | .hbm, ⟨47, _⟩ => ⟨S8192x1x4x1x16, .f32⟩
  | .hbm, ⟨48, _⟩ => ⟨S8192x1x4x16, .f32⟩
  | .hbm, ⟨49, _⟩ => ⟨S8192x1x4x16, .f32⟩
  | .hbm, ⟨50, _⟩ => ⟨S8192x1x4x1x16, .f32⟩
  | .hbm, ⟨51, _⟩ => ⟨S8192x1x4x16, .f32⟩
  | .hbm, ⟨52, _⟩ => ⟨S8192x1x4x16, .f32⟩
  | .hbm, ⟨53, _⟩ => ⟨S8192x1x4x16, .f32⟩
  | .hbm, ⟨54, _⟩ => ⟨S8192x1x4x1x16, .f32⟩
  | .hbm, ⟨55, _⟩ => ⟨S8192x1x4x16, .f32⟩
  | .hbm, ⟨56, _⟩ => ⟨S8192x1x4x16, .f32⟩
  | .hbm, ⟨57, _⟩ => ⟨S8192x1x4x1x16, .f32⟩
  | .hbm, ⟨58, _⟩ => ⟨S8192x1x4x16, .f32⟩
  | .hbm, ⟨59, _⟩ => ⟨S8192x1x4x16, .f32⟩
  | .hbm, ⟨60, _⟩ => ⟨S8192x1x4x16, .f32⟩
  | .hbm, ⟨61, _⟩ => ⟨S8192x1x4x1x16, .f32⟩
  | .hbm, ⟨62, _⟩ => ⟨S8192x1x4x1x16, .f32⟩
  | .hbm, ⟨63, _⟩ => ⟨S8192x1x4x2x16, .f32⟩
  | .hbm, ⟨64, _⟩ => ⟨S8192x1x128, .f32⟩
  | .hbm, ⟨65, _⟩ => ⟨S8192x1024, .f32⟩
  | .hbm, ⟨66, _⟩ => ⟨S8192x8x128, .f32⟩
  | .hbm, ⟨67, _⟩ => ⟨S8192x8x128, .f32⟩
  | .hbm, ⟨68, _⟩ => ⟨S8192x8x256, .f32⟩
  | .hbm, ⟨69, _⟩ => ⟨S8192x512, .f32⟩
  | .hbm, ⟨70, _⟩ => ⟨S8192x4x128, .f32⟩
  | .hbm, ⟨71, _⟩ => ⟨S8192x4x4x2x16, .f32⟩
  | .hbm, ⟨72, _⟩ => ⟨S8192x4x4x1x16, .f32⟩
  | .hbm, ⟨73, _⟩ => ⟨S8192x4x4x16, .f32⟩
  | .hbm, ⟨74, _⟩ => ⟨S8192x4x4x1x16, .f32⟩
  | .hbm, ⟨75, _⟩ => ⟨S8192x4x4x16, .f32⟩
  | .hbm, ⟨76, _⟩ => ⟨S8192x1x4x2x16, .f32⟩
  | .hbm, ⟨77, _⟩ => ⟨S8192x1x4x2x16, .f32⟩
  | .hbm, ⟨78, _⟩ => ⟨S8192x1x4x1x16, .f32⟩
  | .hbm, ⟨79, _⟩ => ⟨S8192x1x4x16, .f32⟩
  | .hbm, ⟨80, _⟩ => ⟨S8192x4x4x16, .f32⟩
  | .hbm, ⟨81, _⟩ => ⟨S8192x4x4x16, .f32⟩
  | .hbm, ⟨82, _⟩ => ⟨S8192x1x4x1x16, .f32⟩
  | .hbm, ⟨83, _⟩ => ⟨S8192x1x4x16, .f32⟩
  | .hbm, ⟨84, _⟩ => ⟨S8192x4x4x16, .f32⟩
  | .hbm, ⟨85, _⟩ => ⟨S8192x4x4x16, .f32⟩
  | .hbm, ⟨86, _⟩ => ⟨S8192x4x4x16, .f32⟩
  | .hbm, ⟨87, _⟩ => ⟨S8192x1x4x1x16, .f32⟩
  | .hbm, ⟨88, _⟩ => ⟨S8192x1x4x16, .f32⟩
  | .hbm, ⟨89, _⟩ => ⟨S8192x4x4x16, .f32⟩
  | .hbm, ⟨90, _⟩ => ⟨S8192x4x4x16, .f32⟩
  | .hbm, ⟨91, _⟩ => ⟨S8192x1x4x1x16, .f32⟩
  | .hbm, ⟨92, _⟩ => ⟨S8192x1x4x16, .f32⟩
  | .hbm, ⟨93, _⟩ => ⟨S8192x4x4x16, .f32⟩
  | .hbm, ⟨94, _⟩ => ⟨S8192x4x4x16, .f32⟩
  | .hbm, ⟨95, _⟩ => ⟨S8192x4x4x16, .f32⟩
  | .hbm, ⟨96, _⟩ => ⟨S8192x4x4x1x16, .f32⟩
  | .hbm, ⟨97, _⟩ => ⟨S8192x4x4x1x16, .f32⟩
  | .hbm, ⟨98, _⟩ => ⟨S8192x4x4x2x16, .f32⟩
  | .hbm, ⟨99, _⟩ => ⟨S8192x4x128, .f32⟩
  | .hbm, ⟨100, _⟩ => ⟨S8192x2048, .f32⟩
  | .hbm, ⟨101, _⟩ => ⟨S8192x2048, .bf16⟩
  | .hbm, ⟨102, _⟩ => ⟨S8192x1024, .f32⟩
  | .hbm, ⟨103, _⟩ => ⟨S8192x1024, .bf16⟩
  | .hbm, ⟨104, _⟩ => ⟨S8192x512, .f32⟩
  | .hbm, ⟨105, _⟩ => ⟨S8192x512, .bf16⟩
  | _, _ => ⟨S8192x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩

abbrev nD : Nat := 1
abbrev τ : Topo := Topo.v7x

variable {F : FTy → Type} [FloatOps F]
-- ==== Kernel13.lean ====
abbrev S1024x2048 : Shape := ⟨2, ![1024, 2048]⟩
abbrev S2560x128 : Shape := ⟨2, ![2560, 128]⟩
abbrev S1x512 : Shape := ⟨2, ![1, 512]⟩
abbrev S2x512x2048 : Shape := ⟨3, ![2, 512, 2048]⟩
abbrev S1024x1024 : Shape := ⟨2, ![1024, 1024]⟩
abbrev S1024x512 : Shape := ⟨2, ![1024, 512]⟩
abbrev S512x512 : Shape := ⟨2, ![512, 512]⟩
abbrev S512x128 : Shape := ⟨2, ![512, 128]⟩
abbrev S1x512x2048 : Shape := ⟨3, ![1, 512, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 18
  | .smem => 0
  | _ => 0

abbrev bufTy : (tb : Table) → Fin (tcTables nBuf tb) → BufTy
  | .hbm, ⟨0, _⟩ => ⟨S1024x2048, .bf16⟩
  | .hbm, ⟨1, _⟩ => ⟨S2560x128, .f32⟩
  | .hbm, ⟨2, _⟩ => ⟨S2560x128, .f32⟩
  | .hbm, ⟨3, _⟩ => ⟨S1x512, .f32⟩
  | .hbm, ⟨4, _⟩ => ⟨S2x512x2048, .bf16⟩
  | .hbm, ⟨5, _⟩ => ⟨S1024x2048, .bf16⟩
  | .hbm, ⟨6, _⟩ => ⟨S1024x1024, .bf16⟩
  | .hbm, ⟨7, _⟩ => ⟨S1024x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.addi c8192_i32 v0
  let c8192_i32_0 : BitVec 32 := 8192#32
  let v2 : BitVec 1 := Scalar.cmpi .slt v1 c8192_i32_0
  let c2048_i32 : BitVec 32 := 2048#32
  let c0_i32 : BitVec 32 := 0#32
  let v3 : BitVec 1 := Scalar.cmpi .eq c2048_i32 c0_i32
  let c1_i32 : BitVec 32 := 1#32
  let v4 : BitVec 32 := Scalar.select v3 c1_i32 c2048_i32
  let v5 : BitVec 32 := Scalar.remsi v1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v2 v29 c4_i32
  let c0_i32_11 : BitVec 32 := 0#32
  let c0_i32_12 : BitVec 32 := 0#32
  ![v30.toNat, c0_i32_11.toNat]

def cc0_transform_4 (i : grid0.Coords) : Fin 2 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.addi c8192_i32 v0
  let c8192_i32_0 : BitVec 32 := 8192#32
  let v2 : BitVec 1 := Scalar.cmpi .slt v1 c8192_i32_0
  let c2048_i32 : BitVec 32 := 2048#32
  let c0_i32 : BitVec 32 := 0#32
  let v3 : BitVec 1 := Scalar.cmpi .eq c2048_i32 c0_i32
  let c1_i32 : BitVec 32 := 1#32
  let v4 : BitVec 32 := Scalar.select v3 c1_i32 c2048_i32
  let v5 : BitVec 32 := Scalar.remsi v1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v2 v29 c4_i32
  let c0_i32_11 : BitVec 32 := 0#32
  let c0_i32_12 : BitVec 32 := 0#32
  ![v30.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S1024x2048 : Shape := ⟨2, ![1024, 2048]⟩
abbrev S2560x128 : Shape := ⟨2, ![2560, 128]⟩
abbrev S1x512 : Shape := ⟨2, ![1, 512]⟩
abbrev S2x512x2048 : Shape := ⟨3, ![2, 512, 2048]⟩
abbrev S1024x512 : Shape := ⟨2, ![1024, 512]⟩
abbrev S1024x128 : Shape := ⟨2, ![1024, 128]⟩
abbrev S512x128 : Shape := ⟨2, ![512, 128]⟩
abbrev S1x512x128 : Shape := ⟨3, ![1, 512, 128]⟩
abbrev S2x512x128 : Shape := ⟨3, ![2, 512, 128]⟩
abbrev S1x512x2048 : Shape := ⟨3, ![1, 512, 2048]⟩
abbrev S512x2048 : Shape := ⟨2, ![512, 2048]⟩
abbrev S512 : Shape := ⟨1, ![512]⟩
abbrev S_ : Shape := ⟨0, ![]⟩
abbrev S1024 : Shape := ⟨1, ![1024]⟩
abbrev S1024x1 : Shape := ⟨2, ![1024, 1]⟩
abbrev S1024x1x128 : Shape := ⟨3, ![1024, 1, 128]⟩
abbrev S1024x1x4x2x16 : Shape := ⟨5, ![1024, 1, 4, 2, 16]⟩
abbrev S1024x1x4x1x16 : Shape := ⟨5, ![1024, 1, 4, 1, 16]⟩
abbrev S1024x1x4x16 : Shape := ⟨4, ![1024, 1, 4, 16]⟩
abbrev S1024x1024 : Shape := ⟨2, ![1024, 1024]⟩
abbrev S1024x8x128 : Shape := ⟨3, ![1024, 8, 128]⟩
abbrev S1024x8x256 : Shape := ⟨3, ![1024, 8, 256]⟩
abbrev S1024x4x128 : Shape := ⟨3, ![1024, 4, 128]⟩
abbrev S1024x4x4x2x16 : Shape := ⟨5, ![1024, 4, 4, 2, 16]⟩
abbrev S1024x4x4x1x16 : Shape := ⟨5, ![1024, 4, 4, 1, 16]⟩
abbrev S1024x4x4x16 : Shape := ⟨4, ![1024, 4, 4, 16]⟩

abbrev nBuf : Space → Nat
  | .hbm => 106
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2560x128, .f32⟩
  | .hbm, ⟨2, _⟩ => ⟨S2560x128, .f32⟩
  | .hbm, ⟨3, _⟩ => ⟨S1x512, .f32⟩
  | .hbm, ⟨4, _⟩ => ⟨S2x512x2048, .bf16⟩
  | .hbm, ⟨5, _⟩ => ⟨S1024x512, .bf16⟩
  | .hbm, ⟨6, _⟩ => ⟨S1024x128, .bf16⟩
  | .hbm, ⟨7, _⟩ => ⟨S1024x512, .bf16⟩
  | .hbm, ⟨8, _⟩ => ⟨S512x128, .f32⟩
  | .hbm, ⟨9, _⟩ => ⟨S1x512x128, .f32⟩
  | .hbm, ⟨10, _⟩ => ⟨S2x512x128, .f32⟩
  | .hbm, ⟨11, _⟩ => ⟨S1024x128, .f32⟩
  | .hbm, ⟨12, _⟩ => ⟨S512x128, .f32⟩
  | .hbm, ⟨13, _⟩ => ⟨S1x512x128, .f32⟩
  | .hbm, ⟨14, _⟩ => ⟨S2x512x128, .f32⟩
  | .hbm, ⟨15, _⟩ => ⟨S1024x128, .f32⟩
  | .hbm, ⟨16, _⟩ => ⟨S1x512x2048, .bf16⟩
  | .hbm, ⟨17, _⟩ => ⟨S512x2048, .bf16⟩
  | .hbm, ⟨18, _⟩ => ⟨S1024x512, .f32⟩
  | .hbm, ⟨19, _⟩ => ⟨S512, .f32⟩
  | .hbm, ⟨20, _⟩ => ⟨S1024x512, .f32⟩
  | .hbm, ⟨21, _⟩ => ⟨S_, .f32⟩
  | .hbm, ⟨22, _⟩ => ⟨S1024, .f32⟩
  | .hbm, ⟨23, _⟩ => ⟨S1024x1, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S1024x1, .f32⟩
  | .hbm, ⟨29, _⟩ => ⟨S1024x1, .f32⟩
  | .hbm, ⟨30, _⟩ => ⟨S1024x1, .f32⟩
  | .hbm, ⟨31, _⟩ => ⟨S1024x512, .f32⟩
  | .hbm, ⟨32, _⟩ => ⟨S1024x512, .f32⟩
  | .hbm, ⟨33, _⟩ => ⟨S1x512, .f32⟩
  | .hbm, ⟨34, _⟩ => ⟨S1024x512, .f32⟩
  | .hbm, ⟨35, _⟩ => ⟨S1024x512, .f32⟩
  | .hbm, ⟨36, _⟩ => ⟨S512x2048, .f32⟩
  | .hbm, ⟨37, _⟩ => ⟨S1024x2048, .f32⟩
  | .hbm, ⟨38, _⟩ => ⟨S1024x128, .f32⟩
  | .hbm, ⟨39, _⟩ => ⟨S1024x1x128, .f32⟩
  | .hbm, ⟨40, _⟩ => ⟨S1024x1x4x2x16, .f32⟩
  | .hbm, ⟨41, _⟩ => ⟨S1024x1x4x1x16, .f32⟩
  | .hbm, ⟨42, _⟩ => ⟨S1024x1x4x16, .f32⟩
  | .hbm, ⟨43, _⟩ => ⟨S1024x1x4x1x16, .f32⟩
  | .hbm, ⟨44, _⟩ => ⟨S1024x1x4x16, .f32⟩
  | .hbm, ⟨45, _⟩ => ⟨S1024x1x4x2x16, .f32⟩
  | .hbm, ⟨46, _⟩ => ⟨S1024x1x4x2x16, .f32⟩
  | .hbm, ⟨47, _⟩ => ⟨S1024x1x4x1x16, .f32⟩
  | .hbm, ⟨48, _⟩ => ⟨S1024x1x4x16, .f32⟩
  | .hbm, ⟨49, _⟩ => ⟨S1024x1x4x16, .f32⟩
  | .hbm, ⟨50, _⟩ => ⟨S1024x1x4x1x16, .f32⟩
  | .hbm, ⟨51, _⟩ => ⟨S1024x1x4x16, .f32⟩
  | .hbm, ⟨52, _⟩ => ⟨S1024x1x4x16, .f32⟩
  | .hbm, ⟨53, _⟩ => ⟨S1024x1x4x16, .f32⟩
  | .hbm, ⟨54, _⟩ => ⟨S1024x1x4x1x16, .f32⟩
  | .hbm, ⟨55, _⟩ => ⟨S1024x1x4x16, .f32⟩
  | .hbm, ⟨56, _⟩ => ⟨S1024x1x4x16, .f32⟩
  | .hbm, ⟨57, _⟩ => ⟨S1024x1x4x1x16, .f32⟩
  | .hbm, ⟨58, _⟩ => ⟨S1024x1x4x16, .f32⟩
  | .hbm, ⟨59, _⟩ => ⟨S1024x1x4x16, .f32⟩
  | .hbm, ⟨60, _⟩ => ⟨S1024x1x4x16, .f32⟩
  | .hbm, ⟨61, _⟩ => ⟨S1024x1x4x1x16, .f32⟩
  | .hbm, ⟨62, _⟩ => ⟨S1024x1x4x1x16, .f32⟩
  | .hbm, ⟨63, _⟩ => ⟨S1024x1x4x2x16, .f32⟩
  | .hbm, ⟨64, _⟩ => ⟨S1024x1x128, .f32⟩
  | .hbm, ⟨65, _⟩ => ⟨S1024x1024, .f32⟩
  | .hbm, ⟨66, _⟩ => ⟨S1024x8x128, .f32⟩
  | .hbm, ⟨67, _⟩ => ⟨S1024x8x128, .f32⟩
  | .hbm, ⟨68, _⟩ => ⟨S1024x8x256, .f32⟩
  | .hbm, ⟨69, _⟩ => ⟨S1024x512, .f32⟩
  | .hbm, ⟨70, _⟩ => ⟨S1024x4x128, .f32⟩
  | .hbm, ⟨71, _⟩ => ⟨S1024x4x4x2x16, .f32⟩
  | .hbm, ⟨72, _⟩ => ⟨S1024x4x4x1x16, .f32⟩
  | .hbm, ⟨73, _⟩ => ⟨S1024x4x4x16, .f32⟩
  | .hbm, ⟨74, _⟩ => ⟨S1024x4x4x1x16, .f32⟩
  | .hbm, ⟨75, _⟩ => ⟨S1024x4x4x16, .f32⟩
  | .hbm, ⟨76, _⟩ => ⟨S1024x1x4x2x16, .f32⟩
  | .hbm, ⟨77, _⟩ => ⟨S1024x1x4x2x16, .f32⟩
  | .hbm, ⟨78, _⟩ => ⟨S1024x1x4x1x16, .f32⟩
  | .hbm, ⟨79, _⟩ => ⟨S1024x1x4x16, .f32⟩
  | .hbm, ⟨80, _⟩ => ⟨S1024x4x4x16, .f32⟩
  | .hbm, ⟨81, _⟩ => ⟨S1024x4x4x16, .f32⟩
  | .hbm, ⟨82, _⟩ => ⟨S1024x1x4x1x16, .f32⟩
  | .hbm, ⟨83, _⟩ => ⟨S1024x1x4x16, .f32⟩
  | .hbm, ⟨84, _⟩ => ⟨S1024x4x4x16, .f32⟩
  | .hbm, ⟨85, _⟩ => ⟨S1024x4x4x16, .f32⟩
  | .hbm, ⟨86, _⟩ => ⟨S1024x4x4x16, .f32⟩
  | .hbm, ⟨87, _⟩ => ⟨S1024x1x4x1x16, .f32⟩
  | .hbm, ⟨88, _⟩ => ⟨S1024x1x4x16, .f32⟩
  | .hbm, ⟨89, _⟩ => ⟨S1024x4x4x16, .f32⟩
  | .hbm, ⟨90, _⟩ => ⟨S1024x4x4x16, .f32⟩
  | .hbm, ⟨91, _⟩ => ⟨S1024x1x4x1x16, .f32⟩
  | .hbm, ⟨92, _⟩ => ⟨S1024x1x4x16, .f32⟩
  | .hbm, ⟨93, _⟩ => ⟨S1024x4x4x16, .f32⟩
  | .hbm, ⟨94, _⟩ => ⟨S1024x4x4x16, .f32⟩
  | .hbm, ⟨95, _⟩ => ⟨S1024x4x4x16, .f32⟩
  | .hbm, ⟨96, _⟩ => ⟨S1024x4x4x1x16, .f32⟩
  | .hbm, ⟨97, _⟩ => ⟨S1024x4x4x1x16, .f32⟩
  | .hbm, ⟨98, _⟩ => ⟨S1024x4x4x2x16, .f32⟩
  | .hbm, ⟨99, _⟩ => ⟨S1024x4x128, .f32⟩
  | .hbm, ⟨100, _⟩ => ⟨S1024x2048, .f32⟩
  | .hbm, ⟨101, _⟩ => ⟨S1024x2048, .bf16⟩
  | .hbm, ⟨102, _⟩ => ⟨S1024x1024, .f32⟩
  | .hbm, ⟨103, _⟩ => ⟨S1024x1024, .bf16⟩
  | .hbm, ⟨104, _⟩ => ⟨S1024x512, .f32⟩
  | .hbm, ⟨105, _⟩ => ⟨S1024x512, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩

abbrev nD : Nat := 1
abbrev τ : Topo := Topo.v7x

variable {F : FTy → Type} [FloatOps F]
-- ==== Kernel14.lean ====
abbrev S8192x9728 : Shape := ⟨2, ![8192, 9728]⟩
abbrev S2560x128 : Shape := ⟨2, ![2560, 128]⟩
abbrev S1x768 : Shape := ⟨2, ![1, 768]⟩
abbrev S2x768x2048 : Shape := ⟨3, ![2, 768, 2048]⟩
abbrev S8192x2048 : Shape := ⟨2, ![8192, 2048]⟩
abbrev S8192x512 : Shape := ⟨2, ![8192, 512]⟩
abbrev S512x768 : Shape := ⟨2, ![512, 768]⟩
abbrev S512x512 : Shape := ⟨2, ![512, 512]⟩
abbrev S512x128 : Shape := ⟨2, ![512, 128]⟩
abbrev S1x768x2048 : Shape := ⟨3, ![1, 768, 2048]⟩
abbrev S512x2048 : Shape := ⟨2, ![512, 2048]⟩
abbrev S512 : Shape := ⟨1, ![512]⟩
abbrev S512x1 : Shape := ⟨2, ![512, 1]⟩
abbrev S768x2048 : Shape := ⟨2, ![768, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x9728, .bf16⟩
  | .hbm, ⟨1, _⟩ => ⟨S2560x128, .f32⟩
  | .hbm, ⟨2, _⟩ => ⟨S2560x128, .f32⟩
  | .hbm, ⟨3, _⟩ => ⟨S1x768, .f32⟩
  | .hbm, ⟨4, _⟩ => ⟨S2x768x2048, .bf16⟩
  | .hbm, ⟨5, _⟩ => ⟨S8192x2048, .bf16⟩
  | .hbm, ⟨6, _⟩ => ⟨S8192x512, .bf16⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x768, .f32⟩
  | .local _ .vmem, ⟨9, _⟩ => ⟨S1x768x2048, .bf16⟩
  | .local _ .vmem, ⟨10, _⟩ => ⟨S512x2048, .bf16⟩
  | .local _ .vmem, ⟨11, _⟩ => ⟨S512x2048, .bf16⟩
  | .local _ .vmem, ⟨12, _⟩ => ⟨S512x512, .bf16⟩
  | .local _ .vmem, ⟨13, _⟩ => ⟨S512x512, .bf16⟩
  | _, _ => ⟨S8192x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_2 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi c0_i32 v0
  let c8192_i32 : BitVec 32 := 8192#32
  let v2 : BitVec 1 := Scalar.cmpi .slt v1 c8192_i32
  let c2048_i32 : BitVec 32 := 2048#32
  let c0_i32_0 : BitVec 32 := 0#32
  let v3 : BitVec 1 := Scalar.cmpi .eq c2048_i32 c0_i32_0
  let c1_i32 : BitVec 32 := 1#32
  let v4 : BitVec 32 := Scalar.select v3 c1_i32 c2048_i32
  let v5 : BitVec 32 := Scalar.remsi v1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v2 v29 c4_i32
  let c0_i32_11 : BitVec 32 := 0#32
  let c0_i32_12 : BitVec 32 := 0#32
  ![v30.toNat, c0_i32_11.toNat]

def cc0_transform_3 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi c0_i32 v0
  let c8192_i32 : BitVec 32 := 8192#32
  let v2 : BitVec 1 := Scalar.cmpi .slt v1 c8192_i32
  let c2048_i32 : BitVec 32 := 2048#32
  let c0_i32_0 : BitVec 32 := 0#32
  let v3 : BitVec 1 := Scalar.cmpi .eq c2048_i32 c0_i32_0
  let c1_i32 : BitVec 32 := 1#32
  let v4 : BitVec 32 := Scalar.select v3 c1_i32 c2048_i32
  let v5 : BitVec 32 := Scalar.remsi v1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c512_i32_4 : BitVec 32 := 512#32
  let v13 : BitVec 32 := Scalar.divsi v12 c512_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c512_i32_4 c0_i32_7
  let v20 : BitVec 32 := Scalar.extui v19
  let c0_i32_8 : BitVec 32 := 0#32
  let v21 : BitVec 1 := Scalar.cmpi .slt c512_i32_4 c0_i32_8
  let v22 : BitVec 32 := Scalar.extui v21
  let v23 : BitVec 32 := Scalar.subi v20 v22
  let v24 : BitVec 1 := Scalar.cmpi .ne v18 v23
  let v25 : BitVec 32 := Scalar.remsi v12 c512_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c4_i32 : BitVec 32 := 4#32
  let v30 : BitVec 32 := Scalar.select v2 v29 c4_i32
  let c0_i32_11 : BitVec 32 := 0#32
  let c0_i32_12 : BitVec 32 := 0#32
  ![v30.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8192x9728 : Shape := ⟨2, ![8192, 9728]⟩
abbrev S2560x128 : Shape := ⟨2, ![2560, 128]⟩
abbrev S1x768 : Shape := ⟨2, ![1, 768]⟩
abbrev S2x768x2048 : Shape := ⟨3, ![2, 768, 2048]⟩
abbrev S8192x768 : Shape := ⟨2, ![8192, 768]⟩
abbrev S8192x512 : Shape := ⟨2, ![8192, 512]⟩
abbrev S2048x128 : Shape := ⟨2, ![2048, 128]⟩
abbrev S1x2048x128 : Shape := ⟨3, ![1, 2048, 128]⟩
abbrev S4x2048x128 : Shape := ⟨3, ![4, 2048, 128]⟩
abbrev S8192x128 : Shape := ⟨2, ![8192, 128]⟩
abbrev S1x768x2048 : Shape := ⟨3, ![1, 768, 2048]⟩
abbrev S768x2048 : Shape := ⟨2, ![768, 2048]⟩
abbrev S768 : Shape := ⟨1, ![768]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8192x8x256 : Shape := ⟨3, ![8192, 8, 256]⟩
abbrev S8192x8x128 : Shape := ⟨3, ![8192, 8, 128]⟩
abbrev S8192x8x4x2x16 : Shape := ⟨5, ![8192, 8, 4, 2, 16]⟩
abbrev S8192x8x4x1x16 : Shape := ⟨5, ![8192, 8, 4, 1, 16]⟩
abbrev S8192x8x4x16 : Shape := ⟨4, ![8192, 8, 4, 16]⟩
abbrev S8192x1x4x2x16 : Shape := ⟨5, ![8192, 1, 4, 2, 16]⟩
abbrev S8192x1x4x1x16 : Shape := ⟨5, ![8192, 1, 4, 1, 16]⟩
abbrev S8192x1x4x16 : Shape := ⟨4, ![8192, 1, 4, 16]⟩
abbrev S8192x4x128 : Shape := ⟨3, ![8192, 4, 128]⟩
abbrev S8192x4x4x2x16 : Shape := ⟨5, ![8192, 4, 4, 2, 16]⟩
abbrev S8192x4x4x1x16 : Shape := ⟨5, ![8192, 4, 4, 1, 16]⟩
abbrev S8192x4x4x16 : Shape := ⟨4, ![8192, 4, 4, 16]⟩

abbrev nBuf : Space → Nat
  | .hbm => 111
  | .vmem => 0
  | .smem => 0
  | _ => 0

abbrev bufTy : (tb : Table) → Fin (tcTables nBuf tb) → BufTy
  | .hbm, ⟨0, _⟩ => ⟨S8192x9728, .bf16⟩
  | .hbm, ⟨1, _⟩ => ⟨S2560x128, .f32⟩
  | .hbm, ⟨2, _⟩ => ⟨S2560x128, .f32⟩
  | .hbm, ⟨3, _⟩ => ⟨S1x768, .f32⟩
  | .hbm, ⟨4, _⟩ => ⟨S2x768x2048, .bf16⟩
  | .hbm, ⟨5, _⟩ => ⟨S8192x768, .bf16⟩
  | .hbm, ⟨6, _⟩ => ⟨S8192x512, .bf16⟩
  | .hbm, ⟨7, _⟩ => ⟨S2048x128, .f32⟩
  | .hbm, ⟨8, _⟩ => ⟨S1x2048x128, .f32⟩
  | .hbm, ⟨9, _⟩ => ⟨S4x2048x128, .f32⟩
  | .hbm, ⟨10, _⟩ => ⟨S8192x128, .f32⟩
  | .hbm, ⟨11, _⟩ => ⟨S2048x128, .f32⟩
  | .hbm, ⟨12, _⟩ => ⟨S1x2048x128, .f32⟩
  | .hbm, ⟨13, _⟩ => ⟨S4x2048x128, .f32⟩
  | .hbm, ⟨14, _⟩ => ⟨S8192x128, .f32⟩
  | .hbm, ⟨15, _⟩ => ⟨S1x768x2048, .bf16⟩
  | .hbm, ⟨16, _⟩ => ⟨S768x2048, .bf16⟩
  | .hbm, ⟨17, _⟩ => ⟨S8192x768, .f32⟩
  | .hbm, ⟨18, _⟩ => ⟨S768, .f32⟩
  | .hbm, ⟨19, _⟩ => ⟨S8192x768, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x768, .f32⟩
  | .hbm, ⟨31, _⟩ => ⟨S8192x768, .f32⟩
  | .hbm, ⟨32, _⟩ => ⟨S1x768, .f32⟩
  | .hbm, ⟨33, _⟩ => ⟨S8192x768, .f32⟩
  | .hbm, ⟨34, _⟩ => ⟨S8192x768, .f32⟩
  | .hbm, ⟨35, _⟩ => ⟨S768x2048, .f32⟩
  | .hbm, ⟨36, _⟩ => ⟨S8192x2048, .f32⟩
  | .hbm, ⟨37, _⟩ => ⟨S8192x8x256, .f32⟩
  | .hbm, ⟨38, _⟩ => ⟨S8192x8x128, .f32⟩
  | .hbm, ⟨39, _⟩ => ⟨S8192x8x128, .f32⟩
  | .hbm, ⟨40, _⟩ => ⟨S8192x8x4x2x16, .f32⟩
  | .hbm, ⟨41, _⟩ => ⟨S8192x8x4x1x16, .f32⟩
  | .hbm, ⟨42, _⟩ => ⟨S8192x8x4x16, .f32⟩
  | .hbm, ⟨43, _⟩ => ⟨S8192x8x4x1x16, .f32⟩
  | .hbm, ⟨44, _⟩ => ⟨S8192x8x4x16, .f32⟩
  | .hbm, ⟨45, _⟩ => ⟨S8192x1x4x2x16, .f32⟩
  | .hbm, ⟨46, _⟩ => ⟨S8192x1x4x2x16, .f32⟩
  | .hbm, ⟨47, _⟩ => ⟨S8192x1x4x1x16, .f32⟩
  | .hbm, ⟨48, _⟩ => ⟨S8192x1x4x16, .f32⟩
  | .hbm, ⟨49, _⟩ => ⟨S8192x8x4x16, .f32⟩
  | .hbm, ⟨50, _⟩ => ⟨S8192x8x4x16, .f32⟩
  | .hbm, ⟨51, _⟩ => ⟨S8192x1x4x1x16, .f32⟩
  | .hbm, ⟨52, _⟩ => ⟨S8192x1x4x16, .f32⟩
  | .hbm, ⟨53, _⟩ => ⟨S8192x8x4x16, .f32⟩
  | .hbm, ⟨54, _⟩ => ⟨S8192x8x4x16, .f32⟩
  | .hbm, ⟨55, _⟩ => ⟨S8192x8x4x16, .f32⟩
  | .hbm, ⟨56, _⟩ => ⟨S8192x1x4x1x16, .f32⟩
  | .hbm, ⟨57, _⟩ => ⟨S8192x1x4x16, .f32⟩
  | .hbm, ⟨58, _⟩ => ⟨S8192x8x4x16, .f32⟩
  | .hbm, ⟨59, _⟩ => ⟨S8192x8x4x16, .f32⟩
  | .hbm, ⟨60, _⟩ => ⟨S8192x1x4x1x16, .f32⟩
  | .hbm, ⟨61, _⟩ => ⟨S8192x1x4x16, .f32⟩
  | .hbm, ⟨62, _⟩ => ⟨S8192x8x4x16, .f32⟩
  | .hbm, ⟨63, _⟩ => ⟨S8192x8x4x16, .f32⟩
  | .hbm, ⟨64, _⟩ => ⟨S8192x8x4x16, .f32⟩
  | .hbm, ⟨65, _⟩ => ⟨S8192x8x4x1x16, .f32⟩
  | .hbm, ⟨66, _⟩ => ⟨S8192x8x4x1x16, .f32⟩
  | .hbm, ⟨67, _⟩ => ⟨S8192x8x4x2x16, .f32⟩
  | .hbm, ⟨68, _⟩ => ⟨S8192x8x128, .f32⟩
  | .hbm, ⟨69, _⟩ => ⟨S8192x8x256, .f32⟩
  | .hbm, ⟨70, _⟩ => ⟨S_, .f32⟩
  | .hbm, ⟨71, _⟩ => ⟨S8192x8x256, .f32⟩
  | .hbm, ⟨72, _⟩ => ⟨S8192x8x256, .f32⟩
  | .hbm, ⟨73, _⟩ => ⟨S8192x512, .f32⟩
  | .hbm, ⟨74, _⟩ => ⟨S8192x4x128, .f32⟩
  | .hbm, ⟨75, _⟩ => ⟨S8192x4x4x2x16, .f32⟩
  | .hbm, ⟨76, _⟩ => ⟨S8192x4x4x1x16, .f32⟩
  | .hbm, ⟨77, _⟩ => ⟨S8192x4x4x16, .f32⟩
  | .hbm, ⟨78, _⟩ => ⟨S8192x4x4x1x16, .f32⟩
  | .hbm, ⟨79, _⟩ => ⟨S8192x4x4x16, .f32⟩
  | .hbm, ⟨80, _⟩ => ⟨S8192x1x4x2x16, .f32⟩
  | .hbm, ⟨81, _⟩ => ⟨S8192x1x4x2x16, .f32⟩
  | .hbm, ⟨82, _⟩ => ⟨S8192x1x4x1x16, .f32⟩
  | .hbm, ⟨83, _⟩ => ⟨S8192x1x4x16, .f32⟩
  | .hbm, ⟨84, _⟩ => ⟨S8192x4x4x16, .f32⟩
  | .hbm, ⟨85, _⟩ => ⟨S8192x4x4x16, .f32⟩
  | .hbm, ⟨86, _⟩ => ⟨S8192x1x4x1x16, .f32⟩
  | .hbm, ⟨87, _⟩ => ⟨S8192x1x4x16, .f32⟩
  | .hbm, ⟨88, _⟩ => ⟨S8192x4x4x16, .f32⟩
  | .hbm, ⟨89, _⟩ => ⟨S8192x4x4x16, .f32⟩
  | .hbm, ⟨90, _⟩ => ⟨S8192x4x4x16, .f32⟩
  | .hbm, ⟨91, _⟩ => ⟨S8192x1x4x1x16, .f32⟩
  | .hbm, ⟨92, _⟩ => ⟨S8192x1x4x16, .f32⟩
  | .hbm, ⟨93, _⟩ => ⟨S8192x4x4x16, .f32⟩
  | .hbm, ⟨94, _⟩ => ⟨S8192x4x4x16, .f32⟩
  | .hbm, ⟨95, _⟩ => ⟨S8192x1x4x1x16, .f32⟩
  | .hbm, ⟨96, _⟩ => ⟨S8192x1x4x16, .f32⟩
  | .hbm, ⟨97, _⟩ => ⟨S8192x4x4x16, .f32⟩
  | .hbm, ⟨98, _⟩ => ⟨S8192x4x4x16, .f32⟩
  | .hbm, ⟨99, _⟩ => ⟨S8192x4x4x16, .f32⟩
  | .hbm, ⟨100, _⟩ => ⟨S8192x4x4x1x16, .f32⟩
  | .hbm, ⟨101, _⟩ => ⟨S8192x4x4x1x16, .f32⟩
  | .hbm, ⟨102, _⟩ => ⟨S8192x4x4x2x16, .f32⟩
  | .hbm, ⟨103, _⟩ => ⟨S8192x4x128, .f32⟩
  | .hbm, ⟨104, _⟩ => ⟨S_, .f32⟩
  | .hbm, ⟨105, _⟩ => ⟨S8192x4x128, .f32⟩
  | .hbm, ⟨106, _⟩ => ⟨S8192x4x128, .f32⟩
  | .hbm, ⟨107, _⟩ => ⟨S8192x2048, .f32⟩
  | .hbm, ⟨108, _⟩ => ⟨S8192x2048, .bf16⟩
  | .hbm, ⟨109, _⟩ => ⟨S8192x512, .f32⟩
  | .hbm, ⟨110, _⟩ => ⟨S8192x512, .bf16⟩
  | _, _ => ⟨S8192x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_2 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_cst_3 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩

abbrev nD : Nat := 1
abbrev τ : Topo := Topo.v7x

variable {F : FTy → Type} [FloatOps F]
-- ==== Kernel15.lean ====
abbrev S9216x2048 : Shape := ⟨2, ![9216, 2048]⟩
abbrev S9216x1024 : Shape := ⟨2, ![9216, 1024]⟩
abbrev S1024x1024 : Shape := ⟨2, ![1024, 1024]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S9216x1024, .bf16⟩
  | .hbm, ⟨3, _⟩ => ⟨S1024x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c32_i32 : BitVec 32 := 32#32
  let v1 : BitVec 32 := Scalar.addi c32_i32 v0
  let v2 : BitVec 32 := Scalar.addi v1 arg2
  let c0_i32 : BitVec 32 := 0#32
  let v3 : BitVec 32 := Scalar.addi c0_i32 arg1
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let v1 : BitVec 32 := Scalar.addi c0_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let v1 : BitVec 32 := Scalar.addi c0_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference15Ideal.lean ====
abbrev S9216x2048 : Shape := ⟨2, ![9216, 2048]⟩
abbrev S9216x1024 : Shape := ⟨2, ![9216, 1024]⟩
abbrev S1024x2048 : Shape := ⟨2, ![1024, 2048]⟩
abbrev S4x256x8x256 : Shape := ⟨4, ![4, 256, 8, 256]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S1024x1024 : Shape := ⟨2, ![1024, 1024]⟩
abbrev S4x256x8x128 : Shape := ⟨4, ![4, 256, 8, 128]⟩
abbrev S4x8x128x256 : Shape := ⟨4, ![4, 8, 128, 256]⟩

abbrev nBuf : Space → Nat
  | .hbm => 31
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S9216x1024, .bf16⟩
  | .hbm, ⟨3, _⟩ => ⟨S1024x2048, .bf16⟩
  | .hbm, ⟨4, _⟩ => ⟨S1024x2048, .f32⟩
  | .hbm, ⟨5, _⟩ => ⟨S4x256x8x256, .f32⟩
  | .hbm, ⟨6, _⟩ => ⟨S1024x2048, .bf16⟩
  | .hbm, ⟨7, _⟩ => ⟨S1024x2048, .f32⟩
  | .hbm, ⟨8, _⟩ => ⟨S4x256x8x256, .f32⟩
  | .hbm, ⟨9, _⟩ => ⟨S4x8x256x256, .f32⟩
  | .hbm, ⟨10, _⟩ => ⟨S_, .f32⟩
  | .hbm, ⟨11, _⟩ => ⟨S4x8x256, .f32⟩
  | .hbm, ⟨12, _⟩ => ⟨S_, .f32⟩
  | .hbm, ⟨13, _⟩ => ⟨S4x8x256, .f32⟩
  | .hbm, ⟨14, _⟩ => ⟨S4x8x256, .f32⟩
  | .hbm, ⟨15, _⟩ => ⟨S4x8x256x1, .f32⟩
  | .hbm, ⟨16, _⟩ => ⟨S4x8x256x256, .f32⟩
  | .hbm, ⟨17, _⟩ => ⟨S4x8x256x256, .f32⟩
  | .hbm, ⟨18, _⟩ => ⟨S4x8x256x256, .f32⟩
  | .hbm, ⟨19, _⟩ => ⟨S_, .f32⟩
  | .hbm, ⟨20, _⟩ => ⟨S4x8x256, .f32⟩
  | .hbm, ⟨21, _⟩ => ⟨S4x8x256x1, .f32⟩
  | .hbm, ⟨22, _⟩ => ⟨S4x8x256x256, .f32⟩
  | .hbm, ⟨23, _⟩ => ⟨S4x8x256x256, .f32⟩
  | .hbm, ⟨24, _⟩ => ⟨S1024x1024, .bf16⟩
  | .hbm, ⟨25, _⟩ => ⟨S1024x1024, .f32⟩
  | .hbm, ⟨26, _⟩ => ⟨S4x256x8x128, .f32⟩
  | .hbm, ⟨27, _⟩ => ⟨S4x8x128x256, .f32⟩
  | .hbm, ⟨28, _⟩ => ⟨S4x256x8x128, .f32⟩
  | .hbm, ⟨29, _⟩ => ⟨S1024x1024, .f32⟩
  | .hbm, ⟨30, _⟩ => ⟨S1024x1024, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel16.lean ====
abbrev S9216x512 : Shape := ⟨2, ![9216, 512]⟩
abbrev S4x64 : Shape := ⟨2, ![4, 64]⟩
abbrev S1x128 : Shape := ⟨2, ![1, 128]⟩
abbrev S9216x9728 : Shape := ⟨2, ![9216, 9728]⟩
abbrev S1024x512 : Shape := ⟨2, ![1024, 512]⟩
abbrev S256x128 : Shape := ⟨2, ![256, 128]⟩
abbrev S1x64 : Shape := ⟨2, ![1, 64]⟩
abbrev S1 : Shape := ⟨1, ![1]⟩
abbrev S1x1 : Shape := ⟨2, ![1, 1]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S9216x512, .bf16⟩
  | .hbm, ⟨1, _⟩ => ⟨S4x64, .f32⟩
  | .hbm, ⟨2, _⟩ => ⟨S1x128, .f32⟩
  | .hbm, ⟨3, _⟩ => ⟨S9216x512, .bf16⟩
  | .hbm, ⟨4, _⟩ => ⟨S9216x9728, .bf16⟩
  | .hbm, ⟨5, _⟩ => ⟨S1024x512, .bf16⟩
  | .local _ .vmem, ⟨0, _⟩ => ⟨S256x128, .bf16⟩
  | .local _ .vmem, ⟨1, _⟩ => ⟨S256x128, .bf16⟩
  | .local _ .vmem, ⟨2, _⟩ => ⟨S4x64, .f32⟩
  | .local _ .vmem, ⟨3, _⟩ => ⟨S1x128, .f32⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c32_i32 : BitVec 32 := 32#32
  let v1 : BitVec 32 := Scalar.addi c32_i32 v0
  let v2 : BitVec 32 := Scalar.addi v1 arg2
  let c0_i32 : BitVec 32 := 0#32
  let v3 : BitVec 32 := Scalar.addi c0_i32 arg1
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let v1 : BitVec 32 := Scalar.addi c0_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c64_i32 : BitVec 32 := 64#32
  let v1 : BitVec 32 := Scalar.addi c64_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference16Ideal.lean ====
abbrev S9216x512 : Shape := ⟨2, ![9216, 512]⟩
abbrev S4x64 : Shape := ⟨2, ![4, 64]⟩
abbrev S1x128 : Shape := ⟨2, ![1, 128]⟩
abbrev S9216x9728 : Shape := ⟨2, ![9216, 9728]⟩
abbrev S1024x512 : Shape := ⟨2, ![1024, 512]⟩
abbrev S4x256x4x128 : Shape := ⟨4, ![4, 256, 4, 128]⟩
abbrev S4x256x4x2x64 : Shape := ⟨5, ![4, 256, 4, 2, 64]⟩
abbrev S1x64 : Shape := ⟨2, ![1, 64]⟩
abbrev S64 : Shape := ⟨1, ![64]⟩
abbrev S_ : Shape := ⟨0, ![]⟩
abbrev S1 : Shape := ⟨1, ![1]⟩
abbrev S2 : Shape := ⟨1, ![2]⟩
abbrev S4x4x2x256x256 : Shape := ⟨5, ![4, 4, 2, 256, 256]⟩
abbrev S4x4x2x256 : Shape := ⟨4, ![4, 4, 2, 256]⟩
abbrev S4x4x2x256x1 : Shape := ⟨5, ![4, 4, 2, 256, 1]⟩
abbrev S4x4x256x256 : Shape := ⟨4, ![4, 4, 256, 256]⟩
abbrev S4x4x128x256 : Shape := ⟨4, ![4, 4, 128, 256]⟩
abbrev S128 : Shape := ⟨1, ![128]⟩
abbrev S4x256x4 : Shape := ⟨3, ![4, 256, 4]⟩
abbrev S4x256x4x1 : Shape := ⟨4, ![4, 256, 4, 1]⟩
abbrev S1x1x1x128 : Shape := ⟨4, ![1, 1, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S4x64, .f32⟩
  | .hbm, ⟨2, _⟩ => ⟨S1x128, .f32⟩
  | .hbm, ⟨3, _⟩ => ⟨S9216x512, .bf16⟩
  | .hbm, ⟨4, _⟩ => ⟨S9216x9728, .bf16⟩
  | .hbm, ⟨5, _⟩ => ⟨S1024x512, .bf16⟩
  | .hbm, ⟨6, _⟩ => ⟨S1024x512, .f32⟩
  | .hbm, ⟨7, _⟩ => ⟨S4x256x4x128, .f32⟩
  | .hbm, ⟨8, _⟩ => ⟨S1024x512, .bf16⟩
  | .hbm, ⟨9, _⟩ => ⟨S1024x512, .f32⟩
  | .hbm, ⟨10, _⟩ => ⟨S4x256x4x2x64, .f32⟩
  | .hbm, ⟨11, _⟩ => ⟨S1024x512, .bf16⟩
  | .hbm, ⟨12, _⟩ => ⟨S1024x512, .f32⟩
  | .hbm, ⟨13, _⟩ => ⟨S4x256x4x2x64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S2, .f32⟩
  | .hbm, ⟨38, _⟩ => ⟨S4x4x2x256x256, .f32⟩
  | .hbm, ⟨39, _⟩ => ⟨S_, .f32⟩
  | .hbm, ⟨40, _⟩ => ⟨S4x4x2x256, .f32⟩
  | .hbm, ⟨41, _⟩ => ⟨S_, .f32⟩
  | .hbm, ⟨42, _⟩ => ⟨S4x4x2x256, .f32⟩
  | .hbm, ⟨43, _⟩ => ⟨S4x4x2x256, .f32⟩
  | .hbm, ⟨44, _⟩ => ⟨S4x4x2x256x1, .f32⟩
  | .hbm, ⟨45, _⟩ => ⟨S4x4x2x256x256, .f32⟩
  | .hbm, ⟨46, _⟩ => ⟨S4x4x2x256x256, .f32⟩
  | .hbm, ⟨47, _⟩ => ⟨S4x4x2x256x256, .f32⟩
  | .hbm, ⟨48, _⟩ => ⟨S_, .f32⟩
  | .hbm, ⟨49, _⟩ => ⟨S4x4x2x256, .f32⟩
  | .hbm, ⟨50, _⟩ => ⟨S4x4x2x256x1, .f32⟩
  | .hbm, ⟨51, _⟩ => ⟨S4x4x2x256x256, .f32⟩
  | .hbm, ⟨52, _⟩ => ⟨S4x4x2x256x256, .f32⟩
  | .hbm, ⟨53, _⟩ => ⟨S4x4x256x256, .f32⟩
  | .hbm, ⟨54, _⟩ => ⟨S4x4x128x256, .f32⟩
  | .hbm, ⟨55, _⟩ => ⟨S4x256x4x128, .f32⟩
  | .hbm, ⟨56, _⟩ => ⟨S128, .f32⟩
  | .hbm, ⟨57, _⟩ => ⟨S4x256x4x128, .f32⟩
  | .hbm, ⟨58, _⟩ => ⟨S_, .f32⟩
  | .hbm, ⟨59, _⟩ => ⟨S4x256x4, .f32⟩
  | .hbm, ⟨60, _⟩ => ⟨S4x256x4x1, .f32⟩
  | .hbm, ⟨61, _⟩ => ⟨S_, .f32⟩
  | .hbm, ⟨62, _⟩ => ⟨S4x256x4x1, .f32⟩
  | .hbm, ⟨63, _⟩ => ⟨S4x256x4x1, .f32⟩
  | .hbm, ⟨64, _⟩ => ⟨S_, .f32⟩
  | .hbm, ⟨65, _⟩ => ⟨S4x256x4x1, .f32⟩
  | .hbm, ⟨66, _⟩ => ⟨S4x256x4x1, .f32⟩
  | .hbm, ⟨67, _⟩ => ⟨S4x256x4x1, .f32⟩
  | .hbm, ⟨68, _⟩ => ⟨S4x256x4x128, .f32⟩
  | .hbm, ⟨69, _⟩ => ⟨S4x256x4x128, .f32⟩
  | .hbm, ⟨70, _⟩ => ⟨S1x1x1x128, .f32⟩
  | .hbm, ⟨71, _⟩ => ⟨S4x256x4x128, .f32⟩
  | .hbm, ⟨72, _⟩ => ⟨S4x256x4x128, .f32⟩
  | .hbm, ⟨73, _⟩ => ⟨S_, .f32⟩
  | .hbm, ⟨74, _⟩ => ⟨S4x256x4x128, .f32⟩
  | .hbm, ⟨75, _⟩ => ⟨S4x256x4x128, .f32⟩
  | .hbm, ⟨76, _⟩ => ⟨S1024x512, .f32⟩
  | .hbm, ⟨77, _⟩ => ⟨S1024x512, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Kernel17.lean ====
abbrev S8x2048 : Shape := ⟨2, ![8, 2048]⟩
abbrev S2x2048x12288 : Shape := ⟨3, ![2, 2048, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x1x12288, .f32⟩
  | .hbm, ⟨3, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S8x2048 : Shape := ⟨2, ![8, 2048]⟩
abbrev S2x2048x12288 : Shape := ⟨3, ![2, 2048, 12288]⟩
abbrev S2x1x12288 : Shape := ⟨3, ![2, 1, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x1x12288 : Shape := ⟨3, ![1, 1, 12288]⟩
abbrev S1x12288 : Shape := ⟨2, ![1, 12288]⟩
abbrev S1x8x12288 : Shape := ⟨3, ![1, 8, 12288]⟩
abbrev S2x8x12288 : Shape := ⟨3, ![2, 8, 12288]⟩

abbrev nBuf : Space → Nat
  | .hbm => 38
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x1x12288, .f32⟩
  | .hbm, ⟨16, _⟩ => ⟨S1x12288, .f32⟩
  | .hbm, ⟨17, _⟩ => ⟨S8x12288, .f32⟩
  | .hbm, ⟨18, _⟩ => ⟨S8x12288, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S1x2048x12288, .f32⟩
  | .hbm, ⟨29, _⟩ => ⟨S2048x12288, .f32⟩
  | .hbm, ⟨30, _⟩ => ⟨S8x12288, .f32⟩
  | .hbm, ⟨31, _⟩ => ⟨S1x1x12288, .f32⟩
  | .hbm, ⟨32, _⟩ => ⟨S1x12288, .f32⟩
  | .hbm, ⟨33, _⟩ => ⟨S8x12288, .f32⟩
  | .hbm, ⟨34, _⟩ => ⟨S8x12288, .f32⟩
  | .hbm, ⟨35, _⟩ => ⟨S1x8x12288, .f32⟩
  | .hbm, ⟨36, _⟩ => ⟨S1x8x12288, .f32⟩
  | .hbm, ⟨37, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Proof.Softmax.lean ====
module

public import Idealize.ShloMosaic.PureOps.Ideal
public import Idealize.ShloMosaic.Lib.Pipeline.ValueKit
public import Idealize.ShloMosaic.Lib.ReduceAll

@[expose] public section
noncomputable section
namespace Cert.Softmax
open Idealize.ShloMosaic

/-- The word that a maximum starts from is `⊥`. -/
theorem negInf : Ideal.ofBits FTy.f32 0xFF800000#32 = ⊥ := by simp [Ideal.ofBits, Ideal.ieee]

/-- `x` is a real number, not `⊤` or `⊥`. -/
def IsReal (x : EReal) : Prop := ∃ r : ℝ, x = r

/-- Every entry of an array is a real number. -/
def AllReal {s : Shape} {φ : FTy} (x : FVec Ideal s φ) : Prop := ∀ i, IsReal (x i)

/-- A number whose magnitude is below `⊤` is real. -/
theorem real_of_lt (x : EReal) (h : max x (-x) < ⊤) : IsReal x := by
  obtain ⟨h1, h2⟩ := max_lt_iff.1 h
  have h3 : x ≠ ⊥ := by rintro rfl; simp at h2
  exact ⟨x.toReal, (EReal.coe_toReal h1.ne h3).symm⟩

/-- The word of positive infinity is `⊤`. -/
theorem posInf : Ideal.ofBits FTy.f32 0x7F800000#32 = ⊤ := by simp [Ideal.ofBits, Ideal.ieee]

/-- The test `|x| < ∞`, true of every entry of an array, says that every entry is real. -/
theorem allReal_of_test {s u : Shape} {axes : List (Fin s.rank)} {φ : FTy} (x : FVec Ideal s φ) (y : FVec Ideal s .f32) (hy : ∀ i, y i = x i)
    (bd : FVec Ideal s .f32) (hbd : ∀ i, bd i = (⊤ : EReal)) (init : u.Idx → BitVec 1) (h : s.ReducesTo axes ⟨0, ![]⟩) (hu : 0 < u.numel)
    (e : Host.reduce IntOp.andi (cmpf .olt (Host.absf y) bd) init h hu ix0 = 1#1) : AllReal x := by
  intro i
  have : Subsingleton (⟨0, ![]⟩ : Shape).Idx := ⟨fun a b => funext fun k => k.elim0⟩
  have h1 := Host.reduce_andi_all _ init h hu ix0 e i
  apply real_of_lt
  rw [← hy i]
  have h2 : Ideal.cmp .olt (max (y i) (-(y i))) (bd i) = 1#1 := h1
  rw [hbd i] at h2
  by_contra hn
  simp only [Ideal.cmp, hn, decide_false] at h2; exact absurd h2 (by decide)

/-- The largest of finitely many scores, `⊥` of none. -/
def top {n : ℕ} (a : Fin n → EReal) : EReal := Finset.univ.fold max ⊥ a

/-- A row of attention over TWO groups of keys, as the kernel computes it: the scores `a`, `b` of the groups, their
    common maximum, the unnormalised weighted sum of the values `v`, `w`, times the reciprocal of the weights' sum. -/
def twoGroups {n p : ℕ} (a v : Fin n → EReal) (b w : Fin p → EReal) : EReal :=
  ((∑ i, Ideal.exp (a i - max (top a) (top b)) * v i) + ∑ i, Ideal.exp (b i - max (top a) (top b)) * w i)
    * Ideal.div 1 ((∑ i, Ideal.exp (a i - max (top a) (top b))) + ∑ i, Ideal.exp (b i - max (top a) (top b)))

/-- A row of attention over ONE group of keys, written plainly: the values `v` weighted by the softmax of the scores. -/
def oneGroup {n : ℕ} (s v : Fin n → EReal) : EReal :=
  ∑ i, v i * Ideal.div (Ideal.exp (s i - top s)) (∑ k, Ideal.exp (s k - top s))

theorem le_top {n : ℕ} (a : Fin n → EReal) (i : Fin n) : a i ≤ top a := by
  unfold top
  exact (Finset.le_fold_max _).2 (.inr ⟨i, Finset.mem_univ i, le_rfl⟩)

theorem top_le {n : ℕ} (a : Fin n → EReal) (c : EReal) (h : ∀ i, a i ≤ c) : top a ≤ c := by
  unfold top
  exact (Finset.fold_max_le _).2 ⟨bot_le, fun i _ => h i⟩

/-- The maximum over a list of scores that consists of two groups is the greater of the groups' maxima. -/
theorem top_append {n p N : ℕ} (a : Fin n → EReal) (b : Fin p → EReal) (s : Fin N → EReal) (hN : N = p + n)
    (hb : ∀ k : Fin p, s ⟨k, by omega⟩ = b k) (ha : ∀ k : Fin n, s ⟨p + k, by omega⟩ = a k) :
    top s = max (top a) (top b) := by
  apply _root_.le_antisymm
  · refine top_le _ _ fun i => ?_
    by_cases h : i.val < p
    · exact le_max_of_le_right ((hb ⟨i, h⟩).le.trans (le_top b ⟨i, h⟩))
    · have e := ha ⟨i.val - p, by omega⟩
      have e' : (⟨p + (i.val - p), by omega⟩ : Fin N) = i := Fin.ext (by simp; omega)
      simp only [e'] at e
      exact le_max_of_le_left (e.le.trans (le_top a _))
  · exact max_le (top_le _ _ fun k => (ha k).ge.trans (le_top s _)) (top_le _ _ fun k => (hb k).ge.trans (le_top s _))

/-- A sum over a list that consists of two groups is the sum of the groups' sums. -/
theorem sum_append {n p N : ℕ} (f : Fin N → EReal) (hN : N = p + n) :
    ∑ i, f i = (∑ k : Fin n, f ⟨p + k, by omega⟩) + ∑ k : Fin p, f ⟨k, by omega⟩ := by
  subst hN
  rw [Fin.sum_univ_add, add_comm]
  rfl

/-- Finitely many real scores, at least one, have a real maximum. -/
theorem top_real {n : ℕ} (hn : 0 < n) (s : Fin n → EReal) (h : ∀ i, IsReal (s i)) : IsReal (top s) := by
  have h1 : top s ≠ ⊥ := by
    intro e
    obtain ⟨r, hr⟩ := h ⟨0, hn⟩
    have := le_top s ⟨0, hn⟩
    rw [e, hr] at this
    exact EReal.coe_ne_bot r (le_bot_iff.1 this)
  have h2 : top s < ⊤ := by
    unfold top
    refine (Finset.fold_max_lt _).2 ⟨bot_lt_top, fun i _ => ?_⟩
    obtain ⟨r, hr⟩ := h i
    rw [hr]; exact EReal.coe_lt_top r
  exact ⟨(top s).toReal, (EReal.coe_toReal h2.ne h1).symm⟩

/-- Multiplication by a nonnegative real passes under a sum of extended reals. -/
theorem sum_mul_real {n : ℕ} (f : Fin n → EReal) (r : ℝ) (hr : 0 ≤ r) :
    (∑ i, f i) * (r : EReal) = ∑ i, f i * (r : EReal) := by
  have h0 : (0 : EReal) ≤ (r : EReal) := EReal.coe_nonneg.2 hr
  induction (Finset.univ : Finset (Fin n)) using Finset.induction_on with
  | empty => simp
  | insert a t ha ih =>
    rw [Finset.sum_insert ha, Finset.sum_insert ha, ← ih, EReal.right_distrib_of_nonneg_of_ne_top h0 (EReal.coe_ne_top r)]

/-- A sum of reals, as an extended real, is the sum of the summands as extended reals. -/
theorem coe_sum {n : ℕ} (f : Fin n → ℝ) : ((∑ k, f k : ℝ) : EReal) = ∑ k, (f k : EReal) := by
  induction (Finset.univ : Finset (Fin n)) using Finset.induction_on with
  | empty => simp
  | insert a t ha ih => rw [Finset.sum_insert ha, Finset.sum_insert ha, EReal.coe_add, ih]

/-- The sum of products of reals is real: a score of real queries and keys. -/
theorem dot_real {n : ℕ} (f g : Fin n → EReal) (hf : ∀ i, IsReal (f i)) (hg : ∀ i, IsReal (g i)) :
    IsReal (∑ k, f k * g k) := by
  choose a ha using hf
  choose b hb using hg
  refine ⟨∑ k, a k * b k, ?_⟩
  rw [coe_sum]
  exact Finset.sum_congr rfl fun k _ => by rw [ha k, hb k, EReal.coe_mul]

/-- The sum of the weights of a row of real scores is a positive real. -/
theorem sum_real {n : ℕ} (hn : 0 < n) (s : Fin n → EReal) (m : EReal) (h : ∀ i, IsReal (s i)) (hm : IsReal m) :
    ∃ r : ℝ, 0 < r ∧ ∑ k, Ideal.exp (s k - m) = r := by
  choose f hf using h
  obtain ⟨c, rfl⟩ := hm
  refine ⟨∑ k, Real.exp (f k - c), Finset.sum_pos (fun k _ => Real.exp_pos _) ⟨⟨0, hn⟩, Finset.mem_univ _⟩, ?_⟩
  rw [coe_sum]
  refine Finset.sum_congr rfl fun k _ => ?_
  rw [hf k, ← EReal.coe_sub, Ideal.exp_coe]

/-- THE EQUATION OF THE SOFTMAX: over real scores, the kernel's row over two groups of keys is the plain row over the
    groups' keys one after the other; the values may be any extended reals. -/
theorem twoGroups_eq {n p N : ℕ} (a v : Fin n → EReal) (b w : Fin p → EReal) (s V : Fin N → EReal) (hN : N = p + n)
    (h0 : 0 < N) (hs : ∀ i, IsReal (s i))
    (hb : ∀ k : Fin p, s ⟨k, by omega⟩ = b k) (ha : ∀ k : Fin n, s ⟨p + k, by omega⟩ = a k)
    (hw : ∀ k : Fin p, V ⟨k, by omega⟩ = w k) (hv : ∀ k : Fin n, V ⟨p + k, by omega⟩ = v k) :
    twoGroups a v b w = oneGroup s V := by
  unfold twoGroups oneGroup
  rw [← top_append a b s hN hb ha]
  have e1 : (∑ i, Ideal.exp (a i - top s)) + ∑ i, Ideal.exp (b i - top s) = ∑ k, Ideal.exp (s k - top s) := by
    rw [sum_append (fun k => Ideal.exp (s k - top s)) hN]
    simp only [ha, hb]
  have e2 : (∑ i, Ideal.exp (a i - top s) * v i) + ∑ i, Ideal.exp (b i - top s) * w i
      = ∑ k, Ideal.exp (s k - top s) * V k := by
    rw [sum_append (fun k => Ideal.exp (s k - top s) * V k) hN]
    simp only [ha, hb, hw, hv]
  rw [e1, e2]
  obtain ⟨r, hr, e⟩ := sum_real h0 s (top s) hs (top_real h0 s hs)
  rw [e, Ideal.div_coe hr.ne', one_mul, sum_mul_real _ _ (by positivity)]
  refine Finset.sum_congr rfl fun k _ => ?_
  rw [Ideal.div_coe hr.ne', mul_comm (Ideal.exp _) (V k), mul_assoc]

end Cert.Softmax
-- ==== Proof.Tile.lean ====
module

public import proofs.«01_k».proof.Proof.Gen.KernelIdeal.Value
public import proofs.«01_k».proof.Proof.Softmax
public import Idealize.ShloMosaic.Lib.Pipeline.ValueKit

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pipeline (Dat)

open Cert.Softmax

/-- One row tile of the kernel: 256 query rows of one head against the head's sequence keys and context keys. Entry by
    entry it is the attention row over the two groups of keys. -/
theorem tile (q : Vec Ideal S256x256 .bf16) (k : Vec Ideal S2048x256 .bf16) (kc : Vec Ideal S256x256 .bf16)
    (v : Vec Ideal S2048x128 .bf16) (vc : Vec Ideal S256x128 .bf16) (x : S256x128.Idx) :
    k0_pay2 q k kc v vc x = twoGroups (fun i : Fin 2048 => ∑ d : Fin 256, q (ix2 (x 0) d) * k (ix2 i d)) (fun i => v (ix2 i (x 1)))
      (fun i : Fin 256 => ∑ d : Fin 256, q (ix2 (x 0) d) * kc (ix2 i d)) (fun i => vc (ix2 i (x 1))) := by
  unfold twoGroups Softmax.top
  rw [← negInf]
  pointwise [k0_pay2]

section
variable (q : Vec Ideal S256x256 .bf16) (k : Vec Ideal S2048x256 .bf16) (kc : Vec Ideal S256x256 .bf16)
    (v : Vec Ideal S2048x128 .bf16) (vc : Vec Ideal S256x128 .bf16)

/-! The eight row tiles of a block are the same computation of their own query rows. -/

theorem tile1 : k0_pay3 q k kc v vc = k0_pay2 q k kc v vc := rfl
theorem tile2 : k0_pay4 q k kc v vc = k0_pay2 q k kc v vc := rfl
theorem tile3 : k0_pay6 q (k0_pay5 q k) kc v vc = k0_pay2 q k kc v vc := rfl
theorem tile4 : k0_pay9 (k0_pay7 q k) (k0_pay8 q kc) v vc = k0_pay2 q k kc v vc := rfl
theorem tile5 : k0_pay13 (k0_pay10 q k) (k0_pay11 q kc) (k0_pay12 q k) v vc = k0_pay2 q k kc v vc := rfl
theorem tile6 : k0_pay18 (k0_pay14 q k) (k0_pay15 q kc) (k0_pay16 q k kc) (k0_pay17 q k kc) v vc = k0_pay2 q k kc v vc := rfl
theorem tile7 : k0_pay1 (k0_pay22 q k kc) (k0_pay23 q k kc) v vc = k0_pay2 q k kc v vc := rfl
end

/-- The block that one grid point writes: 2048 query rows of one head of one batch, every row the attention row over the
    head's keys. -/
theorem block (q k : Vec Ideal S2048x256 .bf16) (kc : Vec Ideal S256x256 .bf16)
    (v : Vec Ideal S2048x128 .bf16) (vc : Vec Ideal S256x128 .bf16) (y : S2048x128.Idx) :
    out0_5 q k kc v vc y = twoGroups (fun i : Fin 2048 => ∑ d : Fin 256, q (ix2 (y 0) d) * k (ix2 i d)) (fun i => v (ix2 i (y 1)))
      (fun i : Fin 256 => ∑ d : Fin 256, q (ix2 (y 0) d) * kc (ix2 i d)) (fun i => vc (ix2 i (y 1))) := by
  unfold out0_5
  canon_tiles x h
  all_goals (first | rw [tile7] | rw [tile6] | rw [tile5] | rw [tile4] | rw [tile3] | rw [tile2] | rw [tile1] | skip)
  all_goals rw [tile]
  all_goals (congr 1 <;> (funext i; pointwise <;> blk_point []))

end Cert.KernelIdeal.Attn
-- ==== Proof.RefAt.lean ====
module

public import proofs.«01_k».proof.Proof.Gen.ReferenceIdeal.Read
public import proofs.«01_k».proof.Proof.Softmax
public import Idealize.ShloMosaic.Lib.Pipeline.ValueKit

@[expose] public section
set_option maxRecDepth 16384
noncomputable section
namespace Cert.ReferenceIdeal.Attn
open Cert.ReferenceIdeal Cert.ReferenceIdeal.Read Idealize.ShloMosaic Idealize.ShloMosaic.TcCoe Idealize.SL.Sem

open Cert.Softmax

variable (x0 x1 : (⟨S8192x2048, .bf16⟩ : BufTy).Contents (Elt Ideal)) (x2 : (⟨S1024x2048, .bf16⟩ : BufTy).Contents (Elt Ideal)) (x3 : (⟨S8192x1024, .bf16⟩ : BufTy).Contents (Elt Ideal)) (x4 : (⟨S1024x1024, .bf16⟩ : BufTy).Contents (Elt Ideal))

/-- The reference's score of a query row against a context key (the first 256 keys of the batch). -/
theorem score_ctx (b : Fin 4) (h : Fin 8) (q : Fin 2048) (k : Fin 256) :
    val_main_v12 (F := Ideal) x0 x1 x2 (ix4 b h q ⟨k, by omega⟩)
      = ∑ d : Fin 256, x0 (ix2 ⟨b * 2048 + q, by omega⟩ ⟨h * 256 + d, by omega⟩) * x2 (ix2 ⟨b * 256 + k, by omega⟩ ⟨h * 256 + d, by omega⟩) := by
  pointwise [val_main_v12, val_main_v6, val_main_v5, val_main_v4, val_main_v3, val_main_v2, val_main_v1, val_main_v0]
  blk_ext

/-- The reference's score of a query row against a sequence key (those behind the context's). -/
theorem score_seq (b : Fin 4) (h : Fin 8) (q : Fin 2048) (k : Fin 2048) :
    val_main_v12 (F := Ideal) x0 x1 x2 (ix4 b h q ⟨256 + k, by omega⟩)
      = ∑ d : Fin 256, x0 (ix2 ⟨b * 2048 + q, by omega⟩ ⟨h * 256 + d, by omega⟩) * x1 (ix2 ⟨b * 2048 + k, by omega⟩ ⟨h * 256 + d, by omega⟩) := by
  pointwise [val_main_v12, val_main_v6, val_main_v5, val_main_v4, val_main_v3, val_main_v2, val_main_v1, val_main_v0]

  blk_ext

/-- The reference's value row of a context key. -/
theorem value_ctx (b : Fin 4) (h : Fin 8) (e : Fin 128) (k : Fin 256) :
    val_main_v11 (F := Ideal) x3 x4 (ix4 b ⟨k, by omega⟩ h e) = x4 (ix2 ⟨b * 256 + k, by omega⟩ ⟨h * 128 + e, by omega⟩) := by
  pointwise [val_main_v11, val_main_v10, val_main_v9, val_main_v8, val_main_v7]
  blk_ext

/-- The reference's value row of a sequence key. -/
theorem value_seq (b : Fin 4) (h : Fin 8) (e : Fin 128) (k : Fin 2048) :
    val_main_v11 (F := Ideal) x3 x4 (ix4 b ⟨256 + k, by omega⟩ h e) = x3 (ix2 ⟨b * 2048 + k, by omega⟩ ⟨h * 128 + e, by omega⟩) := by
  pointwise [val_main_v11, val_main_v10, val_main_v9, val_main_v8, val_main_v7]

  blk_ext

theorem max_row (b : Fin 4) (h : Fin 8) (q : Fin 2048) :
    val_main_v13 (F := Ideal) x0 x1 x2 (ix3 b h q)
      = Softmax.top (fun k : Fin 2304 => val_main_v12 (F := Ideal) x0 x1 x2 (ix4 b h q k)) := by
  unfold Softmax.top
  rw [← negInf]
  pointwise [val_main_v13, val_main_cst]

/-- The maximum that the reference subtracts, laid out over the keys. -/
theorem max_bcast (b : Fin 4) (h : Fin 8) (q : Fin 2048) (k : Fin 2304) :
    val_main_v17 (F := Ideal) x0 x1 x2 (ix4 b h q k)
      = Softmax.top (fun k : Fin 2304 => val_main_v12 (F := Ideal) x0 x1 x2 (ix4 b h q k)) := by
  rw [← max_row, val_main_v17_apply, val_main_v16_apply, val_main_v15_apply, val_main_v14_apply, val_main_cst_0_apply]
  have e : idx_main_v16 (idx_main_v17 (ix4 b h q k)) = ix3 b h q := by
    funext a; match a with | ⟨0, _⟩ => rfl | ⟨1, _⟩ => rfl | ⟨2, _⟩ => rfl
  rw [e]
  generalize val_main_v13 (F := Ideal) x0 x1 x2 = y
  have hb : (FloatOps.ofBits .f32 0xFF800000#32 : Ideal .f32) = (⊥ : EReal) := negInf
  rw [hb]
  exact max_eq_right (bot_le (a := (y (ix3 b h q) : EReal)))

/-- The reference's unnormalised weight of a key. -/
theorem weight (b : Fin 4) (h : Fin 8) (q : Fin 2048) (k : Fin 2304) :
    val_main_v19 (F := Ideal) x0 x1 x2 (ix4 b h q k)
      = Ideal.exp (val_main_v12 (F := Ideal) x0 x1 x2 (ix4 b h q k) - Softmax.top (fun k : Fin 2304 => val_main_v12 (F := Ideal) x0 x1 x2 (ix4 b h q k))) := by
  rw [← max_bcast x0 x1 x2 b h q k]
  pointwise [val_main_v19, val_main_v18]

/-- The sum of a row's weights, laid out over the keys. -/
theorem total (b : Fin 4) (h : Fin 8) (q : Fin 2048) (k : Fin 2304) :
    val_main_v22 (F := Ideal) x0 x1 x2 (ix4 b h q k)
      = ∑ k : Fin 2304, val_main_v19 (F := Ideal) x0 x1 x2 (ix4 b h q k) := by
  pointwise [val_main_v22, val_main_v21, val_main_v20, val_main_cst_1]

/-- The reference's result is, entry by entry, the values weighted by the softmax of the row's scores. -/
theorem ref_row (b : Fin 4) (h : Fin 8) (q : Fin 2048) (e : Fin 128) :
    val_main_v24 (F := Ideal) x0 x1 x2 x3 x4 (ix4 b h e q)
      = oneGroup (fun k : Fin 2304 => val_main_v12 (F := Ideal) x0 x1 x2 (ix4 b h q k)) (fun k => val_main_v11 (F := Ideal) x3 x4 (ix4 b k h e)) := by
  unfold oneGroup
  pointwise [val_main_v24, val_main_v23, total]
  simp only [weight]

theorem ref_at (j : S8192x1024.Idx) (b : Fin 4) (h : Fin 8) (q : Fin 2048) (e : Fin 128) (hj0 : (j 0 : ℕ) = b * 2048 + q) (hj1 : (j 1 : ℕ) = h * 128 + e) :
    val_main_v27 (F := Ideal) x0 x1 x2 x3 x4 j = val_main_v24 (F := Ideal) x0 x1 x2 x3 x4 (ix4 b h e q) := by
  pointwise [val_main_v27, val_main_v26, val_main_v25]

  blk_ext

end Cert.ReferenceIdeal.Attn
-- ==== Proof.Final.lean ====
module

public import proofs.«01_k».proof.Proof.Tile
public import proofs.«01_k».proof.Proof.RefAt
public import proofs.«01_k».proof.Proof.Gen.Pre_scores_finite
public import Idealize.ShloMosaic.Lib.Pipeline.ValueKit
public import Idealize.ShloMosaic.Lib.ReduceAll
public import Idealize.ShloMosaic.Lib.Affine

/-! What the attention kernel's output array holds, and that it is the reference's. -/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pipeline (Dat)
open Cert.Softmax

variable (m : (ℓ : Loc nD τ sig) → Buf (Elt Ideal) ℓ)

/-- Where the windows of grid point `t` lie: the point is (batch, head), and every block is the batch's rows and the head's lanes. -/
theorem idx : ∀ t : Fin cfg0.N, win0_0.index t = ![t.val / 8, t.val % 8] ∧ win0_1.index t = ![t.val / 8, t.val % 8]
    ∧ win0_2.index t = ![t.val / 8, t.val % 8] ∧ win0_3.index t = ![t.val / 8, t.val % 8]
    ∧ win0_4.index t = ![t.val / 8, t.val % 8] ∧ win0_5.index t = ![t.val / 8, t.val % 8] :=
  (by decide +kernel : ∀ t : Fin grid0.N, _)

/-- The attention of a whole array: entry `j` is the row of query row `j 0`, head `j 1 / 128`, over the batch's sequence
    keys `k` and context keys `kc`. -/
def attn (q k : FVec Ideal S8192x2048 .bf16) (kc : FVec Ideal S1024x2048 .bf16) (v : FVec Ideal S8192x1024 .bf16)
    (vc : FVec Ideal S1024x1024 .bf16) : FVec Ideal S8192x1024 .bf16 := fun j =>
  have hj0 : (j 0 : ℕ) < 8192 := (j 0).isLt
  have hj1 : (j 1 : ℕ) < 1024 := (j 1).isLt
  twoGroups
    (fun i : Fin 2048 => ∑ d : Fin 256, q (ix2 (j 0) ⟨j 1 / 128 * 256 + d, by omega⟩) * k (ix2 ⟨j 0 / 2048 * 2048 + i, by omega⟩ ⟨j 1 / 128 * 256 + d, by omega⟩))
    (fun i => v (ix2 ⟨j 0 / 2048 * 2048 + i, by omega⟩ (j 1)))
    (fun i : Fin 256 => ∑ d : Fin 256, q (ix2 (j 0) ⟨j 1 / 128 * 256 + d, by omega⟩) * kc (ix2 ⟨j 0 / 2048 * 256 + i, by omega⟩ ⟨j 1 / 128 * 256 + d, by omega⟩))
    (fun i => vc (ix2 ⟨j 0 / 2048 * 256 + i, by omega⟩ (j 1)))

/-- What grid point `t` writes is its block of `attn` of the arguments. -/
theorem point (c : Dev nD) (t : Fin cfg0.N) (y : S2048x128.Idx) :
    out0_5 (iblk m c 0 t) (iblk m c 1 t) (iblk m c 2 t) (iblk m c 3 t) (iblk m c 4 t) y
      = attn (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  rw [block]
  have ht : t.val < 32 := lt_of_lt_of_eq t.isLt N_0
  have hy0 : (y 0 : ℕ) < 2048 := (y 0).isLt
  have hy1 : (y 1 : ℕ) < 128 := (y 1).isLt
  unfold attn
  congr 1
  · funext i
    refine Fin.sum_fin_congr fun d => ?_
    congr 1 <;> blk_ext [iblk, V, idx t]
  · funext i
    blk_ext [iblk, V, idx t]
  · funext i
    refine Fin.sum_fin_congr fun d => ?_
    congr 1 <;> blk_ext [iblk, V, idx t]
  · funext i
    blk_ext [iblk, V, idx t]

/-- The output array after the run is the attention of the arguments. -/
theorem final (c : Dev nD) : (dats m 0 c).arrAt 5 (cfgs 0).N
    = attn (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  exact point m c t y

/-- Over real queries and keys the attention of two groups of keys is the reference. -/
theorem attn_eq (q k : FVec Ideal S8192x2048 .bf16) (kc : FVec Ideal S1024x2048 .bf16) (v : FVec Ideal S8192x1024 .bf16)
    (vc : FVec Ideal S1024x1024 .bf16) (hq : AllReal q) (hk : AllReal k) (hkc : AllReal kc) :
    attn q k kc v vc = Cert.ReferenceIdeal.Read.val_main_v27 (F := Ideal) q k kc v vc := by
  funext j
  have hj0 : (j 0 : ℕ) < 8192 := (j 0).isLt
  have hj1 : (j 1 : ℕ) < 1024 := (j 1).isLt
  have eq0 : ((j 0 : ℕ) / 2048) * 2048 + (j 0 : ℕ) % 2048 = j 0 := Nat.div_add_mod' _ _
  have eq1 : ((j 1 : ℕ) / 128) * 128 + (j 1 : ℕ) % 128 = j 1 := Nat.div_add_mod' _ _
  rw [Cert.ReferenceIdeal.Attn.ref_at q k kc v vc j ⟨j 0 / 2048, by omega⟩ ⟨j 1 / 128, by omega⟩ ⟨j 0 % 2048, by omega⟩ ⟨j 1 % 128, by omega⟩ eq0.symm eq1.symm,
    Cert.ReferenceIdeal.Attn.ref_row]
  unfold attn
  refine twoGroups_eq (n := 2048) (p := 256) _ _ _ _ _ _ rfl (by norm_num) ?_ ?_ ?_ ?_ ?_
  · intro i
    by_cases hi : i.val < 256
    · have := Cert.ReferenceIdeal.Attn.score_ctx q k kc ⟨j 0 / 2048, by omega⟩ ⟨j 1 / 128, by omega⟩ ⟨j 0 % 2048, by omega⟩ ⟨i, hi⟩
      simp only [Fin.eta] at this
      rw [this]
      exact dot_real _ _ (fun d => hq _) fun d => hkc _
    · have := Cert.ReferenceIdeal.Attn.score_seq q k kc ⟨j 0 / 2048, by omega⟩ ⟨j 1 / 128, by omega⟩ ⟨j 0 % 2048, by omega⟩ ⟨i - 256, by omega⟩
      have e : (⟨256 + (i.val - 256), by omega⟩ : Fin 2304) = i := Fin.ext (by simp; omega)
      simp only [e] at this
      rw [this]
      exact dot_real _ _ (fun d => hq _) fun d => hk _
  · intro i
    rw [Cert.ReferenceIdeal.Attn.score_ctx]
    refine Fin.sum_fin_congr fun d => ?_
    congr 1 <;> blk_ext
  · intro i
    rw [Cert.ReferenceIdeal.Attn.score_seq]
    refine Fin.sum_fin_congr fun d => ?_
    congr 1 <;> blk_ext
  · intro i
    rw [Cert.ReferenceIdeal.Attn.value_ctx]
    blk_ext
  · intro i
    rw [Cert.ReferenceIdeal.Attn.value_seq]
    blk_ext

/-- The precondition, decoded: the queries and both groups of keys are real. -/
theorem pre_real (q k : FVec Ideal S8192x2048 .bf16) (kc : FVec Ideal S1024x2048 .bf16) (v : FVec Ideal S8192x1024 .bf16)
    (vc : FVec Ideal S1024x1024 .bf16) (h : Cert.Pre_scores_finite.fn (F := Ideal) q k kc v vc = fun _ => 1#1) :
    AllReal q ∧ AllReal k ∧ AllReal kc := by
  dsimp only [Cert.Pre_scores_finite.fn] at h
  have h' := congrFun h ix0
  obtain ⟨h1, h3⟩ := IntOp.andi_eq_one.1 h'
  obtain ⟨h1, h2⟩ := IntOp.andi_eq_one.1 h1
  exact ⟨allReal_of_test q _ (fun _ => rfl) _ (fun _ => posInf) _ _ _ h1, allReal_of_test k _ (fun _ => rfl) _ (fun _ => posInf) _ _ _ h2,
    allReal_of_test kc _ (fun _ => rfl) _ (fun _ => posInf) _ _ _ h3⟩

end Cert.KernelIdeal.Attn
-- ==== Proof.Norm.lean ====
module

public import Idealize.ShloMosaic.Lib.Pipeline.ValueKit

/-! The layer norm of a row, and which modulation row a token takes. -/

@[expose] public section
noncomputable section
namespace Cert.Norm
open Idealize.ShloMosaic

/-- The mean of a row of 2048 entries (the divisor is the constant 2048). -/
def mean (x : Fin 2048 → EReal) : EReal := Ideal.div (∑ e, x e) (Ideal.ofBits FTy.f32 0x45000000#32)

/-- Entry `d` of the layer norm of a row: the distance from the mean, times the reciprocal root of the mean squared
    distance plus the constant 1e-6. -/
def lnorm (x : Fin 2048 → EReal) (d : Fin 2048) : EReal :=
  (x d - mean x) * Ideal.rsqrt (mean (fun e => (x e - mean x) * (x e - mean x)) + Ideal.ofBits FTy.f32 0x358637BD#32)

/-- Entry `d` of the merge of a token's three branches `a0 a1 a2`, gated by the logistics of `g0 g1 g2`, projected by
    `wo`, scaled by `gm`, added to the token's row `x` times the constant `4 ^ (1/4)`, normed, and scaled and shifted. -/
def mergeRow (x g0 g1 g2 a0 a1 a2 : Fin 2048 → EReal) (wo : Fin 2048 → Fin 2048 → EReal) (gm lg lb : Fin 2048 → EReal)
    (d : Fin 2048) : EReal :=
  lnorm (fun f => Ideal.ofBits FTy.f32 0x3FB504F3#32 * x f
      + gm f * ∑ e, (Ideal.logistic (g0 e) * a0 e + Ideal.logistic (g1 e) * a1 e + Ideal.logistic (g2 e) * a2 e) * wo e f) d
    * lg d + lb d

/-- The modulation row of token `r`: the four sequences of 2048 tokens take rows 0 to 3, the context's tokens row 4. -/
def modRow (r : ℕ) : Fin 8 := ⟨min (r / 2048) 4, by omega⟩

theorem modRow_val (r : ℕ) : (modRow r : ℕ) = min (r / 2048) 4 := rfl

end Cert.Norm
-- ==== Proof.Proj.lean ====
module

public import proofs.«01_k».proof.Proof.Norm
public import proofs.«01_k».proof.Proof.Gen.Kernel2Ideal.Value
public import Idealize.ShloMosaic.Lib.Pipeline.ValueKit
public import Idealize.ShloMosaic.Lib.Pipeline.ValueKit.Held
public import Idealize.ShloMosaic.Lib.Pipeline.ReadBack

/-! What the input projection's output array holds: every token's row, normed, scaled and shifted, against the weights. -/

@[expose] public section
set_option maxRecDepth 16384
noncomputable section
namespace Cert.Kernel2Ideal.Proj
open Cert.Kernel2Ideal Cert.Kernel2Ideal.Gen Idealize.ShloMosaic Idealize.ShloMosaic.TcCoe Idealize.SL.Sem
open Idealize.ShloMosaic.Pipeline (Dat)
open Cert.Norm

/-- A modulated row of a block of tokens: the layer norm, times one plus the block's scale, plus the block's shift. -/
theorem norm_tile (x : Vec Ideal S1024x2048 .f32) (sc sh : Vec Ideal S1x1x2048 .f32) (y : S1024x2048.Idx) :
    k0_pay1 x sc sh y = lnorm (fun e => x (ix2 (y 0) e)) (y 1) * (1 + sc (ix3 0 0 (y 1))) + sh (ix3 0 0 (y 1)) := by
  unfold lnorm mean
  pointwise [k0_pay1]

/-- A block of modulated rows against a block of the weights' columns. -/
theorem dot_tile (u : Vec Ideal S1024x2048 .bf16) (w : Vec Ideal S1x2048x512 .bf16) (y : S1024x512.Idx) :
    k0_pay2 u w y = ∑ k : Fin 2048, u (ix2 (y 0) k) * w (ix3 0 k (y 1)) := by
  pointwise [k0_pay2]

variable (m : (ℓ : Loc nD τ sig) → Buf (Elt Ideal) ℓ)

/-- Where the windows of grid point `t` lie: the point is (block of tokens, block of columns). -/
theorem idx : ∀ t : Fin cfg0.N, win0_0.index t = ![t.val / 19, 0] ∧ win0_1.index t = ![min (t.val / 19 / 2) 4, 0, 0]
    ∧ win0_2.index t = ![min (t.val / 19 / 2) 4, 0, 1] ∧ win0_3.index t = ![0, 0, t.val % 19]
    ∧ win0_4.index t = ![t.val / 19, t.val % 19] :=
  (by decide +kernel : ∀ t : Fin grid0.N, _)

/-- The modulated rows that the first point of a block of tokens computes. -/
def rows (c : Dev nD) (t : Fin cfg0.N) : Vec Ideal S1024x2048 .bf16 :=
  k0_pay1 (iblk m c 0 t) (iblk m c 2 t) (iblk m c 1 t)

/-- The first point of a block of tokens leaves the block's modulated rows in the scratch buffer. -/
theorem scratch_first (c : Dev nD) (t : Fin cfg0.N) (h : t.val % 19 = 0) (i : S1024x2048.Idx) :
    (outsAt0 m c t.val t.isLt).2 i = rows m c t i := by
  rw [outsAt0_A m c t h]
  frame_out
  rfl

/-- Every point of a block of tokens has the block's modulated rows in the scratch buffer. -/
theorem scratch (c : Dev nD) (t : Fin cfg0.N) (i : S1024x2048.Idx) :
    (outsAt0 m c t.val t.isLt).2 i = rows m c ⟨19 * (t.val / 19), Pipeline.run_start_lt t⟩ i :=
  Pipeline.eq_of_write_hold_apply (fun n h => (outsAt0 m c n h).2) 19 (rows m c) (scratch_first m c)
    (fun t h i => by rw [outsAt0_B m c t h]; rfl) t i

/-- What a point leaves in the output block: the block's modulated rows against the point's columns of the weights. -/
theorem out_point (c : Dev nD) (t : Fin cfg0.N) (y : S1024x512.Idx) :
    (outsAt0 m c t.val t.isLt).1 y = k0_pay2 (rows m c ⟨19 * (t.val / 19), Pipeline.run_start_lt t⟩) (iblk m c 3 t) y := by
  by_cases h : t.val % 19 = 0
  · have e : (⟨19 * (t.val / 19), Pipeline.run_start_lt t⟩ : Fin cfg0.N) = t := Fin.ext (by show 19 * (t.val / 19) = t.val; omega)
    rw [e, outsAt0_A m c t h]
    frame_out
    rfl
  · have h1 := t.isLt
    have e : (⟨19 * ((t.val - 1) / 19), by omega⟩ : Fin cfg0.N) = ⟨19 * (t.val / 19), Pipeline.run_start_lt t⟩ :=
      Fin.ext (by show 19 * ((t.val - 1) / 19) = 19 * (t.val / 19); omega)
    have hs : (outsAt0 m c (t.val - 1) (Nat.lt_of_le_of_lt (Nat.sub_le _ _) t.isLt)).2 = rows m c ⟨19 * (t.val / 19), Pipeline.run_start_lt t⟩ := by
      funext i
      rw [scratch m c ⟨t.val - 1, Nat.lt_of_le_of_lt (Nat.sub_le _ _) t.isLt⟩ i]
      exact congrFun (congrArg (rows m c) e) i
    rw [outsAt0_B m c t h]
    frame_out
    simp only [read_unread_whole, hs]

/-- The projection of a whole array of tokens. -/
def proj (x : FVec Ideal S9216x2048 .f32) (md : FVec Ideal S8x1x12288 .f32) (w : FVec Ideal S2x2048x9728 .bf16) :
    FVec Ideal S9216x9728 .bf16 := fun j =>
  ∑ d : Fin 2048, (lnorm (fun e => x (ix2 (j 0) e)) d * (1 + md (ix3 (modRow (j 0)) 0 ⟨2048 + d, by omega⟩))
      + md (ix3 (modRow (j 0)) 0 ⟨d, by omega⟩)) * w (ix3 0 d (j 1))

/-- What grid point `t` writes is its block of `proj` of the arguments. -/
theorem point (c : Dev nD) (t : Fin cfg0.N) (y : S1024x512.Idx) :
    (outsAt0 m c t.val t.isLt).1 y = proj (m ((c : Thread nD τ).loc main_arg0)) (m ((c : Thread nD τ).loc main_arg1))
        (m ((c : Thread nD τ).loc main_arg2)) (((cfg0.win 4).blk t).view.emb y) := by
  rw [out_point, dot_tile]
  have ht : t.val < 171 := lt_of_lt_of_eq t.isLt N_0
  have hy0 : (y 0 : ℕ) < 1024 := (y 0).isLt
  have hy1 : (y 1 : ℕ) < 512 := (y 1).isLt
  unfold proj rows
  refine Fin.sum_fin_congr fun d => ?_
  rw [norm_tile]
  have it := idx ⟨19 * (t.val / 19), Pipeline.run_start_lt t⟩
  congr 1
  · congr 1
    · congr 1
      · congr 1
        funext e
        blk_ext [iblk, V, idx t, it]
      · congr 1
        blk_ext [iblk, V, idx t, it, modRow_val]
    · blk_ext [iblk, V, idx t, it, modRow_val]
  · blk_ext [iblk, V, idx t]

/-- The output array after the run is the projection of the arguments. -/
theorem final (c : Dev nD) : (dats m 0 c).arrAt 4 (cfgs 0).N
    = proj (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m c t y

end Cert.Kernel2Ideal.Proj
-- ==== Proof.ProjRef.lean ====
module

public import proofs.«01_k».proof.Proof.Norm
public import proofs.«01_k».proof.Proof.Gen.Reference2Ideal.Run
public import proofs.«01_k».proof.Proof.Gen.Reference2Ideal.Read
public import Idealize.ShloMosaic.Lib.Pipeline.ValueKit

/-! What the reference of the input projection computes. -/

@[expose] public section
set_option maxRecDepth 16384
noncomputable section
namespace Cert.Reference2Ideal.Proj
open Cert.Reference2Ideal Cert.Reference2Ideal.Gen Cert.Reference2Ideal.Read Idealize.ShloMosaic Idealize.ShloMosaic.TcCoe Idealize.SL.Sem
open Cert.Norm

/-- The shift of token `r`. -/
theorem shift_at (x1 : FVec Ideal S8x1x12288 .f32) (r : Fin 9216) (d : Fin 2048) :
    val_main_v10 (F := Ideal) x1 (ix2 r d) = x1 (ix3 (modRow r) 0 ⟨d, by omega⟩) := by
  pointwise [val_main_v10, val_main_v9, val_main_v8, val_main_v7, val_main_v6, val_main_v5, val_main_v4, val_main_v1, val_main_v0]
  blk_point [modRow_val]

/-- The scale of token `r`. -/
theorem scale_at (x1 : FVec Ideal S8x1x12288 .f32) (r : Fin 9216) (d : Fin 2048) :
    val_main_v17 (F := Ideal) x1 (ix2 r d) = x1 (ix3 (modRow r) 0 ⟨2048 + d, by omega⟩) := by
  pointwise [val_main_v17, val_main_v16, val_main_v15, val_main_v14, val_main_v13, val_main_v12, val_main_v11, val_main_v3, val_main_v2]
  blk_point [modRow_val]

/-- The layer norm of token `r`. -/
theorem norm_at (x0 : FVec Ideal S9216x2048 .f32) (r : Fin 9216) (d : Fin 2048) :
    val_main_v35 (F := Ideal) x0 (ix2 r d) = lnorm (fun e => x0 (ix2 r e)) d := by
  unfold lnorm mean
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst, val_main_cst_0, val_main_cst_1, val_main_cst_2, val_main_cst_3]

/-- The modulated token `r`. -/
theorem mod_at (x0 : FVec Ideal S9216x2048 .f32) (x1 : FVec Ideal S8x1x12288 .f32) (r : Fin 9216) (d : Fin 2048) :
    val_main_v39 (F := Ideal) x0 x1 (ix2 r d) = lnorm (fun e => x0 (ix2 r e)) d * (1 + x1 (ix3 (modRow r) 0 ⟨2048 + d, by omega⟩))
      + x1 (ix3 (modRow r) 0 ⟨d, by omega⟩) := by
  pointwise [val_main_v39, val_main_v38, val_main_v37, val_main_v36, val_main_cst_4, norm_at, scale_at, shift_at]

/-- The reference: token `r`'s modulated row against column `j` of the weights. -/
theorem ref_at (x0 : FVec Ideal S9216x2048 .f32) (x1 : FVec Ideal S8x1x12288 .f32) (x2 : FVec Ideal S2x2048x9728 .bf16) (r : Fin 9216) (j : Fin 9728) :
    val_main_v44 (F := Ideal) x0 x1 x2 (ix2 r j) = ∑ d : Fin 2048, (lnorm (fun e => x0 (ix2 r e)) d * (1 + x1 (ix3 (modRow r) 0 ⟨2048 + d, by omega⟩))
      + x1 (ix3 (modRow r) 0 ⟨d, by omega⟩)) * x2 (ix3 0 d j) := by
  pointwise [val_main_v44, val_main_v43, val_main_v42, val_main_v41, val_main_v40, mod_at]

end Cert.Reference2Ideal.Proj
-- ==== Proof.Merge.lean ====
module

public import proofs.«01_k».proof.Proof.Norm
public import proofs.«01_k».proof.Proof.Gen.Kernel3Ideal.Value
public import Idealize.ShloMosaic.Lib.Pipeline.ValueKit

/-! What the merge's output array holds: every token's three branches gated, summed, projected, added to the token and normed. -/

@[expose] public section
set_option maxRecDepth 16384
noncomputable section
namespace Cert.Kernel3Ideal.Merge
open Cert.Kernel3Ideal Cert.Kernel3Ideal.Gen Idealize.ShloMosaic Idealize.ShloMosaic.TcCoe Idealize.SL.Sem
open Idealize.ShloMosaic.Pipeline (Dat)
open Cert.Norm

/-- The first two branches of a block of tokens, each gated. -/
theorem branches (v0 : Vec Ideal S256x1024 .bf16) (v1 : Vec Ideal S1x1024x2048 .bf16) (v4 : Vec Ideal S256x2048 .bf16) (v6 : Vec Ideal S1x2048 .f32)
    (v11 : Vec Ideal S256x512 .bf16) (v12 : Vec Ideal S1x512x2048 .bf16) (v15 : Vec Ideal S256x2048 .bf16) (v17 : Vec Ideal S1x2048 .f32) (y : S256x2048.Idx) :
    k0_pay1 v0 v1 v4 v6 v11 v12 v15 v17 y
      = Ideal.logistic (v4 y + v6 (ix2 0 (y 1))) * (∑ k : Fin 1024, v0 (ix2 (y 0) k) * v1 (ix3 0 k (y 1)))
        + Ideal.logistic (v15 y + v17 (ix2 0 (y 1))) * (∑ k : Fin 512, v11 (ix2 (y 0) k) * v12 (ix3 0 k (y 1))) := by
  pointwise [k0_pay1]

/-- The third branch of a block of tokens. -/
theorem branch2 (v23 : Vec Ideal S256x512 .bf16) (v24 : Vec Ideal S1x512x2048 .bf16) (y : S256x2048.Idx) :
    k0_pay2 v23 v24 y = ∑ k : Fin 512, v23 (ix2 (y 0) k) * v24 (ix3 0 k (y 1)) := by
  pointwise [k0_pay2]

/-- A row of a block of tokens, from the block's gated branches `b01`, third branch `b2` and its gate `g2`. -/
theorem deep (b01 b2 g2 : FVec Ideal S256x2048 .f32) (bg : Vec Ideal S1x2048 .f32) (wo : Vec Ideal S1x2048x2048 .bf16) (x : Vec Ideal S256x2048 .f32)
    (gm : Vec Ideal S1x1x2048 .f32) (lg lb : Vec Ideal S1x2048 .f32) (y : S256x2048.Idx) :
    k0_pay4 b01 b2 g2 bg wo x gm lg lb y = lnorm (fun f => Ideal.ofBits FTy.f32 0x3FB504F3#32 * x (ix2 (y 0) f)
      + gm (ix3 0 0 f) * ∑ e : Fin 2048, (b01 (ix2 (y 0) e) + Ideal.logistic (g2 (ix2 (y 0) e) + bg (ix2 0 e)) * b2 (ix2 (y 0) e)) * wo (ix3 0 e f)) (y 1)
    * lg (ix2 0 (y 1)) + lb (ix2 0 (y 1)) := by
  unfold lnorm mean
  pointwise [k0_pay4]

/-- The merge of a block of 256 tokens, row by row. -/
def blockRows (x : Vec Ideal S256x2048 .f32) (gt : Vec Ideal S256x6144 .bf16) (om : Vec Ideal S256x1024 .bf16) (od op : Vec Ideal S256x512 .bf16)
    (bg : Vec Ideal S3x2048 .f32) (wm : Vec Ideal S1x1024x2048 .bf16) (wd wp : Vec Ideal S1x512x2048 .bf16) (wo : Vec Ideal S1x2048x2048 .bf16)
    (gm : Vec Ideal S1x1x2048 .f32) (lg lb : Vec Ideal S1x2048 .f32) : Vec Ideal S256x2048 .f32 := fun y =>
  mergeRow (fun e => x (ix2 (y 0) e))
      (fun e => gt (ix2 (y 0) ⟨e, by omega⟩) + bg (ix2 0 e))
      (fun e => gt (ix2 (y 0) ⟨2048 + e, by omega⟩) + bg (ix2 1 e))
      (fun e => gt (ix2 (y 0) ⟨4096 + e, by omega⟩) + bg (ix2 2 e))
      (fun e => ∑ k : Fin 1024, om (ix2 (y 0) k) * wm (ix3 0 k e))
      (fun e => ∑ k : Fin 512, od (ix2 (y 0) k) * wd (ix3 0 k e))
      (fun e => ∑ k : Fin 512, op (ix2 (y 0) k) * wp (ix3 0 k e))
      (fun e f => wo (ix3 0 e f)) (fun f => gm (ix3 0 0 f)) (fun f => lg (ix2 0 f)) (fun f => lb (ix2 0 f)) (y 1)

/-- The kernel's terms of a block of tokens are the block's merge, row by row. -/
theorem block (x : Vec Ideal S256x2048 .f32) (gt : Vec Ideal S256x6144 .bf16) (om : Vec Ideal S256x1024 .bf16) (od op : Vec Ideal S256x512 .bf16)
    (bg : Vec Ideal S3x2048 .f32) (wm : Vec Ideal S1x1024x2048 .bf16) (wd wp : Vec Ideal S1x512x2048 .bf16) (wo : Vec Ideal S1x2048x2048 .bf16)
    (gm : Vec Ideal S1x1x2048 .f32) (lg lb : Vec Ideal S1x2048 .f32) (y : S256x2048.Idx) :
    k0_pay4 (k0_pay1 om wm (View.ld gt (Rect.unit (s := S256x6144) ![0, 0] S256x2048.size inb_S256x6144_S256x2048_0_0))
          (View.ld bg (Rect.unit (s := S3x2048) ![0, 0] S1x2048.size inb_S3x2048_S1x2048_0_0)) od wd
          (View.ld gt (Rect.unit (s := S256x6144) ![0, 2048] S256x2048.size inb_S256x6144_S256x2048_0_2048))
          (View.ld bg (Rect.unit (s := S3x2048) ![1, 0] S1x2048.size inb_S3x2048_S1x2048_1_0)))
        (k0_pay2 op wp) (k0_pay3 (View.ld gt (Rect.unit (s := S256x6144) ![0, 4096] S256x2048.size inb_S256x6144_S256x2048_0_4096)))
        (View.ld bg (Rect.unit (s := S3x2048) ![2, 0] S1x2048.size inb_S3x2048_S1x2048_2_0)) wo x gm lg lb y
      = blockRows x gt om od op bg wm wd wp wo gm lg lb y := by
  rw [deep]
  unfold blockRows mergeRow
  congr 3
  funext f
  congr 2
  refine Fin.sum_fin_congr fun e => ?_
  rw [branches, branch2]
  pointwise [k0_pay3]

variable (m : (ℓ : Loc nD τ sig) → Buf (Elt Ideal) ℓ)

/-- What a point writes: the merge of the blocks it reads. -/
theorem out_point (c : Dev nD) (t : Fin cfg0.N) (y : S256x2048.Idx) :
    outsAt0 m c t y = blockRows (iblk m c 0 t) (X0_1 m c t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) y := by
  unfold Gen.outsAt0
  frame_out
  exact block _ _ _ _ _ _ _ _ _ _ _ _ _ y

/-- Where the windows of grid point `t` lie: the point is a block of 256 tokens. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0, 0] ∧ win0_7.index t = ![0, 0, 0] ∧ win0_8.index t = ![0, 0, 0]
    ∧ win0_9.index t = ![0, 0, 0] ∧ win0_10.index t = ![min (t.val / 8) 4, 0, 2] ∧ win0_11.index t = ![0, 0] ∧ win0_12.index t = ![0, 0]
    ∧ win0_13.index t = ![t.val, 0] :=
  (by decide +kernel : ∀ t : Fin grid0.N, _)

/-- The merge of a whole array of tokens: `x` the tokens, `p` their projections (the gates in its first 6144 columns), `om od op` the branches. -/
def merge (x : FVec Ideal S9216x2048 .f32) (p : FVec Ideal S9216x9728 .bf16) (om : FVec Ideal S9216x1024 .bf16) (od op : FVec Ideal S9216x512 .bf16)
    (md : FVec Ideal S8x1x12288 .f32) (bg : FVec Ideal S3x2048 .f32) (wm : FVec Ideal S2x1024x2048 .bf16) (wd wp : FVec Ideal S2x512x2048 .bf16)
    (wo : FVec Ideal S2x2048x2048 .bf16) (lg lb : FVec Ideal S1x2048 .f32) : FVec Ideal S9216x2048 .f32 := fun j =>
  mergeRow (fun e => x (ix2 (j 0) e))
      (fun e => p (ix2 (j 0) ⟨e, by omega⟩) + bg (ix2 0 e))
      (fun e => p (ix2 (j 0) ⟨2048 + e, by omega⟩) + bg (ix2 1 e))
      (fun e => p (ix2 (j 0) ⟨4096 + e, by omega⟩) + bg (ix2 2 e))
      (fun e => ∑ k : Fin 1024, om (ix2 (j 0) k) * wm (ix3 0 k e))
      (fun e => ∑ k : Fin 512, od (ix2 (j 0) k) * wd (ix3 0 k e))
      (fun e => ∑ k : Fin 512, op (ix2 (j 0) k) * wp (ix3 0 k e))
      (fun e f => wo (ix3 0 e f)) (fun f => md (ix3 (modRow (j 0)) 0 ⟨4096 + f, by omega⟩))
      (fun f => lg (ix2 0 f)) (fun f => lb (ix2 0 f)) (j 1)

/-- The block of gates that a point reads (the window is never cut, so the staged block is the array's). -/
theorem gates (c : Dev nD) (t : Fin cfg0.N) (y : S256x6144.Idx) (i : S9216x9728.Idx) (h0 : (i 0 : ℕ) = t.val * 256 + y 0) (h1 : (i 1 : ℕ) = y 1) :
    X0_1 m c t y = m ((c : Thread nD τ).loc main_arg1) i := by
  unfold X0_1 Pipeline.Window.fill
  rw [dif_pos (moved0_1 t y)]
  blk_ext [iblk, V, idx t]

set_option maxHeartbeats 2000000 in
/-- What grid point `t` writes is its block of `merge` of the arguments. -/
theorem point (c : Dev nD) (t : Fin cfg0.N) (y : S256x2048.Idx) :
    outsAt0 m c t y = merge (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11))
        (m ((c : Thread nD τ).loc main_arg12)) (((cfg0.win 13).blk t).view.emb y) := by
  rw [out_point]
  unfold blockRows
  have ht : t.val < 36 := lt_of_lt_of_eq t.isLt N_0
  have hy0 : (y 0 : ℕ) < 256 := (y 0).isLt
  have hy1 : (y 1 : ℕ) < 2048 := (y 1).isLt
  unfold merge
  congr 1
  · funext e
    blk_ext [iblk, V, idx t]
  · funext e
    congr 1
    · refine gates m c t _ _ ?_ ?_ <;> blk_simp [idx t]
    · blk_ext [iblk, V, idx t]
  · funext e
    congr 1
    · refine gates m c t _ _ ?_ ?_ <;> blk_simp [idx t]
    · blk_ext [iblk, V, idx t]
  · funext e
    congr 1
    · refine gates m c t _ _ ?_ ?_ <;> blk_simp [idx t]
    · blk_ext [iblk, V, idx t]
  · funext e
    refine Fin.sum_fin_congr fun k => ?_
    congr 1 <;> blk_ext [iblk, V, idx t]
  · funext e
    refine Fin.sum_fin_congr fun k => ?_
    congr 1 <;> blk_ext [iblk, V, idx t]
  · funext e
    refine Fin.sum_fin_congr fun k => ?_
    congr 1 <;> blk_ext [iblk, V, idx t]
  · funext e f
    blk_ext [iblk, V, idx t]
  · funext f
    blk_ext [iblk, V, idx t, modRow_val]
  · funext f
    blk_ext [iblk, V, idx t]
  · funext f
    blk_ext [iblk, V, idx t]
  · exact Fin.ext (by blk_simp [idx t])

/-- The output array after the run is the merge of the arguments. -/
theorem final (c : Dev nD) : (dats m 0 c).arrAt 13 (cfgs 0).N = merge (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11))
        (m ((c : Thread nD τ).loc main_arg12)) := by
  refine (dats m 0 c).arrAt_eq_of_covers 13 _ (by decide +kernel) fun t _ y => ?_
  blk_simp
  rw [after0_13]
  exact point m c t y

end Cert.Kernel3Ideal.Merge
-- ==== Proof.MergeRef.lean ====
module

public import proofs.«01_k».proof.Proof.Norm
public import proofs.«01_k».proof.Proof.Gen.Reference3Ideal.Run
public import proofs.«01_k».proof.Proof.Gen.Reference3Ideal.Read
public import Idealize.ShloMosaic.Lib.Pipeline.ValueKit

/-! What the reference of the merge computes. -/

@[expose] public section
set_option maxRecDepth 16384
noncomputable section
namespace Cert.Reference3Ideal.Merge
open Cert.Reference3Ideal Cert.Reference3Ideal.Gen Cert.Reference3Ideal.Read Idealize.ShloMosaic Idealize.ShloMosaic.TcCoe Idealize.SL.Sem
open Cert.Norm

/-- The scale of token `r`'s sub-layer output. -/
theorem scale_at (x5 : FVec Ideal S8x1x12288 .f32) (r : Fin 9216) (d : Fin 2048) :
    val_main_v71 (F := Ideal) x5 (ix2 r d) = x5 (ix3 (modRow r) 0 ⟨4096 + d, by omega⟩) := by
  pointwise [val_main_v71, val_main_v70, val_main_v69, val_main_v68, val_main_v67, val_main_v66, val_main_v65, val_main_v1, val_main_v0]
  blk_point [modRow_val]

section
variable (x1 : FVec Ideal S9216x9728 .bf16) (x6 : FVec Ideal S3x2048 .f32)

/-- The three gates of token `r`. -/
theorem gate0 (r : Fin 9216) (e : Fin 2048) :
    val_main_v14 (F := Ideal) x1 x6 (ix2 r e) = Ideal.logistic (x1 (ix2 r ⟨e, by omega⟩) + x6 (ix2 0 e)) := by
  unfold Ideal.logistic
  pointwise [val_main_v14, val_main_v13, val_main_v12, val_main_v11, val_main_v10, val_main_v9, val_main_v8, val_main_v7, val_main_v6, val_main_v5, val_main_v4, val_main_v3, val_main_v2, val_main_cst, val_main_cst_0]

theorem gate1 (r : Fin 9216) (e : Fin 2048) :
    val_main_v27 (F := Ideal) x1 x6 (ix2 r e) = Ideal.logistic (x1 (ix2 r ⟨2048 + e, by omega⟩) + x6 (ix2 1 e)) := by
  unfold Ideal.logistic
  pointwise [val_main_v27, val_main_v26, val_main_v25, val_main_v24, val_main_v23, val_main_v22, val_main_v21, val_main_v20, val_main_v19, val_main_v18, val_main_v17, val_main_v16, val_main_v15, val_main_cst_1, val_main_cst_2]

theorem gate2 (r : Fin 9216) (e : Fin 2048) :
    val_main_v40 (F := Ideal) x1 x6 (ix2 r e) = Ideal.logistic (x1 (ix2 r ⟨4096 + e, by omega⟩) + x6 (ix2 2 e)) := by
  unfold Ideal.logistic
  pointwise [val_main_v40, val_main_v39, val_main_v38, val_main_v37, val_main_v36, val_main_v35, val_main_v34, val_main_v33, val_main_v32, val_main_v31, val_main_v30, val_main_v29, val_main_v28, val_main_cst_3, val_main_cst_4]
end

/-- The three branches of token `r`. -/
theorem branch0 (x2 : FVec Ideal S9216x1024 .bf16) (x7 : FVec Ideal S2x1024x2048 .bf16) (r : Fin 9216) (e : Fin 2048) :
    val_main_v45 (F := Ideal) x2 x7 (ix2 r e) = ∑ k : Fin 1024, x2 (ix2 r k) * x7 (ix3 0 k e) := by
  pointwise [val_main_v45, val_main_v44, val_main_v43, val_main_v42, val_main_v41]

theorem branch1 (x3 : FVec Ideal S9216x512 .bf16) (x8 : FVec Ideal S2x512x2048 .bf16) (r : Fin 9216) (e : Fin 2048) :
    val_main_v51 (F := Ideal) x3 x8 (ix2 r e) = ∑ k : Fin 512, x3 (ix2 r k) * x8 (ix3 0 k e) := by
  pointwise [val_main_v51, val_main_v50, val_main_v49, val_main_v48, val_main_v47]

theorem branch2 (x4 : FVec Ideal S9216x512 .bf16) (x9 : FVec Ideal S2x512x2048 .bf16) (r : Fin 9216) (e : Fin 2048) :
    val_main_v58 (F := Ideal) x4 x9 (ix2 r e) = ∑ k : Fin 512, x4 (ix2 r k) * x9 (ix3 0 k e) := by
  pointwise [val_main_v58, val_main_v57, val_main_v56, val_main_v55, val_main_v54]

variable (x0 : FVec Ideal S9216x2048 .f32) (x1 : FVec Ideal S9216x9728 .bf16) (x2 : FVec Ideal S9216x1024 .bf16) (x3 x4 : FVec Ideal S9216x512 .bf16)
  (x5 : FVec Ideal S8x1x12288 .f32) (x6 : FVec Ideal S3x2048 .f32) (x7 : FVec Ideal S2x1024x2048 .bf16) (x8 x9 : FVec Ideal S2x512x2048 .bf16)
  (x10 : FVec Ideal S2x2048x2048 .bf16) (x11 x12 : FVec Ideal S1x2048 .f32)

/-- Token `r` before the norm: its row times the constant, plus its scaled sub-layer output. -/
theorem sum_at (r : Fin 9216) (f : Fin 2048) :
    val_main_v77 (F := Ideal) x0 x1 x2 x3 x4 x5 x6 x7 x8 x9 x10 (ix2 r f) = Ideal.ofBits FTy.f32 0x3FB504F3#32 * x0 (ix2 r f)
      + x5 (ix3 (modRow r) 0 ⟨4096 + f, by omega⟩) * ∑ e : Fin 2048,
        (Ideal.logistic (x1 (ix2 r ⟨e, by omega⟩) + x6 (ix2 0 e)) * (∑ k : Fin 1024, x2 (ix2 r k) * x7 (ix3 0 k e))
          + Ideal.logistic (x1 (ix2 r ⟨2048 + e, by omega⟩) + x6 (ix2 1 e)) * (∑ k : Fin 512, x3 (ix2 r k) * x8 (ix3 0 k e))
          + Ideal.logistic (x1 (ix2 r ⟨4096 + e, by omega⟩) + x6 (ix2 2 e)) * (∑ k : Fin 512, x4 (ix2 r k) * x9 (ix3 0 k e))) * x10 (ix3 0 e f) := by
  pointwise [val_main_v77, val_main_v76, val_main_v75, val_main_cst_5, val_main_v72, val_main_v64, val_main_v63, val_main_v62, val_main_v61, val_main_v60, val_main_v59, val_main_v53, val_main_v52, val_main_v46,
    scale_at, gate0, gate1, gate2, branch0, branch1, branch2]

/-- The layer norm of token `r`'s row. -/
theorem norm_at (r : Fin 9216) (d : Fin 2048) :
    val_main_v95 (F := Ideal) x0 x1 x2 x3 x4 x5 x6 x7 x8 x9 x10 (ix2 r d)
      = lnorm (fun f => val_main_v77 (F := Ideal) x0 x1 x2 x3 x4 x5 x6 x7 x8 x9 x10 (ix2 r f)) d := by
  unfold val_main_v95 val_main_v94 val_main_v93 val_main_v92 val_main_v90 val_main_v89 val_main_v88 val_main_v86 val_main_v85 val_main_v84 val_main_v83
    val_main_v82 val_main_v81 val_main_v79 val_main_v78
  generalize val_main_v77 (F := Ideal) x0 x1 x2 x3 x4 x5 x6 x7 x8 x9 x10 = s
  unfold lnorm mean
  pointwise [val_main_v91, val_main_v87, val_main_v80, val_main_cst_6, val_main_cst_7, val_main_cst_8, val_main_cst_9, val_main_cst_10]

/-- The reference: token `r`'s merge. -/
theorem ref_at (r : Fin 9216) (d : Fin 2048) :
    val_main_v101 (F := Ideal) x0 x1 x2 x3 x4 x5 x6 x7 x8 x9 x10 x11 x12 (ix2 r d) = mergeRow (fun e => x0 (ix2 r e))
      (fun e => x1 (ix2 r ⟨e, by omega⟩) + x6 (ix2 0 e))
      (fun e => x1 (ix2 r ⟨2048 + e, by omega⟩) + x6 (ix2 1 e))
      (fun e => x1 (ix2 r ⟨4096 + e, by omega⟩) + x6 (ix2 2 e))
      (fun e => ∑ k : Fin 1024, x2 (ix2 r k) * x7 (ix3 0 k e))
      (fun e => ∑ k : Fin 512, x3 (ix2 r k) * x8 (ix3 0 k e))
      (fun e => ∑ k : Fin 512, x4 (ix2 r k) * x9 (ix3 0 k e))
      (fun e f => x10 (ix3 0 e f)) (fun f => x5 (ix3 (modRow r) 0 ⟨4096 + f, by omega⟩))
      (fun f => x11 (ix2 0 f)) (fun f => x12 (ix2 0 f)) d := by
  unfold val_main_v101 val_main_v98
  have h := norm_at x0 x1 x2 x3 x4 x5 x6 x7 x8 x9 x10 r d
  simp only [sum_at] at h
  generalize val_main_v95 (F := Ideal) x0 x1 x2 x3 x4 x5 x6 x7 x8 x9 x10 = s at h
  unfold mergeRow
  rw [← h]
  pointwise [val_main_v100, val_main_v99, val_main_v97, val_main_v96, val_main_v74, val_main_v73]

end Cert.Reference3Ideal.Merge
-- ==== Proof.Equal.lean ====
module

public import proofs.«01_k».proof.Proof.Proj
public import proofs.«01_k».proof.Proof.ProjRef
public import proofs.«01_k».proof.Proof.Merge
public import proofs.«01_k».proof.Proof.MergeRef

/-! The arrays that the projection and the merge leave are those of their references. -/

@[expose] public section
set_option maxRecDepth 16384
noncomputable section
namespace Cert.Equal
open Idealize.ShloMosaic Idealize.SL.Sem

/-- The projection: the kernel's array is the reference's. -/
theorem proj_eq (x : FVec Ideal ⟨2, ![9216, 2048]⟩ .f32) (md : FVec Ideal ⟨3, ![8, 1, 12288]⟩ .f32) (w : FVec Ideal ⟨3, ![2, 2048, 9728]⟩ .bf16) :
    Cert.Kernel2Ideal.Proj.proj x md w = Cert.Reference2Ideal.Read.val_main_v44 (F := Ideal) x md w := by
  funext j
  rw [eq_ix2 j]
  exact (Cert.Reference2Ideal.Proj.ref_at x md w (j 0) (j 1)).symm

/-- The merge: the kernel's array is the reference's. -/
theorem merge_eq (x : FVec Ideal ⟨2, ![9216, 2048]⟩ .f32) (p : FVec Ideal ⟨2, ![9216, 9728]⟩ .bf16) (om : FVec Ideal ⟨2, ![9216, 1024]⟩ .bf16)
    (od op : FVec Ideal ⟨2, ![9216, 512]⟩ .bf16) (md : FVec Ideal ⟨3, ![8, 1, 12288]⟩ .f32) (bg : FVec Ideal ⟨2, ![3, 2048]⟩ .f32)
    (wm : FVec Ideal ⟨3, ![2, 1024, 2048]⟩ .bf16) (wd wp : FVec Ideal ⟨3, ![2, 512, 2048]⟩ .bf16) (wo : FVec Ideal ⟨3, ![2, 2048, 2048]⟩ .bf16)
    (lg lb : FVec Ideal ⟨2, ![1, 2048]⟩ .f32) :
    Cert.Kernel3Ideal.Merge.merge x p om od op md bg wm wd wp wo lg lb
      = Cert.Reference3Ideal.Read.val_main_v101 (F := Ideal) x p om od op md bg wm wd wp wo lg lb := by
  funext j
  rw [eq_ix2 j]
  exact (Cert.Reference3Ideal.Merge.ref_at x p om od op md bg wm wd wp wo lg lb (j 0) (j 1)).symm

end Cert.Equal
-- ==== Proof.Ada.lean ====
module

public import proofs.«01_k».proof.Proof.Gen.Kernel17Ideal.Value
public import Idealize.ShloMosaic.Lib.Pipeline.ValueKit

/-! What the modulation's product leaves in its output array: the conditioning rows through `x * logistic x`, against each layer's weights, plus the layer's bias. -/

@[expose] public section
set_option maxRecDepth 16384
noncomputable section
namespace Cert.Kernel17Ideal.Ada
open Cert.Kernel17Ideal Cert.Kernel17Ideal.Gen Idealize.ShloMosaic Idealize.ShloMosaic.TcCoe Idealize.SL.Sem
open Idealize.ShloMosaic.Pipeline (Dat)

/-- A block of a layer's columns: the conditioning rows against the columns, plus the columns' bias. -/
theorem tile (x : Vec Ideal S8x2048 .f32) (w : Vec Ideal S1x2048x1024 .f32) (b : Vec Ideal S1x1x1024 .f32) (y : S1x8x1024.Idx) :
    k0_pay1 x w b y = (∑ k : Fin 2048, x (ix2 (y 1) k) * Ideal.logistic (x (ix2 (y 1) k)) * w (ix3 0 k (y 2))) + b (ix3 0 0 (y 2)) := by
  pointwise [k0_pay1]

variable (m : (ℓ : Loc nD τ sig) → Buf (Elt Ideal) ℓ)

/-- Where the windows of grid point `t` lie: the point is (layer, block of columns). -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- The modulation of both layers: layer `j 0`, conditioning row `j 1`, column `j 2`. -/
def ada (x : FVec Ideal S8x2048 .f32) (w : FVec Ideal S2x2048x12288 .f32) (b : FVec Ideal S2x1x12288 .f32) :
    FVec Ideal S2x8x12288 .f32 := fun j =>
  (∑ k : Fin 2048, x (ix2 (j 1) k) * Ideal.logistic (x (ix2 (j 1) k)) * w (ix3 (j 0) k (j 2))) + b (ix3 (j 0) 0 (j 2))

/-- What grid point `t` writes is its block of `ada` of the arguments. -/
theorem point (c : Dev nD) (t : Fin cfg0.N) (y : S1x8x1024.Idx) :
    out0_3 (iblk m c 0 t) (iblk m c 1 t) (iblk m c 2 t) y = ada (m ((c : Thread nD τ).loc main_arg0)) (m ((c : Thread nD τ).loc main_arg1))
        (m ((c : Thread nD τ).loc main_arg2)) (((cfg0.win 3).blk t).view.emb y) := by
  have ht : t.val < 24 := lt_of_lt_of_eq t.isLt N_0
  have hy0 : (y 0 : ℕ) < 1 := (y 0).isLt
  have hy1 : (y 1 : ℕ) < 8 := (y 1).isLt
  have hy2 : (y 2 : ℕ) < 1024 := (y 2).isLt
  refine Eq.trans (by unfold out0_3; frame_out) ((tile (iblk m c 0 t) (iblk m c 1 t) (iblk m c 2 t) y).trans ?_)
  unfold ada
  congr 1
  · refine Fin.sum_fin_congr fun k => ?_
    congr 1
    · congr 1
      · blk_ext [iblk, V, idx t]
      · congr 1
        blk_ext [iblk, V, idx t]
    · blk_ext [iblk, V, idx t]
  · blk_ext [iblk, V, idx t]

/-- The output array after the run is the modulation of the arguments. -/
theorem final (c : Dev nD) : (dats m 0 c).arrAt 3 (cfgs 0).N
    = ada (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Kernel17Ideal.Ada
-- ==== Proof.AdaRef.lean ====
module

public import proofs.«01_k».proof.Proof.Ada
public import proofs.«01_k».proof.Proof.Gen.Reference17Ideal.Run
public import proofs.«01_k».proof.Proof.Gen.Reference17Ideal.Read

/-! What the reference of the modulation's product computes, and that it is what the kernel leaves. -/

@[expose] public section
set_option maxRecDepth 16384
noncomputable section
namespace Cert.Reference17Ideal.Ada
open Cert.Reference17Ideal Cert.Reference17Ideal.Gen Cert.Reference17Ideal.Read Idealize.ShloMosaic Idealize.ShloMosaic.TcCoe Idealize.SL.Sem

variable (x : FVec Ideal S8x2048 .f32) (w : FVec Ideal S2x2048x12288 .f32) (b : FVec Ideal S2x1x12288 .f32)

/-- The activation of a conditioning row, as each layer computes it. -/
theorem silu0 (r : Fin 8) (k : Fin 2048) :
    val_main_v0 (F := Ideal) x (ix2 r k) = x (ix2 r k) * Ideal.logistic (x (ix2 r k)) := by
  unfold Ideal.logistic
  pointwise [val_main_v0, val_main_call0_v5, val_main_call0_v4, val_main_call0_v3, val_main_call0_v2, val_main_call0_v1, val_main_call0_v0, val_main_call0_cst, val_main_call0_cst_0]

theorem silu1 (r : Fin 8) (k : Fin 2048) :
    val_main_v8 (F := Ideal) x (ix2 r k) = x (ix2 r k) * Ideal.logistic (x (ix2 r k)) := by
  unfold Ideal.logistic
  pointwise [val_main_v8, val_main_call1_v5, val_main_call1_v4, val_main_call1_v3, val_main_call1_v2, val_main_call1_v1, val_main_call1_v0, val_main_call1_cst, val_main_call1_cst_0]

/-- The first layer's modulation. -/
theorem first (r : Fin 8) (j : Fin 12288) :
    val_main_v7 (F := Ideal) x w b (ix2 r j) = (∑ k : Fin 2048, x (ix2 r k) * Ideal.logistic (x (ix2 r k)) * w (ix3 0 k j)) + b (ix3 0 0 j) := by
  pointwise [val_main_v7, val_main_v6, val_main_v5, val_main_v4, val_main_v3, val_main_v2, val_main_v1, silu0]

/-- The last layer's modulation. -/
theorem last (r : Fin 8) (j : Fin 12288) :
    val_main_v15 (F := Ideal) x w b (ix2 r j) = (∑ k : Fin 2048, x (ix2 r k) * Ideal.logistic (x (ix2 r k)) * w (ix3 1 k j)) + b (ix3 1 0 j) := by
  pointwise [val_main_v15, val_main_v14, val_main_v13, val_main_v12, val_main_v11, val_main_v10, val_main_v9, silu1]

/-- The reference's stack, layer by layer. -/
theorem stack0 (r : Fin 8) (j : Fin 12288) : val_main_v18 (F := Ideal) x w b (ix3 0 r j) = val_main_v7 (F := Ideal) x w b (ix2 r j) := by
  pointwise [val_main_v18, val_main_v17, val_main_v16]

theorem stack1 (r : Fin 8) (j : Fin 12288) : val_main_v18 (F := Ideal) x w b (ix3 1 r j) = val_main_v15 (F := Ideal) x w b (ix2 r j) := by
  pointwise [val_main_v18, val_main_v17, val_main_v16]

/-- The modulation of both layers: the kernel's array is the reference's. -/
theorem ada_eq : Cert.Kernel17Ideal.Ada.ada x w b = val_main_v18 (F := Ideal) x w b := by
  funext i
  rw [eq_ix3 i]
  generalize i 1 = r
  generalize i 2 = j
  revert r j
  generalize i 0 = l
  intro r j
  match l with
  | ⟨0, _⟩ => exact ((stack0 x w b r j).trans (first x w b r j)).symm
  | ⟨1, _⟩ => exact ((stack1 x w b r j).trans (last x w b r j)).symm

end Cert.Reference17Ideal.Ada
-- ==== Proof.DiffRow.lean ====
module

public import proofs.«01_k».proof.Proof.Softmax

/-! The row of the differential attention, in the form of the kernel. -/

@[expose] public section
noncomputable section
namespace Cert.DiffRow
open Idealize.ShloMosaic Cert.Softmax

/-- The weight of the second map: of the four vectors of `lam`, the exponential of the first two's product minus that of
    the last two's, plus the layer's constant. -/
def lambda (lam : Fin 4 → Fin 64 → EReal) (c : EReal) : EReal :=
  Ideal.exp (∑ d, lam 0 d * lam 1 d) - Ideal.exp (∑ d, lam 2 d * lam 3 d) + c

/-- A score of the first map: the product over the first 64 lanes. -/
def score1 (q k : Fin 128 → EReal) : EReal := ∑ d : Fin 64, q ⟨d.val, by omega⟩ * k ⟨d.val, by omega⟩

/-- A score of the second map: the product over the last 64 lanes. -/
def score2 (q k : Fin 128 → EReal) : EReal := ∑ d : Fin 64, q ⟨64 + d.val, by omega⟩ * k ⟨64 + d.val, by omega⟩

/-- The comparison of a lane's number with 64. -/
theorem lane_lt : ∀ x : Fin 128, IntOp.cmpi CmpIPredicate.slt (BitVec.ofNat 32 x.val) 64#32 = if x.val < 64 then 1#1 else 0#1 := by
  decide

/-- A sum over the 128 lanes of which those from 64 on are masked is the sum over the first 64. -/
theorem masked_low (f : Fin 128 → EReal) :
    ∑ x : Fin 128, Scalar.select (IntOp.cmpi CmpIPredicate.slt (BitVec.ofNat 32 x.val) 64#32) (f x) 0 = ∑ d : Fin 64, f ⟨d.val, by omega⟩ := by
  simp only [lane_lt]
  rw [Fin.sum_univ_add (a := 64) (b := 64)]
  simp [Scalar.select, Fin.castAdd, Fin.natAdd, Fin.castLE]

/-- A sum over the 128 lanes of which those before 64 are masked is the sum over the last 64. -/
theorem masked_high (f : Fin 128 → EReal) :
    ∑ x : Fin 128, Scalar.select (IntOp.cmpi CmpIPredicate.slt (BitVec.ofNat 32 x.val) 64#32) 0 (f x) = ∑ d : Fin 64, f ⟨64 + d.val, by omega⟩ := by
  simp only [lane_lt]
  rw [Fin.sum_univ_add (a := 64) (b := 64)]
  simp [Scalar.select, Fin.castAdd, Fin.natAdd, Fin.castLE]

/-- The root mean square norm of a row, times the gain `g` and the constant `c`. -/
def rmsRow (a g : Fin 128 → EReal) (c : EReal) (e : Fin 128) : EReal :=
  a e * Ideal.rsqrt (Ideal.div (∑ f, a f * a f) (Ideal.ofBits FTy.f32 0x43000000#32) + Ideal.ofBits FTy.f32 0x358637BD#32) * g e * c

/-- A row of the differential attention over two groups of keys, as the kernel computes it: the attention of the first map
    minus `l` times the second's, normed. -/
def diffRow {n p : ℕ} (q : Fin 128 → EReal) (k v : Fin n → Fin 128 → EReal) (kc vc : Fin p → Fin 128 → EReal) (l : EReal)
    (g : Fin 128 → EReal) (c : EReal) (e : Fin 128) : EReal :=
  rmsRow (fun f => twoGroups (fun i => score1 q (k i)) (fun i => v i f) (fun i => score1 q (kc i)) (fun i => vc i f)
    - l * twoGroups (fun i => score2 q (k i)) (fun i => v i f) (fun i => score2 q (kc i)) (fun i => vc i f)) g c e

end Cert.DiffRow
-- ==== Proof.DiffEq.lean ====
module

public import proofs.«01_k».proof.Proof.DiffRow

/-! The equation of the differential attention: over real scores, values and a real weight of the second map, the kernel's
row over two groups of keys is the plain row, which first combines the two maps' weights of every key. -/

@[expose] public section
noncomputable section
namespace Cert.DiffRow
open Idealize.ShloMosaic Cert.Softmax

/-- The plain softmax weight of key `k`. -/
def soft {n : ℕ} (s : Fin n → EReal) (k : Fin n) : EReal := Ideal.div (Ideal.exp (s k - top s)) (∑ i, Ideal.exp (s i - top s))

/-- The softmax weights of real scores are real. -/
theorem soft_real {n : ℕ} (hn : 0 < n) (s : Fin n → EReal) (h : ∀ i, IsReal (s i)) (k : Fin n) : IsReal (soft s k) := by
  unfold soft
  obtain ⟨r, hr, e⟩ := sum_real hn s (top s) h (top_real hn s h)
  obtain ⟨t, ht⟩ := top_real hn s h
  obtain ⟨a, ha⟩ := h k
  rw [e, Ideal.div_coe hr.ne', ha, ht, ← EReal.coe_sub, Ideal.exp_coe, ← EReal.coe_mul]
  exact ⟨_, rfl⟩

/-- Over reals the sum of the values by the combined weights is the difference of the two sums. -/
theorem diff_sum {n : ℕ} (u w1 w2 : Fin n → EReal) (l : EReal) (hu : ∀ i, IsReal (u i)) (h1 : ∀ i, IsReal (w1 i)) (h2 : ∀ i, IsReal (w2 i))
    (hl : IsReal l) : ∑ k, u k * (w1 k * 1 + w2 k * -l) = (∑ k, u k * w1 k) - l * ∑ k, u k * w2 k := by
  choose u' hu using hu
  choose a ha using h1
  choose b hb using h2
  obtain ⟨c, rfl⟩ := hl
  simp only [hu, ha, hb, mul_one]
  simp only [← EReal.coe_neg, ← EReal.coe_mul, ← EReal.coe_add]
  rw [← coe_sum, ← coe_sum, ← coe_sum, ← EReal.coe_mul, ← EReal.coe_sub, Finset.mul_sum, ← Finset.sum_sub_distrib]
  refine congrArg _ (Finset.sum_congr rfl fun k _ => ?_)
  ring

/-- The weight of the second map is real where the four vectors and the constant are. -/
theorem lambda_real (lam : Fin 4 → Fin 64 → EReal) (c : EReal) (h : ∀ a d, IsReal (lam a d)) (hc : IsReal c) : IsReal (lambda lam c) := by
  unfold lambda
  obtain ⟨x, hx⟩ := dot_real (lam 0) (lam 1) (h 0) (h 1)
  obtain ⟨y, hy⟩ := dot_real (lam 2) (lam 3) (h 2) (h 3)
  obtain ⟨z, rfl⟩ := hc
  rw [hx, hy, Ideal.exp_coe, Ideal.exp_coe, ← EReal.coe_sub, ← EReal.coe_add]
  exact ⟨_, rfl⟩

/-- The last layer's constant is real. -/
theorem const_last : IsReal (Ideal.ofBits FTy.f32 0x3EB60549#32) := by
  change IsReal (Ideal.ieee 8 23 (0x3EB60549#32))
  unfold Ideal.ieee
  dsimp only
  rw [if_neg (by decide), if_neg (by decide)]
  exact ⟨_, rfl⟩

/-- The first layer's constant is real. -/
theorem const_first : IsReal (Ideal.ofBits FTy.f32 0x3E4CCCCD#32) := by
  change IsReal (Ideal.ieee 8 23 (0x3E4CCCCD#32))
  unfold Ideal.ieee
  dsimp only
  rw [if_neg (by decide), if_neg (by decide)]
  exact ⟨_, rfl⟩

/-- The kernel's row is the plain one. -/
theorem diffRow_eq {n p N : ℕ} (q : Fin 128 → EReal) (k v : Fin n → Fin 128 → EReal) (kc vc : Fin p → Fin 128 → EReal) (l : EReal)
    (g : Fin 128 → EReal) (c : EReal) (e : Fin 128) (s1 s2 : Fin N → EReal) (u : Fin N → Fin 128 → EReal) (hN : N = p + n) (h0 : 0 < N)
    (hs1 : ∀ i, IsReal (s1 i)) (hs2 : ∀ i, IsReal (s2 i)) (hu : ∀ i f, IsReal (u i f)) (hl : IsReal l)
    (b1 : ∀ i : Fin p, s1 ⟨i, by omega⟩ = score1 q (kc i)) (a1 : ∀ i : Fin n, s1 ⟨p + i, by omega⟩ = score1 q (k i))
    (b2 : ∀ i : Fin p, s2 ⟨i, by omega⟩ = score2 q (kc i)) (a2 : ∀ i : Fin n, s2 ⟨p + i, by omega⟩ = score2 q (k i))
    (hw : ∀ (i : Fin p) f, u ⟨i, by omega⟩ f = vc i f) (hv : ∀ (i : Fin n) f, u ⟨p + i, by omega⟩ f = v i f) :
    diffRow q k v kc vc l g c e = rmsRow (fun f => ∑ i, u i f * (soft s1 i * 1 + soft s2 i * -l)) g c e := by
  unfold diffRow
  congr 1
  funext f
  rw [diff_sum _ _ _ l (fun i => hu i f) (soft_real h0 s1 hs1) (soft_real h0 s2 hs2) hl,
    twoGroups_eq _ _ _ _ s1 (fun i => u i f) hN h0 hs1 b1 a1 (fun i => hw i f) (fun i => hv i f),
    twoGroups_eq _ _ _ _ s2 (fun i => u i f) hN h0 hs2 b2 a2 (fun i => hw i f) (fun i => hv i f)]
  rfl

end Cert.DiffRow
-- ==== Proof.OneGroup.lean ====
module

public import proofs.«01_k».proof.Proof.DiffEq

/-! A row of attention over one group of keys, in the form of the kernel, against the plain row. -/

@[expose] public section
noncomputable section
namespace Cert.Softmax
open Idealize.ShloMosaic

/-- A row of attention over one group of keys, as the kernel computes it: the unnormalised weighted sum of the values `v`,
    times the reciprocal of the weights' sum. -/
def single {n : ℕ} (a v : Fin n → EReal) : EReal :=
  (∑ i, Ideal.exp (a i - top a) * v i) * Ideal.div 1 (∑ i, Ideal.exp (a i - top a))

/-- Over real scores the kernel's row is the plain one; the values may be any extended reals. -/
theorem single_eq {n : ℕ} (hn : 0 < n) (a v : Fin n → EReal) (ha : ∀ i, IsReal (a i)) : single a v = oneGroup a v := by
  unfold single oneGroup
  obtain ⟨r, hr, e⟩ := sum_real hn a (top a) ha (top_real hn a ha)
  rw [e, Ideal.div_coe hr.ne', one_mul, sum_mul_real _ _ (by positivity)]
  refine Finset.sum_congr rfl fun k _ => ?_
  rw [Ideal.div_coe hr.ne', mul_comm (Ideal.exp _) (v k), mul_assoc]

end Cert.Softmax

namespace Cert.DiffRow
open Idealize.ShloMosaic Cert.Softmax

/-- A row of the differential attention over one group of keys, as the kernel computes it. -/
def diffOne {n : ℕ} (q : Fin 128 → EReal) (k v : Fin n → Fin 128 → EReal) (l : EReal) (g : Fin 128 → EReal) (c : EReal)
    (e : Fin 128) : EReal :=
  rmsRow (fun f => single (fun i => score1 q (k i)) (fun i => v i f) - l * single (fun i => score2 q (k i)) (fun i => v i f)) g c e

/-- Over real scores, values and a real weight of the second map, the kernel's row is the plain one, which first combines the
    two maps' weights of every key. -/
theorem diffOne_eq {n : ℕ} (hn : 0 < n) (q : Fin 128 → EReal) (k v : Fin n → Fin 128 → EReal) (l : EReal) (g : Fin 128 → EReal)
    (c : EReal) (e : Fin 128) (h1 : ∀ i, IsReal (score1 q (k i))) (h2 : ∀ i, IsReal (score2 q (k i))) (hv : ∀ i f, IsReal (v i f))
    (hl : IsReal l) :
    diffOne q k v l g c e
      = rmsRow (fun f => ∑ i, v i f * (soft (fun i => score1 q (k i)) i * 1 + soft (fun i => score2 q (k i)) i * -l)) g c e := by
  unfold diffOne
  congr 1
  funext f
  rw [diff_sum _ _ _ l (fun i => hv i f) (soft_real hn _ h1) (soft_real hn _ h2) hl, single_eq hn _ _ h1, single_eq hn _ _ h2]
  rfl

end Cert.DiffRow
-- ==== Proof.DiffCtxTile.lean ====
module

public import proofs.«01_k».proof.Proof.Gen.Kernel16Ideal.Value
public import proofs.«01_k».proof.Proof.OneGroup
public import Idealize.ShloMosaic.Lib.Pipeline.ValueKit

/-! The block that a grid point of the context's own differential attention writes. -/

@[expose] public section
set_option maxRecDepth 16384
noncomputable section
namespace Cert.Kernel16Ideal.Diff
open Cert.Kernel16Ideal Cert.Kernel16Ideal.Gen Idealize.ShloMosaic Idealize.ShloMosaic.TcCoe Idealize.SL.Sem
open Cert.Softmax Cert.DiffRow

variable (q : Vec Ideal S256x128 .bf16) (lam : Vec Ideal S4x64 .f32) (g : Vec Ideal S1x128 .f32) (k v : Vec Ideal S256x128 .bf16)

/-- The tile of the kernel: the 256 context rows of one batch and head against the same rows' keys. -/
def tile : FVec Ideal S256x128 .bf16 :=
  k0_pay5 (k0_pay1 lam) (k0_pay2 q k) (k0_pay3 q k) (k0_pay4 q k) (Scalar.ofBits .f32 0x3F800000#32) v v g

/-- The scores of map 2. -/
theorem s2_at (r i : Fin 256) : k0_pay2 q k (ix2 r i) = score2 (fun d => q (ix2 r d)) (fun d => k (ix2 i d)) := by
  refine Eq.trans ?_ (masked_high fun d => q (ix2 r d) * k (ix2 i d))
  pointwise [k0_pay2]

/-- A score of map 1, as the sum over all the lanes of which the last 64 are masked. -/
theorem s1_sum (r i : Fin 256) :
    ∑ x : Fin 128, Scalar.select (IntOp.cmpi CmpIPredicate.slt (BitVec.ofNat 32 x.val) 64#32) (q (ix2 r x) * k (ix2 i x) : EReal) 0
      = score1 (fun d => q (ix2 r d)) (fun d => k (ix2 i d)) := masked_low fun d => q (ix2 r d) * k (ix2 i d)

/-- The weights of map 1, before normalization. -/
theorem e1_at (r i : Fin 256) : k0_pay3 q k (ix2 r i)
    = Ideal.exp (score1 (fun d => q (ix2 r d)) (fun d => k (ix2 i d)) - top fun i => score1 (fun d => q (ix2 r d)) (fun d => k (ix2 i d))) := by
  simp only [← s1_sum]
  unfold top
  rw [← negInf]
  pointwise [k0_pay3]

/-- The sum of a row's weights in map 1. -/
theorem t1_at (r : Fin 256) (b : Fin 1) : k0_pay4 q k (ix2 r b) = ∑ i : Fin 256, k0_pay3 q k (ix2 r i) := by
  pointwise [k0_pay4]

/-- The weight of the second map. -/
theorem lam_at (a b : Fin 1) : k0_pay1 lam (ix2 a b) = lambda (fun a d => lam (ix2 a d)) (Ideal.ofBits FTy.f32 0x3E4CCCCD#32) := by
  unfold lambda
  pointwise [k0_pay1]

/-- The last part of the tile: the difference of the two maps' weighted sums, normed. -/
theorem last_at (l : FVec Ideal S1x1 .f32) (s2 e1 : FVec Ideal S256x256 .f32) (t1 : FVec Ideal S256x1 .f32) (r : Fin 256) (e : Fin 128) :
    k0_pay5 l s2 e1 t1 (Scalar.ofBits .f32 0x3F800000#32) v v g (ix2 r e)
      = rmsRow (fun f => (∑ i : Fin 256, e1 (ix2 r i) * v (ix2 i f)) * Ideal.div 1 (t1 (ix2 r 0))
          - (∑ i : Fin 256, Ideal.exp (s2 (ix2 r i) - top fun i => s2 (ix2 r i)) * v (ix2 i f))
            * (l (ix2 0 0) * Ideal.div 1 (∑ i : Fin 256, Ideal.exp (s2 (ix2 r i) - top fun i => s2 (ix2 r i)))))
        (fun f => g (ix2 0 f)) (Ideal.ofBits FTy.f32 0x3F4CCCCD#32) e := by
  unfold rmsRow top
  rw [← negInf]
  pointwise [k0_pay5]

/-- A row of the tile. -/
theorem tile_at (r : Fin 256) (e : Fin 128) :
    tile q lam g k v (ix2 r e)
      = diffOne (fun d => q (ix2 r d)) (fun i d => k (ix2 i d)) (fun i d => v (ix2 i d))
          (lambda (fun a d => lam (ix2 a d)) (Ideal.ofBits FTy.f32 0x3E4CCCCD#32)) (fun f => g (ix2 0 f)) (Ideal.ofBits FTy.f32 0x3F4CCCCD#32) e := by
  unfold tile diffOne
  rw [last_at]
  congr 1
  funext f
  unfold single
  rw [lam_at, t1_at, mul_left_comm]
  simp only [e1_at, s2_at]

/-- The block that one grid point writes is one tile. -/
theorem block (y : S256x128.Idx) :
    out0_5 q lam g k v y
      = diffOne (fun d => q (ix2 (y 0) d)) (fun i d => k (ix2 i d)) (fun i d => v (ix2 i d))
          (lambda (fun a d => lam (ix2 a d)) (Ideal.ofBits FTy.f32 0x3E4CCCCD#32)) (fun f => g (ix2 0 f)) (Ideal.ofBits FTy.f32 0x3F4CCCCD#32) (y 1) := by
  unfold out0_5
  canon_tiles x h
  all_goals rw [eq_ix2 x]; refine (tile_at _ _ _ _ _ (x 0) (x 1)).trans ?_
  all_goals (congr 1 <;> first | (funext i d; pointwise <;> blk_point []; done) | (funext i; pointwise <;> blk_point []; done) | (congr 1; funext i d; pointwise <;> blk_point []; done) | exact Fin.ext h1.symm)

end Cert.Kernel16Ideal.Diff
-- ==== Proof.DiffCtxRef.lean ====
module

public import proofs.«01_k».proof.Proof.Gen.Reference16Ideal.Read
public import proofs.«01_k».proof.Proof.DiffRow
public import Idealize.ShloMosaic.Lib.Pipeline.ValueKit

/-! The reference of the context's own differential attention in the first layer, entry by entry. -/

@[expose] public section
set_option maxRecDepth 16384
noncomputable section
namespace Cert.Reference16Ideal.Diff
open Cert.Reference16Ideal Cert.Reference16Ideal.Read Idealize.ShloMosaic Idealize.ShloMosaic.TcCoe Idealize.SL.Sem
open Cert.Softmax Cert.DiffRow

variable (x0 : (⟨S9216x512, .bf16⟩ : BufTy).Contents (Elt Ideal)) (x1 : (⟨S4x64, .f32⟩ : BufTy).Contents (Elt Ideal)) (x2 : (⟨S1x128, .f32⟩ : BufTy).Contents (Elt Ideal)) (x3 : (⟨S9216x512, .bf16⟩ : BufTy).Contents (Elt Ideal)) (x4 : (⟨S9216x9728, .bf16⟩ : BufTy).Contents (Elt Ideal))

/-- The reference's score of map 1 of a query row against a key. -/
theorem score1_at (b : Fin 4) (h : Fin 4) (q k : Fin 256) :
    val_main_v29 (F := Ideal) x0 x3 (ix5 b h (⟨0, by omega⟩ : Fin 2) q k)
      = score1 (fun d => x0 (ix2 ⟨8192 + (b * 256 + q), by omega⟩ ⟨h * 128 + d, by omega⟩)) (fun d => x3 (ix2 ⟨8192 + (b * 256 + k), by omega⟩ ⟨h * 128 + d, by omega⟩)) := by
  unfold score1
  pointwise [val_main_v29, val_main_v8, val_main_v7, val_main_v6, val_main_v5, val_main_v4, val_main_v3]
  all_goals blk_ext

/-- The reference's score of map 2 of a query row against a key. -/
theorem score2_at (b : Fin 4) (h : Fin 4) (q k : Fin 256) :
    val_main_v29 (F := Ideal) x0 x3 (ix5 b h (⟨1, by omega⟩ : Fin 2) q k)
      = score2 (fun d => x0 (ix2 ⟨8192 + (b * 256 + q), by omega⟩ ⟨h * 128 + d, by omega⟩)) (fun d => x3 (ix2 ⟨8192 + (b * 256 + k), by omega⟩ ⟨h * 128 + d, by omega⟩)) := by
  unfold score2
  pointwise [val_main_v29, val_main_v8, val_main_v7, val_main_v6, val_main_v5, val_main_v4, val_main_v3]
  all_goals simp only [Nat.add_assoc]

/-- The reference's value row of a key. -/
theorem value (b : Fin 4) (h : Fin 4) (e : Fin 128) (k : Fin 256) :
    val_main_v2 (F := Ideal) x4 (ix4 b k h e) = x4 (ix2 ⟨8192 + (b * 256 + k), by omega⟩ ⟨8192 + (h * 128 + e), by omega⟩) := by
  pointwise [val_main_v2, val_main_v1, val_main_v0]
  all_goals blk_ext

/-- The weight of the second map. -/
theorem lam_at (i : S_.Idx) : val_main_v24 (F := Ideal) x1 i = lambda (fun a d => x1 (ix2 a d)) (Ideal.ofBits FTy.f32 0x3E4CCCCD#32) := by
  unfold lambda
  pointwise [val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1]

/-- The coefficient of the first map is 1. -/
theorem coef0 : val_main_v28 (F := Ideal) x1 (ix1 (⟨0, by omega⟩ : Fin 2)) = 1 := by
  pointwise [val_main_v28, val_main_v26, val_main_cst_2]

/-- The coefficient of the second map is minus the weight. -/
theorem coef1 : val_main_v28 (F := Ideal) x1 (ix1 (⟨1, by omega⟩ : Fin 2)) = -(lambda (fun a d => x1 (ix2 a d)) (Ideal.ofBits FTy.f32 0x3E4CCCCD#32)) := by
  rw [← lam_at x1 ix0]
  pointwise [val_main_v28, val_main_v27, val_main_v25]

/-- The largest score of a row. -/
theorem max_row (b : Fin 4) (h : Fin 4) (m : Fin 2) (q : Fin 256) :
    val_main_v30 (F := Ideal) x0 x3 (ix4 b h m q)
      = Softmax.top (fun k : Fin 256 => val_main_v29 (F := Ideal) x0 x3 (ix5 b h m q k)) := by
  unfold Softmax.top
  rw [← negInf]
  pointwise [val_main_v30, val_main_cst_3]

/-- The maximum that the reference subtracts, laid out over the keys. -/
theorem max_bcast (b : Fin 4) (h : Fin 4) (m : Fin 2) (q : Fin 256) (k : Fin 256) :
    val_main_v34 (F := Ideal) x0 x3 (ix5 b h m q k)
      = Softmax.top (fun k : Fin 256 => val_main_v29 (F := Ideal) x0 x3 (ix5 b h m q k)) := by
  rw [← max_row, val_main_v34_apply, val_main_v33_apply, val_main_v32_apply, val_main_v31_apply, val_main_cst_4_apply]
  have e : idx_main_v33 (idx_main_v34 (ix5 b h m q k)) = ix4 b h m q := by
    funext a; match a with | ⟨0, _⟩ => rfl | ⟨1, _⟩ => rfl | ⟨2, _⟩ => rfl | ⟨3, _⟩ => rfl
  rw [e]
  generalize val_main_v30 (F := Ideal) x0 x3 = y
  have hb : (FloatOps.ofBits .f32 0xFF800000#32 : Ideal .f32) = (⊥ : EReal) := negInf
  rw [hb]
  exact max_eq_right (bot_le (a := (y (ix4 b h m q) : EReal)))

/-- The reference's unnormalised weight of a key. -/
theorem weight (b : Fin 4) (h : Fin 4) (m : Fin 2) (q : Fin 256) (k : Fin 256) :
    val_main_v36 (F := Ideal) x0 x3 (ix5 b h m q k)
      = Ideal.exp (val_main_v29 (F := Ideal) x0 x3 (ix5 b h m q k) - Softmax.top (fun k : Fin 256 => val_main_v29 (F := Ideal) x0 x3 (ix5 b h m q k))) := by
  rw [← max_bcast x0 x3 b h m q k]
  pointwise [val_main_v36, val_main_v35]

/-- The sum of a row's weights, laid out over the keys. -/
theorem total (b : Fin 4) (h : Fin 4) (m : Fin 2) (q : Fin 256) (k : Fin 256) :
    val_main_v39 (F := Ideal) x0 x3 (ix5 b h m q k)
      = ∑ k : Fin 256, val_main_v36 (F := Ideal) x0 x3 (ix5 b h m q k) := by
  pointwise [val_main_v39, val_main_v38, val_main_v37, val_main_cst_5]

/-- The reference's weight of a key in one map. -/
theorem soft (b : Fin 4) (h : Fin 4) (m : Fin 2) (q : Fin 256) (k : Fin 256) :
    val_main_v40 (F := Ideal) x0 x3 (ix5 b h m q k)
      = Ideal.div (val_main_v36 (F := Ideal) x0 x3 (ix5 b h m q k)) (∑ k : Fin 256, val_main_v36 (F := Ideal) x0 x3 (ix5 b h m q k)) := by
  rw [← total x0 x3 b h m q k]
  pointwise [val_main_v40]

/-- The reference's combined weight of a key. -/
theorem combined (b : Fin 4) (h : Fin 4) (q : Fin 256) (k : Fin 256) :
    val_main_v41 (F := Ideal) x0 x1 x3 (ix4 b h q k)
      = val_main_v40 (F := Ideal) x0 x3 (ix5 b h (⟨0, by omega⟩ : Fin 2) q k) * val_main_v28 (F := Ideal) x1 (ix1 (⟨0, by omega⟩ : Fin 2))
        + val_main_v40 (F := Ideal) x0 x3 (ix5 b h (⟨1, by omega⟩ : Fin 2) q k) * val_main_v28 (F := Ideal) x1 (ix1 (⟨1, by omega⟩ : Fin 2)) := by
  refine Eq.trans (b := ∑ m : Fin 2, val_main_v40 (F := Ideal) x0 x3 (ix5 b h m q k) * val_main_v28 (F := Ideal) x1 (ix1 m)) ?_ (Fin.sum_univ_two _)
  pointwise [val_main_v41]

/-- The values weighted by the combined weights. -/
theorem acc_at (b : Fin 4) (h : Fin 4) (q : Fin 256) (e : Fin 128) :
    val_main_v43 (F := Ideal) x0 x1 x3 x4 (ix4 b q h e)
      = ∑ k : Fin 256, val_main_v2 (F := Ideal) x4 (ix4 b k h e) * val_main_v41 (F := Ideal) x0 x1 x3 (ix4 b h q k) := by
  pointwise [val_main_v43, val_main_v42]

/-- The normed row. -/
theorem norm_at (b : Fin 4) (h : Fin 4) (q : Fin 256) (e : Fin 128) :
    val_main_v59 (F := Ideal) x0 x1 x2 x3 x4 (ix4 b q h e)
      = rmsRow (fun f => val_main_v43 (F := Ideal) x0 x1 x3 x4 (ix4 b q h f)) (fun f => x2 (ix2 0 f)) (Ideal.ofBits FTy.f32 0x3F4CCCCD#32) e := by
  unfold rmsRow
  pointwise [val_main_v59, val_main_v58, val_main_v57, val_main_v56, val_main_v55, val_main_v54, val_main_v53, val_main_v52, val_main_v51, val_main_v50, val_main_v49, val_main_v48, val_main_v47, val_main_v46, val_main_v45, val_main_v44, val_main_cst_6, val_main_cst_7, val_main_cst_8, val_main_cst_9]

/-- The result's entry is that of its batch, row, head and lane. -/
theorem ref_at (j : S1024x512.Idx) (b : Fin 4) (h : Fin 4) (q : Fin 256) (e : Fin 128) (hj0 : (j 0 : ℕ) = b * 256 + q) (hj1 : (j 1 : ℕ) = h * 128 + e) :
    val_main_v61 (F := Ideal) x0 x1 x2 x3 x4 j = val_main_v59 (F := Ideal) x0 x1 x2 x3 x4 (ix4 b q h e) := by
  pointwise [val_main_v61, val_main_v60]
  all_goals blk_ext

end Cert.Reference16Ideal.Diff
-- ==== Proof.DiffCtxFinal.lean ====
module

public import proofs.«01_k».proof.Proof.DiffCtxTile
public import proofs.«01_k».proof.Proof.DiffCtxRef
public import proofs.«01_k».proof.Proof.Gen.Pre_diff_finite_context
public import Idealize.ShloMosaic.Lib.ReduceAll
public import Idealize.ShloMosaic.Lib.Affine

/-! The context's own differential attention in the first layer: what the kernel's output array holds, and that it is the
reference's. The context's 1024 rows lie behind the latents' 8192. -/

@[expose] public section
set_option maxRecDepth 16384
noncomputable section
namespace Cert.Kernel16Ideal.Diff
open Cert.Kernel16Ideal Cert.Kernel16Ideal.Gen Idealize.ShloMosaic Idealize.ShloMosaic.TcCoe Idealize.SL.Sem
open Idealize.ShloMosaic.Pipeline (Dat)
open Cert.Softmax Cert.DiffRow

variable (m : (ℓ : Loc nD τ sig) → Buf (Elt Ideal) ℓ)

/-- Where the windows of grid point `t` lie: the point is (batch, head); the blocks of 256 rows begin behind the 32 of the
    latents, the values' lanes behind the columns that hold other projections. -/
theorem idx : ∀ t : Fin cfg0.N, win0_0.index t = ![32 + t.val / 4, t.val % 4] ∧ win0_1.index t = ![0, 0] ∧ win0_2.index t = ![0, 0]
    ∧ win0_3.index t = ![32 + t.val / 4, t.val % 4] ∧ win0_4.index t = ![32 + t.val / 4, 64 + t.val % 4]
    ∧ win0_5.index t = ![t.val / 4, t.val % 4] :=
  (by decide +kernel : ∀ t : Fin grid0.N, _)

/-- The context's differential attention: entry `j` is lane `j 1 % 128` of the row of context row `j 0`, head `j 1 / 128`,
    over the batch's context keys; the values lie in columns of `p`. -/
def diff (q : FVec Ideal S9216x512 .bf16) (lam : FVec Ideal S4x64 .f32) (g : FVec Ideal S1x128 .f32) (k : FVec Ideal S9216x512 .bf16)
    (p : FVec Ideal S9216x9728 .bf16) : FVec Ideal S1024x512 .bf16 := fun j =>
  have hj0 : (j 0 : ℕ) < 1024 := (j 0).isLt
  have hj1 : (j 1 : ℕ) < 512 := (j 1).isLt
  diffOne (fun d => q (ix2 ⟨8192 + j 0, by omega⟩ ⟨j 1 / 128 * 128 + d, by omega⟩))
    (fun (i : Fin 256) d => k (ix2 ⟨8192 + (j 0 / 256 * 256 + i), by omega⟩ ⟨j 1 / 128 * 128 + d, by omega⟩))
    (fun i d => p (ix2 ⟨8192 + (j 0 / 256 * 256 + i), by omega⟩ ⟨8192 + (j 1 / 128 * 128 + d), by omega⟩))
    (lambda (fun a d => lam (ix2 a d)) (Ideal.ofBits FTy.f32 0x3E4CCCCD#32)) (fun f => g (ix2 0 f)) (Ideal.ofBits FTy.f32 0x3F4CCCCD#32)
    ⟨j 1 % 128, by omega⟩

/-- What grid point `t` writes is its block of `diff` of the arguments. -/
theorem point (c : Dev nD) (t : Fin cfg0.N) (y : S256x128.Idx) :
    out0_5 (iblk m c 0 t) (iblk m c 1 t) (iblk m c 2 t) (iblk m c 3 t) (iblk m c 4 t) y
      = diff (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  rw [block]
  have ht : t.val < 16 := lt_of_lt_of_eq t.isLt N_0
  have hy0 : (y 0 : ℕ) < 256 := (y 0).isLt
  have hy1 : (y 1 : ℕ) < 128 := (y 1).isLt
  unfold diff
  congr 1
  · funext d
    blk_ext [iblk, V, idx t]
  · funext i d
    blk_ext [iblk, V, idx t]
  · funext i d
    blk_ext [iblk, V, idx t]
  · congr 1
    funext i d
    blk_ext [iblk, V, idx t]
  · funext i
    blk_ext [iblk, V, idx t]
  · refine Fin.ext ?_
    blk_simp [idx t]
    try (dsimp only; omega)

/-- The output array after the run is the context's differential attention of the arguments. -/
theorem final (c : Dev nD) : (dats m 0 c).arrAt 5 (cfgs 0).N
    = diff (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  exact point m c t y

/-- Over real queries, keys and values of the context and real vectors of the second map's weight, the kernel's differential
    attention is the reference. -/
theorem diff_eq (q : FVec Ideal S9216x512 .bf16) (lam : FVec Ideal S4x64 .f32) (g : FVec Ideal S1x128 .f32) (k : FVec Ideal S9216x512 .bf16)
    (p : FVec Ideal S9216x9728 .bf16)
    (hq : ∀ (r : Fin 1024) (c : Fin 512), IsReal (q (ix2 ⟨8192 + r, by omega⟩ c))) (hlam : AllReal lam)
    (hk : ∀ (r : Fin 1024) (c : Fin 512), IsReal (k (ix2 ⟨8192 + r, by omega⟩ c)))
    (hp : ∀ (r : Fin 1024) (c : Fin 512), IsReal (p (ix2 ⟨8192 + r, by omega⟩ ⟨8192 + c, by omega⟩))) :
    diff q lam g k p = Cert.Reference16Ideal.Read.val_main_v61 (F := Ideal) q lam g k p := by
  funext j
  have hj0 : (j 0 : ℕ) < 1024 := (j 0).isLt
  have hj1 : (j 1 : ℕ) < 512 := (j 1).isLt
  have eq0 : ((j 0 : ℕ) / 256) * 256 + (j 0 : ℕ) % 256 = j 0 := Nat.div_add_mod' _ _
  have eq1 : ((j 1 : ℕ) / 128) * 128 + (j 1 : ℕ) % 128 = j 1 := Nat.div_add_mod' _ _
  rw [Cert.Reference16Ideal.Diff.ref_at q lam g k p j ⟨j 0 / 256, by omega⟩ ⟨j 1 / 128, by omega⟩ ⟨j 0 % 256, by omega⟩ ⟨j 1 % 128, by omega⟩ eq0.symm eq1.symm,
    Cert.Reference16Ideal.Diff.norm_at]
  simp only [Cert.Reference16Ideal.Diff.acc_at, Cert.Reference16Ideal.Diff.combined, Cert.Reference16Ideal.Diff.coef0, Cert.Reference16Ideal.Diff.coef1,
    Cert.Reference16Ideal.Diff.soft, Cert.Reference16Ideal.Diff.weight, Cert.Reference16Ideal.Diff.score1_at, Cert.Reference16Ideal.Diff.score2_at,
    Cert.Reference16Ideal.Diff.value]
  unfold diff
  rw [diffOne_eq (by norm_num)]
  · simp only [eq0]
    rfl
  · intro i
    exact dot_real _ _ (fun d => hq ⟨j 0, by omega⟩ _) fun d => hk ⟨j 0 / 256 * 256 + i, by omega⟩ _
  · intro i
    exact dot_real _ _ (fun d => hq ⟨j 0, by omega⟩ _) fun d => hk ⟨j 0 / 256 * 256 + i, by omega⟩ _
  · intro i f
    have hf := f.isLt
    exact hp ⟨j 0 / 256 * 256 + i, by omega⟩ ⟨j 1 / 128 * 128 + f, by omega⟩
  · exact lambda_real _ _ (fun a d => hlam _) const_first

/-- The rows of the context. -/
theorem slice_ctx (x : FVec Ideal S9216x512 .bf16) (h : S9216x512.Slices ![8192, 0] S1024x512) (r : Fin 1024) (c : Fin 512) :
    extractStridedSlice S1024x512 ![8192, 0] x h (ix2 r c) = x (ix2 ⟨8192 + r, by omega⟩ c) := by
  pointwise

/-- The context's rows of the columns of `p` from 8192 on, 512 of them. -/
theorem slice_p (p : FVec Ideal S9216x9728 .bf16) (h : S9216x9728.Slices ![8192, 8192] S1024x512) (r : Fin 1024) (c : Fin 512) :
    extractStridedSlice S1024x512 ![8192, 8192] p h (ix2 r c) = p (ix2 ⟨8192 + r, by omega⟩ ⟨8192 + c, by omega⟩) := by
  pointwise

/-- The precondition, decoded. -/
theorem pre_real (q : FVec Ideal S9216x512 .bf16) (lam : FVec Ideal S4x64 .f32) (g : FVec Ideal S1x128 .f32) (k : FVec Ideal S9216x512 .bf16)
    (p : FVec Ideal S9216x9728 .bf16) (h : Cert.Pre_diff_finite_context.fn (F := Ideal) q lam g k p = fun _ => 1#1) :
    (∀ (r : Fin 1024) (c : Fin 512), IsReal (q (ix2 ⟨8192 + r, by omega⟩ c))) ∧ AllReal lam
      ∧ (∀ (r : Fin 1024) (c : Fin 512), IsReal (k (ix2 ⟨8192 + r, by omega⟩ c)))
      ∧ ∀ (r : Fin 1024) (c : Fin 512), IsReal (p (ix2 ⟨8192 + r, by omega⟩ ⟨8192 + c, by omega⟩)) := by
  dsimp only [Cert.Pre_diff_finite_context.fn, Cert.Pre_diff_finite_context.fn_part1] at h
  have h' := congrFun h ix0
  obtain ⟨h', h5⟩ := IntOp.andi_eq_one.1 h'
  obtain ⟨h', h3⟩ := IntOp.andi_eq_one.1 h'
  obtain ⟨h1, h2⟩ := IntOp.andi_eq_one.1 h'
  generalize e1 : extractStridedSlice S1024x512 ![8192, 0] q _ = s1 at h1
  generalize e3 : extractStridedSlice S1024x512 ![8192, 0] k _ = s3 at h3
  generalize e5 : extractStridedSlice S1024x512 ![8192, 8192] p _ = s5 at h5
  have r1 := allReal_of_test s1 _ (fun _ => rfl) _ (fun _ => posInf) _ _ _ h1
  have r3 := allReal_of_test s3 _ (fun _ => rfl) _ (fun _ => posInf) _ _ _ h3
  have r5 := allReal_of_test s5 _ (fun _ => rfl) _ (fun _ => posInf) _ _ _ h5
  refine ⟨fun r c => ?_, allReal_of_test lam _ (fun _ => rfl) _ (fun _ => posInf) _ _ _ h2, fun r c => ?_, fun r c => ?_⟩
  · have := r1 (ix2 r c); rw [← e1, slice_ctx] at this; exact this
  · have := r3 (ix2 r c); rw [← e3, slice_ctx] at this; exact this
  · have := r5 (ix2 r c); rw [← e5, slice_p] at this; exact this

end Cert.Kernel16Ideal.Diff
-- ==== Proof.AttnCtx.lean ====
module

public import proofs.«01_k».proof.Proof.Gen.Kernel15Ideal.Value
public import proofs.«01_k».proof.Proof.OneGroup
public import Idealize.ShloMosaic.Lib.Pipeline.ValueKit

/-! The block that a grid point of the context's own attention writes. -/

@[expose] public section
set_option maxRecDepth 16384
noncomputable section
namespace Cert.Kernel15Ideal.Attn
open Cert.Kernel15Ideal Cert.Kernel15Ideal.Gen Idealize.ShloMosaic Idealize.ShloMosaic.TcCoe Idealize.SL.Sem
open Cert.Softmax

/-- The tile of the kernel: the 256 context rows of one batch and head against the same rows' keys. -/
theorem tile (q k : Vec Ideal S256x256 .bf16) (v : Vec Ideal S256x128 .bf16) (x : S256x128.Idx) :
    k0_pay1 q k v x = single (fun i : Fin 256 => ∑ d : Fin 256, q (ix2 (x 0) d) * k (ix2 i d)) (fun i => v (ix2 i (x 1))) := by
  unfold single Softmax.top
  rw [← negInf]
  pointwise [k0_pay1]

/-- The block that one grid point writes is one tile. -/
theorem block (q k : Vec Ideal S256x256 .bf16) (v : Vec Ideal S256x128 .bf16) (y : S256x128.Idx) :
    out0_3 q k v y = single (fun i : Fin 256 => ∑ d : Fin 256, q (ix2 (y 0) d) * k (ix2 i d)) (fun i => v (ix2 i (y 1))) := by
  unfold out0_3
  canon_tiles x h
  all_goals rw [tile]
  all_goals (congr 1 <;> (funext i; pointwise <;> blk_point []))

end Cert.Kernel15Ideal.Attn
-- ==== Proof.AttnCtxRef.lean ====
module

public import proofs.«01_k».proof.Proof.Gen.Reference15Ideal.Read
public import proofs.«01_k».proof.Proof.OneGroup
public import Idealize.ShloMosaic.Lib.Pipeline.ValueKit

/-! The reference of the context's own attention, entry by entry. -/

@[expose] public section
set_option maxRecDepth 16384
noncomputable section
namespace Cert.Reference15Ideal.Attn
open Cert.Reference15Ideal Cert.Reference15Ideal.Read Idealize.ShloMosaic Idealize.ShloMosaic.TcCoe Idealize.SL.Sem

open Cert.Softmax

variable (x0 x1 : (⟨S9216x2048, .bf16⟩ : BufTy).Contents (Elt Ideal)) (x2 : (⟨S9216x1024, .bf16⟩ : BufTy).Contents (Elt Ideal))

/-- The reference's score of a query row against a key. -/
theorem score (b : Fin 4) (h : Fin 8) (q k : Fin 256) :
    val_main_v6 (F := Ideal) x0 x1 (ix4 b h q k)
      = ∑ d : Fin 256, x0 (ix2 ⟨8192 + (b * 256 + q), by omega⟩ ⟨h * 256 + d, by omega⟩) * x1 (ix2 ⟨8192 + (b * 256 + k), by omega⟩ ⟨h * 256 + d, by omega⟩) := by
  pointwise [val_main_v6, val_main_v5, val_main_v4, val_main_v3, val_main_v2, val_main_v1, val_main_v0]
  all_goals blk_ext

/-- The reference's value row of a key. -/
theorem value (b : Fin 4) (h : Fin 8) (e : Fin 128) (k : Fin 256) :
    val_main_v20 (F := Ideal) x2 (ix4 b k h e) = x2 (ix2 ⟨8192 + (b * 256 + k), by omega⟩ ⟨h * 128 + e, by omega⟩) := by
  pointwise [val_main_v20, val_main_v19, val_main_v18]
  all_goals blk_ext

/-- The largest score of a row. -/
theorem max_row (b : Fin 4) (h : Fin 8) (q : Fin 256) :
    val_main_v7 (F := Ideal) x0 x1 (ix3 b h q)
      = Softmax.top (fun k : Fin 256 => val_main_v6 (F := Ideal) x0 x1 (ix4 b h q k)) := by
  unfold Softmax.top
  rw [← negInf]
  pointwise [val_main_v7, val_main_cst]

/-- The maximum that the reference subtracts, laid out over the keys. -/
theorem max_bcast (b : Fin 4) (h : Fin 8) (q : Fin 256) (k : Fin 256) :
    val_main_v11 (F := Ideal) x0 x1 (ix4 b h q k)
      = Softmax.top (fun k : Fin 256 => val_main_v6 (F := Ideal) x0 x1 (ix4 b h q k)) := by
  rw [← max_row, val_main_v11_apply, val_main_v10_apply, val_main_v9_apply, val_main_v8_apply, val_main_cst_0_apply]
  have e : idx_main_v10 (idx_main_v11 (ix4 b h q k)) = ix3 b h q := by
    funext a; match a with | ⟨0, _⟩ => rfl | ⟨1, _⟩ => rfl | ⟨2, _⟩ => rfl
  rw [e]
  generalize val_main_v7 (F := Ideal) x0 x1 = y
  have hb : (FloatOps.ofBits .f32 0xFF800000#32 : Ideal .f32) = (⊥ : EReal) := negInf
  rw [hb]
  exact max_eq_right (bot_le (a := (y (ix3 b h q) : EReal)))

/-- The reference's unnormalised weight of a key. -/
theorem weight (b : Fin 4) (h : Fin 8) (q : Fin 256) (k : Fin 256) :
    val_main_v13 (F := Ideal) x0 x1 (ix4 b h q k)
      = Ideal.exp (val_main_v6 (F := Ideal) x0 x1 (ix4 b h q k) - Softmax.top (fun k : Fin 256 => val_main_v6 (F := Ideal) x0 x1 (ix4 b h q k))) := by
  rw [← max_bcast x0 x1 b h q k]
  pointwise [val_main_v13, val_main_v12]

/-- The sum of a row's weights, laid out over the keys. -/
theorem total (b : Fin 4) (h : Fin 8) (q : Fin 256) (k : Fin 256) :
    val_main_v16 (F := Ideal) x0 x1 (ix4 b h q k)
      = ∑ k : Fin 256, val_main_v13 (F := Ideal) x0 x1 (ix4 b h q k) := by
  pointwise [val_main_v16, val_main_v15, val_main_v14, val_main_cst_1]

/-- The reference's result is, entry by entry, the values weighted by the softmax of the row's scores. -/
theorem ref_row (b : Fin 4) (h : Fin 8) (q : Fin 256) (e : Fin 128) :
    val_main_v21 (F := Ideal) x0 x1 x2 (ix4 b h e q)
      = oneGroup (fun k : Fin 256 => val_main_v6 (F := Ideal) x0 x1 (ix4 b h q k)) (fun k => val_main_v20 (F := Ideal) x2 (ix4 b k h e)) := by
  unfold oneGroup
  pointwise [val_main_v21, val_main_v17, total]
  simp only [weight]

/-- The result's entry is that of its batch, row, head and lane. -/
theorem ref_at (j : S1024x1024.Idx) (b : Fin 4) (h : Fin 8) (q : Fin 256) (e : Fin 128) (hj0 : (j 0 : ℕ) = b * 256 + q) (hj1 : (j 1 : ℕ) = h * 128 + e) :
    val_main_v24 (F := Ideal) x0 x1 x2 j = val_main_v21 (F := Ideal) x0 x1 x2 (ix4 b h e q) := by
  pointwise [val_main_v24, val_main_v23, val_main_v22]
  all_goals blk_ext

end Cert.Reference15Ideal.Attn
-- ==== Proof.AttnCtxFinal.lean ====
module

public import proofs.«01_k».proof.Proof.AttnCtx
public import proofs.«01_k».proof.Proof.AttnCtxRef
public import proofs.«01_k».proof.Proof.Gen.Pre_scores_finite_context
public import Idealize.ShloMosaic.Lib.ReduceAll
public import Idealize.ShloMosaic.Lib.Affine

/-! The context's own attention in the first layer: what the kernel's output array holds, and that it is the reference's. The
context's 1024 rows lie behind the latents' 8192. -/

@[expose] public section
set_option maxRecDepth 16384
noncomputable section
namespace Cert.Kernel15Ideal.Attn
open Cert.Kernel15Ideal Cert.Kernel15Ideal.Gen Idealize.ShloMosaic Idealize.ShloMosaic.TcCoe Idealize.SL.Sem
open Idealize.ShloMosaic.Pipeline (Dat)
open Cert.Softmax

variable (m : (ℓ : Loc nD τ sig) → Buf (Elt Ideal) ℓ)

/-- Where the windows of grid point `t` lie: the point is (batch, head); the blocks of 256 rows begin behind the 32 of the
    latents. -/
theorem idx : ∀ t : Fin cfg0.N, win0_0.index t = ![32 + t.val / 8, t.val % 8] ∧ win0_1.index t = ![32 + t.val / 8, t.val % 8]
    ∧ win0_2.index t = ![32 + t.val / 8, t.val % 8] ∧ win0_3.index t = ![t.val / 8, t.val % 8] :=
  (by decide +kernel : ∀ t : Fin grid0.N, _)

/-- The context's attention: entry `j` is the row of context row `j 0`, head `j 1 / 128`, over the batch's context keys. -/
def attn (q k : FVec Ideal S9216x2048 .bf16) (v : FVec Ideal S9216x1024 .bf16) : FVec Ideal S1024x1024 .bf16 := fun j =>
  have hj0 : (j 0 : ℕ) < 1024 := (j 0).isLt
  have hj1 : (j 1 : ℕ) < 1024 := (j 1).isLt
  single
    (fun i : Fin 256 => ∑ d : Fin 256, q (ix2 ⟨8192 + j 0, by omega⟩ ⟨j 1 / 128 * 256 + d, by omega⟩)
      * k (ix2 ⟨8192 + (j 0 / 256 * 256 + i), by omega⟩ ⟨j 1 / 128 * 256 + d, by omega⟩))
    (fun i => v (ix2 ⟨8192 + (j 0 / 256 * 256 + i), by omega⟩ (j 1)))

/-- What grid point `t` writes is its block of `attn` of the arguments. -/
theorem point (c : Dev nD) (t : Fin cfg0.N) (y : S256x128.Idx) :
    out0_3 (iblk m c 0 t) (iblk m c 1 t) (iblk m c 2 t) y
      = attn (m ((c : Thread nD τ).loc main_arg0)) (m ((c : Thread nD τ).loc main_arg1)) (m ((c : Thread nD τ).loc main_arg2))
          (((cfg0.win 3).blk t).view.emb y) := by
  rw [block]
  have ht : t.val < 32 := lt_of_lt_of_eq t.isLt N_0
  have hy0 : (y 0 : ℕ) < 256 := (y 0).isLt
  have hy1 : (y 1 : ℕ) < 128 := (y 1).isLt
  unfold attn
  congr 1
  · funext i
    refine Fin.sum_fin_congr fun d => ?_
    congr 1 <;> blk_ext [iblk, V, idx t]
  · funext i
    blk_ext [iblk, V, idx t]

/-- The output array after the run is the context's attention of the arguments. -/
theorem final (c : Dev nD) : (dats m 0 c).arrAt 3 (cfgs 0).N
    = attn (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

/-- Over real queries and keys of the context the kernel's attention is the reference. -/
theorem attn_eq (q k : FVec Ideal S9216x2048 .bf16) (v : FVec Ideal S9216x1024 .bf16)
    (hq : ∀ (r : Fin 1024) (c : Fin 2048), IsReal (q (ix2 ⟨8192 + r, by omega⟩ c)))
    (hk : ∀ (r : Fin 1024) (c : Fin 2048), IsReal (k (ix2 ⟨8192 + r, by omega⟩ c))) :
    attn q k v = Cert.Reference15Ideal.Read.val_main_v24 (F := Ideal) q k v := by
  funext j
  have hj0 : (j 0 : ℕ) < 1024 := (j 0).isLt
  have hj1 : (j 1 : ℕ) < 1024 := (j 1).isLt
  have eq0 : ((j 0 : ℕ) / 256) * 256 + (j 0 : ℕ) % 256 = j 0 := Nat.div_add_mod' _ _
  have eq1 : ((j 1 : ℕ) / 128) * 128 + (j 1 : ℕ) % 128 = j 1 := Nat.div_add_mod' _ _
  rw [Cert.Reference15Ideal.Attn.ref_at q k v j ⟨j 0 / 256, by omega⟩ ⟨j 1 / 128, by omega⟩ ⟨j 0 % 256, by omega⟩ ⟨j 1 % 128, by omega⟩ eq0.symm eq1.symm,
    Cert.Reference15Ideal.Attn.ref_row]
  simp only [Cert.Reference15Ideal.Attn.score, Cert.Reference15Ideal.Attn.value]
  unfold attn
  rw [single_eq (by norm_num)]
  · simp only [eq0, eq1]
    rfl
  · intro i
    exact dot_real _ _ (fun d => hq ⟨j 0, by omega⟩ _) fun d => hk ⟨j 0 / 256 * 256 + i, by omega⟩ _

/-- The rows of the context. -/
theorem slice_ctx (x : FVec Ideal S9216x2048 .bf16) (h : S9216x2048.Slices ![8192, 0] ⟨2, ![1024, 2048]⟩) (r : Fin 1024) (c : Fin 2048) :
    extractStridedSlice ⟨2, ![1024, 2048]⟩ ![8192, 0] x h (ix2 r c) = x (ix2 ⟨8192 + r, by omega⟩ c) := by
  pointwise

/-- The precondition, decoded: the context's queries and keys are real. -/
theorem pre_real (q k : FVec Ideal S9216x2048 .bf16) (v : FVec Ideal S9216x1024 .bf16)
    (h : Cert.Pre_scores_finite_context.fn (F := Ideal) q k v = fun _ => 1#1) :
    (∀ (r : Fin 1024) (c : Fin 2048), IsReal (q (ix2 ⟨8192 + r, by omega⟩ c)))
      ∧ ∀ (r : Fin 1024) (c : Fin 2048), IsReal (k (ix2 ⟨8192 + r, by omega⟩ c)) := by
  dsimp only [Cert.Pre_scores_finite_context.fn] at h
  have h' := congrFun h ix0
  obtain ⟨h1, h2⟩ := IntOp.andi_eq_one.1 h'
  generalize e1 : extractStridedSlice Cert.Pre_scores_finite_context.S1024x2048 ![8192, 0] q _ = s1 at h1
  generalize e2 : extractStridedSlice Cert.Pre_scores_finite_context.S1024x2048 ![8192, 0] k _ = s2 at h2
  have r1 := allReal_of_test s1 _ (fun _ => rfl) _ (fun _ => posInf) _ _ _ h1
  have r2 := allReal_of_test s2 _ (fun _ => rfl) _ (fun _ => posInf) _ _ _ h2
  refine ⟨fun r c => ?_, fun r c => ?_⟩
  · have := r1 (ix2 r c); rw [← e1, slice_ctx] at this; exact this
  · have := r2 (ix2 r c); rw [← e2, slice_ctx] at this; exact this

end Cert.Kernel15Ideal.Attn
-- ==== Proof.PrepRow.lean ====
module

public import Idealize.ShloMosaic.Lib.Pipeline.ValueKit

/-! The rows of the query and key preparation: the rotary embedding of 128 lanes and the root mean square norm. -/

@[expose] public section
noncomputable section
namespace Cert.PrepRow
open Idealize.ShloMosaic

/-- The lane that lane `t` rotates with: in each group of 32 lanes the first 16 pair with the last 16. -/
def partner (t : Fin 128) : Fin 128 := ⟨if t.val % 32 < 16 then t.val + 16 else t.val - 16, by split <;> omega⟩

theorem partner_low (t : Fin 128) (h : t.val % 32 < 16) : partner t = ⟨t.val + 16, by omega⟩ := Fin.ext (if_pos h)

theorem partner_high (t : Fin 128) (h : ¬t.val % 32 < 16) : partner t = ⟨t.val - 16, by omega⟩ := Fin.ext (if_neg h)

/-- The row of the rotary tables that token `r` of all 9216 takes: its position in its sequence, or, for the context's
    tokens, a row behind the positions. -/
def tabAll (r : ℕ) : Fin 2560 := ⟨if r < 8192 then r % 2048 else 2048 + r % 512, by split <;> omega⟩

theorem tabAll_lat (r : ℕ) (h : r < 8192) : (tabAll r).val = r % 2048 := if_pos h

theorem tabAll_ctx (r : ℕ) (h : ¬r < 8192) : (tabAll r).val = 2048 + r % 512 := if_neg h

/-- The rotary embedding of a row `x`: every lane times its cosine plus its partner times its sine, the sines signed. -/
def rot (x c s : Fin 128 → EReal) (t : Fin 128) : EReal := x t * c t + x (partner t) * s t

/-- The kernel's test of a lane, its number modulo 32 against 16, holds in the first half of each group of 32 lanes. -/
theorem lane_half : ∀ t : Fin 128, IntOp.cmpi CmpIPredicate.slt
      (Scalar.select
        (IntOp.andi (IntOp.xori (IntOp.cmpi CmpIPredicate.slt (IntOp.remsi ArithUnit.vector (BitVec.ofNat 32 t.val) (Scalar.select (Scalar.cmpi CmpIPredicate.eq 32#32 0#32) 1#32 32#32)) 0#32)
            (Scalar.cmpi CmpIPredicate.slt (Scalar.select (Scalar.cmpi CmpIPredicate.eq 32#32 0#32) 1#32 32#32) 0#32))
          (IntOp.cmpi CmpIPredicate.ne (IntOp.remsi ArithUnit.vector (BitVec.ofNat 32 t.val) (Scalar.select (Scalar.cmpi CmpIPredicate.eq 32#32 0#32) 1#32 32#32)) 0#32))
        (IntOp.addi (IntOp.remsi ArithUnit.vector (BitVec.ofNat 32 t.val) (Scalar.select (Scalar.cmpi CmpIPredicate.eq 32#32 0#32) 1#32 32#32)) (Scalar.select (Scalar.cmpi CmpIPredicate.eq 32#32 0#32) 1#32 32#32)) (IntOp.remsi ArithUnit.vector (BitVec.ofNat 32 t.val) (Scalar.select (Scalar.cmpi CmpIPredicate.eq 32#32 0#32) 1#32 32#32)))
      16#32 = if t.val % 32 < 16 then 1#1 else 0#1 := by
  decide +kernel

/-- Of the row rotated by 112 and by 16 lanes the kernel takes the first in the first half of each group of 32 lanes, else
    the second: the partner. -/
theorem select_partner (x : Fin 128 → EReal) (t : Fin 128) :
    Scalar.select (if t.val % 32 < 16 then 1#1 else 0#1) (x ⟨(t.val + 128 - 112) % 128, Nat.mod_lt _ (by decide)⟩)
      (x ⟨(t.val + 128 - 16) % 128, Nat.mod_lt _ (by decide)⟩) = x (partner t) := by
  have := t.isLt
  unfold partner Scalar.select
  split
  · refine (if_pos (by decide)).trans (congrArg x (Fin.ext ?_))
    show (t.val + 128 - 112) % 128 = t.val + 16
    omega
  · refine (if_neg (by decide)).trans (congrArg x (Fin.ext ?_))
    show (t.val + 128 - 16) % 128 = t.val - 16
    omega

/-- The root mean square norm of a row of `n` entries, `w` of which is the mean's divisor, times the gain `g`. -/
def rmsn {n : ℕ} (x g : Fin n → EReal) (w : EReal) (d : Fin n) : EReal :=
  x d * Ideal.rsqrt (Ideal.div (∑ e, x e * x e) w + Ideal.ofBits FTy.f32 0x358637BD#32) * g d

end Cert.PrepRow
-- ==== Proof.QLastTile.lean ====
module

public import proofs.«01_k».proof.Proof.Gen.Kernel14Ideal.Value
public import proofs.«01_k».proof.Proof.PrepRow
public import Idealize.ShloMosaic.Lib.Pipeline.ValueKit

/-! The parts of a block that the last layer's query preparation writes. -/

@[expose] public section
set_option maxRecDepth 16384
noncomputable section
namespace Cert.Kernel14Ideal.Q
open Cert.Kernel14Ideal Cert.Kernel14Ideal.Gen Idealize.ShloMosaic Idealize.ShloMosaic.TcCoe Idealize.SL.Sem
open Cert.PrepRow

/-- An entry of a block's normed rows against the weights. -/
def dotb (x : Vec Ideal S512x768 .bf16) (g : Vec Ideal S1x768 .f32) (w : Vec Ideal S1x768x2048 .bf16) (r : Fin 512) (e : Fin 2048) : EReal :=
  ∑ d : Fin 768, rmsn (fun e => x (ix2 r e)) (fun e => g (ix2 0 e)) (Ideal.ofBits FTy.f32 0x44400000#32) d * w (ix3 0 d e)

/-- The normed rows of a block against the weights. -/
theorem dot_tile (x : Vec Ideal S512x768 .bf16) (g : Vec Ideal S1x768 .f32) (w : Vec Ideal S1x768x2048 .bf16) (r : Fin 512) (e : Fin 2048) :
    k0_pay2 x g w (ix2 r e) = dotb x g w r e := by
  unfold dotb rmsn
  pointwise [k0_pay2]

/-- The columns of a head that are not rotated, scaled. -/
def plain (x : FVec Ideal S512x128 .f32) : FVec Ideal S512x128 .bf16 := k0_pay32 x k0_pay31

/-- The columns of a head that are rotated, scaled. -/
def turned (c s : Vec Ideal S512x128 .f32) (x : FVec Ideal S512x128 .f32) : FVec Ideal S512x128 .bf16 :=
  k0_pay36 c s x (iota .tc S512x128 32 [1] iota_S512x128_d1_w32)

theorem plain_at (x : FVec Ideal S512x128 .f32) (r : Fin 512) (t : Fin 128) : plain x (ix2 r t) = x (ix2 r t) * Ideal.ofBits FTy.f32 0x3D93CD3A#32 := by
  pointwise [plain, k0_pay32, k0_pay31]

theorem turned_at (c s : Vec Ideal S512x128 .f32) (x : FVec Ideal S512x128 .f32) (r : Fin 512) (t : Fin 128) :
    turned c s x (ix2 r t) = rot (fun d => x (ix2 r d)) (fun d => c (ix2 r d)) (fun d => s (ix2 r d)) t * Ideal.ofBits FTy.f32 0x3D93CD3A#32 := by
  unfold rot
  pointwise [turned, k0_pay36]
  rw [lane_half, select_partner (fun d => x (ix2 r d)) t]

/-- The differential attention's queries of a head: the rotary embedding, scaled. -/
theorem dturned_at (c s : Vec Ideal S512x128 .f32) (x : Vec Ideal S512x128 .bf16) (r : Fin 512) (t : Fin 128) :
    k0_pay51 c s x (ix2 r t) = rot (fun d => x (ix2 r d)) (fun d => c (ix2 r d)) (fun d => s (ix2 r d)) t * Ideal.ofBits FTy.f32 0x3E000000#32 := by
  unfold rot
  pointwise [k0_pay51]
  rw [lane_half, select_partner (fun d => x (ix2 r d)) t]

end Cert.Kernel14Ideal.Q
-- ==== Proof.QLastBlock.lean ====
module

public import proofs.«01_k».proof.Proof.QLastTile
public import Idealize.ShloMosaic.Lib.Pipeline.ReadBack

/-! The blocks that a grid point of the last layer's query preparation writes. -/

@[expose] public section
set_option maxRecDepth 16384
noncomputable section
namespace Cert.Kernel14Ideal.Q
open Cert.Kernel14Ideal Cert.Kernel14Ideal.Gen Idealize.ShloMosaic Idealize.ShloMosaic.TcCoe Idealize.SL.Sem
open Cert.PrepRow

variable (x0 : Vec Ideal S512x768 .bf16) (x1 : Vec Ideal S512x512 .bf16) (x2 x3 : Vec Ideal S512x128 .f32)
    (x4 : Vec Ideal S1x768 .f32) (x5 : Vec Ideal S1x768x2048 .bf16)

set_option maxHeartbeats 2000000 in
/-- An entry of the queries' block: of each head its 128 columns of the normed rows against the weights, then the rotary
    embedding of the next 128, all scaled. -/
theorem queries_at (c : Dev nD) (t : Fin cfg0.N) (y : S512x2048.Idx) (r : Fin 512) (h : Fin 8) (e : Fin 256)
    (h0 : (y 0).val = r.val) (h1 : (y 1).val = h.val * 256 + e.val) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        x0 x1 x2 x3 x4 x5 y
      = (if he : e.val < 128 then dotb x0 x4 x5 r ⟨h.val * 256 + e.val, by omega⟩
          else rot (fun d => dotb x0 x4 x5 r ⟨h.val * 256 + 128 + d.val, by omega⟩) (fun d => x2 (ix2 r d)) (fun d => x3 (ix2 r d))
            ⟨e.val - 128, by omega⟩) * Ideal.ofBits FTy.f32 0x3D93CD3A#32 := by
  have hh := h.isLt
  have hr : (y 0 : ℕ) = r.val := h0
  frame_out
  change View.canon (Val := Elt Ideal) (s := S512x2048) (e := .bf16) [
    ⟨Rect.unit ![0, 1920] ![512, 128] inb_S512x2048_S512x128_0_1920, turned x2 x3 (extractStridedSlice S512x128 ![0, 1920] (k0_pay2 x0 x4 x5) slices_S512x2048_o0_1920_S512x128)⟩,
    ⟨Rect.unit ![0, 1792] ![512, 128] inb_S512x2048_S512x128_0_1792, plain (extractStridedSlice S512x128 ![0, 1792] (k0_pay2 x0 x4 x5) slices_S512x2048_o0_1792_S512x128)⟩,
    ⟨Rect.unit ![0, 1664] ![512, 128] inb_S512x2048_S512x128_0_1664, turned x2 x3 (extractStridedSlice S512x128 ![0, 1664] (k0_pay2 x0 x4 x5) slices_S512x2048_o0_1664_S512x128)⟩,
    ⟨Rect.unit ![0, 1536] ![512, 128] inb_S512x2048_S512x128_0_1536, plain (extractStridedSlice S512x128 ![0, 1536] (k0_pay2 x0 x4 x5) slices_S512x2048_o0_1536_S512x128)⟩,
    ⟨Rect.unit ![0, 1408] ![512, 128] inb_S512x2048_S512x128_0_1408, turned x2 x3 (extractStridedSlice S512x128 ![0, 1408] (k0_pay2 x0 x4 x5) slices_S512x2048_o0_1408_S512x128)⟩,
    ⟨Rect.unit ![0, 1280] ![512, 128] inb_S512x2048_S512x128_0_1280, plain (extractStridedSlice S512x128 ![0, 1280] (k0_pay2 x0 x4 x5) slices_S512x2048_o0_1280_S512x128)⟩,
    ⟨Rect.unit ![0, 1152] ![512, 128] inb_S512x2048_S512x128_0_1152, turned x2 x3 (extractStridedSlice S512x128 ![0, 1152] (k0_pay2 x0 x4 x5) slices_S512x2048_o0_1152_S512x128)⟩,
    ⟨Rect.unit ![0, 1024] ![512, 128] inb_S512x2048_S512x128_0_1024, plain (extractStridedSlice S512x128 ![0, 1024] (k0_pay2 x0 x4 x5) slices_S512x2048_o0_1024_S512x128)⟩,
    ⟨Rect.unit ![0, 896] ![512, 128] inb_S512x2048_S512x128_0_896, turned x2 x3 (extractStridedSlice S512x128 ![0, 896] (k0_pay2 x0 x4 x5) slices_S512x2048_o0_896_S512x128)⟩,
    ⟨Rect.unit ![0, 768] ![512, 128] inb_S512x2048_S512x128_0_768, plain (extractStridedSlice S512x128 ![0, 768] (k0_pay2 x0 x4 x5) slices_S512x2048_o0_768_S512x128)⟩,
    ⟨Rect.unit ![0, 640] ![512, 128] inb_S512x2048_S512x128_0_640, turned x2 x3 (extractStridedSlice S512x128 ![0, 640] (k0_pay2 x0 x4 x5) slices_S512x2048_o0_640_S512x128)⟩,
    ⟨Rect.unit ![0, 512] ![512, 128] inb_S512x2048_S512x128_0_512, plain (extractStridedSlice S512x128 ![0, 512] (k0_pay2 x0 x4 x5) slices_S512x2048_o0_512_S512x128)⟩,
    ⟨Rect.unit ![0, 384] ![512, 128] inb_S512x2048_S512x128_0_384, turned x2 x3 (extractStridedSlice S512x128 ![0, 384] (k0_pay2 x0 x4 x5) slices_S512x2048_o0_384_S512x128)⟩,
    ⟨Rect.unit ![0, 256] ![512, 128] inb_S512x2048_S512x128_0_256, plain (extractStridedSlice S512x128 ![0, 256] (k0_pay2 x0 x4 x5) slices_S512x2048_o0_256_S512x128)⟩,
    ⟨Rect.unit ![0, 128] ![512, 128] inb_S512x2048_S512x128_0_128, turned x2 x3 (extractStridedSlice S512x128 ![0, 128] (k0_pay2 x0 x4 x5) slices_S512x2048_o0_128_S512x128)⟩,
    ⟨Rect.unit ![0, 0] ![512, 128] inb_S512x2048_S512x128_0_0, plain (extractStridedSlice S512x128 ![0, 0] (k0_pay2 x0 x4 x5) slices_S512x2048_o0_0_S512x128)⟩] y = _
  by_cases he : e.val < 128
  · rw [dif_pos he]
    canon_tiles x hx
    all_goals first
      | (exfalso; omega)
      | (rw [eq_ix2 x]
         refine (plain_at _ (x 0) (x 1)).trans (congrArg (fun z => z * Ideal.ofBits FTy.f32 0x3D93CD3A#32) ?_)
         rw [← dot_tile]
         pointwise
         blk_ext)
  · rw [dif_neg he]
    canon_tiles x hx
    all_goals first
      | (exfalso; omega)
      | (rw [eq_ix2 x]
         refine (turned_at _ _ _ (x 0) (x 1)).trans (congrArg (fun z => z * Ideal.ofBits FTy.f32 0x3D93CD3A#32) ?_)
         refine (congrArg _ (Fin.ext (by dsimp only; omega) : x 1 = ⟨e.val - 128, by omega⟩)).trans (congrFun (congr (congrArg₂ rot ?_ ?_) ?_) _)
         · funext d
           rw [← dot_tile]
           pointwise
           blk_ext
         · funext d
           blk_ext
         · funext d
           blk_ext)

set_option maxHeartbeats 2000000 in
/-- An entry of the block of the differential attention's queries. -/
theorem dqueries_at (c : Dev nD) (t : Fin cfg0.N) (y : S512x512.Idx) (r : Fin 512) (h : Fin 4) (e : Fin 128)
    (h0 : (y 0).val = r.val) (h1 : (y 1).val = h.val * 128 + e.val) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        x0 x1 x2 x3 x4 x5 y
      = rot (fun d => x1 (ix2 r ⟨h.val * 128 + d.val, by omega⟩)) (fun d => x2 (ix2 r d)) (fun d => x3 (ix2 r d)) e * Ideal.ofBits FTy.f32 0x3E000000#32 := by
  have hh := h.isLt
  have ht := e.isLt
  have hr : (y 0 : ℕ) = r.val := h0
  frame_out
  change View.canon (Val := Elt Ideal) (s := S512x512) (e := .bf16) [
    ⟨Rect.unit ![0, 384] ![512, 128] inb_S512x512_S512x128_0_384, k0_pay51 x2 x3 (View.ld x1 (Rect.unit ![0, 384] ![512, 128] inb_S512x512_S512x128_0_384))⟩,
    ⟨Rect.unit ![0, 256] ![512, 128] inb_S512x512_S512x128_0_256, k0_pay51 x2 x3 (View.ld x1 (Rect.unit ![0, 256] ![512, 128] inb_S512x512_S512x128_0_256))⟩,
    ⟨Rect.unit ![0, 128] ![512, 128] inb_S512x512_S512x128_0_128, k0_pay51 x2 x3 (View.ld x1 (Rect.unit ![0, 128] ![512, 128] inb_S512x512_S512x128_0_128))⟩,
    ⟨Rect.unit ![0, 0] ![512, 128] inb_S512x512_S512x128_0_0, k0_pay51 x2 x3 (View.ld x1 (Rect.unit ![0, 0] ![512, 128] inb_S512x512_S512x128_0_0))⟩] y = _
  canon_tiles x hx
  all_goals
    rw [eq_ix2 x]
    refine (dturned_at _ _ _ (x 0) (x 1)).trans (congrArg (fun z => z * Ideal.ofBits FTy.f32 0x3E000000#32) ?_)
    congr 1 <;> first | (funext i; pointwise <;> blk_point []; done) | exact Fin.ext (by dsimp only; omega)

end Cert.Kernel14Ideal.Q
-- ==== Proof.QLastRef.lean ====
module

public import proofs.«01_k».proof.Proof.Gen.Reference14Ideal.Read
public import proofs.«01_k».proof.Proof.PrepRow
public import Idealize.ShloMosaic.Lib.Pipeline.ValueKit

/-! The reference of the last layer's query preparation, entry by entry. -/

@[expose] public section
set_option maxRecDepth 16384
noncomputable section
namespace Cert.Reference14Ideal.Q
open Cert.Reference14Ideal Cert.Reference14Ideal.Read Idealize.ShloMosaic Idealize.ShloMosaic.TcCoe Idealize.SL.Sem
open Cert.PrepRow

variable (p : (⟨S8192x9728, .bf16⟩ : BufTy).Contents (Elt Ideal)) (c s : (⟨S2560x128, .f32⟩ : BufTy).Contents (Elt Ideal))
    (g : (⟨S1x768, .f32⟩ : BufTy).Contents (Elt Ideal)) (w : (⟨S2x768x2048, .bf16⟩ : BufTy).Contents (Elt Ideal))

/-- The normed rows against the weights. -/
theorem dot_at (r : Fin 8192) (e : Fin 2048) : val_main_v28 (F := Ideal) p g w (ix2 r e)
    = ∑ d : Fin 768, rmsn (fun e => p (ix2 r ⟨6144 + e.val, by omega⟩)) (fun e => g (ix2 0 e)) (Ideal.ofBits FTy.f32 0x44400000#32) d * w (ix3 1 d e) := by
  unfold rmsn
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v0, val_main_cst, val_main_cst_0, val_main_cst_1]

/-- The row of the cosines of a token: its position in its sequence. -/
theorem cos_at (r : Fin 8192) (d : Fin 128) : val_main_v5 (F := Ideal) c (ix2 r d) = c (ix2 ⟨r.val % 2048, by omega⟩ d) := by
  pointwise [val_main_v5, val_main_v4, val_main_v3, val_main_v2]

/-- The row of the sines of a token: its position in its sequence. -/
theorem sin_at (r : Fin 8192) (d : Fin 128) : val_main_v9 (F := Ideal) s (ix2 r d) = s (ix2 ⟨r.val % 2048, by omega⟩ d) := by
  pointwise [val_main_v9, val_main_v8, val_main_v7, val_main_v6]

/-- The rotary part of a head's queries. -/
theorem rot_at (r : Fin 8192) (h : Fin 8) (t : Fin 128) :
    val_main_v60 (F := Ideal) p c s g w (ix3 r h t)
      = rot (fun d => val_main_v28 (F := Ideal) p g w (ix2 r ⟨h.val * 256 + 128 + d.val, by omega⟩)) (fun d => val_main_v5 (F := Ideal) c (ix2 r d)) (fun d => val_main_v9 (F := Ideal) s (ix2 r d)) t := by
  have ht := t.isLt
  unfold rot
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v29]
  by_cases h : t.val % 32 < 16
  · rw [dif_pos (by omega), partner_low t h]
    congr 1 <;> congr 1 <;> blk_ext
  · rw [dif_neg (by omega), partner_high t h]
    congr 1 <;> congr 1 <;> blk_ext

/-- The rotary embedding of the differential attention's queries. -/
theorem drot_at (r : Fin 8192) (h : Fin 4) (t : Fin 128) :
    val_main_v94 (F := Ideal) p c s (ix3 r h t)
      = rot (fun d => p (ix2 r ⟨8704 + (h.val * 128 + d.val), by omega⟩)) (fun d => val_main_v5 (F := Ideal) c (ix2 r d)) (fun d => val_main_v9 (F := Ideal) s (ix2 r d)) t := by
  have ht := t.isLt
  unfold rot
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v1]
  by_cases h : t.val % 32 < 16
  · rw [dif_pos (by omega), partner_low t h]
    congr 1 <;> congr 1 <;> blk_ext
  · rw [dif_neg (by omega), partner_high t h]
    congr 1 <;> congr 1 <;> blk_ext

/-- An entry of the queries: of each head its 128 columns, then the rotary part, scaled. -/
theorem queries_at (j : S8192x2048.Idx) (r : Fin 8192) (h : Fin 8) (e : Fin 256) (h0 : (j 0).val = r.val) (h1 : (j 1).val = h.val * 256 + e.val) :
    val_main_v98 (F := Ideal) p c s g w j
      = (if he : e.val < 128 then val_main_v28 (F := Ideal) p g w (ix2 r ⟨h.val * 256 + e.val, by omega⟩)
          else val_main_v60 (F := Ideal) p c s g w (ix3 r h ⟨e.val - 128, by omega⟩)) * Ideal.ofBits FTy.f32 0x3D93CD3A#32 := by
  have hr : r = ⟨(j 0).val, (j 0).isLt⟩ := Fin.ext h0.symm
  have hj1 : (j 1 : ℕ) < 2048 := (j 1).isLt
  have hh := h.isLt
  have hlt := e.isLt
  subst hr
  by_cases he : e.val < 128
  · rw [dif_pos he]
    pointwise [val_main_v63, val_main_v62, val_main_v61, val_main_v97, val_main_v98, val_main_v30, val_main_v29, val_main_cst_2]
    rw [dif_pos (by omega)]
    refine congrArg (fun z => z * Ideal.ofBits FTy.f32 0x3D93CD3A#32) ?_
    blk_ext
  · rw [dif_neg he]
    pointwise [val_main_v63, val_main_v62, val_main_v61, val_main_v97, val_main_v98, val_main_v30, val_main_v29, val_main_cst_2]
    rw [dif_neg (by omega)]
    refine congrArg (fun z => z * Ideal.ofBits FTy.f32 0x3D93CD3A#32) ?_
    blk_ext

/-- An entry of the differential attention's queries is that of its head and lane, scaled. -/
theorem dqueries_at (j : S8192x512.Idx) (r : Fin 8192) (h : Fin 4) (t : Fin 128) (h0 : (j 0).val = r.val) (h1 : (j 1).val = h.val * 128 + t.val) :
    val_main_v100 (F := Ideal) p c s j = val_main_v94 (F := Ideal) p c s (ix3 r h t) * Ideal.ofBits FTy.f32 0x3E000000#32 := by
  pointwise [val_main_v100, val_main_v99, val_main_v96, val_main_v95, val_main_cst_3]
  all_goals
    refine congrArg (fun z => z * Ideal.ofBits FTy.f32 0x3E000000#32) ?_
    blk_ext

end Cert.Reference14Ideal.Q
-- ==== Proof.QLastFinal.lean ====
module

public import proofs.«01_k».proof.Proof.QLastBlock
public import proofs.«01_k».proof.Proof.QLastRef
public import Idealize.ShloMosaic.Lib.Pipeline.ValueKit

/-! The last layer's query preparation: what the kernel's output arrays hold, and that they are the reference's. -/

@[expose] public section
set_option maxRecDepth 16384
noncomputable section
namespace Cert.Kernel14Ideal.Q
open Cert.Kernel14Ideal Cert.Kernel14Ideal.Gen Idealize.ShloMosaic Idealize.ShloMosaic.TcCoe Idealize.SL.Sem
open Idealize.ShloMosaic.Pipeline (Dat)
open Cert.PrepRow

variable (m : (ℓ : Loc nD τ sig) → Buf (Elt Ideal) ℓ)

/-- Where the windows of grid point `t` lie: the point is a block of 512 rows; the latents and the differential attention's
    queries are columns of the projection, the weights are the layer's. -/
theorem idx : ∀ t : Fin cfg0.N, win0_0.index t = ![t.val, 8] ∧ win0_1.index t = ![t.val, 17]
    ∧ win0_2.index t = ![t.val % 4, 0] ∧ win0_3.index t = ![t.val % 4, 0] ∧ win0_4.index t = ![0, 0] ∧ win0_5.index t = ![1, 0, 0]
    ∧ win0_6.index t = ![t.val, 0] ∧ win0_7.index t = ![t.val, 0] :=
  (by decide +kernel : ∀ t : Fin grid0.N, _)

/-- An entry of the normed latents against the weights. -/
def dot (p : FVec Ideal S8192x9728 .bf16) (g : FVec Ideal S1x768 .f32) (w : FVec Ideal S2x768x2048 .bf16) (r : Fin 8192) (e : Fin 2048) : EReal :=
  ∑ d : Fin 768, rmsn (fun e => p (ix2 r ⟨6144 + e.val, by omega⟩)) (fun e => g (ix2 0 e)) (Ideal.ofBits FTy.f32 0x44400000#32) d * w (ix3 1 d e)

/-- The queries: of each head its 128 columns of the normed latents against the weights, then the rotary embedding of the
    next 128, scaled. -/
def queries (p : FVec Ideal S8192x9728 .bf16) (c s : FVec Ideal S2560x128 .f32) (g : FVec Ideal S1x768 .f32) (w : FVec Ideal S2x768x2048 .bf16) : FVec Ideal S8192x2048 .bf16 := fun j =>
  have hj0 : (j 0).val < 8192 := (j 0).isLt
  have hj1 : (j 1).val < 2048 := (j 1).isLt
  (if he : (j 1).val % 256 < 128 then dot p g w ⟨(j 0).val, by omega⟩ ⟨(j 1).val / 256 * 256 + (j 1).val % 256, by omega⟩
    else rot (fun d => dot p g w ⟨(j 0).val, by omega⟩ ⟨(j 1).val / 256 * 256 + 128 + d.val, by omega⟩) (fun d => c (ix2 (⟨(j 0).val % 2048, by omega⟩) d))
      (fun d => s (ix2 (⟨(j 0).val % 2048, by omega⟩) d)) ⟨(j 1).val % 256 - 128, by omega⟩) * Ideal.ofBits FTy.f32 0x3D93CD3A#32

/-- The differential attention's queries: the rotary embedding of each head's 128 columns, scaled. -/
def dqueries (p : FVec Ideal S8192x9728 .bf16) (c s : FVec Ideal S2560x128 .f32) : FVec Ideal S8192x512 .bf16 := fun j =>
  have hj0 : (j 0).val < 8192 := (j 0).isLt
  have hj1 : (j 1).val < 512 := (j 1).isLt
  rot (fun d => p (ix2 ⟨(j 0).val, by omega⟩ ⟨8704 + ((j 1).val / 128 * 128 + d.val), by omega⟩)) (fun d => c (ix2 (⟨(j 0).val % 2048, by omega⟩) d))
    (fun d => s (ix2 (⟨(j 0).val % 2048, by omega⟩) d)) ⟨(j 1).val % 128, by omega⟩ * Ideal.ofBits FTy.f32 0x3E000000#32

/-- The staged block of cosines: the block of the tokens' positions. -/
theorem cosines (c : Dev nD) (t : Fin cfg0.N) (y : S512x128.Idx) (hy0 : (y 0).val < 512) :
    iblk m c 2 t y = m ((c : Thread nD τ).loc main_arg1) (ix2 (⟨(t.val * 512 + (y 0).val) % 2048, by omega⟩) ⟨(y 1).val, (y 1).isLt⟩) := by
  have hN : t.val < 16 := lt_of_lt_of_eq t.isLt N_0
  blk_ext [iblk, V, idx t]

/-- The staged block of sines: the block of the tokens' positions. -/
theorem sines (c : Dev nD) (t : Fin cfg0.N) (y : S512x128.Idx) (hy0 : (y 0).val < 512) :
    iblk m c 3 t y = m ((c : Thread nD τ).loc main_arg2) (ix2 (⟨(t.val * 512 + (y 0).val) % 2048, by omega⟩) ⟨(y 1).val, (y 1).isLt⟩) := by
  have hN : t.val < 16 := lt_of_lt_of_eq t.isLt N_0
  blk_ext [iblk, V, idx t]

/-- The staged blocks give the entry of the normed latents against the weights. -/
theorem dot_blk (c : Dev nD) (t : Fin cfg0.N) (r : Fin 512) (e : Fin 2048) (r' : Fin 8192) (hr : r'.val = t.val * 512 + r.val) :
    dotb (X0_0 m c t) (iblk m c 4 t) (iblk m c 5 t) r e = dot (m ((c : Thread nD τ).loc main_arg0)) (m ((c : Thread nD τ).loc main_arg3)) (m ((c : Thread nD τ).loc main_arg4)) r' e := by
  unfold dot dotb
  refine Finset.sum_congr rfl fun d _ => congrArg₂ (· * ·) (congrFun (congrArg₂ (fun a b => rmsn a b (Ideal.ofBits FTy.f32 0x44400000#32)) ?_ ?_) d) ?_
  · funext i
    unfold X0_0 Pipeline.Window.fill
    rw [dif_pos (moved0_0 t _)]
    blk_ext [iblk, V, idx t]
  · funext i
    blk_ext [iblk, V, idx t]
  · blk_ext [iblk, V, idx t]

set_option maxHeartbeats 2000000 in
/-- What grid point `t` writes of the queries is its block of `queries` of the arguments. -/
theorem queries_point (c : Dev nD) (t : Fin cfg0.N) (y : S512x2048.Idx) :
    (outsAt0 m c t).1 y = queries (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have ht : t.val < 16 := lt_of_lt_of_eq t.isLt N_0
  have hy0 : (y 0).val < 512 := (y 0).isLt
  have hy1 : (y 1).val < 2048 := (y 1).isLt
  have e0 : ((((cfg0.win 6).blk t).view.emb y) 0).val = t.val * 512 + (y 0).val := by
    blk_simp [idx t]
  have e1 : ((((cfg0.win 6).blk t).view.emb y) 1).val = (y 1).val := by
    blk_simp [idx t]
  unfold outsAt0
  dsimp only
  rw [queries_at _ _ _ _ _ _ c t y ⟨(y 0).val, hy0⟩ ⟨(y 1).val / 256, by omega⟩ ⟨(y 1).val % 256, by omega⟩ rfl (Nat.div_add_mod' _ _).symm]
  unfold queries
  dsimp only
  simp only [e0, e1]
  refine congrArg (fun z => z * Ideal.ofBits FTy.f32 0x3D93CD3A#32) ?_
  by_cases he : (y 1).val % 256 < 128
  · rw [dif_pos he, dif_pos he]
    exact dot_blk m c t ⟨(y 0).val, hy0⟩ _ _ rfl
  · rw [dif_neg he, dif_neg he]
    refine congrFun (congr (congrArg₂ rot ?_ ?_) ?_) _
    · funext d
      exact dot_blk m c t ⟨(y 0).val, hy0⟩ _ _ rfl
    · funext d
      exact cosines m c t _ hy0
    · funext d
      exact sines m c t _ hy0

set_option maxHeartbeats 2000000 in
/-- What grid point `t` writes of the differential attention's queries is its block of `dqueries` of the arguments. -/
theorem dqueries_point (c : Dev nD) (t : Fin cfg0.N) (y : S512x512.Idx) :
    (outsAt0 m c t).2 y = dqueries (m ((c : Thread nD τ).loc main_arg0)) (m ((c : Thread nD τ).loc main_arg1)) (m ((c : Thread nD τ).loc main_arg2)) (((cfg0.win 7).blk t).view.emb y) := by
  have ht : t.val < 16 := lt_of_lt_of_eq t.isLt N_0
  have hy0 : (y 0).val < 512 := (y 0).isLt
  have hy1 : (y 1).val < 512 := (y 1).isLt
  have e0 : ((((cfg0.win 7).blk t).view.emb y) 0).val = t.val * 512 + (y 0).val := by
    blk_simp [idx t]
  have e1 : ((((cfg0.win 7).blk t).view.emb y) 1).val = (y 1).val := by
    blk_simp [idx t]
  unfold outsAt0
  dsimp only
  rw [dqueries_at _ _ _ _ _ _ c t y ⟨(y 0).val, hy0⟩ ⟨(y 1).val / 128, by omega⟩ ⟨(y 1).val % 128, by omega⟩ rfl (Nat.div_add_mod' _ _).symm]
  unfold dqueries
  dsimp only
  simp only [e0, e1]
  refine congrArg (fun z => z * Ideal.ofBits FTy.f32 0x3E000000#32) (congrFun (congr (congrArg₂ rot ?_ ?_) ?_) _)
  · funext d
    blk_ext [iblk, V, idx t]
  · funext d
    exact cosines m c t _ hy0
  · funext d
    exact sines m c t _ hy0

/-- The array of the queries after the run. -/
theorem queries_final (c : Dev nD) : (dats m 0 c).arrAt 6 (cfgs 0).N = queries (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact queries_point m c t y

/-- The array of the differential attention's queries after the run. -/
theorem dqueries_final (c : Dev nD) : (dats m 0 c).arrAt 7 (cfgs 0).N = dqueries (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact dqueries_point m c t y

/-- The queries are the reference's. -/
theorem queries_eq_ref (p : FVec Ideal S8192x9728 .bf16) (c s : FVec Ideal S2560x128 .f32) (g : FVec Ideal S1x768 .f32) (w : FVec Ideal S2x768x2048 .bf16) : queries p c s g w = Cert.Reference14Ideal.Read.val_main_v98 (F := Ideal) p c s g w := by
  funext j
  have hj1 : (j 1).val < 2048 := (j 1).isLt
  rw [Cert.Reference14Ideal.Q.queries_at p c s g w j ⟨(j 0).val, (j 0).isLt⟩ ⟨(j 1).val / 256, by omega⟩ ⟨(j 1).val % 256, by omega⟩ rfl (Nat.div_add_mod' _ _).symm]
  unfold queries
  dsimp only
  refine congrArg (fun z => z * Ideal.ofBits FTy.f32 0x3D93CD3A#32) ?_
  by_cases he : (j 1).val % 256 < 128
  · rw [dif_pos he, dif_pos he, Cert.Reference14Ideal.Q.dot_at]
    rfl
  · rw [dif_neg he, dif_neg he, Cert.Reference14Ideal.Q.rot_at]
    simp only [Cert.Reference14Ideal.Q.cos_at, Cert.Reference14Ideal.Q.sin_at, Cert.Reference14Ideal.Q.dot_at]
    rfl

/-- The differential attention's queries are the reference's. -/
theorem dqueries_eq_ref (p : FVec Ideal S8192x9728 .bf16) (c s : FVec Ideal S2560x128 .f32) : dqueries p c s = Cert.Reference14Ideal.Read.val_main_v100 (F := Ideal) p c s := by
  funext j
  have hj1 : (j 1).val < 512 := (j 1).isLt
  rw [Cert.Reference14Ideal.Q.dqueries_at p c s j ⟨(j 0).val, (j 0).isLt⟩ ⟨(j 1).val / 128, by omega⟩ ⟨(j 1).val % 128, by omega⟩ rfl (Nat.div_add_mod' _ _).symm,
    Cert.Reference14Ideal.Q.drot_at]
  unfold dqueries
  simp only [Cert.Reference14Ideal.Q.cos_at, Cert.Reference14Ideal.Q.sin_at]

end Cert.Kernel14Ideal.Q
-- ==== Proof.QFirstTile.lean ====
module

public import proofs.«01_k».proof.Proof.Gen.Kernel11Ideal.Value
public import proofs.«01_k».proof.Proof.PrepRow
public import Idealize.ShloMosaic.Lib.Pipeline.ValueKit

/-! The parts of a block that the first layer's query preparation writes. -/

@[expose] public section
set_option maxRecDepth 16384
noncomputable section
namespace Cert.Kernel11Ideal.Q
open Cert.Kernel11Ideal Cert.Kernel11Ideal.Gen Idealize.ShloMosaic Idealize.ShloMosaic.TcCoe Idealize.SL.Sem
open Cert.PrepRow

/-- An entry of a block's normed rows against the weights. -/
def dotb (x : Vec Ideal S512x768 .bf16) (g : Vec Ideal S1x768 .f32) (w : Vec Ideal S1x768x2048 .bf16) (r : Fin 512) (e : Fin 2048) : EReal :=
  ∑ d : Fin 768, rmsn (fun e => x (ix2 r e)) (fun e => g (ix2 0 e)) (Ideal.ofBits FTy.f32 0x44400000#32) d * w (ix3 0 d e)

/-- The normed rows of a block against the weights. -/
theorem dot_tile (x : Vec Ideal S512x768 .bf16) (g : Vec Ideal S1x768 .f32) (w : Vec Ideal S1x768x2048 .bf16) (r : Fin 512) (e : Fin 2048) :
    k0_pay2 x g w (ix2 r e) = dotb x g w r e := by
  unfold dotb rmsn
  pointwise [k0_pay2]

/-- The columns of a head that are not rotated, scaled. -/
def plain (x : FVec Ideal S512x128 .f32) : FVec Ideal S512x128 .bf16 := k0_pay32 x k0_pay31

/-- The columns of a head that are rotated, scaled. -/
def turned (c s : Vec Ideal S512x128 .f32) (x : FVec Ideal S512x128 .f32) : FVec Ideal S512x128 .bf16 :=
  k0_pay36 c s x (iota .tc S512x128 32 [1] iota_S512x128_d1_w32)

theorem plain_at (x : FVec Ideal S512x128 .f32) (r : Fin 512) (t : Fin 128) : plain x (ix2 r t) = x (ix2 r t) * Ideal.ofBits FTy.f32 0x3D93CD3A#32 := by
  pointwise [plain, k0_pay32, k0_pay31]

theorem turned_at (c s : Vec Ideal S512x128 .f32) (x : FVec Ideal S512x128 .f32) (r : Fin 512) (t : Fin 128) :
    turned c s x (ix2 r t) = rot (fun d => x (ix2 r d)) (fun d => c (ix2 r d)) (fun d => s (ix2 r d)) t * Ideal.ofBits FTy.f32 0x3D93CD3A#32 := by
  unfold rot
  pointwise [turned, k0_pay36]
  rw [lane_half, select_partner (fun d => x (ix2 r d)) t]

/-- The differential attention's queries of a head: the rotary embedding, scaled. -/
theorem dturned_at (c s : Vec Ideal S512x128 .f32) (x : Vec Ideal S512x128 .bf16) (r : Fin 512) (t : Fin 128) :
    k0_pay51 c s x (ix2 r t) = rot (fun d => x (ix2 r d)) (fun d => c (ix2 r d)) (fun d => s (ix2 r d)) t * Ideal.ofBits FTy.f32 0x3E000000#32 := by
  unfold rot
  pointwise [k0_pay51]
  rw [lane_half, select_partner (fun d => x (ix2 r d)) t]

end Cert.Kernel11Ideal.Q
-- ==== Proof.QFirstBlock.lean ====
module

public import proofs.«01_k».proof.Proof.QFirstTile
public import Idealize.ShloMosaic.Lib.Pipeline.ReadBack

/-! The blocks that a grid point of the first layer's query preparation writes. -/

@[expose] public section
set_option maxRecDepth 16384
noncomputable section
namespace Cert.Kernel11Ideal.Q
open Cert.Kernel11Ideal Cert.Kernel11Ideal.Gen Idealize.ShloMosaic Idealize.ShloMosaic.TcCoe Idealize.SL.Sem
open Cert.PrepRow

variable (x0 : Vec Ideal S512x768 .bf16) (x1 : Vec Ideal S512x512 .bf16) (x2 x3 : Vec Ideal S512x128 .f32)
    (x4 : Vec Ideal S1x768 .f32) (x5 : Vec Ideal S1x768x2048 .bf16)

set_option maxHeartbeats 2000000 in
/-- An entry of the queries' block: of each head its 128 columns of the normed rows against the weights, then the rotary
    embedding of the next 128, all scaled. -/
theorem queries_at (c : Dev nD) (t : Fin cfg0.N) (y : S512x2048.Idx) (r : Fin 512) (h : Fin 8) (e : Fin 256)
    (h0 : (y 0).val = r.val) (h1 : (y 1).val = h.val * 256 + e.val) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        x0 x1 x2 x3 x4 x5 y
      = (if he : e.val < 128 then dotb x0 x4 x5 r ⟨h.val * 256 + e.val, by omega⟩
          else rot (fun d => dotb x0 x4 x5 r ⟨h.val * 256 + 128 + d.val, by omega⟩) (fun d => x2 (ix2 r d)) (fun d => x3 (ix2 r d))
            ⟨e.val - 128, by omega⟩) * Ideal.ofBits FTy.f32 0x3D93CD3A#32 := by
  have hh := h.isLt
  have hr : (y 0 : ℕ) = r.val := h0
  frame_out
  change View.canon (Val := Elt Ideal) (s := S512x2048) (e := .bf16) [
    ⟨Rect.unit ![0, 1920] ![512, 128] inb_S512x2048_S512x128_0_1920, turned x2 x3 (extractStridedSlice S512x128 ![0, 1920] (k0_pay2 x0 x4 x5) slices_S512x2048_o0_1920_S512x128)⟩,
    ⟨Rect.unit ![0, 1792] ![512, 128] inb_S512x2048_S512x128_0_1792, plain (extractStridedSlice S512x128 ![0, 1792] (k0_pay2 x0 x4 x5) slices_S512x2048_o0_1792_S512x128)⟩,
    ⟨Rect.unit ![0, 1664] ![512, 128] inb_S512x2048_S512x128_0_1664, turned x2 x3 (extractStridedSlice S512x128 ![0, 1664] (k0_pay2 x0 x4 x5) slices_S512x2048_o0_1664_S512x128)⟩,
    ⟨Rect.unit ![0, 1536] ![512, 128] inb_S512x2048_S512x128_0_1536, plain (extractStridedSlice S512x128 ![0, 1536] (k0_pay2 x0 x4 x5) slices_S512x2048_o0_1536_S512x128)⟩,
    ⟨Rect.unit ![0, 1408] ![512, 128] inb_S512x2048_S512x128_0_1408, turned x2 x3 (extractStridedSlice S512x128 ![0, 1408] (k0_pay2 x0 x4 x5) slices_S512x2048_o0_1408_S512x128)⟩,
    ⟨Rect.unit ![0, 1280] ![512, 128] inb_S512x2048_S512x128_0_1280, plain (extractStridedSlice S512x128 ![0, 1280] (k0_pay2 x0 x4 x5) slices_S512x2048_o0_1280_S512x128)⟩,
    ⟨Rect.unit ![0, 1152] ![512, 128] inb_S512x2048_S512x128_0_1152, turned x2 x3 (extractStridedSlice S512x128 ![0, 1152] (k0_pay2 x0 x4 x5) slices_S512x2048_o0_1152_S512x128)⟩,
    ⟨Rect.unit ![0, 1024] ![512, 128] inb_S512x2048_S512x128_0_1024, plain (extractStridedSlice S512x128 ![0, 1024] (k0_pay2 x0 x4 x5) slices_S512x2048_o0_1024_S512x128)⟩,
    ⟨Rect.unit ![0, 896] ![512, 128] inb_S512x2048_S512x128_0_896, turned x2 x3 (extractStridedSlice S512x128 ![0, 896] (k0_pay2 x0 x4 x5) slices_S512x2048_o0_896_S512x128)⟩,
    ⟨Rect.unit ![0, 768] ![512, 128] inb_S512x2048_S512x128_0_768, plain (extractStridedSlice S512x128 ![0, 768] (k0_pay2 x0 x4 x5) slices_S512x2048_o0_768_S512x128)⟩,
    ⟨Rect.unit ![0, 640] ![512, 128] inb_S512x2048_S512x128_0_640, turned x2 x3 (extractStridedSlice S512x128 ![0, 640] (k0_pay2 x0 x4 x5) slices_S512x2048_o0_640_S512x128)⟩,
    ⟨Rect.unit ![0, 512] ![512, 128] inb_S512x2048_S512x128_0_512, plain (extractStridedSlice S512x128 ![0, 512] (k0_pay2 x0 x4 x5) slices_S512x2048_o0_512_S512x128)⟩,
    ⟨Rect.unit ![0, 384] ![512, 128] inb_S512x2048_S512x128_0_384, turned x2 x3 (extractStridedSlice S512x128 ![0, 384] (k0_pay2 x0 x4 x5) slices_S512x2048_o0_384_S512x128)⟩,
    ⟨Rect.unit ![0, 256] ![512, 128] inb_S512x2048_S512x128_0_256, plain (extractStridedSlice S512x128 ![0, 256] (k0_pay2 x0 x4 x5) slices_S512x2048_o0_256_S512x128)⟩,
    ⟨Rect.unit ![0, 128] ![512, 128] inb_S512x2048_S512x128_0_128, turned x2 x3 (extractStridedSlice S512x128 ![0, 128] (k0_pay2 x0 x4 x5) slices_S512x2048_o0_128_S512x128)⟩,
    ⟨Rect.unit ![0, 0] ![512, 128] inb_S512x2048_S512x128_0_0, plain (extractStridedSlice S512x128 ![0, 0] (k0_pay2 x0 x4 x5) slices_S512x2048_o0_0_S512x128)⟩] y = _
  by_cases he : e.val < 128
  · rw [dif_pos he]
    canon_tiles x hx
    all_goals first
      | (exfalso; omega)
      | (rw [eq_ix2 x]
         refine (plain_at _ (x 0) (x 1)).trans (congrArg (fun z => z * Ideal.ofBits FTy.f32 0x3D93CD3A#32) ?_)
         rw [← dot_tile]
         pointwise
         blk_ext)
  · rw [dif_neg he]
    canon_tiles x hx
    all_goals first
      | (exfalso; omega)
      | (rw [eq_ix2 x]
         refine (turned_at _ _ _ (x 0) (x 1)).trans (congrArg (fun z => z * Ideal.ofBits FTy.f32 0x3D93CD3A#32) ?_)
         refine (congrArg _ (Fin.ext (by dsimp only; omega) : x 1 = ⟨e.val - 128, by omega⟩)).trans (congrFun (congr (congrArg₂ rot ?_ ?_) ?_) _)
         · funext d
           rw [← dot_tile]
           pointwise
           blk_ext
         · funext d
           blk_ext
         · funext d
           blk_ext)

set_option maxHeartbeats 2000000 in
/-- An entry of the block of the differential attention's queries. -/
theorem dqueries_at (c : Dev nD) (t : Fin cfg0.N) (y : S512x512.Idx) (r : Fin 512) (h : Fin 4) (e : Fin 128)
    (h0 : (y 0).val = r.val) (h1 : (y 1).val = h.val * 128 + e.val) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        x0 x1 x2 x3 x4 x5 y
      = rot (fun d => x1 (ix2 r ⟨h.val * 128 + d.val, by omega⟩)) (fun d => x2 (ix2 r d)) (fun d => x3 (ix2 r d)) e * Ideal.ofBits FTy.f32 0x3E000000#32 := by
  have hh := h.isLt
  have ht := e.isLt
  have hr : (y 0 : ℕ) = r.val := h0
  frame_out
  change View.canon (Val := Elt Ideal) (s := S512x512) (e := .bf16) [
    ⟨Rect.unit ![0, 384] ![512, 128] inb_S512x512_S512x128_0_384, k0_pay51 x2 x3 (View.ld x1 (Rect.unit ![0, 384] ![512, 128] inb_S512x512_S512x128_0_384))⟩,
    ⟨Rect.unit ![0, 256] ![512, 128] inb_S512x512_S512x128_0_256, k0_pay51 x2 x3 (View.ld x1 (Rect.unit ![0, 256] ![512, 128] inb_S512x512_S512x128_0_256))⟩,
    ⟨Rect.unit ![0, 128] ![512, 128] inb_S512x512_S512x128_0_128, k0_pay51 x2 x3 (View.ld x1 (Rect.unit ![0, 128] ![512, 128] inb_S512x512_S512x128_0_128))⟩,
    ⟨Rect.unit ![0, 0] ![512, 128] inb_S512x512_S512x128_0_0, k0_pay51 x2 x3 (View.ld x1 (Rect.unit ![0, 0] ![512, 128] inb_S512x512_S512x128_0_0))⟩] y = _
  canon_tiles x hx
  all_goals
    rw [eq_ix2 x]
    refine (dturned_at _ _ _ (x 0) (x 1)).trans (congrArg (fun z => z * Ideal.ofBits FTy.f32 0x3E000000#32) ?_)
    congr 1 <;> first | (funext i; pointwise <;> blk_point []; done) | exact Fin.ext (by dsimp only; omega)

end Cert.Kernel11Ideal.Q
-- ==== Proof.QFirstRef.lean ====
module

public import proofs.«01_k».proof.Proof.Gen.Reference11Ideal.Read
public import proofs.«01_k».proof.Proof.PrepRow
public import Idealize.ShloMosaic.Lib.Pipeline.ValueKit

/-! The reference of the first layer's query preparation, entry by entry. -/

@[expose] public section
set_option maxRecDepth 16384
noncomputable section
namespace Cert.Reference11Ideal.Q
open Cert.Reference11Ideal Cert.Reference11Ideal.Read Idealize.ShloMosaic Idealize.ShloMosaic.TcCoe Idealize.SL.Sem
open Cert.PrepRow

variable (p : (⟨S9216x9728, .bf16⟩ : BufTy).Contents (Elt Ideal)) (c s : (⟨S2560x128, .f32⟩ : BufTy).Contents (Elt Ideal))
    (g : (⟨S1x768, .f32⟩ : BufTy).Contents (Elt Ideal)) (w : (⟨S2x768x2048, .bf16⟩ : BufTy).Contents (Elt Ideal))

/-- The normed rows against the weights. -/
theorem dot_at (r : Fin 9216) (e : Fin 2048) : val_main_v38 (F := Ideal) p g w (ix2 r e)
    = ∑ d : Fin 768, rmsn (fun e => p (ix2 r ⟨6144 + e.val, by omega⟩)) (fun e => g (ix2 0 e)) (Ideal.ofBits FTy.f32 0x44400000#32) d * w (ix3 0 d e) := by
  unfold rmsn
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v0, val_main_cst, val_main_cst_0, val_main_cst_1]

/-- The row of the cosines of a sequence's token. -/
theorem cos_lat (r : Fin 8192) (d : Fin 128) : val_main_v10 (F := Ideal) c (ix2 ⟨r.val, by omega⟩ d) = c (ix2 ⟨r.val % 2048, by omega⟩ d) := by
  pointwise [val_main_v10, val_main_v9, val_main_v8, val_main_v7, val_main_v6, val_main_v5, val_main_v4, val_main_v3, val_main_v2]

/-- The row of the cosines of a context's token. -/
theorem cos_ctx (r : Fin 1024) (d : Fin 128) : val_main_v10 (F := Ideal) c (ix2 ⟨8192 + r.val, by omega⟩ d) = c (ix2 ⟨2048 + r.val % 512, by omega⟩ d) := by
  pointwise [val_main_v10, val_main_v9, val_main_v8, val_main_v7, val_main_v6, val_main_v5, val_main_v4, val_main_v3, val_main_v2]

/-- The row of the cosines of a token. -/
theorem cos_at (r : Fin 9216) (d : Fin 128) : val_main_v10 (F := Ideal) c (ix2 r d) = c (ix2 (tabAll r.val) d) := by
  by_cases h : r.val < 8192
  · have e : tabAll r.val = ⟨r.val % 2048, by omega⟩ := Fin.ext (tabAll_lat r.val h)
    rw [e]
    exact cos_lat c ⟨r.val, h⟩ d
  · have e : tabAll r.val = ⟨2048 + (r.val - 8192) % 512, by omega⟩ := Fin.ext ((tabAll_ctx r.val h).trans (by dsimp only; omega))
    have e' : r = ⟨8192 + (r.val - 8192), by omega⟩ := Fin.ext (by dsimp only; omega)
    rw [e]
    refine Eq.trans ?_ (cos_ctx c ⟨r.val - 8192, by omega⟩ d)
    exact congrArg (fun q => val_main_v10 (F := Ideal) c (ix2 q d)) e'

/-- The row of the sines of a sequence's token. -/
theorem sin_lat (r : Fin 8192) (d : Fin 128) : val_main_v19 (F := Ideal) s (ix2 ⟨r.val, by omega⟩ d) = s (ix2 ⟨r.val % 2048, by omega⟩ d) := by
  pointwise [val_main_v19, val_main_v18, val_main_v17, val_main_v16, val_main_v15, val_main_v14, val_main_v13, val_main_v12, val_main_v11]

/-- The row of the sines of a context's token. -/
theorem sin_ctx (r : Fin 1024) (d : Fin 128) : val_main_v19 (F := Ideal) s (ix2 ⟨8192 + r.val, by omega⟩ d) = s (ix2 ⟨2048 + r.val % 512, by omega⟩ d) := by
  pointwise [val_main_v19, val_main_v18, val_main_v17, val_main_v16, val_main_v15, val_main_v14, val_main_v13, val_main_v12, val_main_v11]

/-- The row of the sines of a token. -/
theorem sin_at (r : Fin 9216) (d : Fin 128) : val_main_v19 (F := Ideal) s (ix2 r d) = s (ix2 (tabAll r.val) d) := by
  by_cases h : r.val < 8192
  · have e : tabAll r.val = ⟨r.val % 2048, by omega⟩ := Fin.ext (tabAll_lat r.val h)
    rw [e]
    exact sin_lat s ⟨r.val, h⟩ d
  · have e : tabAll r.val = ⟨2048 + (r.val - 8192) % 512, by omega⟩ := Fin.ext ((tabAll_ctx r.val h).trans (by dsimp only; omega))
    have e' : r = ⟨8192 + (r.val - 8192), by omega⟩ := Fin.ext (by dsimp only; omega)
    rw [e]
    refine Eq.trans ?_ (sin_ctx s ⟨r.val - 8192, by omega⟩ d)
    exact congrArg (fun q => val_main_v19 (F := Ideal) s (ix2 q d)) e'

/-- The rotary part of a head's queries. -/
theorem rot_at (r : Fin 9216) (h : Fin 8) (t : Fin 128) :
    val_main_v70 (F := Ideal) p c s g w (ix3 r h t)
      = rot (fun d => val_main_v38 (F := Ideal) p g w (ix2 r ⟨h.val * 256 + 128 + d.val, by omega⟩)) (fun d => val_main_v10 (F := Ideal) c (ix2 r d)) (fun d => val_main_v19 (F := Ideal) s (ix2 r d)) t := by
  have ht := t.isLt
  unfold rot
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v39]
  by_cases h : t.val % 32 < 16
  · rw [dif_pos (by omega), partner_low t h]
    congr 1 <;> congr 1 <;> blk_ext
  · rw [dif_neg (by omega), partner_high t h]
    congr 1 <;> congr 1 <;> blk_ext

/-- The rotary embedding of the differential attention's queries. -/
theorem drot_at (r : Fin 9216) (h : Fin 4) (t : Fin 128) :
    val_main_v104 (F := Ideal) p c s (ix3 r h t)
      = rot (fun d => p (ix2 r ⟨8704 + (h.val * 128 + d.val), by omega⟩)) (fun d => val_main_v10 (F := Ideal) c (ix2 r d)) (fun d => val_main_v19 (F := Ideal) s (ix2 r d)) t := by
  have ht := t.isLt
  unfold rot
  pointwise [val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v1]
  by_cases h : t.val % 32 < 16
  · rw [dif_pos (by omega), partner_low t h]
    congr 1 <;> congr 1 <;> blk_ext
  · rw [dif_neg (by omega), partner_high t h]
    congr 1 <;> congr 1 <;> blk_ext

/-- An entry of the queries: of each head its 128 columns, then the rotary part, scaled. -/
theorem queries_at (j : S9216x2048.Idx) (r : Fin 9216) (h : Fin 8) (e : Fin 256) (h0 : (j 0).val = r.val) (h1 : (j 1).val = h.val * 256 + e.val) :
    val_main_v108 (F := Ideal) p c s g w j
      = (if he : e.val < 128 then val_main_v38 (F := Ideal) p g w (ix2 r ⟨h.val * 256 + e.val, by omega⟩)
          else val_main_v70 (F := Ideal) p c s g w (ix3 r h ⟨e.val - 128, by omega⟩)) * Ideal.ofBits FTy.f32 0x3D93CD3A#32 := by
  have hr : r = ⟨(j 0).val, (j 0).isLt⟩ := Fin.ext h0.symm
  have hj1 : (j 1 : ℕ) < 2048 := (j 1).isLt
  have hh := h.isLt
  have hlt := e.isLt
  subst hr
  by_cases he : e.val < 128
  · rw [dif_pos he]
    pointwise [val_main_v73, val_main_v72, val_main_v71, val_main_v107, val_main_v108, val_main_v40, val_main_v39, val_main_cst_2]
    rw [dif_pos (by omega)]
    refine congrArg (fun z => z * Ideal.ofBits FTy.f32 0x3D93CD3A#32) ?_
    blk_ext
  · rw [dif_neg he]
    pointwise [val_main_v73, val_main_v72, val_main_v71, val_main_v107, val_main_v108, val_main_v40, val_main_v39, val_main_cst_2]
    rw [dif_neg (by omega)]
    refine congrArg (fun z => z * Ideal.ofBits FTy.f32 0x3D93CD3A#32) ?_
    blk_ext

/-- An entry of the differential attention's queries is that of its head and lane, scaled. -/
theorem dqueries_at (j : S9216x512.Idx) (r : Fin 9216) (h : Fin 4) (t : Fin 128) (h0 : (j 0).val = r.val) (h1 : (j 1).val = h.val * 128 + t.val) :
    val_main_v110 (F := Ideal) p c s j = val_main_v104 (F := Ideal) p c s (ix3 r h t) * Ideal.ofBits FTy.f32 0x3E000000#32 := by
  pointwise [val_main_v110, val_main_v109, val_main_v106, val_main_v105, val_main_cst_3]
  all_goals
    refine congrArg (fun z => z * Ideal.ofBits FTy.f32 0x3E000000#32) ?_
    blk_ext

end Cert.Reference11Ideal.Q
-- ==== Proof.QFirstFinal.lean ====
module

public import proofs.«01_k».proof.Proof.QFirstBlock
public import proofs.«01_k».proof.Proof.QFirstRef
public import Idealize.ShloMosaic.Lib.Pipeline.ValueKit

/-! The first layer's query preparation: what the kernel's output arrays hold, and that they are the reference's. -/

@[expose] public section
set_option maxRecDepth 16384
noncomputable section
namespace Cert.Kernel11Ideal.Q
open Cert.Kernel11Ideal Cert.Kernel11Ideal.Gen Idealize.ShloMosaic Idealize.ShloMosaic.TcCoe Idealize.SL.Sem
open Idealize.ShloMosaic.Pipeline (Dat)
open Cert.PrepRow

variable (m : (ℓ : Loc nD τ sig) → Buf (Elt Ideal) ℓ)

/-- Where the windows of grid point `t` lie: the point is a block of 512 rows; the latents and the differential attention's
    queries are columns of the projection, the weights are the layer's. -/
theorem idx : ∀ t : Fin cfg0.N, win0_0.index t = ![t.val, 8] ∧ win0_1.index t = ![t.val, 17]
    ∧ win0_2.index t = ![if t.val < 16 then t.val % 4 else 4, 0] ∧ win0_3.index t = ![if t.val < 16 then t.val % 4 else 4, 0] ∧ win0_4.index t = ![0, 0] ∧ win0_5.index t = ![0, 0, 0]
    ∧ win0_6.index t = ![t.val, 0] ∧ win0_7.index t = ![t.val, 0] :=
  (by decide +kernel : ∀ t : Fin grid0.N, _)

/-- An entry of the normed latents against the weights. -/
def dot (p : FVec Ideal S9216x9728 .bf16) (g : FVec Ideal S1x768 .f32) (w : FVec Ideal S2x768x2048 .bf16) (r : Fin 9216) (e : Fin 2048) : EReal :=
  ∑ d : Fin 768, rmsn (fun e => p (ix2 r ⟨6144 + e.val, by omega⟩)) (fun e => g (ix2 0 e)) (Ideal.ofBits FTy.f32 0x44400000#32) d * w (ix3 0 d e)

/-- The queries: of each head its 128 columns of the normed latents against the weights, then the rotary embedding of the
    next 128, scaled. -/
def queries (p : FVec Ideal S9216x9728 .bf16) (c s : FVec Ideal S2560x128 .f32) (g : FVec Ideal S1x768 .f32) (w : FVec Ideal S2x768x2048 .bf16) : FVec Ideal S9216x2048 .bf16 := fun j =>
  have hj0 : (j 0).val < 9216 := (j 0).isLt
  have hj1 : (j 1).val < 2048 := (j 1).isLt
  (if he : (j 1).val % 256 < 128 then dot p g w ⟨(j 0).val, by omega⟩ ⟨(j 1).val / 256 * 256 + (j 1).val % 256, by omega⟩
    else rot (fun d => dot p g w ⟨(j 0).val, by omega⟩ ⟨(j 1).val / 256 * 256 + 128 + d.val, by omega⟩) (fun d => c (ix2 (tabAll (j 0).val) d))
      (fun d => s (ix2 (tabAll (j 0).val) d)) ⟨(j 1).val % 256 - 128, by omega⟩) * Ideal.ofBits FTy.f32 0x3D93CD3A#32

/-- The differential attention's queries: the rotary embedding of each head's 128 columns, scaled. -/
def dqueries (p : FVec Ideal S9216x9728 .bf16) (c s : FVec Ideal S2560x128 .f32) : FVec Ideal S9216x512 .bf16 := fun j =>
  have hj0 : (j 0).val < 9216 := (j 0).isLt
  have hj1 : (j 1).val < 512 := (j 1).isLt
  rot (fun d => p (ix2 ⟨(j 0).val, by omega⟩ ⟨8704 + ((j 1).val / 128 * 128 + d.val), by omega⟩)) (fun d => c (ix2 (tabAll (j 0).val) d))
    (fun d => s (ix2 (tabAll (j 0).val) d)) ⟨(j 1).val % 128, by omega⟩ * Ideal.ofBits FTy.f32 0x3E000000#32

/-- The staged block of cosines: the block of the tokens' positions. -/
theorem cosines (c : Dev nD) (t : Fin cfg0.N) (y : S512x128.Idx) (hy0 : (y 0).val < 512) :
    iblk m c 2 t y = m ((c : Thread nD τ).loc main_arg1) (ix2 (tabAll (t.val * 512 + (y 0).val)) ⟨(y 1).val, (y 1).isLt⟩) := by
  have hN : t.val < 18 := lt_of_lt_of_eq t.isLt N_0
  by_cases h : t.val < 16
  · have ht : t.val * 512 + (y 0).val < 8192 := by omega
    have e := tabAll_lat (t.val * 512 + (y 0).val) ht
    have e2 := (idx t).2.2.1
    rw [if_pos h] at e2
    have e3 := (idx t).2.2.2.1
    rw [if_pos h] at e3
    blk_ext [iblk, V, e2, e3, e]
  · have ht : ¬ t.val * 512 + (y 0).val < 8192 := by omega
    have e := tabAll_ctx (t.val * 512 + (y 0).val) ht
    have e2 := (idx t).2.2.1
    rw [if_neg h] at e2
    have e3 := (idx t).2.2.2.1
    rw [if_neg h] at e3
    blk_ext [iblk, V, e2, e3, e]

/-- The staged block of sines: the block of the tokens' positions. -/
theorem sines (c : Dev nD) (t : Fin cfg0.N) (y : S512x128.Idx) (hy0 : (y 0).val < 512) :
    iblk m c 3 t y = m ((c : Thread nD τ).loc main_arg2) (ix2 (tabAll (t.val * 512 + (y 0).val)) ⟨(y 1).val, (y 1).isLt⟩) := by
  have hN : t.val < 18 := lt_of_lt_of_eq t.isLt N_0
  by_cases h : t.val < 16
  · have ht : t.val * 512 + (y 0).val < 8192 := by omega
    have e := tabAll_lat (t.val * 512 + (y 0).val) ht
    have e2 := (idx t).2.2.1
    rw [if_pos h] at e2
    have e3 := (idx t).2.2.2.1
    rw [if_pos h] at e3
    blk_ext [iblk, V, e2, e3, e]
  · have ht : ¬ t.val * 512 + (y 0).val < 8192 := by omega
    have e := tabAll_ctx (t.val * 512 + (y 0).val) ht
    have e2 := (idx t).2.2.1
    rw [if_neg h] at e2
    have e3 := (idx t).2.2.2.1
    rw [if_neg h] at e3
    blk_ext [iblk, V, e2, e3, e]

/-- The staged blocks give the entry of the normed latents against the weights. -/
theorem dot_blk (c : Dev nD) (t : Fin cfg0.N) (r : Fin 512) (e : Fin 2048) (r' : Fin 9216) (hr : r'.val = t.val * 512 + r.val) :
    dotb (X0_0 m c t) (iblk m c 4 t) (iblk m c 5 t) r e = dot (m ((c : Thread nD τ).loc main_arg0)) (m ((c : Thread nD τ).loc main_arg3)) (m ((c : Thread nD τ).loc main_arg4)) r' e := by
  unfold dot dotb
  refine Finset.sum_congr rfl fun d _ => congrArg₂ (· * ·) (congrFun (congrArg₂ (fun a b => rmsn a b (Ideal.ofBits FTy.f32 0x44400000#32)) ?_ ?_) d) ?_
  · funext i
    unfold X0_0 Pipeline.Window.fill
    rw [dif_pos (moved0_0 t _)]
    blk_ext [iblk, V, idx t]
  · funext i
    blk_ext [iblk, V, idx t]
  · blk_ext [iblk, V, idx t]

set_option maxHeartbeats 2000000 in
/-- What grid point `t` writes of the queries is its block of `queries` of the arguments. -/
theorem queries_point (c : Dev nD) (t : Fin cfg0.N) (y : S512x2048.Idx) :
    (outsAt0 m c t).1 y = queries (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have ht : t.val < 18 := lt_of_lt_of_eq t.isLt N_0
  have hy0 : (y 0).val < 512 := (y 0).isLt
  have hy1 : (y 1).val < 2048 := (y 1).isLt
  have e0 : ((((cfg0.win 6).blk t).view.emb y) 0).val = t.val * 512 + (y 0).val := by
    blk_simp [idx t]
  have e1 : ((((cfg0.win 6).blk t).view.emb y) 1).val = (y 1).val := by
    blk_simp [idx t]
  unfold outsAt0
  dsimp only
  rw [queries_at _ _ _ _ _ _ c t y ⟨(y 0).val, hy0⟩ ⟨(y 1).val / 256, by omega⟩ ⟨(y 1).val % 256, by omega⟩ rfl (Nat.div_add_mod' _ _).symm]
  unfold queries
  dsimp only
  simp only [e0, e1]
  refine congrArg (fun z => z * Ideal.ofBits FTy.f32 0x3D93CD3A#32) ?_
  by_cases he : (y 1).val % 256 < 128
  · rw [dif_pos he, dif_pos he]
    exact dot_blk m c t ⟨(y 0).val, hy0⟩ _ _ rfl
  · rw [dif_neg he, dif_neg he]
    refine congrFun (congr (congrArg₂ rot ?_ ?_) ?_) _
    · funext d
      exact dot_blk m c t ⟨(y 0).val, hy0⟩ _ _ rfl
    · funext d
      exact cosines m c t _ hy0
    · funext d
      exact sines m c t _ hy0

set_option maxHeartbeats 2000000 in
/-- What grid point `t` writes of the differential attention's queries is its block of `dqueries` of the arguments. -/
theorem dqueries_point (c : Dev nD) (t : Fin cfg0.N) (y : S512x512.Idx) :
    (outsAt0 m c t).2 y = dqueries (m ((c : Thread nD τ).loc main_arg0)) (m ((c : Thread nD τ).loc main_arg1)) (m ((c : Thread nD τ).loc main_arg2)) (((cfg0.win 7).blk t).view.emb y) := by
  have ht : t.val < 18 := lt_of_lt_of_eq t.isLt N_0
  have hy0 : (y 0).val < 512 := (y 0).isLt
  have hy1 : (y 1).val < 512 := (y 1).isLt
  have e0 : ((((cfg0.win 7).blk t).view.emb y) 0).val = t.val * 512 + (y 0).val := by
    blk_simp [idx t]
  have e1 : ((((cfg0.win 7).blk t).view.emb y) 1).val = (y 1).val := by
    blk_simp [idx t]
  unfold outsAt0
  dsimp only
  rw [dqueries_at _ _ _ _ _ _ c t y ⟨(y 0).val, hy0⟩ ⟨(y 1).val / 128, by omega⟩ ⟨(y 1).val % 128, by omega⟩ rfl (Nat.div_add_mod' _ _).symm]
  unfold dqueries
  dsimp only
  simp only [e0, e1]
  refine congrArg (fun z => z * Ideal.ofBits FTy.f32 0x3E000000#32) (congrFun (congr (congrArg₂ rot ?_ ?_) ?_) _)
  · funext d
    blk_ext [iblk, V, idx t]
  · funext d
    exact cosines m c t _ hy0
  · funext d
    exact sines m c t _ hy0

/-- The array of the queries after the run. -/
theorem queries_final (c : Dev nD) : (dats m 0 c).arrAt 6 (cfgs 0).N = queries (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact queries_point m c t y

/-- The array of the differential attention's queries after the run. -/
theorem dqueries_final (c : Dev nD) : (dats m 0 c).arrAt 7 (cfgs 0).N = dqueries (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact dqueries_point m c t y

/-- The queries are the reference's. -/
theorem queries_eq_ref (p : FVec Ideal S9216x9728 .bf16) (c s : FVec Ideal S2560x128 .f32) (g : FVec Ideal S1x768 .f32) (w : FVec Ideal S2x768x2048 .bf16) : queries p c s g w = Cert.Reference11Ideal.Read.val_main_v108 (F := Ideal) p c s g w := by
  funext j
  have hj1 : (j 1).val < 2048 := (j 1).isLt
  rw [Cert.Reference11Ideal.Q.queries_at p c s g w j ⟨(j 0).val, (j 0).isLt⟩ ⟨(j 1).val / 256, by omega⟩ ⟨(j 1).val % 256, by omega⟩ rfl (Nat.div_add_mod' _ _).symm]
  unfold queries
  dsimp only
  refine congrArg (fun z => z * Ideal.ofBits FTy.f32 0x3D93CD3A#32) ?_
  by_cases he : (j 1).val % 256 < 128
  · rw [dif_pos he, dif_pos he, Cert.Reference11Ideal.Q.dot_at]
    rfl
  · rw [dif_neg he, dif_neg he, Cert.Reference11Ideal.Q.rot_at]
    simp only [Cert.Reference11Ideal.Q.cos_at, Cert.Reference11Ideal.Q.sin_at, Cert.Reference11Ideal.Q.dot_at]
    rfl

/-- The differential attention's queries are the reference's. -/
theorem dqueries_eq_ref (p : FVec Ideal S9216x9728 .bf16) (c s : FVec Ideal S2560x128 .f32) : dqueries p c s = Cert.Reference11Ideal.Read.val_main_v110 (F := Ideal) p c s := by
  funext j
  have hj1 : (j 1).val < 512 := (j 1).isLt
  rw [Cert.Reference11Ideal.Q.dqueries_at p c s j ⟨(j 0).val, (j 0).isLt⟩ ⟨(j 1).val / 128, by omega⟩ ⟨(j 1).val % 128, by omega⟩ rfl (Nat.div_add_mod' _ _).symm,
    Cert.Reference11Ideal.Q.drot_at]
  unfold dqueries
  simp only [Cert.Reference11Ideal.Q.cos_at, Cert.Reference11Ideal.Q.sin_at]

end Cert.Kernel11Ideal.Q
-- ==== Proof.KvCtxTile.lean ====
module

public import proofs.«01_k».proof.Proof.Gen.Kernel13Ideal.Value
public import proofs.«01_k».proof.Proof.PrepRow
public import Idealize.ShloMosaic.Lib.Pipeline.ValueKit

/-! The parts of a block that the last layer's key preparation of the context writes. -/

@[expose] public section
set_option maxRecDepth 16384
noncomputable section
namespace Cert.Kernel13Ideal.Kv
open Cert.Kernel13Ideal Cert.Kernel13Ideal.Gen Idealize.ShloMosaic Idealize.ShloMosaic.TcCoe Idealize.SL.Sem
open Cert.PrepRow

/-- The normed rows of a block against the weights. -/
theorem dot_tile (x : Vec Ideal S512x512 .bf16) (g : Vec Ideal S1x512 .f32) (w : Vec Ideal S1x512x2048 .bf16) (r : Fin 512) (e : Fin 2048) :
    k0_pay2 x g w (ix2 r e)
      = ∑ d : Fin 512, rmsn (fun e => x (ix2 r e)) (fun e => g (ix2 0 e)) (Ideal.ofBits FTy.f32 0x44000000#32) d * w (ix3 0 d e) := by
  unfold rmsn
  pointwise [k0_pay2]

/-- The rotary embedding of a block of rows. -/
theorem rot_tile (c s : Vec Ideal S512x128 .f32) (x : Vec Ideal S512x128 .bf16) (r : Fin 512) (t : Fin 128) :
    k0_pay28 c s x (ix2 r t) = rot (fun d => x (ix2 r d)) (fun d => c (ix2 r d)) (fun d => s (ix2 r d)) t := by
  unfold rot
  pointwise [k0_pay28]
  rw [lane_half, select_partner (fun d => x (ix2 r d)) t]

end Cert.Kernel13Ideal.Kv
-- ==== Proof.KvCtxBlock.lean ====
module

public import proofs.«01_k».proof.Proof.KvCtxTile

/-! The blocks that a grid point of the last layer's key preparation of the context writes. -/

@[expose] public section
set_option maxRecDepth 16384
noncomputable section
namespace Cert.Kernel13Ideal.Kv
open Cert.Kernel13Ideal Cert.Kernel13Ideal.Gen Idealize.ShloMosaic Idealize.ShloMosaic.TcCoe Idealize.SL.Sem
open Cert.PrepRow

variable (x0 : Vec Ideal S512x512 .bf16) (x1 : Vec Ideal S512x512 .bf16) (x2 : Vec Ideal S512x128 .bf16) (x3 x4 : Vec Ideal S512x128 .f32)
    (x5 : Vec Ideal S1x512 .f32) (x6 : Vec Ideal S1x512x2048 .bf16)

/-- The keys' block: of each head its 128 columns of the normed rows against the weights, then the shared rotary key. -/
theorem keys_eq : out0_7 x0 x1 x2 x3 x4 x5 x6 = View.canon [
    ⟨r0_19, k0_pay28 (View.ld x3 r0_0) (View.ld x4 r0_0) (View.ld x2 r0_0)⟩,
    ⟨r0_18, k0_pay17 (k0_pay2 (View.ld x0 r0_1) (View.ld x5 r0_2) (View.ld x6 r0_3))⟩,
    ⟨r0_17, k0_pay28 (View.ld x3 r0_0) (View.ld x4 r0_0) (View.ld x2 r0_0)⟩,
    ⟨r0_16, k0_pay16 (k0_pay2 (View.ld x0 r0_1) (View.ld x5 r0_2) (View.ld x6 r0_3))⟩,
    ⟨r0_15, k0_pay28 (View.ld x3 r0_0) (View.ld x4 r0_0) (View.ld x2 r0_0)⟩,
    ⟨r0_14, k0_pay15 (k0_pay2 (View.ld x0 r0_1) (View.ld x5 r0_2) (View.ld x6 r0_3))⟩,
    ⟨r0_13, k0_pay28 (View.ld x3 r0_0) (View.ld x4 r0_0) (View.ld x2 r0_0)⟩,
    ⟨r0_12, k0_pay14 (k0_pay2 (View.ld x0 r0_1) (View.ld x5 r0_2) (View.ld x6 r0_3))⟩,
    ⟨r0_11, k0_pay28 (View.ld x3 r0_0) (View.ld x4 r0_0) (View.ld x2 r0_0)⟩,
    ⟨r0_10, k0_pay13 (k0_pay2 (View.ld x0 r0_1) (View.ld x5 r0_2) (View.ld x6 r0_3))⟩,
    ⟨r0_9, k0_pay28 (View.ld x3 r0_0) (View.ld x4 r0_0) (View.ld x2 r0_0)⟩,
    ⟨r0_8, k0_pay12 (k0_pay2 (View.ld x0 r0_1) (View.ld x5 r0_2) (View.ld x6 r0_3))⟩,
    ⟨r0_7, k0_pay28 (View.ld x3 r0_0) (View.ld x4 r0_0) (View.ld x2 r0_0)⟩,
    ⟨r0_6, k0_pay11 (k0_pay2 (View.ld x0 r0_1) (View.ld x5 r0_2) (View.ld x6 r0_3))⟩,
    ⟨r0_5, k0_pay28 (View.ld x3 r0_0) (View.ld x4 r0_0) (View.ld x2 r0_0)⟩,
    ⟨r0_4, k0_pay10 (k0_pay2 (View.ld x0 r0_1) (View.ld x5 r0_2) (View.ld x6 r0_3))⟩] := rfl

/-- The differential keys' block: the rotary embedding of each head's 128 lanes. -/
theorem dkeys_eq : out0_9 x0 x1 x2 x3 x4 x5 x6 = View.canon [
    ⟨r0_24, k0_pay28 (View.ld x3 r0_0) (View.ld x4 r0_0) (View.ld x1 r0_24)⟩,
    ⟨r0_23, k0_pay28 (View.ld x3 r0_0) (View.ld x4 r0_0) (View.ld x1 r0_23)⟩,
    ⟨r0_22, k0_pay28 (View.ld x3 r0_0) (View.ld x4 r0_0) (View.ld x1 r0_22)⟩,
    ⟨r0_21, k0_pay28 (View.ld x3 r0_0) (View.ld x4 r0_0) (View.ld x1 r0_21)⟩] := rfl

/-- An entry of the keys' block. -/
theorem keys_at (y : S512x2048.Idx) (r : Fin 512) (h : Fin 8) (e : Fin 256) (h0 : (y 0).val = r.val) (h1 : (y 1).val = h.val * 256 + e.val) :
    out0_7 x0 x1 x2 x3 x4 x5 x6 y
      = if he : e.val < 128 then
          ∑ d : Fin 512, rmsn (fun e => x0 (ix2 r e)) (fun e => x5 (ix2 0 e)) (Ideal.ofBits FTy.f32 0x44000000#32) d
            * x6 (ix3 0 d ⟨h.val * 128 + e.val, by omega⟩)
        else rot (fun d => x2 (ix2 r d)) (fun d => x3 (ix2 r d)) (fun d => x4 (ix2 r d)) ⟨e.val - 128, by omega⟩ := by
  have hh := h.isLt
  have hr : (y 0 : ℕ) = r.val := h0
  rw [keys_eq]
  by_cases he : e.val < 128
  · rw [dif_pos he]
    canon_tiles x hx
    all_goals first
      | (exfalso; omega)
      | (rw [eq_ix2 x]
         refine Eq.trans (b := k0_pay2 (View.ld x0 r0_1) (View.ld x5 r0_2) (View.ld x6 r0_3) (ix2 r ⟨h.val * 128 + e.val, by omega⟩)) ?_ ?_
         · pointwise [k0_pay10, k0_pay11, k0_pay12, k0_pay13, k0_pay14, k0_pay15, k0_pay16, k0_pay17]
           blk_ext
         · rw [dot_tile]
           pointwise <;> blk_point [])
  · rw [dif_neg he]
    canon_tiles x hx
    all_goals first
      | (exfalso; omega)
      | (rw [eq_ix2 x]
         refine (rot_tile _ _ _ (x 0) (x 1)).trans ?_
         congr 1 <;> first | (funext i; pointwise <;> blk_point []; done) | exact Fin.ext (by dsimp only; omega))

/-- An entry of the values' block. -/
theorem values_at (y : S512x1024.Idx) :
    out0_8 x0 x1 x2 x3 x4 x5 x6 y
      = ∑ d : Fin 512, rmsn (fun e => x0 (ix2 (y 0) e)) (fun e => x5 (ix2 0 e)) (Ideal.ofBits FTy.f32 0x44000000#32) d
          * x6 (ix3 0 d ⟨1024 + (y 1).val, Nat.add_lt_add_left (y 1).isLt 1024⟩) := by
  have e : out0_8 x0 x1 x2 x3 x4 x5 x6 = View.canon [⟨r0_20, k0_pay18 (k0_pay2 (View.ld x0 r0_1) (View.ld x5 r0_2) (View.ld x6 r0_3))⟩] := rfl
  rw [e]
  canon_tiles x hx
  rw [eq_ix2 x]
  refine Eq.trans (b := k0_pay2 (View.ld x0 r0_1) (View.ld x5 r0_2) (View.ld x6 r0_3) (ix2 (x 0) ⟨1024 + (x 1).val, by omega⟩)) ?_ ?_
  · pointwise [k0_pay18]
  · refine (dot_tile _ _ _ (x 0) _).trans ?_
    pointwise <;> blk_point []

/-- An entry of the differential keys' block. -/
theorem dkeys_at (y : S512x512.Idx) (r : Fin 512) (h : Fin 4) (t : Fin 128) (h0 : (y 0).val = r.val) (h1 : (y 1).val = h.val * 128 + t.val) :
    out0_9 x0 x1 x2 x3 x4 x5 x6 y
      = rot (fun d => x1 (ix2 r ⟨h.val * 128 + d.val, by omega⟩)) (fun d => x3 (ix2 r d)) (fun d => x4 (ix2 r d)) t := by
  have hh := h.isLt
  have ht := t.isLt
  rw [dkeys_eq]
  canon_tiles x hx
  all_goals
    rw [eq_ix2 x]
    refine (rot_tile _ _ _ (x 0) (x 1)).trans ?_
    congr 1 <;> first | (funext i; pointwise <;> blk_point []; done) | exact Fin.ext (by dsimp only; omega)

end Cert.Kernel13Ideal.Kv
-- ==== Proof.KvCtxRef.lean ====
module

public import proofs.«01_k».proof.Proof.Gen.Reference13Ideal.Read
public import proofs.«01_k».proof.Proof.PrepRow
public import Idealize.ShloMosaic.Lib.Pipeline.ValueKit

/-! The reference of the last layer's key preparation of the context, entry by entry. -/

@[expose] public section
set_option maxRecDepth 16384
noncomputable section
namespace Cert.Reference13Ideal.Kv
open Cert.Reference13Ideal Cert.Reference13Ideal.Read Idealize.ShloMosaic Idealize.ShloMosaic.TcCoe Idealize.SL.Sem
open Cert.PrepRow

variable (p : (⟨S1024x2048, .bf16⟩ : BufTy).Contents (Elt Ideal)) (c s : (⟨S2560x128, .f32⟩ : BufTy).Contents (Elt Ideal))
    (g : (⟨S1x512, .f32⟩ : BufTy).Contents (Elt Ideal)) (w : (⟨S2x512x2048, .bf16⟩ : BufTy).Contents (Elt Ideal))

/-- The normed rows against the weights. -/
theorem dot_at (r : Fin 1024) (e : Fin 2048) : val_main_v29 (F := Ideal) p g w (ix2 r e)
    = ∑ d : Fin 512, rmsn (fun e => p (ix2 r ⟨512 + e.val, by omega⟩)) (fun e => g (ix2 0 e)) (Ideal.ofBits FTy.f32 0x44000000#32) d * w (ix3 1 d e) := by
  unfold rmsn
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v0, val_main_cst, val_main_cst_0, val_main_cst_1]

/-- The row of the cosines of a token: one behind the positions. -/
theorem cos_at (r : Fin 1024) (d : Fin 128) : val_main_v6 (F := Ideal) c (ix2 r d) = c (ix2 ⟨2048 + r.val % 512, by omega⟩ d) := by
  pointwise [val_main_v6, val_main_v5, val_main_v4, val_main_v3]

/-- The row of the sines of a token: one behind the positions. -/
theorem sin_at (r : Fin 1024) (d : Fin 128) : val_main_v10 (F := Ideal) s (ix2 r d) = s (ix2 ⟨2048 + r.val % 512, by omega⟩ d) := by
  pointwise [val_main_v10, val_main_v9, val_main_v8, val_main_v7]

/-- The rotary key that the heads share. -/
theorem rot_at (r : Fin 1024) (t : Fin 128) :
    val_main_v56 (F := Ideal) p c s (ix3 r (0 : Fin 1) t)
      = rot (fun d => p (ix2 r ⟨256 + d.val, by omega⟩)) (fun d => val_main_v6 (F := Ideal) c (ix2 r d)) (fun d => val_main_v10 (F := Ideal) s (ix2 r d)) t := by
  have ht := t.isLt
  unfold rot
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v1]
  by_cases h : t.val % 32 < 16
  · rw [dif_pos (by omega), partner_low t h]
    congr 1 <;> congr 1 <;> blk_ext
  · rw [dif_neg (by omega), partner_high t h]
    congr 1 <;> congr 1 <;> blk_ext

/-- The differential attention's keys. -/
theorem drot_at (r : Fin 1024) (h : Fin 4) (t : Fin 128) :
    val_main_v91 (F := Ideal) p c s (ix3 r h t)
      = rot (fun d => p (ix2 r ⟨1024 + (h.val * 128 + d.val), by omega⟩)) (fun d => val_main_v6 (F := Ideal) c (ix2 r d)) (fun d => val_main_v10 (F := Ideal) s (ix2 r d)) t := by
  have ht := t.isLt
  unfold rot
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v2]
  by_cases h : t.val % 32 < 16
  · rw [dif_pos (by omega), partner_low t h]
    congr 1 <;> congr 1 <;> blk_ext
  · rw [dif_neg (by omega), partner_high t h]
    congr 1 <;> congr 1 <;> blk_ext

/-- An entry of the keys: of each head its 128 columns, then the shared rotary key. -/
theorem keys_at (j : S1024x2048.Idx) (r : Fin 1024) (h : Fin 8) (e : Fin 256) (h0 : (j 0).val = r.val) (h1 : (j 1).val = h.val * 256 + e.val) :
    val_main_v93 (F := Ideal) p c s g w j
      = if he : e.val < 128 then val_main_v29 (F := Ideal) p g w (ix2 r ⟨h.val * 128 + e.val, by omega⟩)
        else val_main_v56 (F := Ideal) p c s (ix3 r (0 : Fin 1) ⟨e.val - 128, by omega⟩) := by
  have hr : r = ⟨(j 0).val, (j 0).isLt⟩ := Fin.ext h0.symm
  have hj1 : (j 1 : ℕ) < 2048 := (j 1).isLt
  have hh := h.isLt
  have hlt := e.isLt
  subst hr
  by_cases he : e.val < 128
  · rw [dif_pos he]
    pointwise [val_main_v93, val_main_v92, val_main_v60, val_main_v59, val_main_v58, val_main_v57]
    rw [dif_pos (by omega)]
    blk_ext
  · rw [dif_neg he]
    pointwise [val_main_v93, val_main_v92, val_main_v60, val_main_v59, val_main_v58, val_main_v57]
    rw [dif_neg (by omega)]
    blk_ext

/-- An entry of the values. -/
theorem values_at (j : S1024x1024.Idx) : val_main_v95 (F := Ideal) p g w j
    = val_main_v29 (F := Ideal) p g w (ix2 ⟨(j 0).val, (j 0).isLt⟩ ⟨1024 + (j 1).val, Nat.add_lt_add_left (j 1).isLt 1024⟩) := by
  pointwise [val_main_v95, val_main_v94]

/-- An entry of the differential attention's keys is that of its head and lane. -/
theorem dkeys_at (j : S1024x512.Idx) (r : Fin 1024) (h : Fin 4) (t : Fin 128) (h0 : (j 0).val = r.val) (h1 : (j 1).val = h.val * 128 + t.val) :
    val_main_v97 (F := Ideal) p c s j = val_main_v91 (F := Ideal) p c s (ix3 r h t) := by
  pointwise [val_main_v97, val_main_v96]
  all_goals blk_ext

end Cert.Reference13Ideal.Kv
-- ==== Proof.KvCtxFinal.lean ====
module

public import proofs.«01_k».proof.Proof.KvCtxBlock
public import proofs.«01_k».proof.Proof.KvCtxRef
public import Idealize.ShloMosaic.Lib.Pipeline.ValueKit

/-! The last layer's key preparation of the context: what the kernel's output arrays hold, and that they are the reference's. -/

@[expose] public section
set_option maxRecDepth 16384
noncomputable section
namespace Cert.Kernel13Ideal.Kv
open Cert.Kernel13Ideal Cert.Kernel13Ideal.Gen Idealize.ShloMosaic Idealize.ShloMosaic.TcCoe Idealize.SL.Sem
open Idealize.ShloMosaic.Pipeline (Dat)
open Cert.PrepRow

variable (m : (ℓ : Loc nD τ sig) → Buf (Elt Ideal) ℓ)

/-- Where the windows of grid point `t` lie: the point is a block of 512 rows; the latents, the differential attention's
    keys and the rotary key are columns of the projection, the weights are the layer's. -/
theorem idx : ∀ t : Fin cfg0.N, win0_0.index t = ![t.val, 1] ∧ win0_1.index t = ![t.val, 2] ∧ win0_2.index t = ![t.val, 2]
    ∧ win0_3.index t = ![4, 0] ∧ win0_4.index t = ![4, 0] ∧ win0_5.index t = ![0, 0] ∧ win0_6.index t = ![1, 0, 0]
    ∧ win0_7.index t = ![t.val, 0] ∧ win0_8.index t = ![t.val, 0] ∧ win0_9.index t = ![t.val, 0] :=
  (by decide +kernel : ∀ t : Fin grid0.N, _)

/-- An entry of the normed latents against the weights. -/
def dot (p : FVec Ideal S1024x2048 .bf16) (g : FVec Ideal S1x512 .f32) (w : FVec Ideal S2x512x2048 .bf16) (r : Fin 1024) (e : Fin 2048) : EReal :=
  ∑ d : Fin 512, rmsn (fun e => p (ix2 r ⟨512 + e.val, by omega⟩)) (fun e => g (ix2 0 e)) (Ideal.ofBits FTy.f32 0x44000000#32) d * w (ix3 1 d e)

/-- The keys: of each head its 128 columns of the normed latents against the weights, then the shared rotary key. -/
def keys (p : FVec Ideal S1024x2048 .bf16) (c s : FVec Ideal S2560x128 .f32) (g : FVec Ideal S1x512 .f32) (w : FVec Ideal S2x512x2048 .bf16) : FVec Ideal S1024x2048 .bf16 := fun j =>
  have hj0 : (j 0).val < 1024 := (j 0).isLt
  have hj1 : (j 1).val < 2048 := (j 1).isLt
  if he : (j 1).val % 256 < 128 then dot p g w ⟨(j 0).val, by omega⟩ ⟨(j 1).val / 256 * 128 + (j 1).val % 256, by omega⟩
  else rot (fun d => p (ix2 ⟨(j 0).val, by omega⟩ ⟨256 + d.val, by omega⟩)) (fun d => c (ix2 (⟨2048 + (j 0).val % 512, by omega⟩) d))
    (fun d => s (ix2 (⟨2048 + (j 0).val % 512, by omega⟩) d)) ⟨(j 1).val % 256 - 128, by omega⟩

/-- The values: the last 1024 columns of the normed latents against the weights. -/
def values (p : FVec Ideal S1024x2048 .bf16) (g : FVec Ideal S1x512 .f32) (w : FVec Ideal S2x512x2048 .bf16) : FVec Ideal S1024x1024 .bf16 := fun j =>
  dot p g w ⟨(j 0).val, (j 0).isLt⟩ ⟨1024 + (j 1).val, Nat.add_lt_add_left (j 1).isLt 1024⟩

/-- The differential attention's keys: the rotary embedding of each head's 128 columns. -/
def dkeys (p : FVec Ideal S1024x2048 .bf16) (c s : FVec Ideal S2560x128 .f32) : FVec Ideal S1024x512 .bf16 := fun j =>
  have hj0 : (j 0).val < 1024 := (j 0).isLt
  have hj1 : (j 1).val < 512 := (j 1).isLt
  rot (fun d => p (ix2 ⟨(j 0).val, by omega⟩ ⟨1024 + ((j 1).val / 128 * 128 + d.val), by omega⟩)) (fun d => c (ix2 (⟨2048 + (j 0).val % 512, by omega⟩) d))
    (fun d => s (ix2 (⟨2048 + (j 0).val % 512, by omega⟩) d)) ⟨(j 1).val % 128, by omega⟩

/-- The staged block of cosines: the block behind the positions'. -/
theorem cosines (c : Dev nD) (t : Fin cfg0.N) (y : S512x128.Idx) (hy0 : (y 0).val < 512) :
    iblk m c 3 t y = m ((c : Thread nD τ).loc main_arg1) (ix2 (⟨2048 + (t.val * 512 + (y 0).val) % 512, by omega⟩) ⟨(y 1).val, (y 1).isLt⟩) := by
  have hN : t.val < 2 := lt_of_lt_of_eq t.isLt N_0
  blk_ext [iblk, V, idx t]

/-- The staged block of sines: the block behind the positions'. -/
theorem sines (c : Dev nD) (t : Fin cfg0.N) (y : S512x128.Idx) (hy0 : (y 0).val < 512) :
    iblk m c 4 t y = m ((c : Thread nD τ).loc main_arg2) (ix2 (⟨2048 + (t.val * 512 + (y 0).val) % 512, by omega⟩) ⟨(y 1).val, (y 1).isLt⟩) := by
  have hN : t.val < 2 := lt_of_lt_of_eq t.isLt N_0
  blk_ext [iblk, V, idx t]

/-- The staged blocks give the entry of the normed latents against the weights. -/
theorem dot_blk (c : Dev nD) (t : Fin cfg0.N) (r : Fin 512) (e : Fin 2048) (r' : Fin 1024) (hr : r'.val = t.val * 512 + r.val) :
    ∑ d : Fin 512, rmsn (fun e => iblk m c 0 t (ix2 r e)) (fun e => iblk m c 5 t (ix2 0 e)) (Ideal.ofBits FTy.f32 0x44000000#32) d * iblk m c 6 t (ix3 0 d e)
      = dot (m ((c : Thread nD τ).loc main_arg0)) (m ((c : Thread nD τ).loc main_arg3)) (m ((c : Thread nD τ).loc main_arg4)) r' e := by
  unfold dot
  refine Finset.sum_congr rfl fun d _ => congrArg₂ (· * ·) (congrFun (congrArg₂ (fun a b => rmsn a b (Ideal.ofBits FTy.f32 0x44000000#32)) ?_ ?_) d) ?_
  · funext i
    blk_ext [iblk, V, idx t]
  · funext i
    blk_ext [iblk, V, idx t]
  · blk_ext [iblk, V, idx t]

set_option maxHeartbeats 2000000 in
/-- What grid point `t` writes of the keys is its block of `keys` of the arguments. -/
theorem keys_point (c : Dev nD) (t : Fin cfg0.N) (y : S512x2048.Idx) :
    out0_7 (iblk m c 0 t) (iblk m c 1 t) (iblk m c 2 t) (iblk m c 3 t) (iblk m c 4 t) (iblk m c 5 t) (iblk m c 6 t) y
      = keys (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  have ht : t.val < 2 := lt_of_lt_of_eq t.isLt N_0
  have hy0 : (y 0).val < 512 := (y 0).isLt
  have hy1 : (y 1).val < 2048 := (y 1).isLt
  have e0 : ((((cfg0.win 7).blk t).view.emb y) 0).val = t.val * 512 + (y 0).val := by
    blk_simp [idx t]
  have e1 : ((((cfg0.win 7).blk t).view.emb y) 1).val = (y 1).val := by
    blk_simp [idx t]
  rw [keys_at _ _ _ _ _ _ _ y ⟨(y 0).val, hy0⟩ ⟨(y 1).val / 256, by omega⟩ ⟨(y 1).val % 256, by omega⟩ rfl (Nat.div_add_mod' _ _).symm]
  unfold keys
  dsimp only
  simp only [e0, e1]
  by_cases he : (y 1).val % 256 < 128
  · rw [dif_pos he, dif_pos he]
    exact dot_blk m c t ⟨(y 0).val, hy0⟩ _ _ rfl
  · rw [dif_neg he, dif_neg he]
    refine congrFun (congr (congrArg₂ rot ?_ ?_) ?_) _
    · funext d
      blk_ext [iblk, V, idx t]
    · funext d
      exact cosines m c t _ hy0
    · funext d
      exact sines m c t _ hy0

set_option maxHeartbeats 2000000 in
/-- What grid point `t` writes of the values is its block of `values` of the arguments. -/
theorem values_point (c : Dev nD) (t : Fin cfg0.N) (y : S512x1024.Idx) :
    out0_8 (iblk m c 0 t) (iblk m c 1 t) (iblk m c 2 t) (iblk m c 3 t) (iblk m c 4 t) (iblk m c 5 t) (iblk m c 6 t) y
      = values (m ((c : Thread nD τ).loc main_arg0)) (m ((c : Thread nD τ).loc main_arg3)) (m ((c : Thread nD τ).loc main_arg4)) (((cfg0.win 8).blk t).view.emb y) := by
  have e0 : ((((cfg0.win 8).blk t).view.emb y) 0).val = t.val * 512 + (y 0).val := by
    blk_simp [idx t]
  have e1 : ((((cfg0.win 8).blk t).view.emb y) 1).val = (y 1).val := by
    blk_simp [idx t]
  rw [values_at]
  unfold values
  simp only [e1]
  exact dot_blk m c t (y 0) _ _ e0

set_option maxHeartbeats 2000000 in
/-- What grid point `t` writes of the differential attention's keys is its block of `dkeys` of the arguments. -/
theorem dkeys_point (c : Dev nD) (t : Fin cfg0.N) (y : S512x512.Idx) :
    out0_9 (iblk m c 0 t) (iblk m c 1 t) (iblk m c 2 t) (iblk m c 3 t) (iblk m c 4 t) (iblk m c 5 t) (iblk m c 6 t) y
      = dkeys (m ((c : Thread nD τ).loc main_arg0)) (m ((c : Thread nD τ).loc main_arg1)) (m ((c : Thread nD τ).loc main_arg2)) (((cfg0.win 9).blk t).view.emb y) := by
  have ht : t.val < 2 := lt_of_lt_of_eq t.isLt N_0
  have hy0 : (y 0).val < 512 := (y 0).isLt
  have hy1 : (y 1).val < 512 := (y 1).isLt
  have e0 : ((((cfg0.win 9).blk t).view.emb y) 0).val = t.val * 512 + (y 0).val := by
    blk_simp [idx t]
  have e1 : ((((cfg0.win 9).blk t).view.emb y) 1).val = (y 1).val := by
    blk_simp [idx t]
  rw [dkeys_at _ _ _ _ _ _ _ y ⟨(y 0).val, hy0⟩ ⟨(y 1).val / 128, by omega⟩ ⟨(y 1).val % 128, by omega⟩ rfl (Nat.div_add_mod' _ _).symm]
  unfold dkeys
  dsimp only
  simp only [e0, e1]
  refine congrFun (congr (congrArg₂ rot ?_ ?_) ?_) _
  · funext d
    blk_ext [iblk, V, idx t]
  · funext d
    exact cosines m c t _ hy0
  · funext d
    exact sines m c t _ hy0

/-- The array of the keys after the run. -/
theorem keys_final (c : Dev nD) : (dats m 0 c).arrAt 7 (cfgs 0).N = keys (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  exact keys_point m c t y

/-- The array of the values after the run. -/
theorem values_final (c : Dev nD) : (dats m 0 c).arrAt 8 (cfgs 0).N = values (m ((c : Thread nD τ).loc main_arg0)) (m ((c : Thread nD τ).loc main_arg3)) (m ((c : Thread nD τ).loc main_arg4)) := by
  refine (dats m 0 c).arrAt_eq_of_covers 8 _ (by decide +kernel) fun t _ y => ?_
  blk_simp
  rw [after0_8]
  exact values_point m c t y

/-- The array of the differential attention's keys after the run. -/
theorem dkeys_final (c : Dev nD) : (dats m 0 c).arrAt 9 (cfgs 0).N = dkeys (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  exact dkeys_point m c t y

/-- The keys are the reference's. -/
theorem keys_eq_ref (p : FVec Ideal S1024x2048 .bf16) (c s : FVec Ideal S2560x128 .f32) (g : FVec Ideal S1x512 .f32) (w : FVec Ideal S2x512x2048 .bf16) : keys p c s g w = Cert.Reference13Ideal.Read.val_main_v93 (F := Ideal) p c s g w := by
  funext j
  have hj1 : (j 1).val < 2048 := (j 1).isLt
  rw [Cert.Reference13Ideal.Kv.keys_at p c s g w j ⟨(j 0).val, (j 0).isLt⟩ ⟨(j 1).val / 256, by omega⟩ ⟨(j 1).val % 256, by omega⟩ rfl (Nat.div_add_mod' _ _).symm]
  unfold keys
  dsimp only
  by_cases he : (j 1).val % 256 < 128
  · rw [dif_pos he, dif_pos he, Cert.Reference13Ideal.Kv.dot_at]
    rfl
  · rw [dif_neg he, dif_neg he, Cert.Reference13Ideal.Kv.rot_at]
    simp only [Cert.Reference13Ideal.Kv.cos_at, Cert.Reference13Ideal.Kv.sin_at]

/-- The values are the reference's. -/
theorem values_eq_ref (p : FVec Ideal S1024x2048 .bf16) (g : FVec Ideal S1x512 .f32) (w : FVec Ideal S2x512x2048 .bf16) : values p g w = Cert.Reference13Ideal.Read.val_main_v95 (F := Ideal) p g w := by
  funext j
  rw [Cert.Reference13Ideal.Kv.values_at, Cert.Reference13Ideal.Kv.dot_at]
  rfl

/-- The differential attention's keys are the reference's. -/
theorem dkeys_eq_ref (p : FVec Ideal S1024x2048 .bf16) (c s : FVec Ideal S2560x128 .f32) : dkeys p c s = Cert.Reference13Ideal.Read.val_main_v97 (F := Ideal) p c s := by
  funext j
  have hj1 : (j 1).val < 512 := (j 1).isLt
  rw [Cert.Reference13Ideal.Kv.dkeys_at p c s j ⟨(j 0).val, (j 0).isLt⟩ ⟨(j 1).val / 128, by omega⟩ ⟨(j 1).val % 128, by omega⟩ rfl (Nat.div_add_mod' _ _).symm,
    Cert.Reference13Ideal.Kv.drot_at]
  unfold dkeys
  simp only [Cert.Reference13Ideal.Kv.cos_at, Cert.Reference13Ideal.Kv.sin_at]

end Cert.Kernel13Ideal.Kv
-- ==== Proof.KvLastTile.lean ====
module

public import proofs.«01_k».proof.Proof.Gen.Kernel12Ideal.Value
public import proofs.«01_k».proof.Proof.PrepRow
public import Idealize.ShloMosaic.Lib.Pipeline.ValueKit

/-! The parts of a block that the last layer's key preparation of the sequences writes. -/

@[expose] public section
set_option maxRecDepth 16384
noncomputable section
namespace Cert.Kernel12Ideal.Kv
open Cert.Kernel12Ideal Cert.Kernel12Ideal.Gen Idealize.ShloMosaic Idealize.ShloMosaic.TcCoe Idealize.SL.Sem
open Cert.PrepRow

/-- The normed rows of a block against the weights. -/
theorem dot_tile (x : Vec Ideal S512x512 .bf16) (g : Vec Ideal S1x512 .f32) (w : Vec Ideal S1x512x2048 .bf16) (r : Fin 512) (e : Fin 2048) :
    k0_pay2 x g w (ix2 r e)
      = ∑ d : Fin 512, rmsn (fun e => x (ix2 r e)) (fun e => g (ix2 0 e)) (Ideal.ofBits FTy.f32 0x44000000#32) d * w (ix3 0 d e) := by
  unfold rmsn
  pointwise [k0_pay2]

/-- The rotary embedding of a block of rows. -/
theorem rot_tile (c s : Vec Ideal S512x128 .f32) (x : Vec Ideal S512x128 .bf16) (r : Fin 512) (t : Fin 128) :
    k0_pay28 c s x (ix2 r t) = rot (fun d => x (ix2 r d)) (fun d => c (ix2 r d)) (fun d => s (ix2 r d)) t := by
  unfold rot
  pointwise [k0_pay28]
  rw [lane_half, select_partner (fun d => x (ix2 r d)) t]

end Cert.Kernel12Ideal.Kv
-- ==== Proof.KvLastBlock.lean ====
module

public import proofs.«01_k».proof.Proof.KvLastTile

/-! The blocks that a grid point of the last layer's key preparation of the sequences writes. -/

@[expose] public section
set_option maxRecDepth 16384
noncomputable section
namespace Cert.Kernel12Ideal.Kv
open Cert.Kernel12Ideal Cert.Kernel12Ideal.Gen Idealize.ShloMosaic Idealize.ShloMosaic.TcCoe Idealize.SL.Sem
open Cert.PrepRow

variable (x0 : Vec Ideal S512x512 .bf16) (x1 : Vec Ideal S512x512 .bf16) (x2 : Vec Ideal S512x128 .bf16) (x3 x4 : Vec Ideal S512x128 .f32)
    (x5 : Vec Ideal S1x512 .f32) (x6 : Vec Ideal S1x512x2048 .bf16)

/-- The keys' block: of each head its 128 columns of the normed rows against the weights, then the shared rotary key. -/
theorem keys_eq : out0_7 x0 x1 x2 x3 x4 x5 x6 = View.canon [
    ⟨r0_19, k0_pay28 (View.ld x3 r0_0) (View.ld x4 r0_0) (View.ld x2 r0_0)⟩,
    ⟨r0_18, k0_pay17 (k0_pay2 (View.ld x0 r0_1) (View.ld x5 r0_2) (View.ld x6 r0_3))⟩,
    ⟨r0_17, k0_pay28 (View.ld x3 r0_0) (View.ld x4 r0_0) (View.ld x2 r0_0)⟩,
    ⟨r0_16, k0_pay16 (k0_pay2 (View.ld x0 r0_1) (View.ld x5 r0_2) (View.ld x6 r0_3))⟩,
    ⟨r0_15, k0_pay28 (View.ld x3 r0_0) (View.ld x4 r0_0) (View.ld x2 r0_0)⟩,
    ⟨r0_14, k0_pay15 (k0_pay2 (View.ld x0 r0_1) (View.ld x5 r0_2) (View.ld x6 r0_3))⟩,
    ⟨r0_13, k0_pay28 (View.ld x3 r0_0) (View.ld x4 r0_0) (View.ld x2 r0_0)⟩,
    ⟨r0_12, k0_pay14 (k0_pay2 (View.ld x0 r0_1) (View.ld x5 r0_2) (View.ld x6 r0_3))⟩,
    ⟨r0_11, k0_pay28 (View.ld x3 r0_0) (View.ld x4 r0_0) (View.ld x2 r0_0)⟩,
    ⟨r0_10, k0_pay13 (k0_pay2 (View.ld x0 r0_1) (View.ld x5 r0_2) (View.ld x6 r0_3))⟩,
    ⟨r0_9, k0_pay28 (View.ld x3 r0_0) (View.ld x4 r0_0) (View.ld x2 r0_0)⟩,
    ⟨r0_8, k0_pay12 (k0_pay2 (View.ld x0 r0_1) (View.ld x5 r0_2) (View.ld x6 r0_3))⟩,
    ⟨r0_7, k0_pay28 (View.ld x3 r0_0) (View.ld x4 r0_0) (View.ld x2 r0_0)⟩,
    ⟨r0_6, k0_pay11 (k0_pay2 (View.ld x0 r0_1) (View.ld x5 r0_2) (View.ld x6 r0_3))⟩,
    ⟨r0_5, k0_pay28 (View.ld x3 r0_0) (View.ld x4 r0_0) (View.ld x2 r0_0)⟩,
    ⟨r0_4, k0_pay10 (k0_pay2 (View.ld x0 r0_1) (View.ld x5 r0_2) (View.ld x6 r0_3))⟩] := rfl

/-- The differential keys' block: the rotary embedding of each head's 128 lanes. -/
theorem dkeys_eq : out0_9 x0 x1 x2 x3 x4 x5 x6 = View.canon [
    ⟨r0_24, k0_pay28 (View.ld x3 r0_0) (View.ld x4 r0_0) (View.ld x1 r0_24)⟩,
    ⟨r0_23, k0_pay28 (View.ld x3 r0_0) (View.ld x4 r0_0) (View.ld x1 r0_23)⟩,
    ⟨r0_22, k0_pay28 (View.ld x3 r0_0) (View.ld x4 r0_0) (View.ld x1 r0_22)⟩,
    ⟨r0_21, k0_pay28 (View.ld x3 r0_0) (View.ld x4 r0_0) (View.ld x1 r0_21)⟩] := rfl

/-- An entry of the keys' block. -/
theorem keys_at (y : S512x2048.Idx) (r : Fin 512) (h : Fin 8) (e : Fin 256) (h0 : (y 0).val = r.val) (h1 : (y 1).val = h.val * 256 + e.val) :
    out0_7 x0 x1 x2 x3 x4 x5 x6 y
      = if he : e.val < 128 then
          ∑ d : Fin 512, rmsn (fun e => x0 (ix2 r e)) (fun e => x5 (ix2 0 e)) (Ideal.ofBits FTy.f32 0x44000000#32) d
            * x6 (ix3 0 d ⟨h.val * 128 + e.val, by omega⟩)
        else rot (fun d => x2 (ix2 r d)) (fun d => x3 (ix2 r d)) (fun d => x4 (ix2 r d)) ⟨e.val - 128, by omega⟩ := by
  have hh := h.isLt
  have hr : (y 0 : ℕ) = r.val := h0
  rw [keys_eq]
  by_cases he : e.val < 128
  · rw [dif_pos he]
    canon_tiles x hx
    all_goals first
      | (exfalso; omega)
      | (rw [eq_ix2 x]
         refine Eq.trans (b := k0_pay2 (View.ld x0 r0_1) (View.ld x5 r0_2) (View.ld x6 r0_3) (ix2 r ⟨h.val * 128 + e.val, by omega⟩)) ?_ ?_
         · pointwise [k0_pay10, k0_pay11, k0_pay12, k0_pay13, k0_pay14, k0_pay15, k0_pay16, k0_pay17]
           blk_ext
         · rw [dot_tile]
           pointwise <;> blk_point [])
  · rw [dif_neg he]
    canon_tiles x hx
    all_goals first
      | (exfalso; omega)
      | (rw [eq_ix2 x]
         refine (rot_tile _ _ _ (x 0) (x 1)).trans ?_
         congr 1 <;> first | (funext i; pointwise <;> blk_point []; done) | exact Fin.ext (by dsimp only; omega))

/-- An entry of the values' block. -/
theorem values_at (y : S512x1024.Idx) :
    out0_8 x0 x1 x2 x3 x4 x5 x6 y
      = ∑ d : Fin 512, rmsn (fun e => x0 (ix2 (y 0) e)) (fun e => x5 (ix2 0 e)) (Ideal.ofBits FTy.f32 0x44000000#32) d
          * x6 (ix3 0 d ⟨1024 + (y 1).val, Nat.add_lt_add_left (y 1).isLt 1024⟩) := by
  have e : out0_8 x0 x1 x2 x3 x4 x5 x6 = View.canon [⟨r0_20, k0_pay18 (k0_pay2 (View.ld x0 r0_1) (View.ld x5 r0_2) (View.ld x6 r0_3))⟩] := rfl
  rw [e]
  canon_tiles x hx
  rw [eq_ix2 x]
  refine Eq.trans (b := k0_pay2 (View.ld x0 r0_1) (View.ld x5 r0_2) (View.ld x6 r0_3) (ix2 (x 0) ⟨1024 + (x 1).val, by omega⟩)) ?_ ?_
  · pointwise [k0_pay18]
  · refine (dot_tile _ _ _ (x 0) _).trans ?_
    pointwise <;> blk_point []

/-- An entry of the differential keys' block. -/
theorem dkeys_at (y : S512x512.Idx) (r : Fin 512) (h : Fin 4) (t : Fin 128) (h0 : (y 0).val = r.val) (h1 : (y 1).val = h.val * 128 + t.val) :
    out0_9 x0 x1 x2 x3 x4 x5 x6 y
      = rot (fun d => x1 (ix2 r ⟨h.val * 128 + d.val, by omega⟩)) (fun d => x3 (ix2 r d)) (fun d => x4 (ix2 r d)) t := by
  have hh := h.isLt
  have ht := t.isLt
  rw [dkeys_eq]
  canon_tiles x hx
  all_goals
    rw [eq_ix2 x]
    refine (rot_tile _ _ _ (x 0) (x 1)).trans ?_
    congr 1 <;> first | (funext i; pointwise <;> blk_point []; done) | exact Fin.ext (by dsimp only; omega)

end Cert.Kernel12Ideal.Kv
-- ==== Proof.KvLastRef.lean ====
module

public import proofs.«01_k».proof.Proof.Gen.Reference12Ideal.Read
public import proofs.«01_k».proof.Proof.PrepRow
public import Idealize.ShloMosaic.Lib.Pipeline.ValueKit

/-! The reference of the last layer's key preparation of the sequences, entry by entry. -/

@[expose] public section
set_option maxRecDepth 16384
noncomputable section
namespace Cert.Reference12Ideal.Kv
open Cert.Reference12Ideal Cert.Reference12Ideal.Read Idealize.ShloMosaic Idealize.ShloMosaic.TcCoe Idealize.SL.Sem
open Cert.PrepRow

variable (p : (⟨S8192x9728, .bf16⟩ : BufTy).Contents (Elt Ideal)) (c s : (⟨S2560x128, .f32⟩ : BufTy).Contents (Elt Ideal))
    (g : (⟨S1x512, .f32⟩ : BufTy).Contents (Elt Ideal)) (w : (⟨S2x512x2048, .bf16⟩ : BufTy).Contents (Elt Ideal))

/-- The normed rows against the weights. -/
theorem dot_at (r : Fin 8192) (e : Fin 2048) : val_main_v29 (F := Ideal) p g w (ix2 r e)
    = ∑ d : Fin 512, rmsn (fun e => p (ix2 r ⟨7168 + e.val, by omega⟩)) (fun e => g (ix2 0 e)) (Ideal.ofBits FTy.f32 0x44000000#32) d * w (ix3 1 d e) := by
  unfold rmsn
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v0, val_main_cst, val_main_cst_0, val_main_cst_1]

/-- The row of the cosines of a token: its position in its sequence. -/
theorem cos_at (r : Fin 8192) (d : Fin 128) : val_main_v6 (F := Ideal) c (ix2 r d) = c (ix2 ⟨r.val % 2048, by omega⟩ d) := by
  pointwise [val_main_v6, val_main_v5, val_main_v4, val_main_v3]

/-- The row of the sines of a token: its position in its sequence. -/
theorem sin_at (r : Fin 8192) (d : Fin 128) : val_main_v10 (F := Ideal) s (ix2 r d) = s (ix2 ⟨r.val % 2048, by omega⟩ d) := by
  pointwise [val_main_v10, val_main_v9, val_main_v8, val_main_v7]

/-- The rotary key that the heads share. -/
theorem rot_at (r : Fin 8192) (t : Fin 128) :
    val_main_v56 (F := Ideal) p c s (ix3 r (0 : Fin 1) t)
      = rot (fun d => p (ix2 r ⟨6912 + d.val, by omega⟩)) (fun d => val_main_v6 (F := Ideal) c (ix2 r d)) (fun d => val_main_v10 (F := Ideal) s (ix2 r d)) t := by
  have ht := t.isLt
  unfold rot
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v1]
  by_cases h : t.val % 32 < 16
  · rw [dif_pos (by omega), partner_low t h]
    congr 1 <;> congr 1 <;> blk_ext
  · rw [dif_neg (by omega), partner_high t h]
    congr 1 <;> congr 1 <;> blk_ext

/-- The differential attention's keys. -/
theorem drot_at (r : Fin 8192) (h : Fin 4) (t : Fin 128) :
    val_main_v91 (F := Ideal) p c s (ix3 r h t)
      = rot (fun d => p (ix2 r ⟨7680 + (h.val * 128 + d.val), by omega⟩)) (fun d => val_main_v6 (F := Ideal) c (ix2 r d)) (fun d => val_main_v10 (F := Ideal) s (ix2 r d)) t := by
  have ht := t.isLt
  unfold rot
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v2]
  by_cases h : t.val % 32 < 16
  · rw [dif_pos (by omega), partner_low t h]
    congr 1 <;> congr 1 <;> blk_ext
  · rw [dif_neg (by omega), partner_high t h]
    congr 1 <;> congr 1 <;> blk_ext

/-- An entry of the keys: of each head its 128 columns, then the shared rotary key. -/
theorem keys_at (j : S8192x2048.Idx) (r : Fin 8192) (h : Fin 8) (e : Fin 256) (h0 : (j 0).val = r.val) (h1 : (j 1).val = h.val * 256 + e.val) :
    val_main_v93 (F := Ideal) p c s g w j
      = if he : e.val < 128 then val_main_v29 (F := Ideal) p g w (ix2 r ⟨h.val * 128 + e.val, by omega⟩)
        else val_main_v56 (F := Ideal) p c s (ix3 r (0 : Fin 1) ⟨e.val - 128, by omega⟩) := by
  have hr : r = ⟨(j 0).val, (j 0).isLt⟩ := Fin.ext h0.symm
  have hj1 : (j 1 : ℕ) < 2048 := (j 1).isLt
  have hh := h.isLt
  have hlt := e.isLt
  subst hr
  by_cases he : e.val < 128
  · rw [dif_pos he]
    pointwise [val_main_v93, val_main_v92, val_main_v60, val_main_v59, val_main_v58, val_main_v57]
    rw [dif_pos (by omega)]
    blk_ext
  · rw [dif_neg he]
    pointwise [val_main_v93, val_main_v92, val_main_v60, val_main_v59, val_main_v58, val_main_v57]
    rw [dif_neg (by omega)]
    blk_ext

/-- An entry of the values. -/
theorem values_at (j : S8192x1024.Idx) : val_main_v95 (F := Ideal) p g w j
    = val_main_v29 (F := Ideal) p g w (ix2 ⟨(j 0).val, (j 0).isLt⟩ ⟨1024 + (j 1).val, Nat.add_lt_add_left (j 1).isLt 1024⟩) := by
  pointwise [val_main_v95, val_main_v94]

/-- An entry of the differential attention's keys is that of its head and lane. -/
theorem dkeys_at (j : S8192x512.Idx) (r : Fin 8192) (h : Fin 4) (t : Fin 128) (h0 : (j 0).val = r.val) (h1 : (j 1).val = h.val * 128 + t.val) :
    val_main_v97 (F := Ideal) p c s j = val_main_v91 (F := Ideal) p c s (ix3 r h t) := by
  pointwise [val_main_v97, val_main_v96]
  all_goals blk_ext

end Cert.Reference12Ideal.Kv
-- ==== Proof.KvLastFinal.lean ====
module

public import proofs.«01_k».proof.Proof.KvLastBlock
public import proofs.«01_k».proof.Proof.KvLastRef
public import Idealize.ShloMosaic.Lib.Pipeline.ValueKit

/-! The last layer's key preparation of the sequences: what the kernel's output arrays hold, and that they are the reference's. -/

@[expose] public section
set_option maxRecDepth 16384
noncomputable section
namespace Cert.Kernel12Ideal.Kv
open Cert.Kernel12Ideal Cert.Kernel12Ideal.Gen Idealize.ShloMosaic Idealize.ShloMosaic.TcCoe Idealize.SL.Sem
open Idealize.ShloMosaic.Pipeline (Dat)
open Cert.PrepRow

variable (m : (ℓ : Loc nD τ sig) → Buf (Elt Ideal) ℓ)

/-- Where the windows of grid point `t` lie: the point is a block of 512 rows; the latents, the differential attention's
    keys and the rotary key are columns of the projection, the weights are the layer's. -/
theorem idx : ∀ t : Fin cfg0.N, win0_0.index t = ![t.val, 14] ∧ win0_1.index t = ![t.val, 15] ∧ win0_2.index t = ![t.val, 54]
    ∧ win0_3.index t = ![t.val % 4, 0] ∧ win0_4.index t = ![t.val % 4, 0] ∧ win0_5.index t = ![0, 0] ∧ win0_6.index t = ![1, 0, 0]
    ∧ win0_7.index t = ![t.val, 0] ∧ win0_8.index t = ![t.val, 0] ∧ win0_9.index t = ![t.val, 0] :=
  (by decide +kernel : ∀ t : Fin grid0.N, _)

/-- An entry of the normed latents against the weights. -/
def dot (p : FVec Ideal S8192x9728 .bf16) (g : FVec Ideal S1x512 .f32) (w : FVec Ideal S2x512x2048 .bf16) (r : Fin 8192) (e : Fin 2048) : EReal :=
  ∑ d : Fin 512, rmsn (fun e => p (ix2 r ⟨7168 + e.val, by omega⟩)) (fun e => g (ix2 0 e)) (Ideal.ofBits FTy.f32 0x44000000#32) d * w (ix3 1 d e)

/-- The keys: of each head its 128 columns of the normed latents against the weights, then the shared rotary key. -/
def keys (p : FVec Ideal S8192x9728 .bf16) (c s : FVec Ideal S2560x128 .f32) (g : FVec Ideal S1x512 .f32) (w : FVec Ideal S2x512x2048 .bf16) : FVec Ideal S8192x2048 .bf16 := fun j =>
  have hj0 : (j 0).val < 8192 := (j 0).isLt
  have hj1 : (j 1).val < 2048 := (j 1).isLt
  if he : (j 1).val % 256 < 128 then dot p g w ⟨(j 0).val, by omega⟩ ⟨(j 1).val / 256 * 128 + (j 1).val % 256, by omega⟩
  else rot (fun d => p (ix2 ⟨(j 0).val, by omega⟩ ⟨6912 + d.val, by omega⟩)) (fun d => c (ix2 (⟨(j 0).val % 2048, by omega⟩) d))
    (fun d => s (ix2 (⟨(j 0).val % 2048, by omega⟩) d)) ⟨(j 1).val % 256 - 128, by omega⟩

/-- The values: the last 1024 columns of the normed latents against the weights. -/
def values (p : FVec Ideal S8192x9728 .bf16) (g : FVec Ideal S1x512 .f32) (w : FVec Ideal S2x512x2048 .bf16) : FVec Ideal S8192x1024 .bf16 := fun j =>
  dot p g w ⟨(j 0).val, (j 0).isLt⟩ ⟨1024 + (j 1).val, Nat.add_lt_add_left (j 1).isLt 1024⟩

/-- The differential attention's keys: the rotary embedding of each head's 128 columns. -/
def dkeys (p : FVec Ideal S8192x9728 .bf16) (c s : FVec Ideal S2560x128 .f32) : FVec Ideal S8192x512 .bf16 := fun j =>
  have hj0 : (j 0).val < 8192 := (j 0).isLt
  have hj1 : (j 1).val < 512 := (j 1).isLt
  rot (fun d => p (ix2 ⟨(j 0).val, by omega⟩ ⟨7680 + ((j 1).val / 128 * 128 + d.val), by omega⟩)) (fun d => c (ix2 (⟨(j 0).val % 2048, by omega⟩) d))
    (fun d => s (ix2 (⟨(j 0).val % 2048, by omega⟩) d)) ⟨(j 1).val % 128, by omega⟩

/-- The staged block of cosines: the block of the tokens' positions. -/
theorem cosines (c : Dev nD) (t : Fin cfg0.N) (y : S512x128.Idx) (hy0 : (y 0).val < 512) :
    iblk m c 3 t y = m ((c : Thread nD τ).loc main_arg1) (ix2 (⟨(t.val * 512 + (y 0).val) % 2048, by omega⟩) ⟨(y 1).val, (y 1).isLt⟩) := by
  have hN : t.val < 16 := lt_of_lt_of_eq t.isLt N_0
  blk_ext [iblk, V, idx t]

/-- The staged block of sines: the block of the tokens' positions. -/
theorem sines (c : Dev nD) (t : Fin cfg0.N) (y : S512x128.Idx) (hy0 : (y 0).val < 512) :
    iblk m c 4 t y = m ((c : Thread nD τ).loc main_arg2) (ix2 (⟨(t.val * 512 + (y 0).val) % 2048, by omega⟩) ⟨(y 1).val, (y 1).isLt⟩) := by
  have hN : t.val < 16 := lt_of_lt_of_eq t.isLt N_0
  blk_ext [iblk, V, idx t]

/-- The staged blocks give the entry of the normed latents against the weights. -/
theorem dot_blk (c : Dev nD) (t : Fin cfg0.N) (r : Fin 512) (e : Fin 2048) (r' : Fin 8192) (hr : r'.val = t.val * 512 + r.val) :
    ∑ d : Fin 512, rmsn (fun e => iblk m c 0 t (ix2 r e)) (fun e => iblk m c 5 t (ix2 0 e)) (Ideal.ofBits FTy.f32 0x44000000#32) d * iblk m c 6 t (ix3 0 d e)
      = dot (m ((c : Thread nD τ).loc main_arg0)) (m ((c : Thread nD τ).loc main_arg3)) (m ((c : Thread nD τ).loc main_arg4)) r' e := by
  unfold dot
  refine Finset.sum_congr rfl fun d _ => congrArg₂ (· * ·) (congrFun (congrArg₂ (fun a b => rmsn a b (Ideal.ofBits FTy.f32 0x44000000#32)) ?_ ?_) d) ?_
  · funext i
    blk_ext [iblk, V, idx t]
  · funext i
    blk_ext [iblk, V, idx t]
  · blk_ext [iblk, V, idx t]

set_option maxHeartbeats 2000000 in
/-- What grid point `t` writes of the keys is its block of `keys` of the arguments. -/
theorem keys_point (c : Dev nD) (t : Fin cfg0.N) (y : S512x2048.Idx) :
    out0_7 (iblk m c 0 t) (iblk m c 1 t) (iblk m c 2 t) (iblk m c 3 t) (iblk m c 4 t) (iblk m c 5 t) (iblk m c 6 t) y
      = keys (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  have ht : t.val < 16 := lt_of_lt_of_eq t.isLt N_0
  have hy0 : (y 0).val < 512 := (y 0).isLt
  have hy1 : (y 1).val < 2048 := (y 1).isLt
  have e0 : ((((cfg0.win 7).blk t).view.emb y) 0).val = t.val * 512 + (y 0).val := by
    blk_simp [idx t]
  have e1 : ((((cfg0.win 7).blk t).view.emb y) 1).val = (y 1).val := by
    blk_simp [idx t]
  rw [keys_at _ _ _ _ _ _ _ y ⟨(y 0).val, hy0⟩ ⟨(y 1).val / 256, by omega⟩ ⟨(y 1).val % 256, by omega⟩ rfl (Nat.div_add_mod' _ _).symm]
  unfold keys
  dsimp only
  simp only [e0, e1]
  by_cases he : (y 1).val % 256 < 128
  · rw [dif_pos he, dif_pos he]
    exact dot_blk m c t ⟨(y 0).val, hy0⟩ _ _ rfl
  · rw [dif_neg he, dif_neg he]
    refine congrFun (congr (congrArg₂ rot ?_ ?_) ?_) _
    · funext d
      blk_ext [iblk, V, idx t]
    · funext d
      exact cosines m c t _ hy0
    · funext d
      exact sines m c t _ hy0

set_option maxHeartbeats 2000000 in
/-- What grid point `t` writes of the values is its block of `values` of the arguments. -/
theorem values_point (c : Dev nD) (t : Fin cfg0.N) (y : S512x1024.Idx) :
    out0_8 (iblk m c 0 t) (iblk m c 1 t) (iblk m c 2 t) (iblk m c 3 t) (iblk m c 4 t) (iblk m c 5 t) (iblk m c 6 t) y
      = values (m ((c : Thread nD τ).loc main_arg0)) (m ((c : Thread nD τ).loc main_arg3)) (m ((c : Thread nD τ).loc main_arg4)) (((cfg0.win 8).blk t).view.emb y) := by
  have e0 : ((((cfg0.win 8).blk t).view.emb y) 0).val = t.val * 512 + (y 0).val := by
    blk_simp [idx t]
  have e1 : ((((cfg0.win 8).blk t).view.emb y) 1).val = (y 1).val := by
    blk_simp [idx t]
  rw [values_at]
  unfold values
  simp only [e1]
  exact dot_blk m c t (y 0) _ _ e0

set_option maxHeartbeats 2000000 in
/-- What grid point `t` writes of the differential attention's keys is its block of `dkeys` of the arguments. -/
theorem dkeys_point (c : Dev nD) (t : Fin cfg0.N) (y : S512x512.Idx) :
    out0_9 (iblk m c 0 t) (iblk m c 1 t) (iblk m c 2 t) (iblk m c 3 t) (iblk m c 4 t) (iblk m c 5 t) (iblk m c 6 t) y
      = dkeys (m ((c : Thread nD τ).loc main_arg0)) (m ((c : Thread nD τ).loc main_arg1)) (m ((c : Thread nD τ).loc main_arg2)) (((cfg0.win 9).blk t).view.emb y) := by
  have ht : t.val < 16 := lt_of_lt_of_eq t.isLt N_0
  have hy0 : (y 0).val < 512 := (y 0).isLt
  have hy1 : (y 1).val < 512 := (y 1).isLt
  have e0 : ((((cfg0.win 9).blk t).view.emb y) 0).val = t.val * 512 + (y 0).val := by
    blk_simp [idx t]
  have e1 : ((((cfg0.win 9).blk t).view.emb y) 1).val = (y 1).val := by
    blk_simp [idx t]
  rw [dkeys_at _ _ _ _ _ _ _ y ⟨(y 0).val, hy0⟩ ⟨(y 1).val / 128, by omega⟩ ⟨(y 1).val % 128, by omega⟩ rfl (Nat.div_add_mod' _ _).symm]
  unfold dkeys
  dsimp only
  simp only [e0, e1]
  refine congrFun (congr (congrArg₂ rot ?_ ?_) ?_) _
  · funext d
    blk_ext [iblk, V, idx t]
  · funext d
    exact cosines m c t _ hy0
  · funext d
    exact sines m c t _ hy0

/-- The array of the keys after the run. -/
theorem keys_final (c : Dev nD) : (dats m 0 c).arrAt 7 (cfgs 0).N = keys (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  exact keys_point m c t y

/-- The array of the values after the run. -/
theorem values_final (c : Dev nD) : (dats m 0 c).arrAt 8 (cfgs 0).N = values (m ((c : Thread nD τ).loc main_arg0)) (m ((c : Thread nD τ).loc main_arg3)) (m ((c : Thread nD τ).loc main_arg4)) := by
  refine (dats m 0 c).arrAt_eq_of_covers 8 _ (by decide +kernel) fun t _ y => ?_
  blk_simp
  rw [after0_8]
  exact values_point m c t y

/-- The array of the differential attention's keys after the run. -/
theorem dkeys_final (c : Dev nD) : (dats m 0 c).arrAt 9 (cfgs 0).N = dkeys (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  exact dkeys_point m c t y

/-- The keys are the reference's. -/
theorem keys_eq_ref (p : FVec Ideal S8192x9728 .bf16) (c s : FVec Ideal S2560x128 .f32) (g : FVec Ideal S1x512 .f32) (w : FVec Ideal S2x512x2048 .bf16) : keys p c s g w = Cert.Reference12Ideal.Read.val_main_v93 (F := Ideal) p c s g w := by
  funext j
  have hj1 : (j 1).val < 2048 := (j 1).isLt
  rw [Cert.Reference12Ideal.Kv.keys_at p c s g w j ⟨(j 0).val, (j 0).isLt⟩ ⟨(j 1).val / 256, by omega⟩ ⟨(j 1).val % 256, by omega⟩ rfl (Nat.div_add_mod' _ _).symm]
  unfold keys
  dsimp only
  by_cases he : (j 1).val % 256 < 128
  · rw [dif_pos he, dif_pos he, Cert.Reference12Ideal.Kv.dot_at]
    rfl
  · rw [dif_neg he, dif_neg he, Cert.Reference12Ideal.Kv.rot_at]
    simp only [Cert.Reference12Ideal.Kv.cos_at, Cert.Reference12Ideal.Kv.sin_at]

/-- The values are the reference's. -/
theorem values_eq_ref (p : FVec Ideal S8192x9728 .bf16) (g : FVec Ideal S1x512 .f32) (w : FVec Ideal S2x512x2048 .bf16) : values p g w = Cert.Reference12Ideal.Read.val_main_v95 (F := Ideal) p g w := by
  funext j
  rw [Cert.Reference12Ideal.Kv.values_at, Cert.Reference12Ideal.Kv.dot_at]
  rfl

/-- The differential attention's keys are the reference's. -/
theorem dkeys_eq_ref (p : FVec Ideal S8192x9728 .bf16) (c s : FVec Ideal S2560x128 .f32) : dkeys p c s = Cert.Reference12Ideal.Read.val_main_v97 (F := Ideal) p c s := by
  funext j
  have hj1 : (j 1).val < 512 := (j 1).isLt
  rw [Cert.Reference12Ideal.Kv.dkeys_at p c s j ⟨(j 0).val, (j 0).isLt⟩ ⟨(j 1).val / 128, by omega⟩ ⟨(j 1).val % 128, by omega⟩ rfl (Nat.div_add_mod' _ _).symm,
    Cert.Reference12Ideal.Kv.drot_at]
  unfold dkeys
  simp only [Cert.Reference12Ideal.Kv.cos_at, Cert.Reference12Ideal.Kv.sin_at]

end Cert.Kernel12Ideal.Kv
-- ==== Proof.KvFirstTile.lean ====
module

public import proofs.«01_k».proof.Proof.Gen.Kernel10Ideal.Value
public import proofs.«01_k».proof.Proof.PrepRow
public import Idealize.ShloMosaic.Lib.Pipeline.ValueKit

/-! The parts of a block that the first layer's key preparation writes. -/

@[expose] public section
set_option maxRecDepth 16384
noncomputable section
namespace Cert.Kernel10Ideal.Kv
open Cert.Kernel10Ideal Cert.Kernel10Ideal.Gen Idealize.ShloMosaic Idealize.ShloMosaic.TcCoe Idealize.SL.Sem
open Cert.PrepRow

/-- The normed rows of a block against the weights. -/
theorem dot_tile (x : Vec Ideal S512x512 .bf16) (g : Vec Ideal S1x512 .f32) (w : Vec Ideal S1x512x2048 .bf16) (r : Fin 512) (e : Fin 2048) :
    k0_pay2 x g w (ix2 r e)
      = ∑ d : Fin 512, rmsn (fun e => x (ix2 r e)) (fun e => g (ix2 0 e)) (Ideal.ofBits FTy.f32 0x44000000#32) d * w (ix3 0 d e) := by
  unfold rmsn
  pointwise [k0_pay2]

/-- The rotary embedding of a block of rows. -/
theorem rot_tile (c s : Vec Ideal S512x128 .f32) (x : Vec Ideal S512x128 .bf16) (r : Fin 512) (t : Fin 128) :
    k0_pay28 c s x (ix2 r t) = rot (fun d => x (ix2 r d)) (fun d => c (ix2 r d)) (fun d => s (ix2 r d)) t := by
  unfold rot
  pointwise [k0_pay28]
  rw [lane_half, select_partner (fun d => x (ix2 r d)) t]

end Cert.Kernel10Ideal.Kv
-- ==== Proof.KvFirstBlock.lean ====
module

public import proofs.«01_k».proof.Proof.KvFirstTile

/-! The blocks that a grid point of the first layer's key preparation writes. -/

@[expose] public section
set_option maxRecDepth 16384
noncomputable section
namespace Cert.Kernel10Ideal.Kv
open Cert.Kernel10Ideal Cert.Kernel10Ideal.Gen Idealize.ShloMosaic Idealize.ShloMosaic.TcCoe Idealize.SL.Sem
open Cert.PrepRow

variable (x0 : Vec Ideal S512x512 .bf16) (x1 : Vec Ideal S512x512 .bf16) (x2 : Vec Ideal S512x128 .bf16) (x3 x4 : Vec Ideal S512x128 .f32)
    (x5 : Vec Ideal S1x512 .f32) (x6 : Vec Ideal S1x512x2048 .bf16)

/-- The keys' block: of each head its 128 columns of the normed rows against the weights, then the shared rotary key. -/
theorem keys_eq : out0_7 x0 x1 x2 x3 x4 x5 x6 = View.canon [
    ⟨r0_19, k0_pay28 (View.ld x3 r0_0) (View.ld x4 r0_0) (View.ld x2 r0_0)⟩,
    ⟨r0_18, k0_pay17 (k0_pay2 (View.ld x0 r0_1) (View.ld x5 r0_2) (View.ld x6 r0_3))⟩,
    ⟨r0_17, k0_pay28 (View.ld x3 r0_0) (View.ld x4 r0_0) (View.ld x2 r0_0)⟩,
    ⟨r0_16, k0_pay16 (k0_pay2 (View.ld x0 r0_1) (View.ld x5 r0_2) (View.ld x6 r0_3))⟩,
    ⟨r0_15, k0_pay28 (View.ld x3 r0_0) (View.ld x4 r0_0) (View.ld x2 r0_0)⟩,
    ⟨r0_14, k0_pay15 (k0_pay2 (View.ld x0 r0_1) (View.ld x5 r0_2) (View.ld x6 r0_3))⟩,
    ⟨r0_13, k0_pay28 (View.ld x3 r0_0) (View.ld x4 r0_0) (View.ld x2 r0_0)⟩,
    ⟨r0_12, k0_pay14 (k0_pay2 (View.ld x0 r0_1) (View.ld x5 r0_2) (View.ld x6 r0_3))⟩,
    ⟨r0_11, k0_pay28 (View.ld x3 r0_0) (View.ld x4 r0_0) (View.ld x2 r0_0)⟩,
    ⟨r0_10, k0_pay13 (k0_pay2 (View.ld x0 r0_1) (View.ld x5 r0_2) (View.ld x6 r0_3))⟩,
    ⟨r0_9, k0_pay28 (View.ld x3 r0_0) (View.ld x4 r0_0) (View.ld x2 r0_0)⟩,
    ⟨r0_8, k0_pay12 (k0_pay2 (View.ld x0 r0_1) (View.ld x5 r0_2) (View.ld x6 r0_3))⟩,
    ⟨r0_7, k0_pay28 (View.ld x3 r0_0) (View.ld x4 r0_0) (View.ld x2 r0_0)⟩,
    ⟨r0_6, k0_pay11 (k0_pay2 (View.ld x0 r0_1) (View.ld x5 r0_2) (View.ld x6 r0_3))⟩,
    ⟨r0_5, k0_pay28 (View.ld x3 r0_0) (View.ld x4 r0_0) (View.ld x2 r0_0)⟩,
    ⟨r0_4, k0_pay10 (k0_pay2 (View.ld x0 r0_1) (View.ld x5 r0_2) (View.ld x6 r0_3))⟩] := rfl

/-- The differential keys' block: the rotary embedding of each head's 128 lanes. -/
theorem dkeys_eq : out0_9 x0 x1 x2 x3 x4 x5 x6 = View.canon [
    ⟨r0_24, k0_pay28 (View.ld x3 r0_0) (View.ld x4 r0_0) (View.ld x1 r0_24)⟩,
    ⟨r0_23, k0_pay28 (View.ld x3 r0_0) (View.ld x4 r0_0) (View.ld x1 r0_23)⟩,
    ⟨r0_22, k0_pay28 (View.ld x3 r0_0) (View.ld x4 r0_0) (View.ld x1 r0_22)⟩,
    ⟨r0_21, k0_pay28 (View.ld x3 r0_0) (View.ld x4 r0_0) (View.ld x1 r0_21)⟩] := rfl

/-- An entry of the keys' block. -/
theorem keys_at (y : S512x2048.Idx) (r : Fin 512) (h : Fin 8) (e : Fin 256) (h0 : (y 0).val = r.val) (h1 : (y 1).val = h.val * 256 + e.val) :
    out0_7 x0 x1 x2 x3 x4 x5 x6 y
      = if he : e.val < 128 then
          ∑ d : Fin 512, rmsn (fun e => x0 (ix2 r e)) (fun e => x5 (ix2 0 e)) (Ideal.ofBits FTy.f32 0x44000000#32) d
            * x6 (ix3 0 d ⟨h.val * 128 + e.val, by omega⟩)
        else rot (fun d => x2 (ix2 r d)) (fun d => x3 (ix2 r d)) (fun d => x4 (ix2 r d)) ⟨e.val - 128, by omega⟩ := by
  have hh := h.isLt
  have hr : (y 0 : ℕ) = r.val := h0
  rw [keys_eq]
  by_cases he : e.val < 128
  · rw [dif_pos he]
    canon_tiles x hx
    all_goals first
      | (exfalso; omega)
      | (rw [eq_ix2 x]
         refine Eq.trans (b := k0_pay2 (View.ld x0 r0_1) (View.ld x5 r0_2) (View.ld x6 r0_3) (ix2 r ⟨h.val * 128 + e.val, by omega⟩)) ?_ ?_
         · pointwise [k0_pay10, k0_pay11, k0_pay12, k0_pay13, k0_pay14, k0_pay15, k0_pay16, k0_pay17]
           blk_ext
         · rw [dot_tile]
           pointwise <;> blk_point [])
  · rw [dif_neg he]
    canon_tiles x hx
    all_goals first
      | (exfalso; omega)
      | (rw [eq_ix2 x]
         refine (rot_tile _ _ _ (x 0) (x 1)).trans ?_
         congr 1 <;> first | (funext i; pointwise <;> blk_point []; done) | exact Fin.ext (by dsimp only; omega))

/-- An entry of the values' block. -/
theorem values_at (y : S512x1024.Idx) :
    out0_8 x0 x1 x2 x3 x4 x5 x6 y
      = ∑ d : Fin 512, rmsn (fun e => x0 (ix2 (y 0) e)) (fun e => x5 (ix2 0 e)) (Ideal.ofBits FTy.f32 0x44000000#32) d
          * x6 (ix3 0 d ⟨1024 + (y 1).val, Nat.add_lt_add_left (y 1).isLt 1024⟩) := by
  have e : out0_8 x0 x1 x2 x3 x4 x5 x6 = View.canon [⟨r0_20, k0_pay18 (k0_pay2 (View.ld x0 r0_1) (View.ld x5 r0_2) (View.ld x6 r0_3))⟩] := rfl
  rw [e]
  canon_tiles x hx
  rw [eq_ix2 x]
  refine Eq.trans (b := k0_pay2 (View.ld x0 r0_1) (View.ld x5 r0_2) (View.ld x6 r0_3) (ix2 (x 0) ⟨1024 + (x 1).val, by omega⟩)) ?_ ?_
  · pointwise [k0_pay18]
  · refine (dot_tile _ _ _ (x 0) _).trans ?_
    pointwise <;> blk_point []

/-- An entry of the differential keys' block. -/
theorem dkeys_at (y : S512x512.Idx) (r : Fin 512) (h : Fin 4) (t : Fin 128) (h0 : (y 0).val = r.val) (h1 : (y 1).val = h.val * 128 + t.val) :
    out0_9 x0 x1 x2 x3 x4 x5 x6 y
      = rot (fun d => x1 (ix2 r ⟨h.val * 128 + d.val, by omega⟩)) (fun d => x3 (ix2 r d)) (fun d => x4 (ix2 r d)) t := by
  have hh := h.isLt
  have ht := t.isLt
  rw [dkeys_eq]
  canon_tiles x hx
  all_goals
    rw [eq_ix2 x]
    refine (rot_tile _ _ _ (x 0) (x 1)).trans ?_
    congr 1 <;> first | (funext i; pointwise <;> blk_point []; done) | exact Fin.ext (by dsimp only; omega)

end Cert.Kernel10Ideal.Kv
-- ==== Proof.KvFirstRef.lean ====
module

public import proofs.«01_k».proof.Proof.Gen.Reference10Ideal.Read
public import proofs.«01_k».proof.Proof.PrepRow
public import Idealize.ShloMosaic.Lib.Pipeline.ValueKit

/-! The reference of the first layer's key preparation, entry by entry. -/

@[expose] public section
set_option maxRecDepth 16384
noncomputable section
namespace Cert.Reference10Ideal.Kv
open Cert.Reference10Ideal Cert.Reference10Ideal.Read Idealize.ShloMosaic Idealize.ShloMosaic.TcCoe Idealize.SL.Sem
open Cert.PrepRow

variable (p : (⟨S9216x9728, .bf16⟩ : BufTy).Contents (Elt Ideal)) (c s : (⟨S2560x128, .f32⟩ : BufTy).Contents (Elt Ideal))
    (g : (⟨S1x512, .f32⟩ : BufTy).Contents (Elt Ideal)) (w : (⟨S2x512x2048, .bf16⟩ : BufTy).Contents (Elt Ideal))

/-- The normed rows against the weights. -/
theorem dot_at (r : Fin 9216) (e : Fin 2048) : val_main_v39 (F := Ideal) p g w (ix2 r e)
    = ∑ d : Fin 512, rmsn (fun e => p (ix2 r ⟨7168 + e.val, by omega⟩)) (fun e => g (ix2 0 e)) (Ideal.ofBits FTy.f32 0x44000000#32) d * w (ix3 0 d e) := by
  unfold rmsn
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v0, val_main_cst, val_main_cst_0, val_main_cst_1]

/-- The row of the cosines of a sequence's token. -/
theorem cos_lat (r : Fin 8192) (d : Fin 128) : val_main_v11 (F := Ideal) c (ix2 ⟨r.val, by omega⟩ d) = c (ix2 ⟨r.val % 2048, by omega⟩ d) := by
  pointwise [val_main_v11, val_main_v10, val_main_v9, val_main_v8, val_main_v7, val_main_v6, val_main_v5, val_main_v4, val_main_v3]

/-- The row of the cosines of a context's token. -/
theorem cos_ctx (r : Fin 1024) (d : Fin 128) : val_main_v11 (F := Ideal) c (ix2 ⟨8192 + r.val, by omega⟩ d) = c (ix2 ⟨2048 + r.val % 512, by omega⟩ d) := by
  pointwise [val_main_v11, val_main_v10, val_main_v9, val_main_v8, val_main_v7, val_main_v6, val_main_v5, val_main_v4, val_main_v3]

/-- The row of the cosines of a token. -/
theorem cos_at (r : Fin 9216) (d : Fin 128) : val_main_v11 (F := Ideal) c (ix2 r d) = c (ix2 (tabAll r.val) d) := by
  by_cases h : r.val < 8192
  · have e : tabAll r.val = ⟨r.val % 2048, by omega⟩ := Fin.ext (tabAll_lat r.val h)
    rw [e]
    exact cos_lat c ⟨r.val, h⟩ d
  · have e : tabAll r.val = ⟨2048 + (r.val - 8192) % 512, by omega⟩ := Fin.ext ((tabAll_ctx r.val h).trans (by dsimp only; omega))
    have e' : r = ⟨8192 + (r.val - 8192), by omega⟩ := Fin.ext (by dsimp only; omega)
    rw [e]
    refine Eq.trans ?_ (cos_ctx c ⟨r.val - 8192, by omega⟩ d)
    exact congrArg (fun q => val_main_v11 (F := Ideal) c (ix2 q d)) e'

/-- The row of the sines of a sequence's token. -/
theorem sin_lat (r : Fin 8192) (d : Fin 128) : val_main_v20 (F := Ideal) s (ix2 ⟨r.val, by omega⟩ d) = s (ix2 ⟨r.val % 2048, by omega⟩ d) := by
  pointwise [val_main_v20, val_main_v19, val_main_v18, val_main_v17, val_main_v16, val_main_v15, val_main_v14, val_main_v13, val_main_v12]

/-- The row of the sines of a context's token. -/
theorem sin_ctx (r : Fin 1024) (d : Fin 128) : val_main_v20 (F := Ideal) s (ix2 ⟨8192 + r.val, by omega⟩ d) = s (ix2 ⟨2048 + r.val % 512, by omega⟩ d) := by
  pointwise [val_main_v20, val_main_v19, val_main_v18, val_main_v17, val_main_v16, val_main_v15, val_main_v14, val_main_v13, val_main_v12]

/-- The row of the sines of a token. -/
theorem sin_at (r : Fin 9216) (d : Fin 128) : val_main_v20 (F := Ideal) s (ix2 r d) = s (ix2 (tabAll r.val) d) := by
  by_cases h : r.val < 8192
  · have e : tabAll r.val = ⟨r.val % 2048, by omega⟩ := Fin.ext (tabAll_lat r.val h)
    rw [e]
    exact sin_lat s ⟨r.val, h⟩ d
  · have e : tabAll r.val = ⟨2048 + (r.val - 8192) % 512, by omega⟩ := Fin.ext ((tabAll_ctx r.val h).trans (by dsimp only; omega))
    have e' : r = ⟨8192 + (r.val - 8192), by omega⟩ := Fin.ext (by dsimp only; omega)
    rw [e]
    refine Eq.trans ?_ (sin_ctx s ⟨r.val - 8192, by omega⟩ d)
    exact congrArg (fun q => val_main_v20 (F := Ideal) s (ix2 q d)) e'

/-- The rotary key that the heads share. -/
theorem rot_at (r : Fin 9216) (t : Fin 128) :
    val_main_v66 (F := Ideal) p c s (ix3 r (0 : Fin 1) t)
      = rot (fun d => p (ix2 r ⟨6912 + d.val, by omega⟩)) (fun d => val_main_v11 (F := Ideal) c (ix2 r d)) (fun d => val_main_v20 (F := Ideal) s (ix2 r d)) t := by
  have ht := t.isLt
  unfold rot
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v1]
  by_cases h : t.val % 32 < 16
  · rw [dif_pos (by omega), partner_low t h]
    congr 1 <;> congr 1 <;> blk_ext
  · rw [dif_neg (by omega), partner_high t h]
    congr 1 <;> congr 1 <;> blk_ext

/-- The differential attention's keys. -/
theorem drot_at (r : Fin 9216) (h : Fin 4) (t : Fin 128) :
    val_main_v101 (F := Ideal) p c s (ix3 r h t)
      = rot (fun d => p (ix2 r ⟨7680 + (h.val * 128 + d.val), by omega⟩)) (fun d => val_main_v11 (F := Ideal) c (ix2 r d)) (fun d => val_main_v20 (F := Ideal) s (ix2 r d)) t := by
  have ht := t.isLt
  unfold rot
  pointwise [val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v2]
  by_cases h : t.val % 32 < 16
  · rw [dif_pos (by omega), partner_low t h]
    congr 1 <;> congr 1 <;> blk_ext
  · rw [dif_neg (by omega), partner_high t h]
    congr 1 <;> congr 1 <;> blk_ext

/-- An entry of the keys: of each head its 128 columns, then the shared rotary key. -/
theorem keys_at (j : S9216x2048.Idx) (r : Fin 9216) (h : Fin 8) (e : Fin 256) (h0 : (j 0).val = r.val) (h1 : (j 1).val = h.val * 256 + e.val) :
    val_main_v103 (F := Ideal) p c s g w j
      = if he : e.val < 128 then val_main_v39 (F := Ideal) p g w (ix2 r ⟨h.val * 128 + e.val, by omega⟩)
        else val_main_v66 (F := Ideal) p c s (ix3 r (0 : Fin 1) ⟨e.val - 128, by omega⟩) := by
  have hr : r = ⟨(j 0).val, (j 0).isLt⟩ := Fin.ext h0.symm
  have hj1 : (j 1 : ℕ) < 2048 := (j 1).isLt
  have hh := h.isLt
  have hlt := e.isLt
  subst hr
  by_cases he : e.val < 128
  · rw [dif_pos he]
    pointwise [val_main_v103, val_main_v102, val_main_v70, val_main_v69, val_main_v68, val_main_v67]
    rw [dif_pos (by omega)]
    blk_ext
  · rw [dif_neg he]
    pointwise [val_main_v103, val_main_v102, val_main_v70, val_main_v69, val_main_v68, val_main_v67]
    rw [dif_neg (by omega)]
    blk_ext

/-- An entry of the values. -/
theorem values_at (j : S9216x1024.Idx) : val_main_v105 (F := Ideal) p g w j
    = val_main_v39 (F := Ideal) p g w (ix2 ⟨(j 0).val, (j 0).isLt⟩ ⟨1024 + (j 1).val, Nat.add_lt_add_left (j 1).isLt 1024⟩) := by
  pointwise [val_main_v105, val_main_v104]

/-- An entry of the differential attention's keys is that of its head and lane. -/
theorem dkeys_at (j : S9216x512.Idx) (r : Fin 9216) (h : Fin 4) (t : Fin 128) (h0 : (j 0).val = r.val) (h1 : (j 1).val = h.val * 128 + t.val) :
    val_main_v107 (F := Ideal) p c s j = val_main_v101 (F := Ideal) p c s (ix3 r h t) := by
  pointwise [val_main_v107, val_main_v106]
  all_goals blk_ext

end Cert.Reference10Ideal.Kv
-- ==== Proof.KvFirstFinal.lean ====
module

public import proofs.«01_k».proof.Proof.KvFirstBlock
public import proofs.«01_k».proof.Proof.KvFirstRef
public import Idealize.ShloMosaic.Lib.Pipeline.ValueKit

/-! The first layer's key preparation: what the kernel's output arrays hold, and that they are the reference's. -/

@[expose] public section
set_option maxRecDepth 16384
noncomputable section
namespace Cert.Kernel10Ideal.Kv
open Cert.Kernel10Ideal Cert.Kernel10Ideal.Gen Idealize.ShloMosaic Idealize.ShloMosaic.TcCoe Idealize.SL.Sem
open Idealize.ShloMosaic.Pipeline (Dat)
open Cert.PrepRow

variable (m : (ℓ : Loc nD τ sig) → Buf (Elt Ideal) ℓ)

/-- Where the windows of grid point `t` lie: the point is a block of 512 rows; the latents, the differential attention's
    keys and the rotary key are columns of the projection, the weights are the layer's. -/
theorem idx : ∀ t : Fin cfg0.N, win0_0.index t = ![t.val, 14] ∧ win0_1.index t = ![t.val, 15] ∧ win0_2.index t = ![t.val, 54]
    ∧ win0_3.index t = ![if t.val < 16 then t.val % 4 else 4, 0] ∧ win0_4.index t = ![if t.val < 16 then t.val % 4 else 4, 0] ∧ win0_5.index t = ![0, 0] ∧ win0_6.index t = ![0, 0, 0]
    ∧ win0_7.index t = ![t.val, 0] ∧ win0_8.index t = ![t.val, 0] ∧ win0_9.index t = ![t.val, 0] :=
  (by decide +kernel : ∀ t : Fin grid0.N, _)

/-- An entry of the normed latents against the weights. -/
def dot (p : FVec Ideal S9216x9728 .bf16) (g : FVec Ideal S1x512 .f32) (w : FVec Ideal S2x512x2048 .bf16) (r : Fin 9216) (e : Fin 2048) : EReal :=
  ∑ d : Fin 512, rmsn (fun e => p (ix2 r ⟨7168 + e.val, by omega⟩)) (fun e => g (ix2 0 e)) (Ideal.ofBits FTy.f32 0x44000000#32) d * w (ix3 0 d e)

/-- The keys: of each head its 128 columns of the normed latents against the weights, then the shared rotary key. -/
def keys (p : FVec Ideal S9216x9728 .bf16) (c s : FVec Ideal S2560x128 .f32) (g : FVec Ideal S1x512 .f32) (w : FVec Ideal S2x512x2048 .bf16) : FVec Ideal S9216x2048 .bf16 := fun j =>
  have hj0 : (j 0).val < 9216 := (j 0).isLt
  have hj1 : (j 1).val < 2048 := (j 1).isLt
  if he : (j 1).val % 256 < 128 then dot p g w ⟨(j 0).val, by omega⟩ ⟨(j 1).val / 256 * 128 + (j 1).val % 256, by omega⟩
  else rot (fun d => p (ix2 ⟨(j 0).val, by omega⟩ ⟨6912 + d.val, by omega⟩)) (fun d => c (ix2 (tabAll (j 0).val) d))
    (fun d => s (ix2 (tabAll (j 0).val) d)) ⟨(j 1).val % 256 - 128, by omega⟩

/-- The values: the last 1024 columns of the normed latents against the weights. -/
def values (p : FVec Ideal S9216x9728 .bf16) (g : FVec Ideal S1x512 .f32) (w : FVec Ideal S2x512x2048 .bf16) : FVec Ideal S9216x1024 .bf16 := fun j =>
  dot p g w ⟨(j 0).val, (j 0).isLt⟩ ⟨1024 + (j 1).val, Nat.add_lt_add_left (j 1).isLt 1024⟩

/-- The differential attention's keys: the rotary embedding of each head's 128 columns. -/
def dkeys (p : FVec Ideal S9216x9728 .bf16) (c s : FVec Ideal S2560x128 .f32) : FVec Ideal S9216x512 .bf16 := fun j =>
  have hj0 : (j 0).val < 9216 := (j 0).isLt
  have hj1 : (j 1).val < 512 := (j 1).isLt
  rot (fun d => p (ix2 ⟨(j 0).val, by omega⟩ ⟨7680 + ((j 1).val / 128 * 128 + d.val), by omega⟩)) (fun d => c (ix2 (tabAll (j 0).val) d))
    (fun d => s (ix2 (tabAll (j 0).val) d)) ⟨(j 1).val % 128, by omega⟩

/-- The staged block of cosines: the block of the token's positions. -/
theorem cosines (c : Dev nD) (t : Fin cfg0.N) (y : S512x128.Idx) (hy0 : (y 0).val < 512) :
    iblk m c 3 t y = m ((c : Thread nD τ).loc main_arg1) (ix2 (tabAll (t.val * 512 + (y 0).val)) ⟨(y 1).val, (y 1).isLt⟩) := by
  have hN : t.val < 18 := lt_of_lt_of_eq t.isLt N_0
  by_cases h : t.val < 16
  · have ht : t.val * 512 + (y 0).val < 8192 := by omega
    have e := tabAll_lat (t.val * 512 + (y 0).val) ht
    have e3 := (idx t).2.2.2.1
    rw [if_pos h] at e3
    have e4 := (idx t).2.2.2.2.1
    rw [if_pos h] at e4
    blk_ext [iblk, V, e3, e4, e]
  · have ht : ¬ t.val * 512 + (y 0).val < 8192 := by omega
    have e := tabAll_ctx (t.val * 512 + (y 0).val) ht
    have e3 := (idx t).2.2.2.1
    rw [if_neg h] at e3
    have e4 := (idx t).2.2.2.2.1
    rw [if_neg h] at e4
    blk_ext [iblk, V, e3, e4, e]

/-- The staged block of sines: the block of the token's positions. -/
theorem sines (c : Dev nD) (t : Fin cfg0.N) (y : S512x128.Idx) (hy0 : (y 0).val < 512) :
    iblk m c 4 t y = m ((c : Thread nD τ).loc main_arg2) (ix2 (tabAll (t.val * 512 + (y 0).val)) ⟨(y 1).val, (y 1).isLt⟩) := by
  have hN : t.val < 18 := lt_of_lt_of_eq t.isLt N_0
  by_cases h : t.val < 16
  · have ht : t.val * 512 + (y 0).val < 8192 := by omega
    have e := tabAll_lat (t.val * 512 + (y 0).val) ht
    have e3 := (idx t).2.2.2.1
    rw [if_pos h] at e3
    have e4 := (idx t).2.2.2.2.1
    rw [if_pos h] at e4
    blk_ext [iblk, V, e3, e4, e]
  · have ht : ¬ t.val * 512 + (y 0).val < 8192 := by omega
    have e := tabAll_ctx (t.val * 512 + (y 0).val) ht
    have e3 := (idx t).2.2.2.1
    rw [if_neg h] at e3
    have e4 := (idx t).2.2.2.2.1
    rw [if_neg h] at e4
    blk_ext [iblk, V, e3, e4, e]

/-- The staged blocks give the entry of the normed latents against the weights. -/
theorem dot_blk (c : Dev nD) (t : Fin cfg0.N) (r : Fin 512) (e : Fin 2048) (r' : Fin 9216) (hr : r'.val = t.val * 512 + r.val) :
    ∑ d : Fin 512, rmsn (fun e => iblk m c 0 t (ix2 r e)) (fun e => iblk m c 5 t (ix2 0 e)) (Ideal.ofBits FTy.f32 0x44000000#32) d * iblk m c 6 t (ix3 0 d e)
      = dot (m ((c : Thread nD τ).loc main_arg0)) (m ((c : Thread nD τ).loc main_arg3)) (m ((c : Thread nD τ).loc main_arg4)) r' e := by
  unfold dot
  refine Finset.sum_congr rfl fun d _ => congrArg₂ (· * ·) (congrFun (congrArg₂ (fun a b => rmsn a b (Ideal.ofBits FTy.f32 0x44000000#32)) ?_ ?_) d) ?_
  · funext i
    blk_ext [iblk, V, idx t]
  · funext i
    blk_ext [iblk, V, idx t]
  · blk_ext [iblk, V, idx t]

set_option maxHeartbeats 2000000 in
/-- What grid point `t` writes of the keys is its block of `keys` of the arguments. -/
theorem keys_point (c : Dev nD) (t : Fin cfg0.N) (y : S512x2048.Idx) :
    out0_7 (iblk m c 0 t) (iblk m c 1 t) (iblk m c 2 t) (iblk m c 3 t) (iblk m c 4 t) (iblk m c 5 t) (iblk m c 6 t) y
      = keys (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  have ht : t.val < 18 := lt_of_lt_of_eq t.isLt N_0
  have hy0 : (y 0).val < 512 := (y 0).isLt
  have hy1 : (y 1).val < 2048 := (y 1).isLt
  have e0 : ((((cfg0.win 7).blk t).view.emb y) 0).val = t.val * 512 + (y 0).val := by
    blk_simp [idx t]
  have e1 : ((((cfg0.win 7).blk t).view.emb y) 1).val = (y 1).val := by
    blk_simp [idx t]
  rw [keys_at _ _ _ _ _ _ _ y ⟨(y 0).val, hy0⟩ ⟨(y 1).val / 256, by omega⟩ ⟨(y 1).val % 256, by omega⟩ rfl (Nat.div_add_mod' _ _).symm]
  unfold keys
  dsimp only
  simp only [e0, e1]
  by_cases he : (y 1).val % 256 < 128
  · rw [dif_pos he, dif_pos he]
    exact dot_blk m c t ⟨(y 0).val, hy0⟩ _ _ rfl
  · rw [dif_neg he, dif_neg he]
    refine congrFun (congr (congrArg₂ rot ?_ ?_) ?_) _
    · funext d
      blk_ext [iblk, V, idx t]
    · funext d
      exact cosines m c t _ hy0
    · funext d
      exact sines m c t _ hy0

set_option maxHeartbeats 2000000 in
/-- What grid point `t` writes of the values is its block of `values` of the arguments. -/
theorem values_point (c : Dev nD) (t : Fin cfg0.N) (y : S512x1024.Idx) :
    out0_8 (iblk m c 0 t) (iblk m c 1 t) (iblk m c 2 t) (iblk m c 3 t) (iblk m c 4 t) (iblk m c 5 t) (iblk m c 6 t) y
      = values (m ((c : Thread nD τ).loc main_arg0)) (m ((c : Thread nD τ).loc main_arg3)) (m ((c : Thread nD τ).loc main_arg4)) (((cfg0.win 8).blk t).view.emb y) := by
  have e0 : ((((cfg0.win 8).blk t).view.emb y) 0).val = t.val * 512 + (y 0).val := by
    blk_simp [idx t]
  have e1 : ((((cfg0.win 8).blk t).view.emb y) 1).val = (y 1).val := by
    blk_simp [idx t]
  rw [values_at]
  unfold values
  simp only [e1]
  exact dot_blk m c t (y 0) _ _ e0

set_option maxHeartbeats 2000000 in
/-- What grid point `t` writes of the differential attention's keys is its block of `dkeys` of the arguments. -/
theorem dkeys_point (c : Dev nD) (t : Fin cfg0.N) (y : S512x512.Idx) :
    out0_9 (iblk m c 0 t) (iblk m c 1 t) (iblk m c 2 t) (iblk m c 3 t) (iblk m c 4 t) (iblk m c 5 t) (iblk m c 6 t) y
      = dkeys (m ((c : Thread nD τ).loc main_arg0)) (m ((c : Thread nD τ).loc main_arg1)) (m ((c : Thread nD τ).loc main_arg2)) (((cfg0.win 9).blk t).view.emb y) := by
  have ht : t.val < 18 := lt_of_lt_of_eq t.isLt N_0
  have hy0 : (y 0).val < 512 := (y 0).isLt
  have hy1 : (y 1).val < 512 := (y 1).isLt
  have e0 : ((((cfg0.win 9).blk t).view.emb y) 0).val = t.val * 512 + (y 0).val := by
    blk_simp [idx t]
  have e1 : ((((cfg0.win 9).blk t).view.emb y) 1).val = (y 1).val := by
    blk_simp [idx t]
  rw [dkeys_at _ _ _ _ _ _ _ y ⟨(y 0).val, hy0⟩ ⟨(y 1).val / 128, by omega⟩ ⟨(y 1).val % 128, by omega⟩ rfl (Nat.div_add_mod' _ _).symm]
  unfold dkeys
  dsimp only
  simp only [e0, e1]
  refine congrFun (congr (congrArg₂ rot ?_ ?_) ?_) _
  · funext d
    blk_ext [iblk, V, idx t]
  · funext d
    exact cosines m c t _ hy0
  · funext d
    exact sines m c t _ hy0

/-- The array of the keys after the run. -/
theorem keys_final (c : Dev nD) : (dats m 0 c).arrAt 7 (cfgs 0).N = keys (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  exact keys_point m c t y

/-- The array of the values after the run. -/
theorem values_final (c : Dev nD) : (dats m 0 c).arrAt 8 (cfgs 0).N = values (m ((c : Thread nD τ).loc main_arg0)) (m ((c : Thread nD τ).loc main_arg3)) (m ((c : Thread nD τ).loc main_arg4)) := by
  refine (dats m 0 c).arrAt_eq_of_covers 8 _ (by decide +kernel) fun t _ y => ?_
  blk_simp
  rw [after0_8]
  exact values_point m c t y

/-- The array of the differential attention's keys after the run. -/
theorem dkeys_final (c : Dev nD) : (dats m 0 c).arrAt 9 (cfgs 0).N = dkeys (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  exact dkeys_point m c t y

/-- The keys are the reference's. -/
theorem keys_eq_ref (p : FVec Ideal S9216x9728 .bf16) (c s : FVec Ideal S2560x128 .f32) (g : FVec Ideal S1x512 .f32) (w : FVec Ideal S2x512x2048 .bf16) : keys p c s g w = Cert.Reference10Ideal.Read.val_main_v103 (F := Ideal) p c s g w := by
  funext j
  have hj1 : (j 1).val < 2048 := (j 1).isLt
  rw [Cert.Reference10Ideal.Kv.keys_at p c s g w j ⟨(j 0).val, (j 0).isLt⟩ ⟨(j 1).val / 256, by omega⟩ ⟨(j 1).val % 256, by omega⟩ rfl (Nat.div_add_mod' _ _).symm]
  unfold keys
  dsimp only
  by_cases he : (j 1).val % 256 < 128
  · rw [dif_pos he, dif_pos he, Cert.Reference10Ideal.Kv.dot_at]
    rfl
  · rw [dif_neg he, dif_neg he, Cert.Reference10Ideal.Kv.rot_at]
    simp only [Cert.Reference10Ideal.Kv.cos_at, Cert.Reference10Ideal.Kv.sin_at]

/-- The values are the reference's. -/
theorem values_eq_ref (p : FVec Ideal S9216x9728 .bf16) (g : FVec Ideal S1x512 .f32) (w : FVec Ideal S2x512x2048 .bf16) : values p g w = Cert.Reference10Ideal.Read.val_main_v105 (F := Ideal) p g w := by
  funext j
  rw [Cert.Reference10Ideal.Kv.values_at, Cert.Reference10Ideal.Kv.dot_at]
  rfl

/-- The differential attention's keys are the reference's. -/
theorem dkeys_eq_ref (p : FVec Ideal S9216x9728 .bf16) (c s : FVec Ideal S2560x128 .f32) : dkeys p c s = Cert.Reference10Ideal.Read.val_main_v107 (F := Ideal) p c s := by
  funext j
  have hj1 : (j 1).val < 512 := (j 1).isLt
  rw [Cert.Reference10Ideal.Kv.dkeys_at p c s j ⟨(j 0).val, (j 0).isLt⟩ ⟨(j 1).val / 128, by omega⟩ ⟨(j 1).val % 128, by omega⟩ rfl (Nat.div_add_mod' _ _).symm,
    Cert.Reference10Ideal.Kv.drot_at]
  unfold dkeys
  simp only [Cert.Reference10Ideal.Kv.cos_at, Cert.Reference10Ideal.Kv.sin_at]

end Cert.Kernel10Ideal.Kv
-- ==== Proof.DiffFirstTile.lean ====
module

public import proofs.«01_k».proof.Proof.Gen.Kernel9Ideal.Value
public import proofs.«01_k».proof.Proof.DiffRow
public import Idealize.ShloMosaic.Lib.Pipeline.ValueKit

@[expose] public section
set_option maxRecDepth 16384
noncomputable section
namespace Cert.Kernel9Ideal.Diff
open Cert.Kernel9Ideal Cert.Kernel9Ideal.Gen Idealize.ShloMosaic Idealize.ShloMosaic.TcCoe Idealize.SL.Sem
open Cert.Softmax Cert.DiffRow

/-- One row tile of the kernel: 256 query rows of one head against the head's sequence keys and context keys. -/
def tile (q : Vec Ideal S256x128 .bf16) (lam : Vec Ideal S4x64 .f32) (g : Vec Ideal S1x128 .f32) (k : Vec Ideal S2048x128 .bf16)
    (kc : Vec Ideal S256x128 .bf16) (v : Vec Ideal S2048x128 .bf16) (vc : Vec Ideal S256x128 .bf16) : FVec Ideal S256x128 .bf16 :=
  k0_pay20 (k0_pay2 lam) (k0_pay12 (k0_pay5 q k) (k0_pay6 q kc)) (k0_pay15 (k0_pay7 q k) (k0_pay8 q kc)) (k0_pay16 (k0_pay7 q k) (k0_pay8 q kc))
    (k0_pay17 (k0_pay5 q k) (k0_pay6 q kc) v) (k0_pay18 (k0_pay7 q k) (k0_pay8 q kc) v) (k0_pay19 (k0_pay5 q k) (k0_pay6 q kc)) vc vc g

variable (q : Vec Ideal S256x128 .bf16) (lam : Vec Ideal S4x64 .f32) (g : Vec Ideal S1x128 .f32) (k : Vec Ideal S2048x128 .bf16)
    (kc : Vec Ideal S256x128 .bf16) (v : Vec Ideal S2048x128 .bf16) (vc : Vec Ideal S256x128 .bf16)

/-- The scores of map 1 against the sequence keys. -/
theorem seq1 (r : Fin 256) (i : Fin 2048) : k0_pay5 q k (ix2 r i) = score1 (fun d => q (ix2 r d)) (fun d => k (ix2 i d)) := by
  refine Eq.trans ?_ (masked_low fun d => q (ix2 r d) * k (ix2 i d))
  pointwise [k0_pay5, k0_pay3]

/-- The scores of map 1 against the context keys. -/
theorem ctx1 (r : Fin 256) (i : Fin 256) : k0_pay6 q kc (ix2 r i) = score1 (fun d => q (ix2 r d)) (fun d => kc (ix2 i d)) := by
  refine Eq.trans ?_ (masked_low fun d => q (ix2 r d) * kc (ix2 i d))
  pointwise [k0_pay6, k0_pay3]

/-- The scores of map 2 against the sequence keys. -/
theorem seq2 (r : Fin 256) (i : Fin 2048) : k0_pay7 q k (ix2 r i) = score2 (fun d => q (ix2 r d)) (fun d => k (ix2 i d)) := by
  refine Eq.trans ?_ (masked_high fun d => q (ix2 r d) * k (ix2 i d))
  pointwise [k0_pay7, k0_pay4]

/-- The scores of map 2 against the context keys. -/
theorem ctx2 (r : Fin 256) (i : Fin 256) : k0_pay8 q kc (ix2 r i) = score2 (fun d => q (ix2 r d)) (fun d => kc (ix2 i d)) := by
  refine Eq.trans ?_ (masked_high fun d => q (ix2 r d) * kc (ix2 i d))
  pointwise [k0_pay8, k0_pay4]

/-- The weight of the second map. -/
theorem lam_at (a b : Fin 1) : k0_pay2 lam (ix2 a b) = lambda (fun a d => lam (ix2 a d)) (Ideal.ofBits FTy.f32 0x3E4CCCCD#32) := by
  unfold lambda
  pointwise [k0_pay2]

variable (s : FVec Ideal S256x2048 .f32) (sc : FVec Ideal S256x256 .f32) in
/-- The largest score of a row of map 1. -/
theorem max1 (r : Fin 256) (b : Fin 1) : k0_pay9 s sc (ix2 r b) = max (top fun i => s (ix2 r i)) (top fun i => sc (ix2 r i)) := by
  unfold top
  rw [← negInf]
  pointwise [k0_pay9]

variable (s : FVec Ideal S256x2048 .f32) (sc : FVec Ideal S256x256 .f32) in
/-- The weights of the sequence keys in map 1, before normalization. -/
theorem exp_seq1 (r : Fin 256) (i : Fin 2048) : k0_pay10 s sc (ix2 r i) = Ideal.exp (s (ix2 r i) - max (top fun i => s (ix2 r i)) (top fun i => sc (ix2 r i))) := by
  rw [← max1 s sc r 0]
  pointwise [k0_pay10]

variable (s : FVec Ideal S256x2048 .f32) (sc : FVec Ideal S256x256 .f32) in
/-- The weights of the context keys in map 1, before normalization. -/
theorem exp_ctx1 (r : Fin 256) (i : Fin 256) : k0_pay11 s sc (ix2 r i) = Ideal.exp (sc (ix2 r i) - max (top fun i => s (ix2 r i)) (top fun i => sc (ix2 r i))) := by
  rw [← max1 s sc r 0]
  pointwise [k0_pay11]

variable (s : FVec Ideal S256x2048 .f32) (sc : FVec Ideal S256x256 .f32) in
/-- The largest score of a row of map 2. -/
theorem max2 (r : Fin 256) (b : Fin 1) : k0_pay13 s sc (ix2 r b) = max (top fun i => s (ix2 r i)) (top fun i => sc (ix2 r i)) := by
  unfold top
  rw [← negInf]
  pointwise [k0_pay13]

variable (s : FVec Ideal S256x2048 .f32) (sc : FVec Ideal S256x256 .f32) in
/-- The weights of the sequence keys in map 2, before normalization. -/
theorem exp_seq2 (r : Fin 256) (i : Fin 2048) : k0_pay14 s sc (ix2 r i) = Ideal.exp (s (ix2 r i) - max (top fun i => s (ix2 r i)) (top fun i => sc (ix2 r i))) := by
  rw [← max2 s sc r 0]
  pointwise [k0_pay14]

variable (s : FVec Ideal S256x2048 .f32) (sc : FVec Ideal S256x256 .f32) in
/-- The weights of the context keys in map 2, before normalization. -/
theorem exp_ctx2 (r : Fin 256) (i : Fin 256) : k0_pay15 s sc (ix2 r i) = Ideal.exp (sc (ix2 r i) - max (top fun i => s (ix2 r i)) (top fun i => sc (ix2 r i))) := by
  rw [← max2 s sc r 0]
  pointwise [k0_pay15]

variable (s : FVec Ideal S256x2048 .f32) (sc : FVec Ideal S256x256 .f32) in
/-- The reciprocal of the sum of a row's weights in map 1. -/
theorem inv1 (r : Fin 256) (b : Fin 1) : k0_pay12 s sc (ix2 r b)
    = Ideal.div 1 ((∑ i : Fin 2048, k0_pay10 s sc (ix2 r i)) + ∑ i : Fin 256, k0_pay11 s sc (ix2 r i)) := by
  pointwise [k0_pay12]

variable (s : FVec Ideal S256x2048 .f32) (sc : FVec Ideal S256x256 .f32) in
/-- The weighted sum of the sequence's values in map 1. -/
theorem num1 (r : Fin 256) (f : Fin 128) : k0_pay17 s sc v (ix2 r f) = ∑ i : Fin 2048, k0_pay10 s sc (ix2 r i) * v (ix2 i f) := by
  pointwise [k0_pay17]

variable (s : FVec Ideal S256x2048 .f32) (sc : FVec Ideal S256x256 .f32) in
/-- The reciprocal of the sum of a row's weights in map 2. -/
theorem inv2 (r : Fin 256) (b : Fin 1) : k0_pay16 s sc (ix2 r b)
    = Ideal.div 1 ((∑ i : Fin 2048, k0_pay14 s sc (ix2 r i)) + ∑ i : Fin 256, k0_pay15 s sc (ix2 r i)) := by
  pointwise [k0_pay16]

variable (s : FVec Ideal S256x2048 .f32) (sc : FVec Ideal S256x256 .f32) in
/-- The weighted sum of the sequence's values in map 2. -/
theorem num2 (r : Fin 256) (f : Fin 128) : k0_pay18 s sc v (ix2 r f) = ∑ i : Fin 2048, k0_pay14 s sc (ix2 r i) * v (ix2 i f) := by
  pointwise [k0_pay18]

/-- The last part of the tile: the difference of the two maps' weighted sums, normed. -/
theorem last_at (l : FVec Ideal S1x1 .f32) (i1 i2 : FVec Ideal S256x1 .f32) (w2 : FVec Ideal S256x256 .f32) (n1 n2 : FVec Ideal S256x128 .f32)
    (w1 : FVec Ideal S256x256 .bf16) (r : Fin 256) (e : Fin 128) :
    k0_pay20 l i1 w2 i2 n1 n2 w1 vc vc g (ix2 r e)
      = rmsRow (fun f => (n1 (ix2 r f) + ∑ i : Fin 256, w1 (ix2 r i) * vc (ix2 i f)) * i1 (ix2 r 0)
          - (n2 (ix2 r f) + ∑ i : Fin 256, w2 (ix2 r i) * vc (ix2 i f)) * (l (ix2 0 0) * i2 (ix2 r 0)))
        (fun f => g (ix2 0 f)) (Ideal.ofBits FTy.f32 0x3F4CCCCD#32) e := by
  unfold rmsRow
  pointwise [k0_pay20]

/-- A row of the tile, from the row's scores in the two maps. -/
theorem tile_at (r : Fin 256) (e : Fin 128) :
    tile q lam g k kc v vc (ix2 r e)
      = diffRow (fun d => q (ix2 r d)) (fun i d => k (ix2 i d)) (fun i d => v (ix2 i d)) (fun i d => kc (ix2 i d)) (fun i d => vc (ix2 i d))
          (lambda (fun a d => lam (ix2 a d)) (Ideal.ofBits FTy.f32 0x3E4CCCCD#32)) (fun f => g (ix2 0 f)) (Ideal.ofBits FTy.f32 0x3F4CCCCD#32) e := by
  unfold tile diffRow
  rw [last_at]
  congr 1
  funext f
  unfold twoGroups
  rw [lam_at, inv1, inv2, num1, num2, mul_left_comm]
  have c1 : ∀ s sc i, (k0_pay19 (F := Ideal) s sc (ix2 r i) : EReal) = k0_pay11 s sc (ix2 r i) := fun s sc i => rfl
  simp only [c1, exp_seq1, exp_seq2, exp_ctx1, exp_ctx2, seq1, seq2, ctx1, ctx2]

end Cert.Kernel9Ideal.Diff
-- ==== Proof.DiffFirstBlock.lean ====
module

public import proofs.«01_k».proof.Proof.DiffFirstTile
public import Idealize.ShloMosaic.Lib.Pipeline.ReadBack

/-! The block that a grid point of the first layer's differential attention writes. -/

@[expose] public section
set_option maxRecDepth 16384
noncomputable section
namespace Cert.Kernel9Ideal.Diff
open Cert.Kernel9Ideal Cert.Kernel9Ideal.Gen Idealize.ShloMosaic Idealize.ShloMosaic.TcCoe Idealize.SL.Sem
open Cert.Softmax Cert.DiffRow

variable (q : Vec Ideal S2048x128 .bf16) (lam : Vec Ideal S4x64 .f32) (g : Vec Ideal S1x128 .f32) (k : Vec Ideal S2048x128 .bf16)
    (kc : Vec Ideal S256x128 .bf16) (v : Vec Ideal S2048x128 .bf16) (vc : Vec Ideal S256x128 .bf16)

/-- The block that one grid point writes: 2048 query rows of one head of one batch, every row the differential attention's
    row over the head's keys. -/
theorem block (c : Dev nD) (t : Fin cfg0.N) (y : S2048x128.Idx) :
    out0_A_7 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) q lam g k kc v vc y
      = diffRow (fun d => q (ix2 (y 0) d)) (fun i d => k (ix2 i d)) (fun i d => v (ix2 i d)) (fun i d => kc (ix2 i d)) (fun i d => vc (ix2 i d))
          (lambda (fun a d => lam (ix2 a d)) (Ideal.ofBits FTy.f32 0x3E4CCCCD#32)) (fun f => g (ix2 0 f)) (Ideal.ofBits FTy.f32 0x3F4CCCCD#32) (y 1) := by
  frame_out
  change View.canon (Val := Elt Ideal) (s := S2048x128) (e := .bf16) [
    ⟨Rect.unit ![1792, 0] ![256, 128] inb_S2048x128_S256x128_1792_0, tile (View.ld q (Rect.unit ![1792, 0] ![256, 128] inb_S2048x128_S256x128_1792_0)) lam g k kc v vc⟩,
    ⟨Rect.unit ![1536, 0] ![256, 128] inb_S2048x128_S256x128_1536_0, tile (View.ld q (Rect.unit ![1536, 0] ![256, 128] inb_S2048x128_S256x128_1536_0)) lam g k kc v vc⟩,
    ⟨Rect.unit ![1280, 0] ![256, 128] inb_S2048x128_S256x128_1280_0, tile (View.ld q (Rect.unit ![1280, 0] ![256, 128] inb_S2048x128_S256x128_1280_0)) lam g k kc v vc⟩,
    ⟨Rect.unit ![1024, 0] ![256, 128] inb_S2048x128_S256x128_1024_0, tile (View.ld q (Rect.unit ![1024, 0] ![256, 128] inb_S2048x128_S256x128_1024_0)) lam g k kc v vc⟩,
    ⟨Rect.unit ![768, 0] ![256, 128] inb_S2048x128_S256x128_768_0, tile (View.ld q (Rect.unit ![768, 0] ![256, 128] inb_S2048x128_S256x128_768_0)) lam g k kc v vc⟩,
    ⟨Rect.unit ![512, 0] ![256, 128] inb_S2048x128_S256x128_512_0, tile (View.ld q (Rect.unit ![512, 0] ![256, 128] inb_S2048x128_S256x128_512_0)) lam g k kc v vc⟩,
    ⟨Rect.unit ![256, 0] ![256, 128] inb_S2048x128_S256x128_256_0, tile (View.ld q (Rect.unit ![256, 0] ![256, 128] inb_S2048x128_S256x128_256_0)) lam g k kc v vc⟩,
    ⟨Rect.unit ![0, 0] ![256, 128] inb_S2048x128_S256x128_0_0, tile (View.ld q (Rect.unit ![0, 0] ![256, 128] inb_S2048x128_S256x128_0_0)) lam g k kc v vc⟩] y = _
  canon_tiles x h
  all_goals rw [eq_ix2 x]; refine (tile_at _ _ _ _ _ _ _ (x 0) (x 1)).trans ?_
  all_goals (congr 1 <;> first | (funext i d; pointwise <;> blk_point []; done) | (funext i; pointwise <;> blk_point []; done) | exact Fin.ext h1.symm)

end Cert.Kernel9Ideal.Diff
-- ==== Proof.DiffFirstRef.lean ====
module

public import proofs.«01_k».proof.Proof.Gen.Reference9Ideal.Read
public import proofs.«01_k».proof.Proof.DiffRow
public import Idealize.ShloMosaic.Lib.Pipeline.ValueKit

/-! The reference of the first layer's differential attention, entry by entry. -/

@[expose] public section
set_option maxRecDepth 16384
noncomputable section
namespace Cert.Reference9Ideal.Diff
open Cert.Reference9Ideal Cert.Reference9Ideal.Read Idealize.ShloMosaic Idealize.ShloMosaic.TcCoe Idealize.SL.Sem
open Cert.Softmax Cert.DiffRow

variable (x0 : (⟨S9216x512, .bf16⟩ : BufTy).Contents (Elt Ideal)) (x1 : (⟨S4x64, .f32⟩ : BufTy).Contents (Elt Ideal)) (x2 : (⟨S1x128, .f32⟩ : BufTy).Contents (Elt Ideal)) (x3 : (⟨S9216x512, .bf16⟩ : BufTy).Contents (Elt Ideal)) (x4 : (⟨S9216x9728, .bf16⟩ : BufTy).Contents (Elt Ideal))

/-- The reference's score of map 1 of a query row against a context key. -/
theorem score_ctx1 (b : Fin 4) (h : Fin 4) (q : Fin 2048) (k : Fin 256) :
    val_main_v37 (F := Ideal) x0 x3 (ix5 b h (⟨0, by omega⟩ : Fin 2) q ⟨k, by omega⟩)
      = score1 (fun d => x0 (ix2 ⟨b * 2048 + q, by omega⟩ ⟨h * 128 + d, by omega⟩)) (fun d => x3 (ix2 ⟨8192 + (b * 256 + k), by omega⟩ ⟨h * 128 + d, by omega⟩)) := by
  unfold score1
  pointwise [val_main_v37, val_main_v16, val_main_v15, val_main_v14, val_main_v6, val_main_v5, val_main_v4, val_main_v3, val_main_v2, val_main_v1, val_main_v0]
  all_goals blk_ext

/-- The reference's score of map 1 of a query row against a sequence key. -/
theorem score_seq1 (b : Fin 4) (h : Fin 4) (q : Fin 2048) (k : Fin 2048) :
    val_main_v37 (F := Ideal) x0 x3 (ix5 b h (⟨0, by omega⟩ : Fin 2) q ⟨256 + k, by omega⟩)
      = score1 (fun d => x0 (ix2 ⟨b * 2048 + q, by omega⟩ ⟨h * 128 + d, by omega⟩)) (fun d => x3 (ix2 ⟨b * 2048 + k, by omega⟩ ⟨h * 128 + d, by omega⟩)) := by
  unfold score1
  pointwise [val_main_v37, val_main_v16, val_main_v15, val_main_v14, val_main_v6, val_main_v5, val_main_v4, val_main_v3, val_main_v2, val_main_v1, val_main_v0]
  all_goals blk_ext

/-- The reference's score of map 2 of a query row against a context key. -/
theorem score_ctx2 (b : Fin 4) (h : Fin 4) (q : Fin 2048) (k : Fin 256) :
    val_main_v37 (F := Ideal) x0 x3 (ix5 b h (⟨1, by omega⟩ : Fin 2) q ⟨k, by omega⟩)
      = score2 (fun d => x0 (ix2 ⟨b * 2048 + q, by omega⟩ ⟨h * 128 + d, by omega⟩)) (fun d => x3 (ix2 ⟨8192 + (b * 256 + k), by omega⟩ ⟨h * 128 + d, by omega⟩)) := by
  unfold score2
  pointwise [val_main_v37, val_main_v16, val_main_v15, val_main_v14, val_main_v6, val_main_v5, val_main_v4, val_main_v3, val_main_v2, val_main_v1, val_main_v0]
  all_goals simp only [Nat.add_assoc]

/-- The reference's score of map 2 of a query row against a sequence key. -/
theorem score_seq2 (b : Fin 4) (h : Fin 4) (q : Fin 2048) (k : Fin 2048) :
    val_main_v37 (F := Ideal) x0 x3 (ix5 b h (⟨1, by omega⟩ : Fin 2) q ⟨256 + k, by omega⟩)
      = score2 (fun d => x0 (ix2 ⟨b * 2048 + q, by omega⟩ ⟨h * 128 + d, by omega⟩)) (fun d => x3 (ix2 ⟨b * 2048 + k, by omega⟩ ⟨h * 128 + d, by omega⟩)) := by
  unfold score2
  pointwise [val_main_v37, val_main_v16, val_main_v15, val_main_v14, val_main_v6, val_main_v5, val_main_v4, val_main_v3, val_main_v2, val_main_v1, val_main_v0]
  all_goals simp only [Nat.add_assoc]

/-- The reference's value row of a context key. -/
theorem value_ctx (b : Fin 4) (h : Fin 4) (e : Fin 128) (k : Fin 256) :
    val_main_v13 (F := Ideal) x4 (ix4 b ⟨k, by omega⟩ h e) = x4 (ix2 ⟨8192 + (b * 256 + k), by omega⟩ ⟨8192 + (h * 128 + e), by omega⟩) := by
  pointwise [val_main_v13, val_main_v12, val_main_v11, val_main_v10, val_main_v9, val_main_v8, val_main_v7]
  all_goals blk_ext

/-- The reference's value row of a sequence key. -/
theorem value_seq (b : Fin 4) (h : Fin 4) (e : Fin 128) (k : Fin 2048) :
    val_main_v13 (F := Ideal) x4 (ix4 b ⟨256 + k, by omega⟩ h e) = x4 (ix2 ⟨b * 2048 + k, by omega⟩ ⟨8192 + (h * 128 + e), by omega⟩) := by
  pointwise [val_main_v13, val_main_v12, val_main_v11, val_main_v10, val_main_v9, val_main_v8, val_main_v7]
  all_goals blk_ext

/-- The weight of the second map. -/
theorem lam_at (i : S_.Idx) : val_main_v32 (F := Ideal) x1 i = lambda (fun a d => x1 (ix2 a d)) (Ideal.ofBits FTy.f32 0x3E4CCCCD#32) := by
  unfold lambda
  pointwise [val_main_v32, val_main_v31, val_main_v30, val_main_v29, val_main_v28, val_main_v27, val_main_v26, val_main_v25, val_main_v24, val_main_v23, val_main_v22, val_main_v21, val_main_v20, val_main_v19, val_main_v18, val_main_v17, val_main_cst, val_main_cst_0, val_main_cst_1]

/-- The coefficient of the first map is 1. -/
theorem coef0 : val_main_v36 (F := Ideal) x1 (ix1 (⟨0, by omega⟩ : Fin 2)) = 1 := by
  pointwise [val_main_v36, val_main_v34, val_main_cst_2]

/-- The coefficient of the second map is minus the weight. -/
theorem coef1 : val_main_v36 (F := Ideal) x1 (ix1 (⟨1, by omega⟩ : Fin 2)) = -(lambda (fun a d => x1 (ix2 a d)) (Ideal.ofBits FTy.f32 0x3E4CCCCD#32)) := by
  rw [← lam_at x1 ix0]
  pointwise [val_main_v36, val_main_v35, val_main_v33]

/-- The largest score of a row. -/
theorem max_row (b : Fin 4) (h : Fin 4) (m : Fin 2) (q : Fin 2048) :
    val_main_v38 (F := Ideal) x0 x3 (ix4 b h m q)
      = Softmax.top (fun k : Fin 2304 => val_main_v37 (F := Ideal) x0 x3 (ix5 b h m q k)) := by
  unfold Softmax.top
  rw [← negInf]
  pointwise [val_main_v38, val_main_cst_3]

/-- The maximum that the reference subtracts, laid out over the keys. -/
theorem max_bcast (b : Fin 4) (h : Fin 4) (m : Fin 2) (q : Fin 2048) (k : Fin 2304) :
    val_main_v42 (F := Ideal) x0 x3 (ix5 b h m q k)
      = Softmax.top (fun k : Fin 2304 => val_main_v37 (F := Ideal) x0 x3 (ix5 b h m q k)) := by
  rw [← max_row, val_main_v42_apply, val_main_v41_apply, val_main_v40_apply, val_main_v39_apply, val_main_cst_4_apply]
  have e : idx_main_v41 (idx_main_v42 (ix5 b h m q k)) = ix4 b h m q := by
    funext a; match a with | ⟨0, _⟩ => rfl | ⟨1, _⟩ => rfl | ⟨2, _⟩ => rfl | ⟨3, _⟩ => rfl
  rw [e]
  generalize val_main_v38 (F := Ideal) x0 x3 = y
  have hb : (FloatOps.ofBits .f32 0xFF800000#32 : Ideal .f32) = (⊥ : EReal) := negInf
  rw [hb]
  exact max_eq_right (bot_le (a := (y (ix4 b h m q) : EReal)))

/-- The reference's unnormalised weight of a key. -/
theorem weight (b : Fin 4) (h : Fin 4) (m : Fin 2) (q : Fin 2048) (k : Fin 2304) :
    val_main_v44 (F := Ideal) x0 x3 (ix5 b h m q k)
      = Ideal.exp (val_main_v37 (F := Ideal) x0 x3 (ix5 b h m q k) - Softmax.top (fun k : Fin 2304 => val_main_v37 (F := Ideal) x0 x3 (ix5 b h m q k))) := by
  rw [← max_bcast x0 x3 b h m q k]
  pointwise [val_main_v44, val_main_v43]

/-- The sum of a row's weights, laid out over the keys. -/
theorem total (b : Fin 4) (h : Fin 4) (m : Fin 2) (q : Fin 2048) (k : Fin 2304) :
    val_main_v47 (F := Ideal) x0 x3 (ix5 b h m q k)
      = ∑ k : Fin 2304, val_main_v44 (F := Ideal) x0 x3 (ix5 b h m q k) := by
  pointwise [val_main_v47, val_main_v46, val_main_v45, val_main_cst_5]

/-- The reference's weight of a key in one map. -/
theorem soft (b : Fin 4) (h : Fin 4) (m : Fin 2) (q : Fin 2048) (k : Fin 2304) :
    val_main_v48 (F := Ideal) x0 x3 (ix5 b h m q k)
      = Ideal.div (val_main_v44 (F := Ideal) x0 x3 (ix5 b h m q k)) (∑ k : Fin 2304, val_main_v44 (F := Ideal) x0 x3 (ix5 b h m q k)) := by
  rw [← total x0 x3 b h m q k]
  pointwise [val_main_v48]

/-- The reference's combined weight of a key. -/
theorem combined (b : Fin 4) (h : Fin 4) (q : Fin 2048) (k : Fin 2304) :
    val_main_v49 (F := Ideal) x0 x1 x3 (ix4 b h q k)
      = val_main_v48 (F := Ideal) x0 x3 (ix5 b h (⟨0, by omega⟩ : Fin 2) q k) * val_main_v36 (F := Ideal) x1 (ix1 (⟨0, by omega⟩ : Fin 2))
        + val_main_v48 (F := Ideal) x0 x3 (ix5 b h (⟨1, by omega⟩ : Fin 2) q k) * val_main_v36 (F := Ideal) x1 (ix1 (⟨1, by omega⟩ : Fin 2)) := by
  refine Eq.trans (b := ∑ m : Fin 2, val_main_v48 (F := Ideal) x0 x3 (ix5 b h m q k) * val_main_v36 (F := Ideal) x1 (ix1 m)) ?_ (Fin.sum_univ_two _)
  pointwise [val_main_v49]

/-- The values weighted by the combined weights. -/
theorem acc_at (b : Fin 4) (h : Fin 4) (q : Fin 2048) (e : Fin 128) :
    val_main_v51 (F := Ideal) x0 x1 x3 x4 (ix4 b q h e)
      = ∑ k : Fin 2304, val_main_v13 (F := Ideal) x4 (ix4 b k h e) * val_main_v49 (F := Ideal) x0 x1 x3 (ix4 b h q k) := by
  pointwise [val_main_v51, val_main_v50]

/-- The normed row. -/
theorem norm_at (b : Fin 4) (h : Fin 4) (q : Fin 2048) (e : Fin 128) :
    val_main_v67 (F := Ideal) x0 x1 x2 x3 x4 (ix4 b q h e)
      = rmsRow (fun f => val_main_v51 (F := Ideal) x0 x1 x3 x4 (ix4 b q h f)) (fun f => x2 (ix2 0 f)) (Ideal.ofBits FTy.f32 0x3F4CCCCD#32) e := by
  unfold rmsRow
  pointwise [val_main_v67, val_main_v66, val_main_v65, val_main_v64, val_main_v63, val_main_v62, val_main_v61, val_main_v60, val_main_v59, val_main_v58, val_main_v57, val_main_v56, val_main_v55, val_main_v54, val_main_v53, val_main_v52, val_main_cst_6, val_main_cst_7, val_main_cst_8, val_main_cst_9]

/-- The result's entry is that of its batch, row, head and lane. -/
theorem ref_at (j : S8192x512.Idx) (b : Fin 4) (h : Fin 4) (q : Fin 2048) (e : Fin 128) (hj0 : (j 0 : ℕ) = b * 2048 + q) (hj1 : (j 1 : ℕ) = h * 128 + e) :
    val_main_v69 (F := Ideal) x0 x1 x2 x3 x4 j = val_main_v67 (F := Ideal) x0 x1 x2 x3 x4 (ix4 b q h e) := by
  pointwise [val_main_v69, val_main_v68]
  all_goals blk_ext

end Cert.Reference9Ideal.Diff
-- ==== Proof.DiffFirstFinal.lean ====
module

public import proofs.«01_k».proof.Proof.DiffFirstBlock
public import proofs.«01_k».proof.Proof.DiffFirstRef
public import proofs.«01_k».proof.Proof.DiffEq
public import proofs.«01_k».proof.Proof.Gen.Pre_diff_finite_joined
public import Idealize.ShloMosaic.Lib.Pipeline.ValueKit
public import Idealize.ShloMosaic.Lib.ReduceAll
public import Idealize.ShloMosaic.Lib.Affine

/-! The first layer's differential attention: what the kernel's output array holds, and that it is the reference's. The arrays
are those of all 9216 rows, the context's 1024 behind the latents' 8192. -/

@[expose] public section
set_option maxRecDepth 16384
noncomputable section
namespace Cert.Kernel9Ideal.Diff
open Cert.Kernel9Ideal Cert.Kernel9Ideal.Gen Idealize.ShloMosaic Idealize.ShloMosaic.TcCoe Idealize.SL.Sem
open Idealize.ShloMosaic.Pipeline (Dat)
open Cert.Softmax Cert.DiffRow

variable (m : (ℓ : Loc nD τ sig) → Buf (Elt Ideal) ℓ)

/-- Where the windows of grid point `t` lie: the point is (batch, head); every block is the batch's rows and the head's lanes,
    the values' lanes behind the columns that hold other projections, the context's rows behind
    the latents'. -/
theorem idx : ∀ t : Fin cfg0.N, win0_0.index t = ![t.val / 4, t.val % 4] ∧ win0_1.index t = ![0, 0] ∧ win0_2.index t = ![0, 0]
    ∧ win0_3.index t = ![t.val / 4, t.val % 4] ∧ win0_4.index t = ![32 + t.val / 4, t.val % 4]
    ∧ win0_5.index t = ![t.val / 4, 64 + t.val % 4] ∧ win0_6.index t = ![32 + t.val / 4, 64 + t.val % 4]
    ∧ win0_7.index t = ![t.val / 4, t.val % 4] :=
  (by decide +kernel : ∀ t : Fin grid0.N, _)

/-- The differential attention of a whole array: entry `j` is lane `j 1 % 128` of the row of query row `j 0`, head
    `j 1 / 128`, over the batch's sequence keys and context keys; the values lie in columns of `p`. -/
def diff (q : FVec Ideal S9216x512 .bf16) (lam : FVec Ideal S4x64 .f32) (g : FVec Ideal S1x128 .f32) (k : FVec Ideal S9216x512 .bf16)
    (p : FVec Ideal S9216x9728 .bf16) : FVec Ideal S8192x512 .bf16 := fun j =>
  have hj0 : (j 0 : ℕ) < 8192 := (j 0).isLt
  have hj1 : (j 1 : ℕ) < 512 := (j 1).isLt
  diffRow (fun d => q (ix2 ⟨j 0, by omega⟩ ⟨j 1 / 128 * 128 + d, by omega⟩))
    (fun (i : Fin 2048) d => k (ix2 ⟨j 0 / 2048 * 2048 + i, by omega⟩ ⟨j 1 / 128 * 128 + d, by omega⟩))
    (fun i d => p (ix2 ⟨j 0 / 2048 * 2048 + i, by omega⟩ ⟨8192 + (j 1 / 128 * 128 + d), by omega⟩))
    (fun (i : Fin 256) d => k (ix2 ⟨8192 + (j 0 / 2048 * 256 + i), by omega⟩ ⟨j 1 / 128 * 128 + d, by omega⟩))
    (fun i d => p (ix2 ⟨8192 + (j 0 / 2048 * 256 + i), by omega⟩ ⟨8192 + (j 1 / 128 * 128 + d), by omega⟩))
    (lambda (fun a d => lam (ix2 a d)) (Ideal.ofBits FTy.f32 0x3E4CCCCD#32)) (fun f => g (ix2 0 f)) (Ideal.ofBits FTy.f32 0x3F4CCCCD#32)
    ⟨j 1 % 128, by omega⟩

/-- The staged block of queries: the batch's rows, the head's lanes. -/
theorem queries (c : Dev nD) (t : Fin cfg0.N) (y : S2048x128.Idx) (i : S9216x512.Idx) (h0 : (i 0 : ℕ) = t.val / 4 * 2048 + y 0)
    (h1 : (i 1 : ℕ) = t.val % 4 * 128 + y 1) : X0_0 m c t y = m ((c : Thread nD τ).loc main_arg0) i := by
  unfold X0_0 Pipeline.Window.fill
  rw [dif_pos (moved0_0 t y)]
  blk_ext [iblk, V, idx t]

/-- The staged block of sequence keys: the batch's rows, the head's lanes. -/
theorem keys (c : Dev nD) (t : Fin cfg0.N) (y : S2048x128.Idx) (i : S9216x512.Idx) (h0 : (i 0 : ℕ) = t.val / 4 * 2048 + y 0)
    (h1 : (i 1 : ℕ) = t.val % 4 * 128 + y 1) : X0_3 m c t y = m ((c : Thread nD τ).loc main_arg3) i := by
  unfold X0_3 Pipeline.Window.fill
  rw [dif_pos (moved0_3 t y)]
  blk_ext [iblk, V, idx t]

/-- The staged block of sequence values: the batch's rows, the head's lanes. -/
theorem values (c : Dev nD) (t : Fin cfg0.N) (y : S2048x128.Idx) (i : S9216x9728.Idx) (h0 : (i 0 : ℕ) = t.val / 4 * 2048 + y 0)
    (h1 : (i 1 : ℕ) = 8192 + (t.val % 4 * 128 + y 1)) : X0_5 m c t y = m ((c : Thread nD τ).loc main_arg4) i := by
  unfold X0_5 Pipeline.Window.fill
  rw [dif_pos (moved0_5 t y)]
  blk_ext [iblk, V, idx t]

set_option maxHeartbeats 2000000 in
/-- What grid point `t` writes is its block of `diff` of the arguments. -/
theorem point (c : Dev nD) (t : Fin cfg0.N) (y : S2048x128.Idx) :
    outsAt0 m c t y
      = diff (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 7).blk t).view.emb y) := by
  unfold outsAt0
  rw [block]
  have ht : t.val < 16 := lt_of_lt_of_eq t.isLt N_0
  have hy0 : (y 0 : ℕ) < 2048 := (y 0).isLt
  have hy1 : (y 1 : ℕ) < 128 := (y 1).isLt
  unfold diff
  congr 1
  · funext d
    refine queries m c t _ _ ?_ ?_ <;> (blk_simp [idx t]; try (dsimp only; omega))
  · funext i d
    refine keys m c t _ _ ?_ ?_ <;> (blk_simp [idx t]; try (dsimp only; omega))
  · funext i d
    refine values m c t _ _ ?_ ?_ <;> (blk_simp [idx t]; try (dsimp only; omega))
  · funext i d
    blk_ext [iblk, V, idx t]
  · funext i d
    blk_ext [iblk, V, idx t]
  · congr 1
    funext i d
    blk_ext [iblk, V, idx t]
  · funext i
    blk_ext [iblk, V, idx t]
  · refine Fin.ext ?_
    blk_simp [idx t]
    try (dsimp only; omega)

/-- The output array after the run is the differential attention of the arguments. -/
theorem final (c : Dev nD) : (dats m 0 c).arrAt 7 (cfgs 0).N
    = diff (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 7 _ (by decide +kernel) fun t _ y => ?_
  blk_simp
  rw [after0_7]
  exact point m c t y

/-- Over real queries, keys, values and vectors of the second map's weight, the differential attention of two groups of keys is
    the reference. -/
theorem diff_eq (q : FVec Ideal S9216x512 .bf16) (lam : FVec Ideal S4x64 .f32) (g : FVec Ideal S1x128 .f32) (k : FVec Ideal S9216x512 .bf16)
    (p : FVec Ideal S9216x9728 .bf16)
    (hq : ∀ (r : Fin 8192) (c : Fin 512), IsReal (q (ix2 ⟨r, by omega⟩ c))) (hlam : AllReal lam) (hk : AllReal k)
    (hp : ∀ (r : Fin 9216) (c : Fin 512), IsReal (p (ix2 r ⟨8192 + c, by omega⟩))) :
    diff q lam g k p = Cert.Reference9Ideal.Read.val_main_v69 (F := Ideal) q lam g k p := by
  funext j
  have hj0 : (j 0 : ℕ) < 8192 := (j 0).isLt
  have hj1 : (j 1 : ℕ) < 512 := (j 1).isLt
  have eq0 : ((j 0 : ℕ) / 2048) * 2048 + (j 0 : ℕ) % 2048 = j 0 := Nat.div_add_mod' _ _
  have eq1 : ((j 1 : ℕ) / 128) * 128 + (j 1 : ℕ) % 128 = j 1 := Nat.div_add_mod' _ _
  rw [Cert.Reference9Ideal.Diff.ref_at q lam g k p j ⟨j 0 / 2048, by omega⟩ ⟨j 1 / 128, by omega⟩ ⟨j 0 % 2048, by omega⟩ ⟨j 1 % 128, by omega⟩ eq0.symm eq1.symm,
    Cert.Reference9Ideal.Diff.norm_at]
  simp only [Cert.Reference9Ideal.Diff.acc_at, Cert.Reference9Ideal.Diff.combined, Cert.Reference9Ideal.Diff.coef0, Cert.Reference9Ideal.Diff.coef1,
    Cert.Reference9Ideal.Diff.soft, Cert.Reference9Ideal.Diff.weight]
  unfold diff
  refine diffRow_eq (n := 2048) (p := 256) (N := 2304) _ _ _ _ _ _ _ _ _
    (fun i => Cert.Reference9Ideal.Read.val_main_v37 (F := Ideal) q k (ix5 ⟨j 0 / 2048, by omega⟩ ⟨j 1 / 128, by omega⟩ (⟨0, by omega⟩ : Fin 2) ⟨j 0 % 2048, by omega⟩ i))
    (fun i => Cert.Reference9Ideal.Read.val_main_v37 (F := Ideal) q k (ix5 ⟨j 0 / 2048, by omega⟩ ⟨j 1 / 128, by omega⟩ (⟨1, by omega⟩ : Fin 2) ⟨j 0 % 2048, by omega⟩ i))
    (fun i f => Cert.Reference9Ideal.Read.val_main_v13 (F := Ideal) p (ix4 ⟨j 0 / 2048, by omega⟩ i ⟨j 1 / 128, by omega⟩ f))
    rfl (by norm_num) ?_ ?_ ?_ (lambda_real _ _ (fun a d => hlam _) const_first) ?_ ?_ ?_ ?_ ?_ ?_
  · intro i
    by_cases hi : i.val < 256
    · have := Cert.Reference9Ideal.Diff.score_ctx1 q k ⟨j 0 / 2048, by omega⟩ ⟨j 1 / 128, by omega⟩ ⟨j 0 % 2048, by omega⟩ ⟨i, hi⟩
      simp only [Fin.eta] at this
      rw [this]
      exact dot_real _ _ (fun d => hq ⟨j 0 / 2048 * 2048 + j 0 % 2048, by omega⟩ _) fun d => hk _
    · have := Cert.Reference9Ideal.Diff.score_seq1 q k ⟨j 0 / 2048, by omega⟩ ⟨j 1 / 128, by omega⟩ ⟨j 0 % 2048, by omega⟩ ⟨i - 256, by omega⟩
      have e : (⟨256 + (i.val - 256), by omega⟩ : Fin 2304) = i := Fin.ext (by simp; omega)
      simp only [e] at this
      rw [this]
      exact dot_real _ _ (fun d => hq ⟨j 0 / 2048 * 2048 + j 0 % 2048, by omega⟩ _) fun d => hk _
  · intro i
    by_cases hi : i.val < 256
    · have := Cert.Reference9Ideal.Diff.score_ctx2 q k ⟨j 0 / 2048, by omega⟩ ⟨j 1 / 128, by omega⟩ ⟨j 0 % 2048, by omega⟩ ⟨i, hi⟩
      simp only [Fin.eta] at this
      rw [this]
      exact dot_real _ _ (fun d => hq ⟨j 0 / 2048 * 2048 + j 0 % 2048, by omega⟩ _) fun d => hk _
    · have := Cert.Reference9Ideal.Diff.score_seq2 q k ⟨j 0 / 2048, by omega⟩ ⟨j 1 / 128, by omega⟩ ⟨j 0 % 2048, by omega⟩ ⟨i - 256, by omega⟩
      have e : (⟨256 + (i.val - 256), by omega⟩ : Fin 2304) = i := Fin.ext (by simp; omega)
      simp only [e] at this
      rw [this]
      exact dot_real _ _ (fun d => hq ⟨j 0 / 2048 * 2048 + j 0 % 2048, by omega⟩ _) fun d => hk _
  · intro i f
    have hf := f.isLt
    by_cases hi : i.val < 256
    · have := Cert.Reference9Ideal.Diff.value_ctx p ⟨j 0 / 2048, by omega⟩ ⟨j 1 / 128, by omega⟩ f ⟨i, hi⟩
      simp only [Fin.eta] at this
      rw [this]
      exact hp _ ⟨j 1 / 128 * 128 + f, by omega⟩
    · have := Cert.Reference9Ideal.Diff.value_seq p ⟨j 0 / 2048, by omega⟩ ⟨j 1 / 128, by omega⟩ f ⟨i - 256, by omega⟩
      have e : (⟨256 + (i.val - 256), by omega⟩ : Fin 2304) = i := Fin.ext (by simp; omega)
      simp only [e] at this
      rw [this]
      exact hp _ ⟨j 1 / 128 * 128 + f, by omega⟩
  · intro i
    rw [Cert.Reference9Ideal.Diff.score_ctx1]
    congr 1
    funext d
    congr 1; blk_ext
  · intro i
    rw [Cert.Reference9Ideal.Diff.score_seq1]
    congr 1
    funext d
    congr 1; blk_ext
  · intro i
    rw [Cert.Reference9Ideal.Diff.score_ctx2]
    congr 1
    funext d
    congr 1; blk_ext
  · intro i
    rw [Cert.Reference9Ideal.Diff.score_seq2]
    congr 1
    funext d
    congr 1; blk_ext
  · intro i f
    rw [Cert.Reference9Ideal.Diff.value_ctx]
  · intro i f
    rw [Cert.Reference9Ideal.Diff.value_seq]

/-- The columns of `p` from 8192 on, 512 of them. -/
theorem slice_p (p : FVec Ideal S9216x9728 .bf16) (h : S9216x9728.Slices ![0, 8192] S9216x512) (r : Fin 9216) (c : Fin 512) :
    extractStridedSlice S9216x512 ![0, 8192] p h (ix2 r c) = p (ix2 r ⟨8192 + c, by omega⟩) := by
  pointwise

/-- The rows of the latents. -/
theorem slice_lat (x : FVec Ideal S9216x512 .bf16) (h : S9216x512.Slices ![0, 0] S8192x512) (r : Fin 8192) (c : Fin 512) :
    extractStridedSlice S8192x512 ![0, 0] x h (ix2 r c) = x (ix2 ⟨r, by omega⟩ c) := by
  pointwise

/-- The precondition, decoded. -/
theorem pre_real (q : FVec Ideal S9216x512 .bf16) (lam : FVec Ideal S4x64 .f32) (g : FVec Ideal S1x128 .f32) (k : FVec Ideal S9216x512 .bf16)
    (p : FVec Ideal S9216x9728 .bf16) (h : Cert.Pre_diff_finite_joined.fn (F := Ideal) q lam g k p = fun _ => 1#1) :
    (∀ (r : Fin 8192) (c : Fin 512), IsReal (q (ix2 ⟨r, by omega⟩ c))) ∧ AllReal lam ∧ AllReal k ∧ ∀ (r : Fin 9216) (c : Fin 512), IsReal (p (ix2 r ⟨8192 + c, by omega⟩)) := by
  dsimp only [Cert.Pre_diff_finite_joined.fn, Cert.Pre_diff_finite_joined.fn_part1] at h
  have h' := congrFun h ix0
  obtain ⟨h', h5⟩ := IntOp.andi_eq_one.1 h'
  obtain ⟨h', h3⟩ := IntOp.andi_eq_one.1 h'
  obtain ⟨h1, h2⟩ := IntOp.andi_eq_one.1 h'
  generalize e1 : extractStridedSlice S8192x512 ![0, 0] q _ = s1 at h1
  generalize e5 : extractStridedSlice S9216x512 ![0, 8192] p _ = s5 at h5
  have r5 := allReal_of_test s5 _ (fun _ => rfl) _ (fun _ => posInf) _ _ _ h5
  have r1 := allReal_of_test s1 _ (fun _ => rfl) _ (fun _ => posInf) _ _ _ h1
  refine ⟨fun r c => ?_, allReal_of_test lam _ (fun _ => rfl) _ (fun _ => posInf) _ _ _ h2,
    allReal_of_test k _ (fun _ => rfl) _ (fun _ => posInf) _ _ _ h3, fun r c => ?_⟩
  · have := r1 (ix2 r c); rw [← e1, slice_lat] at this; exact this
  have := r5 (ix2 r c); rw [← e5, slice_p] at this; exact this

end Cert.Kernel9Ideal.Diff
-- ==== Proof.DiffTile.lean ====
module

public import proofs.«01_k».proof.Proof.Gen.Kernel8Ideal.Value
public import proofs.«01_k».proof.Proof.DiffRow
public import Idealize.ShloMosaic.Lib.Pipeline.ValueKit

@[expose] public section
set_option maxRecDepth 16384
noncomputable section
namespace Cert.Kernel8Ideal.Diff
open Cert.Kernel8Ideal Cert.Kernel8Ideal.Gen Idealize.ShloMosaic Idealize.ShloMosaic.TcCoe Idealize.SL.Sem
open Cert.Softmax Cert.DiffRow

/-- One row tile of the kernel: 256 query rows of one head against the head's sequence keys and context keys. -/
def tile (q : Vec Ideal S256x128 .bf16) (lam : Vec Ideal S4x64 .f32) (g : Vec Ideal S1x128 .f32) (k : Vec Ideal S2048x128 .bf16)
    (kc : Vec Ideal S256x128 .bf16) (v : Vec Ideal S2048x128 .bf16) (vc : Vec Ideal S256x128 .bf16) : FVec Ideal S256x128 .bf16 :=
  k0_pay20 (k0_pay2 lam) (k0_pay12 (k0_pay5 q k) (k0_pay6 q kc)) (k0_pay15 (k0_pay7 q k) (k0_pay8 q kc)) (k0_pay16 (k0_pay7 q k) (k0_pay8 q kc))
    (k0_pay17 (k0_pay5 q k) (k0_pay6 q kc) v) (k0_pay18 (k0_pay7 q k) (k0_pay8 q kc) v) (k0_pay19 (k0_pay5 q k) (k0_pay6 q kc)) vc vc g

variable (q : Vec Ideal S256x128 .bf16) (lam : Vec Ideal S4x64 .f32) (g : Vec Ideal S1x128 .f32) (k : Vec Ideal S2048x128 .bf16)
    (kc : Vec Ideal S256x128 .bf16) (v : Vec Ideal S2048x128 .bf16) (vc : Vec Ideal S256x128 .bf16)

/-- The scores of map 1 against the sequence keys. -/
theorem seq1 (r : Fin 256) (i : Fin 2048) : k0_pay5 q k (ix2 r i) = score1 (fun d => q (ix2 r d)) (fun d => k (ix2 i d)) := by
  refine Eq.trans ?_ (masked_low fun d => q (ix2 r d) * k (ix2 i d))
  pointwise [k0_pay5, k0_pay3]

/-- The scores of map 1 against the context keys. -/
theorem ctx1 (r : Fin 256) (i : Fin 256) : k0_pay6 q kc (ix2 r i) = score1 (fun d => q (ix2 r d)) (fun d => kc (ix2 i d)) := by
  refine Eq.trans ?_ (masked_low fun d => q (ix2 r d) * kc (ix2 i d))
  pointwise [k0_pay6, k0_pay3]

/-- The scores of map 2 against the sequence keys. -/
theorem seq2 (r : Fin 256) (i : Fin 2048) : k0_pay7 q k (ix2 r i) = score2 (fun d => q (ix2 r d)) (fun d => k (ix2 i d)) := by
  refine Eq.trans ?_ (masked_high fun d => q (ix2 r d) * k (ix2 i d))
  pointwise [k0_pay7, k0_pay4]

/-- The scores of map 2 against the context keys. -/
theorem ctx2 (r : Fin 256) (i : Fin 256) : k0_pay8 q kc (ix2 r i) = score2 (fun d => q (ix2 r d)) (fun d => kc (ix2 i d)) := by
  refine Eq.trans ?_ (masked_high fun d => q (ix2 r d) * kc (ix2 i d))
  pointwise [k0_pay8, k0_pay4]

/-- The weight of the second map. -/
theorem lam_at (a b : Fin 1) : k0_pay2 lam (ix2 a b) = lambda (fun a d => lam (ix2 a d)) (Ideal.ofBits FTy.f32 0x3EB60549#32) := by
  unfold lambda
  pointwise [k0_pay2]

variable (s : FVec Ideal S256x2048 .f32) (sc : FVec Ideal S256x256 .f32) in
/-- The largest score of a row of map 1. -/
theorem max1 (r : Fin 256) (b : Fin 1) : k0_pay9 s sc (ix2 r b) = max (top fun i => s (ix2 r i)) (top fun i => sc (ix2 r i)) := by
  unfold top
  rw [← negInf]
  pointwise [k0_pay9]

variable (s : FVec Ideal S256x2048 .f32) (sc : FVec Ideal S256x256 .f32) in
/-- The weights of the sequence keys in map 1, before normalization. -/
theorem exp_seq1 (r : Fin 256) (i : Fin 2048) : k0_pay10 s sc (ix2 r i) = Ideal.exp (s (ix2 r i) - max (top fun i => s (ix2 r i)) (top fun i => sc (ix2 r i))) := by
  rw [← max1 s sc r 0]
  pointwise [k0_pay10]

variable (s : FVec Ideal S256x2048 .f32) (sc : FVec Ideal S256x256 .f32) in
/-- The weights of the context keys in map 1, before normalization. -/
theorem exp_ctx1 (r : Fin 256) (i : Fin 256) : k0_pay11 s sc (ix2 r i) = Ideal.exp (sc (ix2 r i) - max (top fun i => s (ix2 r i)) (top fun i => sc (ix2 r i))) := by
  rw [← max1 s sc r 0]
  pointwise [k0_pay11]

variable (s : FVec Ideal S256x2048 .f32) (sc : FVec Ideal S256x256 .f32) in
/-- The largest score of a row of map 2. -/
theorem max2 (r : Fin 256) (b : Fin 1) : k0_pay13 s sc (ix2 r b) = max (top fun i => s (ix2 r i)) (top fun i => sc (ix2 r i)) := by
  unfold top
  rw [← negInf]
  pointwise [k0_pay13]

variable (s : FVec Ideal S256x2048 .f32) (sc : FVec Ideal S256x256 .f32) in
/-- The weights of the sequence keys in map 2, before normalization. -/
theorem exp_seq2 (r : Fin 256) (i : Fin 2048) : k0_pay14 s sc (ix2 r i) = Ideal.exp (s (ix2 r i) - max (top fun i => s (ix2 r i)) (top fun i => sc (ix2 r i))) := by
  rw [← max2 s sc r 0]
  pointwise [k0_pay14]

variable (s : FVec Ideal S256x2048 .f32) (sc : FVec Ideal S256x256 .f32) in
/-- The weights of the context keys in map 2, before normalization. -/
theorem exp_ctx2 (r : Fin 256) (i : Fin 256) : k0_pay15 s sc (ix2 r i) = Ideal.exp (sc (ix2 r i) - max (top fun i => s (ix2 r i)) (top fun i => sc (ix2 r i))) := by
  rw [← max2 s sc r 0]
  pointwise [k0_pay15]

variable (s : FVec Ideal S256x2048 .f32) (sc : FVec Ideal S256x256 .f32) in
/-- The reciprocal of the sum of a row's weights in map 1. -/
theorem inv1 (r : Fin 256) (b : Fin 1) : k0_pay12 s sc (ix2 r b)
    = Ideal.div 1 ((∑ i : Fin 2048, k0_pay10 s sc (ix2 r i)) + ∑ i : Fin 256, k0_pay11 s sc (ix2 r i)) := by
  pointwise [k0_pay12]

variable (s : FVec Ideal S256x2048 .f32) (sc : FVec Ideal S256x256 .f32) in
/-- The weighted sum of the sequence's values in map 1. -/
theorem num1 (r : Fin 256) (f : Fin 128) : k0_pay17 s sc v (ix2 r f) = ∑ i : Fin 2048, k0_pay10 s sc (ix2 r i) * v (ix2 i f) := by
  pointwise [k0_pay17]

variable (s : FVec Ideal S256x2048 .f32) (sc : FVec Ideal S256x256 .f32) in
/-- The reciprocal of the sum of a row's weights in map 2. -/
theorem inv2 (r : Fin 256) (b : Fin 1) : k0_pay16 s sc (ix2 r b)
    = Ideal.div 1 ((∑ i : Fin 2048, k0_pay14 s sc (ix2 r i)) + ∑ i : Fin 256, k0_pay15 s sc (ix2 r i)) := by
  pointwise [k0_pay16]

variable (s : FVec Ideal S256x2048 .f32) (sc : FVec Ideal S256x256 .f32) in
/-- The weighted sum of the sequence's values in map 2. -/
theorem num2 (r : Fin 256) (f : Fin 128) : k0_pay18 s sc v (ix2 r f) = ∑ i : Fin 2048, k0_pay14 s sc (ix2 r i) * v (ix2 i f) := by
  pointwise [k0_pay18]

/-- The last part of the tile: the difference of the two maps' weighted sums, normed. -/
theorem last_at (l : FVec Ideal S1x1 .f32) (i1 i2 : FVec Ideal S256x1 .f32) (w2 : FVec Ideal S256x256 .f32) (n1 n2 : FVec Ideal S256x128 .f32)
    (w1 : FVec Ideal S256x256 .bf16) (r : Fin 256) (e : Fin 128) :
    k0_pay20 l i1 w2 i2 n1 n2 w1 vc vc g (ix2 r e)
      = rmsRow (fun f => (n1 (ix2 r f) + ∑ i : Fin 256, w1 (ix2 r i) * vc (ix2 i f)) * i1 (ix2 r 0)
          - (n2 (ix2 r f) + ∑ i : Fin 256, w2 (ix2 r i) * vc (ix2 i f)) * (l (ix2 0 0) * i2 (ix2 r 0)))
        (fun f => g (ix2 0 f)) (Ideal.ofBits FTy.f32 0x3F24FD5C#32) e := by
  unfold rmsRow
  pointwise [k0_pay20]

/-- A row of the tile, from the row's scores in the two maps. -/
theorem tile_at (r : Fin 256) (e : Fin 128) :
    tile q lam g k kc v vc (ix2 r e)
      = diffRow (fun d => q (ix2 r d)) (fun i d => k (ix2 i d)) (fun i d => v (ix2 i d)) (fun i d => kc (ix2 i d)) (fun i d => vc (ix2 i d))
          (lambda (fun a d => lam (ix2 a d)) (Ideal.ofBits FTy.f32 0x3EB60549#32)) (fun f => g (ix2 0 f)) (Ideal.ofBits FTy.f32 0x3F24FD5C#32) e := by
  unfold tile diffRow
  rw [last_at]
  congr 1
  funext f
  unfold twoGroups
  rw [lam_at, inv1, inv2, num1, num2, mul_left_comm]
  have c1 : ∀ s sc i, (k0_pay19 (F := Ideal) s sc (ix2 r i) : EReal) = k0_pay11 s sc (ix2 r i) := fun s sc i => rfl
  simp only [c1, exp_seq1, exp_seq2, exp_ctx1, exp_ctx2, seq1, seq2, ctx1, ctx2]

end Cert.Kernel8Ideal.Diff
-- ==== Proof.DiffBlock.lean ====
module

public import proofs.«01_k».proof.Proof.DiffTile

/-! The block that a grid point of the last layer's differential attention writes. -/

@[expose] public section
set_option maxRecDepth 16384
noncomputable section
namespace Cert.Kernel8Ideal.Diff
open Cert.Kernel8Ideal Cert.Kernel8Ideal.Gen Idealize.ShloMosaic Idealize.ShloMosaic.TcCoe Idealize.SL.Sem
open Cert.Softmax Cert.DiffRow

variable (q : Vec Ideal S2048x128 .bf16) (lam : Vec Ideal S4x64 .f32) (g : Vec Ideal S1x128 .f32) (k : Vec Ideal S2048x128 .bf16)
    (kc : Vec Ideal S256x128 .bf16) (v : Vec Ideal S2048x128 .bf16) (vc : Vec Ideal S256x128 .bf16)

/-- The block is eight tiles, each the same computation of its own 256 query rows. -/
theorem out_eq : out0_7 q lam g k kc v vc = View.canon [
    ⟨r0_11, tile (View.ld q r0_11) (View.ld lam r0_0) (View.ld g r0_4) (View.ld k r0_2) (View.ld kc r0_3) (View.ld v r0_2) (View.ld vc r0_3)⟩,
    ⟨r0_10, tile (View.ld q r0_10) (View.ld lam r0_0) (View.ld g r0_4) (View.ld k r0_2) (View.ld kc r0_3) (View.ld v r0_2) (View.ld vc r0_3)⟩,
    ⟨r0_9, tile (View.ld q r0_9) (View.ld lam r0_0) (View.ld g r0_4) (View.ld k r0_2) (View.ld kc r0_3) (View.ld v r0_2) (View.ld vc r0_3)⟩,
    ⟨r0_8, tile (View.ld q r0_8) (View.ld lam r0_0) (View.ld g r0_4) (View.ld k r0_2) (View.ld kc r0_3) (View.ld v r0_2) (View.ld vc r0_3)⟩,
    ⟨r0_7, tile (View.ld q r0_7) (View.ld lam r0_0) (View.ld g r0_4) (View.ld k r0_2) (View.ld kc r0_3) (View.ld v r0_2) (View.ld vc r0_3)⟩,
    ⟨r0_6, tile (View.ld q r0_6) (View.ld lam r0_0) (View.ld g r0_4) (View.ld k r0_2) (View.ld kc r0_3) (View.ld v r0_2) (View.ld vc r0_3)⟩,
    ⟨r0_5, tile (View.ld q r0_5) (View.ld lam r0_0) (View.ld g r0_4) (View.ld k r0_2) (View.ld kc r0_3) (View.ld v r0_2) (View.ld vc r0_3)⟩,
    ⟨r0_1, tile (View.ld q r0_1) (View.ld lam r0_0) (View.ld g r0_4) (View.ld k r0_2) (View.ld kc r0_3) (View.ld v r0_2) (View.ld vc r0_3)⟩] := rfl

/-- The block that one grid point writes: 2048 query rows of one head of one batch, every row the differential attention's
    row over the head's keys. -/
theorem block (y : S2048x128.Idx) :
    out0_7 q lam g k kc v vc y
      = diffRow (fun d => q (ix2 (y 0) d)) (fun i d => k (ix2 i d)) (fun i d => v (ix2 i d)) (fun i d => kc (ix2 i d)) (fun i d => vc (ix2 i d))
          (lambda (fun a d => lam (ix2 a d)) (Ideal.ofBits FTy.f32 0x3EB60549#32)) (fun f => g (ix2 0 f)) (Ideal.ofBits FTy.f32 0x3F24FD5C#32) (y 1) := by
  rw [out_eq]
  canon_tiles x h
  all_goals rw [eq_ix2 x]; refine (tile_at _ _ _ _ _ _ _ (x 0) (x 1)).trans ?_
  all_goals (congr 1 <;> first | (funext i d; pointwise <;> blk_point []; done) | (funext i; pointwise <;> blk_point []; done) | (congr 1; funext i d; pointwise <;> blk_point []; done) | exact Fin.ext h1.symm)

end Cert.Kernel8Ideal.Diff
-- ==== Proof.DiffRef.lean ====
module

public import proofs.«01_k».proof.Proof.Gen.Reference8Ideal.Read
public import proofs.«01_k».proof.Proof.DiffRow
public import Idealize.ShloMosaic.Lib.Pipeline.ValueKit

/-! The reference of the last layer's differential attention, entry by entry. -/

@[expose] public section
set_option maxRecDepth 16384
noncomputable section
namespace Cert.Reference8Ideal.Diff
open Cert.Reference8Ideal Cert.Reference8Ideal.Read Idealize.ShloMosaic Idealize.ShloMosaic.TcCoe Idealize.SL.Sem
open Cert.Softmax Cert.DiffRow

variable (x0 : (⟨S8192x512, .bf16⟩ : BufTy).Contents (Elt Ideal)) (x1 : (⟨S4x64, .f32⟩ : BufTy).Contents (Elt Ideal)) (x2 : (⟨S1x128, .f32⟩ : BufTy).Contents (Elt Ideal)) (x3 : (⟨S8192x512, .bf16⟩ : BufTy).Contents (Elt Ideal)) (x4 : (⟨S1024x512, .bf16⟩ : BufTy).Contents (Elt Ideal)) (x5 : (⟨S8192x9728, .bf16⟩ : BufTy).Contents (Elt Ideal)) (x6 : (⟨S1024x2048, .bf16⟩ : BufTy).Contents (Elt Ideal))

/-- The reference's score of map 1 of a query row against a context key. -/
theorem score_ctx1 (b : Fin 4) (h : Fin 4) (q : Fin 2048) (k : Fin 256) :
    val_main_v34 (F := Ideal) x0 x3 x4 (ix5 b h (⟨0, by omega⟩ : Fin 2) q ⟨k, by omega⟩)
      = score1 (fun d => x0 (ix2 ⟨b * 2048 + q, by omega⟩ ⟨h * 128 + d, by omega⟩)) (fun d => x4 (ix2 ⟨b * 256 + k, by omega⟩ ⟨h * 128 + d, by omega⟩)) := by
  unfold score1
  pointwise [val_main_v34, val_main_v13, val_main_v12, val_main_v4, val_main_v3, val_main_v2, val_main_v1, val_main_v0]
  all_goals blk_ext

/-- The reference's score of map 1 of a query row against a sequence key. -/
theorem score_seq1 (b : Fin 4) (h : Fin 4) (q : Fin 2048) (k : Fin 2048) :
    val_main_v34 (F := Ideal) x0 x3 x4 (ix5 b h (⟨0, by omega⟩ : Fin 2) q ⟨256 + k, by omega⟩)
      = score1 (fun d => x0 (ix2 ⟨b * 2048 + q, by omega⟩ ⟨h * 128 + d, by omega⟩)) (fun d => x3 (ix2 ⟨b * 2048 + k, by omega⟩ ⟨h * 128 + d, by omega⟩)) := by
  unfold score1
  pointwise [val_main_v34, val_main_v13, val_main_v12, val_main_v4, val_main_v3, val_main_v2, val_main_v1, val_main_v0]
  all_goals blk_ext

/-- The reference's score of map 2 of a query row against a context key. -/
theorem score_ctx2 (b : Fin 4) (h : Fin 4) (q : Fin 2048) (k : Fin 256) :
    val_main_v34 (F := Ideal) x0 x3 x4 (ix5 b h (⟨1, by omega⟩ : Fin 2) q ⟨k, by omega⟩)
      = score2 (fun d => x0 (ix2 ⟨b * 2048 + q, by omega⟩ ⟨h * 128 + d, by omega⟩)) (fun d => x4 (ix2 ⟨b * 256 + k, by omega⟩ ⟨h * 128 + d, by omega⟩)) := by
  unfold score2
  pointwise [val_main_v34, val_main_v13, val_main_v12, val_main_v4, val_main_v3, val_main_v2, val_main_v1, val_main_v0]
  all_goals simp only [Nat.add_assoc]

/-- The reference's score of map 2 of a query row against a sequence key. -/
theorem score_seq2 (b : Fin 4) (h : Fin 4) (q : Fin 2048) (k : Fin 2048) :
    val_main_v34 (F := Ideal) x0 x3 x4 (ix5 b h (⟨1, by omega⟩ : Fin 2) q ⟨256 + k, by omega⟩)
      = score2 (fun d => x0 (ix2 ⟨b * 2048 + q, by omega⟩ ⟨h * 128 + d, by omega⟩)) (fun d => x3 (ix2 ⟨b * 2048 + k, by omega⟩ ⟨h * 128 + d, by omega⟩)) := by
  unfold score2
  pointwise [val_main_v34, val_main_v13, val_main_v12, val_main_v4, val_main_v3, val_main_v2, val_main_v1, val_main_v0]
  all_goals simp only [Nat.add_assoc]

/-- The reference's value row of a context key. -/
theorem value_ctx (b : Fin 4) (h : Fin 4) (e : Fin 128) (k : Fin 256) :
    val_main_v11 (F := Ideal) x5 x6 (ix4 b ⟨k, by omega⟩ h e) = x6 (ix2 ⟨b * 256 + k, by omega⟩ ⟨1536 + (h * 128 + e), by omega⟩) := by
  pointwise [val_main_v11, val_main_v10, val_main_v9, val_main_v8, val_main_v7, val_main_v6, val_main_v5]
  all_goals blk_ext

/-- The reference's value row of a sequence key. -/
theorem value_seq (b : Fin 4) (h : Fin 4) (e : Fin 128) (k : Fin 2048) :
    val_main_v11 (F := Ideal) x5 x6 (ix4 b ⟨256 + k, by omega⟩ h e) = x5 (ix2 ⟨b * 2048 + k, by omega⟩ ⟨8192 + (h * 128 + e), by omega⟩) := by
  pointwise [val_main_v11, val_main_v10, val_main_v9, val_main_v8, val_main_v7, val_main_v6, val_main_v5]
  all_goals blk_ext

/-- The weight of the second map. -/
theorem lam_at (i : S_.Idx) : val_main_v29 (F := Ideal) x1 i = lambda (fun a d => x1 (ix2 a d)) (Ideal.ofBits FTy.f32 0x3EB60549#32) := by
  unfold lambda
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst, val_main_cst_0, val_main_cst_1]

/-- The coefficient of the first map is 1. -/
theorem coef0 : val_main_v33 (F := Ideal) x1 (ix1 (⟨0, by omega⟩ : Fin 2)) = 1 := by
  pointwise [val_main_v33, val_main_v31, val_main_cst_2]

/-- The coefficient of the second map is minus the weight. -/
theorem coef1 : val_main_v33 (F := Ideal) x1 (ix1 (⟨1, by omega⟩ : Fin 2)) = -(lambda (fun a d => x1 (ix2 a d)) (Ideal.ofBits FTy.f32 0x3EB60549#32)) := by
  rw [← lam_at x1 ix0]
  pointwise [val_main_v33, val_main_v32, val_main_v30]

/-- The largest score of a row. -/
theorem max_row (b : Fin 4) (h : Fin 4) (m : Fin 2) (q : Fin 2048) :
    val_main_v35 (F := Ideal) x0 x3 x4 (ix4 b h m q)
      = Softmax.top (fun k : Fin 2304 => val_main_v34 (F := Ideal) x0 x3 x4 (ix5 b h m q k)) := by
  unfold Softmax.top
  rw [← negInf]
  pointwise [val_main_v35, val_main_cst_3]

/-- The maximum that the reference subtracts, laid out over the keys. -/
theorem max_bcast (b : Fin 4) (h : Fin 4) (m : Fin 2) (q : Fin 2048) (k : Fin 2304) :
    val_main_v39 (F := Ideal) x0 x3 x4 (ix5 b h m q k)
      = Softmax.top (fun k : Fin 2304 => val_main_v34 (F := Ideal) x0 x3 x4 (ix5 b h m q k)) := by
  rw [← max_row, val_main_v39_apply, val_main_v38_apply, val_main_v37_apply, val_main_v36_apply, val_main_cst_4_apply]
  have e : idx_main_v38 (idx_main_v39 (ix5 b h m q k)) = ix4 b h m q := by
    funext a; match a with | ⟨0, _⟩ => rfl | ⟨1, _⟩ => rfl | ⟨2, _⟩ => rfl | ⟨3, _⟩ => rfl
  rw [e]
  generalize val_main_v35 (F := Ideal) x0 x3 x4 = y
  have hb : (FloatOps.ofBits .f32 0xFF800000#32 : Ideal .f32) = (⊥ : EReal) := negInf
  rw [hb]
  exact max_eq_right (bot_le (a := (y (ix4 b h m q) : EReal)))

/-- The reference's unnormalised weight of a key. -/
theorem weight (b : Fin 4) (h : Fin 4) (m : Fin 2) (q : Fin 2048) (k : Fin 2304) :
    val_main_v41 (F := Ideal) x0 x3 x4 (ix5 b h m q k)
      = Ideal.exp (val_main_v34 (F := Ideal) x0 x3 x4 (ix5 b h m q k) - Softmax.top (fun k : Fin 2304 => val_main_v34 (F := Ideal) x0 x3 x4 (ix5 b h m q k))) := by
  rw [← max_bcast x0 x3 x4 b h m q k]
  pointwise [val_main_v41, val_main_v40]

/-- The sum of a row's weights, laid out over the keys. -/
theorem total (b : Fin 4) (h : Fin 4) (m : Fin 2) (q : Fin 2048) (k : Fin 2304) :
    val_main_v44 (F := Ideal) x0 x3 x4 (ix5 b h m q k)
      = ∑ k : Fin 2304, val_main_v41 (F := Ideal) x0 x3 x4 (ix5 b h m q k) := by
  pointwise [val_main_v44, val_main_v43, val_main_v42, val_main_cst_5]

/-- The reference's weight of a key in one map. -/
theorem soft (b : Fin 4) (h : Fin 4) (m : Fin 2) (q : Fin 2048) (k : Fin 2304) :
    val_main_v45 (F := Ideal) x0 x3 x4 (ix5 b h m q k)
      = Ideal.div (val_main_v41 (F := Ideal) x0 x3 x4 (ix5 b h m q k)) (∑ k : Fin 2304, val_main_v41 (F := Ideal) x0 x3 x4 (ix5 b h m q k)) := by
  rw [← total x0 x3 x4 b h m q k]
  pointwise [val_main_v45]

/-- The reference's combined weight of a key. -/
theorem combined (b : Fin 4) (h : Fin 4) (q : Fin 2048) (k : Fin 2304) :
    val_main_v46 (F := Ideal) x0 x1 x3 x4 (ix4 b h q k)
      = val_main_v45 (F := Ideal) x0 x3 x4 (ix5 b h (⟨0, by omega⟩ : Fin 2) q k) * val_main_v33 (F := Ideal) x1 (ix1 (⟨0, by omega⟩ : Fin 2))
        + val_main_v45 (F := Ideal) x0 x3 x4 (ix5 b h (⟨1, by omega⟩ : Fin 2) q k) * val_main_v33 (F := Ideal) x1 (ix1 (⟨1, by omega⟩ : Fin 2)) := by
  refine Eq.trans (b := ∑ m : Fin 2, val_main_v45 (F := Ideal) x0 x3 x4 (ix5 b h m q k) * val_main_v33 (F := Ideal) x1 (ix1 m)) ?_ (Fin.sum_univ_two _)
  pointwise [val_main_v46]

/-- The values weighted by the combined weights. -/
theorem acc_at (b : Fin 4) (h : Fin 4) (q : Fin 2048) (e : Fin 128) :
    val_main_v48 (F := Ideal) x0 x1 x3 x4 x5 x6 (ix4 b q h e)
      = ∑ k : Fin 2304, val_main_v11 (F := Ideal) x5 x6 (ix4 b k h e) * val_main_v46 (F := Ideal) x0 x1 x3 x4 (ix4 b h q k) := by
  pointwise [val_main_v48, val_main_v47]

/-- The normed row. -/
theorem norm_at (b : Fin 4) (h : Fin 4) (q : Fin 2048) (e : Fin 128) :
    val_main_v64 (F := Ideal) x0 x1 x2 x3 x4 x5 x6 (ix4 b q h e)
      = rmsRow (fun f => val_main_v48 (F := Ideal) x0 x1 x3 x4 x5 x6 (ix4 b q h f)) (fun f => x2 (ix2 0 f)) (Ideal.ofBits FTy.f32 0x3F24FD5C#32) e := by
  unfold rmsRow
  pointwise [val_main_v64, val_main_v63, val_main_v62, val_main_v61, val_main_v60, val_main_v59, val_main_v58, val_main_v57, val_main_v56, val_main_v55, val_main_v54, val_main_v53, val_main_v52, val_main_v51, val_main_v50, val_main_v49, val_main_cst_6, val_main_cst_7, val_main_cst_8, val_main_cst_9]

/-- The result's entry is that of its batch, row, head and lane. -/
theorem ref_at (j : S8192x512.Idx) (b : Fin 4) (h : Fin 4) (q : Fin 2048) (e : Fin 128) (hj0 : (j 0 : ℕ) = b * 2048 + q) (hj1 : (j 1 : ℕ) = h * 128 + e) :
    val_main_v66 (F := Ideal) x0 x1 x2 x3 x4 x5 x6 j = val_main_v64 (F := Ideal) x0 x1 x2 x3 x4 x5 x6 (ix4 b q h e) := by
  pointwise [val_main_v66, val_main_v65]
  all_goals blk_ext

end Cert.Reference8Ideal.Diff
-- ==== Proof.DiffFinal.lean ====
module

public import proofs.«01_k».proof.Proof.DiffBlock
public import proofs.«01_k».proof.Proof.DiffRef
public import proofs.«01_k».proof.Proof.DiffEq
public import proofs.«01_k».proof.Proof.Gen.Pre_diff_finite
public import Idealize.ShloMosaic.Lib.Pipeline.ValueKit
public import Idealize.ShloMosaic.Lib.ReduceAll
public import Idealize.ShloMosaic.Lib.Affine

/-! The last layer's differential attention: what the kernel's output array holds, and that it is the reference's. -/

@[expose] public section
set_option maxRecDepth 16384
noncomputable section
namespace Cert.Kernel8Ideal.Diff
open Cert.Kernel8Ideal Cert.Kernel8Ideal.Gen Idealize.ShloMosaic Idealize.ShloMosaic.TcCoe Idealize.SL.Sem
open Idealize.ShloMosaic.Pipeline (Dat)
open Cert.Softmax Cert.DiffRow

variable (m : (ℓ : Loc nD τ sig) → Buf (Elt Ideal) ℓ)

/-- Where the windows of grid point `t` lie: the point is (batch, head); every block is the batch's rows and the head's lanes,
    the values' lanes behind the columns that hold other projections. -/
theorem idx : ∀ t : Fin cfg0.N, win0_0.index t = ![t.val / 4, t.val % 4] ∧ win0_1.index t = ![0, 0] ∧ win0_2.index t = ![0, 0]
    ∧ win0_3.index t = ![t.val / 4, t.val % 4] ∧ win0_4.index t = ![t.val / 4, t.val % 4]
    ∧ win0_5.index t = ![t.val / 4, 64 + t.val % 4] ∧ win0_6.index t = ![t.val / 4, 12 + t.val % 4]
    ∧ win0_7.index t = ![t.val / 4, t.val % 4] :=
  (by decide +kernel : ∀ t : Fin grid0.N, _)

/-- The differential attention of a whole array: entry `j` is lane `j 1 % 128` of the row of query row `j 0`, head
    `j 1 / 128`, over the batch's sequence keys `k` and context keys `kc`; the values lie in columns of `p` and `pc`. -/
def diff (q : FVec Ideal S8192x512 .bf16) (lam : FVec Ideal S4x64 .f32) (g : FVec Ideal S1x128 .f32) (k : FVec Ideal S8192x512 .bf16)
    (kc : FVec Ideal S1024x512 .bf16) (p : FVec Ideal S8192x9728 .bf16) (pc : FVec Ideal S1024x2048 .bf16) : FVec Ideal S8192x512 .bf16 := fun j =>
  have hj0 : (j 0 : ℕ) < 8192 := (j 0).isLt
  have hj1 : (j 1 : ℕ) < 512 := (j 1).isLt
  diffRow (fun d => q (ix2 (j 0) ⟨j 1 / 128 * 128 + d, by omega⟩))
    (fun (i : Fin 2048) d => k (ix2 ⟨j 0 / 2048 * 2048 + i, by omega⟩ ⟨j 1 / 128 * 128 + d, by omega⟩))
    (fun i d => p (ix2 ⟨j 0 / 2048 * 2048 + i, by omega⟩ ⟨8192 + (j 1 / 128 * 128 + d), by omega⟩))
    (fun (i : Fin 256) d => kc (ix2 ⟨j 0 / 2048 * 256 + i, by omega⟩ ⟨j 1 / 128 * 128 + d, by omega⟩))
    (fun i d => pc (ix2 ⟨j 0 / 2048 * 256 + i, by omega⟩ ⟨1536 + (j 1 / 128 * 128 + d), by omega⟩))
    (lambda (fun a d => lam (ix2 a d)) (Ideal.ofBits FTy.f32 0x3EB60549#32)) (fun f => g (ix2 0 f)) (Ideal.ofBits FTy.f32 0x3F24FD5C#32)
    ⟨j 1 % 128, by omega⟩

set_option maxHeartbeats 2000000 in
/-- What grid point `t` writes is its block of `diff` of the arguments. -/
theorem point (c : Dev nD) (t : Fin cfg0.N) (y : S2048x128.Idx) :
    out0_7 (iblk m c 0 t) (iblk m c 1 t) (iblk m c 2 t) (iblk m c 3 t) (iblk m c 4 t) (iblk m c 5 t) (iblk m c 6 t) y
      = diff (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (((cfg0.win 7).blk t).view.emb y) := by
  rw [block]
  have ht : t.val < 16 := lt_of_lt_of_eq t.isLt N_0
  have hy0 : (y 0 : ℕ) < 2048 := (y 0).isLt
  have hy1 : (y 1 : ℕ) < 128 := (y 1).isLt
  unfold diff
  congr 1
  · funext d
    blk_ext [iblk, V, idx t]
  · funext i d
    blk_ext [iblk, V, idx t]
  · funext i d
    blk_ext [iblk, V, idx t]
  · funext i d
    blk_ext [iblk, V, idx t]
  · funext i d
    blk_ext [iblk, V, idx t]
  · congr 1
    funext i d
    blk_ext [iblk, V, idx t]
  · funext i
    blk_ext [iblk, V, idx t]
  · refine Fin.ext ?_
    blk_simp [idx t]
    try (dsimp only; omega)

/-- The output array after the run is the differential attention of the arguments. -/
theorem final (c : Dev nD) : (dats m 0 c).arrAt 7 (cfgs 0).N
    = diff (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t _ y => ?_
  blk_simp
  rw [after0_7]
  exact point m c t y

/-- Over real queries, keys, values and vectors of the second map's weight, the differential attention of two groups of keys is
    the reference. -/
theorem diff_eq (q : FVec Ideal S8192x512 .bf16) (lam : FVec Ideal S4x64 .f32) (g : FVec Ideal S1x128 .f32) (k : FVec Ideal S8192x512 .bf16)
    (kc : FVec Ideal S1024x512 .bf16) (p : FVec Ideal S8192x9728 .bf16) (pc : FVec Ideal S1024x2048 .bf16)
    (hq : AllReal q) (hlam : AllReal lam) (hk : AllReal k) (hkc : AllReal kc)
    (hp : ∀ (r : Fin 8192) (c : Fin 512), IsReal (p (ix2 r ⟨8192 + c, by omega⟩)))
    (hpc : ∀ (r : Fin 1024) (c : Fin 512), IsReal (pc (ix2 r ⟨1536 + c, by omega⟩))) :
    diff q lam g k kc p pc = Cert.Reference8Ideal.Read.val_main_v66 (F := Ideal) q lam g k kc p pc := by
  funext j
  have hj0 : (j 0 : ℕ) < 8192 := (j 0).isLt
  have hj1 : (j 1 : ℕ) < 512 := (j 1).isLt
  have eq0 : ((j 0 : ℕ) / 2048) * 2048 + (j 0 : ℕ) % 2048 = j 0 := Nat.div_add_mod' _ _
  have eq1 : ((j 1 : ℕ) / 128) * 128 + (j 1 : ℕ) % 128 = j 1 := Nat.div_add_mod' _ _
  rw [Cert.Reference8Ideal.Diff.ref_at q lam g k kc p pc j ⟨j 0 / 2048, by omega⟩ ⟨j 1 / 128, by omega⟩ ⟨j 0 % 2048, by omega⟩ ⟨j 1 % 128, by omega⟩ eq0.symm eq1.symm,
    Cert.Reference8Ideal.Diff.norm_at]
  simp only [Cert.Reference8Ideal.Diff.acc_at, Cert.Reference8Ideal.Diff.combined, Cert.Reference8Ideal.Diff.coef0, Cert.Reference8Ideal.Diff.coef1,
    Cert.Reference8Ideal.Diff.soft, Cert.Reference8Ideal.Diff.weight]
  unfold diff
  refine diffRow_eq (n := 2048) (p := 256) (N := 2304) _ _ _ _ _ _ _ _ _
    (fun i => Cert.Reference8Ideal.Read.val_main_v34 (F := Ideal) q k kc (ix5 ⟨j 0 / 2048, by omega⟩ ⟨j 1 / 128, by omega⟩ (⟨0, by omega⟩ : Fin 2) ⟨j 0 % 2048, by omega⟩ i))
    (fun i => Cert.Reference8Ideal.Read.val_main_v34 (F := Ideal) q k kc (ix5 ⟨j 0 / 2048, by omega⟩ ⟨j 1 / 128, by omega⟩ (⟨1, by omega⟩ : Fin 2) ⟨j 0 % 2048, by omega⟩ i))
    (fun i f => Cert.Reference8Ideal.Read.val_main_v11 (F := Ideal) p pc (ix4 ⟨j 0 / 2048, by omega⟩ i ⟨j 1 / 128, by omega⟩ f))
    rfl (by norm_num) ?_ ?_ ?_ (lambda_real _ _ (fun a d => hlam _) const_last) ?_ ?_ ?_ ?_ ?_ ?_
  · intro i
    by_cases hi : i.val < 256
    · have := Cert.Reference8Ideal.Diff.score_ctx1 q k kc ⟨j 0 / 2048, by omega⟩ ⟨j 1 / 128, by omega⟩ ⟨j 0 % 2048, by omega⟩ ⟨i, hi⟩
      simp only [Fin.eta] at this
      rw [this]
      exact dot_real _ _ (fun d => hq _) fun d => hkc _
    · have := Cert.Reference8Ideal.Diff.score_seq1 q k kc ⟨j 0 / 2048, by omega⟩ ⟨j 1 / 128, by omega⟩ ⟨j 0 % 2048, by omega⟩ ⟨i - 256, by omega⟩
      have e : (⟨256 + (i.val - 256), by omega⟩ : Fin 2304) = i := Fin.ext (by simp; omega)
      simp only [e] at this
      rw [this]
      exact dot_real _ _ (fun d => hq _) fun d => hk _
  · intro i
    by_cases hi : i.val < 256
    · have := Cert.Reference8Ideal.Diff.score_ctx2 q k kc ⟨j 0 / 2048, by omega⟩ ⟨j 1 / 128, by omega⟩ ⟨j 0 % 2048, by omega⟩ ⟨i, hi⟩
      simp only [Fin.eta] at this
      rw [this]
      exact dot_real _ _ (fun d => hq _) fun d => hkc _
    · have := Cert.Reference8Ideal.Diff.score_seq2 q k kc ⟨j 0 / 2048, by omega⟩ ⟨j 1 / 128, by omega⟩ ⟨j 0 % 2048, by omega⟩ ⟨i - 256, by omega⟩
      have e : (⟨256 + (i.val - 256), by omega⟩ : Fin 2304) = i := Fin.ext (by simp; omega)
      simp only [e] at this
      rw [this]
      exact dot_real _ _ (fun d => hq _) fun d => hk _
  · intro i f
    have hf := f.isLt
    by_cases hi : i.val < 256
    · have := Cert.Reference8Ideal.Diff.value_ctx p pc ⟨j 0 / 2048, by omega⟩ ⟨j 1 / 128, by omega⟩ f ⟨i, hi⟩
      simp only [Fin.eta] at this
      rw [this]
      exact hpc _ ⟨j 1 / 128 * 128 + f, by omega⟩
    · have := Cert.Reference8Ideal.Diff.value_seq p pc ⟨j 0 / 2048, by omega⟩ ⟨j 1 / 128, by omega⟩ f ⟨i - 256, by omega⟩
      have e : (⟨256 + (i.val - 256), by omega⟩ : Fin 2304) = i := Fin.ext (by simp; omega)
      simp only [e] at this
      rw [this]
      exact hp _ ⟨j 1 / 128 * 128 + f, by omega⟩
  · intro i
    rw [Cert.Reference8Ideal.Diff.score_ctx1]
    congr 1
    funext d
    congr 1; blk_ext
  · intro i
    rw [Cert.Reference8Ideal.Diff.score_seq1]
    congr 1
    funext d
    congr 1; blk_ext
  · intro i
    rw [Cert.Reference8Ideal.Diff.score_ctx2]
    congr 1
    funext d
    congr 1; blk_ext
  · intro i
    rw [Cert.Reference8Ideal.Diff.score_seq2]
    congr 1
    funext d
    congr 1; blk_ext
  · intro i f
    rw [Cert.Reference8Ideal.Diff.value_ctx]
  · intro i f
    rw [Cert.Reference8Ideal.Diff.value_seq]

/-- The columns of `p` from 8192 on, 512 of them. -/
theorem slice_p (p : FVec Ideal S8192x9728 .bf16) (h : S8192x9728.Slices ![0, 8192] S8192x512) (r : Fin 8192) (c : Fin 512) :
    extractStridedSlice S8192x512 ![0, 8192] p h (ix2 r c) = p (ix2 r ⟨8192 + c, by omega⟩) := by
  pointwise

/-- The columns of `pc` from 1536 on, 512 of them. -/
theorem slice_pc (p : FVec Ideal S1024x2048 .bf16) (h : S1024x2048.Slices ![0, 1536] S1024x512) (r : Fin 1024) (c : Fin 512) :
    extractStridedSlice S1024x512 ![0, 1536] p h (ix2 r c) = p (ix2 r ⟨1536 + c, by omega⟩) := by
  pointwise

/-- The precondition, decoded. -/
theorem pre_real (q : FVec Ideal S8192x512 .bf16) (lam : FVec Ideal S4x64 .f32) (g : FVec Ideal S1x128 .f32) (k : FVec Ideal S8192x512 .bf16)
    (kc : FVec Ideal S1024x512 .bf16) (p : FVec Ideal S8192x9728 .bf16) (pc : FVec Ideal S1024x2048 .bf16)
    (h : Cert.Pre_diff_finite.fn (F := Ideal) q lam g k kc p pc = fun _ => 1#1) :
    AllReal q ∧ AllReal lam ∧ AllReal k ∧ AllReal kc ∧ (∀ (r : Fin 8192) (c : Fin 512), IsReal (p (ix2 r ⟨8192 + c, by omega⟩)))
      ∧ ∀ (r : Fin 1024) (c : Fin 512), IsReal (pc (ix2 r ⟨1536 + c, by omega⟩)) := by
  dsimp only [Cert.Pre_diff_finite.fn, Cert.Pre_diff_finite.fn_part1] at h
  have h' := congrFun h ix0
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h1, h2⟩ := IntOp.andi_eq_one.1 h'
  generalize e5 : extractStridedSlice S8192x512 ![0, 8192] p _ = s5 at h5
  generalize e6 : extractStridedSlice S1024x512 ![0, 1536] pc _ = s6 at h6
  have r5 := allReal_of_test s5 _ (fun _ => rfl) _ (fun _ => posInf) _ _ _ h5
  have r6 := allReal_of_test s6 _ (fun _ => rfl) _ (fun _ => posInf) _ _ _ h6
  refine ⟨allReal_of_test q _ (fun _ => rfl) _ (fun _ => posInf) _ _ _ h1, allReal_of_test lam _ (fun _ => rfl) _ (fun _ => posInf) _ _ _ h2,
    allReal_of_test k _ (fun _ => rfl) _ (fun _ => posInf) _ _ _ h3, allReal_of_test kc _ (fun _ => rfl) _ (fun _ => posInf) _ _ _ h4, fun r c => ?_, fun r c => ?_⟩
  · have := r5 (ix2 r c); rw [← e5, slice_p] at this; exact this
  · have := r6 (ix2 r c); rw [← e6, slice_pc] at this; exact this

end Cert.Kernel8Ideal.Diff
-- ==== Proof.AttnFirst.lean ====
module

public import proofs.«01_k».proof.Proof.Gen.Kernel6Ideal.Value
public import proofs.«01_k».proof.Proof.Softmax
public import Idealize.ShloMosaic.Lib.Pipeline.ReadBack
public import Idealize.ShloMosaic.Lib.Pipeline.ValueKit

@[expose] public section
set_option maxRecDepth 16384
noncomputable section
namespace Cert.Kernel6Ideal.Attn
open Cert.Kernel6Ideal Cert.Kernel6Ideal.Gen Idealize.ShloMosaic Idealize.ShloMosaic.TcCoe Idealize.SL.Sem
open Idealize.ShloMosaic.Pipeline (Dat)

open Cert.Softmax

/-- One row tile of the kernel: 256 query rows of one head against the head's sequence keys and context keys. Entry by
    entry it is the attention row over the two groups of keys. -/
theorem tile (q : Vec Ideal S256x256 .bf16) (k : Vec Ideal S2048x256 .bf16) (kc : Vec Ideal S256x256 .bf16)
    (v : Vec Ideal S2048x128 .bf16) (vc : Vec Ideal S256x128 .bf16) (x : S256x128.Idx) :
    k0_pay2 q k kc v vc x = twoGroups (fun i : Fin 2048 => ∑ d : Fin 256, q (ix2 (x 0) d) * k (ix2 i d)) (fun i => v (ix2 i (x 1)))
      (fun i : Fin 256 => ∑ d : Fin 256, q (ix2 (x 0) d) * kc (ix2 i d)) (fun i => vc (ix2 i (x 1))) := by
  unfold twoGroups Softmax.top
  rw [← negInf]
  pointwise [k0_pay2]

section
variable (q : Vec Ideal S256x256 .bf16) (k : Vec Ideal S2048x256 .bf16) (kc : Vec Ideal S256x256 .bf16)
    (v : Vec Ideal S2048x128 .bf16) (vc : Vec Ideal S256x128 .bf16)

/-! The eight row tiles of a block are the same computation of their own query rows. -/

theorem tile1 : k0_pay3 q k kc v vc = k0_pay2 q k kc v vc := rfl
theorem tile2 : k0_pay4 q k kc v vc = k0_pay2 q k kc v vc := rfl
theorem tile3 : k0_pay6 q (k0_pay5 q k) kc v vc = k0_pay2 q k kc v vc := rfl
theorem tile4 : k0_pay9 (k0_pay7 q k) (k0_pay8 q kc) v vc = k0_pay2 q k kc v vc := rfl
theorem tile5 : k0_pay13 (k0_pay10 q k) (k0_pay11 q kc) (k0_pay12 q k) v vc = k0_pay2 q k kc v vc := rfl
theorem tile6 : k0_pay18 (k0_pay14 q k) (k0_pay15 q kc) (k0_pay16 q k kc) (k0_pay17 q k kc) v vc = k0_pay2 q k kc v vc := rfl
theorem tile7 : k0_pay1 (k0_pay22 q k kc) (k0_pay23 q k kc) v vc = k0_pay2 q k kc v vc := rfl
end

variable (m : (ℓ : Loc nD τ sig) → Buf (Elt Ideal) ℓ)

/-- The block that one grid point writes: 2048 query rows of one head of one batch, every row the attention row over the
    head's keys. -/
theorem block (c : Dev nD) (t : Fin cfg0.N) (q k : Vec Ideal S2048x256 .bf16) (kc : Vec Ideal S256x256 .bf16)
    (v : Vec Ideal S2048x128 .bf16) (vc : Vec Ideal S256x128 .bf16) (y : S2048x128.Idx) :
    out0_A_5 c (grid0.coords t) (ms0_0 t) (hs0_0 t) (ms0_1 t) (hs0_1 t) (ms0_2 t) (hs0_2 t) (ms0_3 t) (hs0_3 t) (ms0_4 t) (hs0_4 t)
        (ms0_5 t) (hs0_5 t) q k kc v vc y
      = twoGroups (fun i : Fin 2048 => ∑ d : Fin 256, q (ix2 (y 0) d) * k (ix2 i d)) (fun i => v (ix2 i (y 1)))
      (fun i : Fin 256 => ∑ d : Fin 256, q (ix2 (y 0) d) * kc (ix2 i d)) (fun i => vc (ix2 i (y 1))) := by
  frame_out
  canon_tiles x h
  all_goals (first | rw [tile7] | rw [tile6] | rw [tile5] | rw [tile4] | rw [tile3] | rw [tile2] | rw [tile1] | skip)
  all_goals rw [tile]
  all_goals (congr 1 <;> (funext i; pointwise <;> blk_point []))

end Cert.Kernel6Ideal.Attn
-- ==== Proof.AttnFirstRef.lean ====
module

public import proofs.«01_k».proof.Proof.Gen.Reference6Ideal.Read
public import proofs.«01_k».proof.Proof.Softmax
public import Idealize.ShloMosaic.Lib.Pipeline.ValueKit

@[expose] public section
set_option maxRecDepth 16384
noncomputable section
namespace Cert.Reference6Ideal.Attn
open Cert.Reference6Ideal Cert.Reference6Ideal.Read Idealize.ShloMosaic Idealize.ShloMosaic.TcCoe Idealize.SL.Sem

open Cert.Softmax

variable (x0 x1 : (⟨S9216x2048, .bf16⟩ : BufTy).Contents (Elt Ideal)) (x2 : (⟨S9216x1024, .bf16⟩ : BufTy).Contents (Elt Ideal))

/-- The reference's score of a query row against a context key (the first 256 keys of the batch). -/
theorem score_ctx (b : Fin 4) (h : Fin 8) (q : Fin 2048) (k : Fin 256) :
    val_main_v17 (F := Ideal) x0 x1 (ix4 b h q ⟨k, by omega⟩)
      = ∑ d : Fin 256, x0 (ix2 ⟨b * 2048 + q, by omega⟩ ⟨h * 256 + d, by omega⟩) * x1 (ix2 ⟨8192 + (b * 256 + k), by omega⟩ ⟨h * 256 + d, by omega⟩) := by
  pointwise [val_main_v17, val_main_v9, val_main_v8, val_main_v7, val_main_v6, val_main_v5, val_main_v4, val_main_v3, val_main_v2, val_main_v1, val_main_v0]
  blk_ext

/-- The reference's score of a query row against a sequence key (those behind the context's). -/
theorem score_seq (b : Fin 4) (h : Fin 8) (q : Fin 2048) (k : Fin 2048) :
    val_main_v17 (F := Ideal) x0 x1 (ix4 b h q ⟨256 + k, by omega⟩)
      = ∑ d : Fin 256, x0 (ix2 ⟨b * 2048 + q, by omega⟩ ⟨h * 256 + d, by omega⟩) * x1 (ix2 ⟨b * 2048 + k, by omega⟩ ⟨h * 256 + d, by omega⟩) := by
  pointwise [val_main_v17, val_main_v9, val_main_v8, val_main_v7, val_main_v6, val_main_v5, val_main_v4, val_main_v3, val_main_v2, val_main_v1, val_main_v0]

  blk_ext

/-- The reference's value row of a context key. -/
theorem value_ctx (b : Fin 4) (h : Fin 8) (e : Fin 128) (k : Fin 256) :
    val_main_v16 (F := Ideal) x2 (ix4 b ⟨k, by omega⟩ h e) = x2 (ix2 ⟨8192 + (b * 256 + k), by omega⟩ ⟨h * 128 + e, by omega⟩) := by
  pointwise [val_main_v16, val_main_v15, val_main_v14, val_main_v13, val_main_v12, val_main_v11, val_main_v10]
  blk_ext

/-- The reference's value row of a sequence key. -/
theorem value_seq (b : Fin 4) (h : Fin 8) (e : Fin 128) (k : Fin 2048) :
    val_main_v16 (F := Ideal) x2 (ix4 b ⟨256 + k, by omega⟩ h e) = x2 (ix2 ⟨b * 2048 + k, by omega⟩ ⟨h * 128 + e, by omega⟩) := by
  pointwise [val_main_v16, val_main_v15, val_main_v14, val_main_v13, val_main_v12, val_main_v11, val_main_v10]

  blk_ext

theorem max_row (b : Fin 4) (h : Fin 8) (q : Fin 2048) :
    val_main_v18 (F := Ideal) x0 x1 (ix3 b h q)
      = Softmax.top (fun k : Fin 2304 => val_main_v17 (F := Ideal) x0 x1 (ix4 b h q k)) := by
  unfold Softmax.top
  rw [← negInf]
  pointwise [val_main_v18, val_main_cst]

/-- The maximum that the reference subtracts, laid out over the keys. -/
theorem max_bcast (b : Fin 4) (h : Fin 8) (q : Fin 2048) (k : Fin 2304) :
    val_main_v22 (F := Ideal) x0 x1 (ix4 b h q k)
      = Softmax.top (fun k : Fin 2304 => val_main_v17 (F := Ideal) x0 x1 (ix4 b h q k)) := by
  rw [← max_row, val_main_v22_apply, val_main_v21_apply, val_main_v20_apply, val_main_v19_apply, val_main_cst_0_apply]
  have e : idx_main_v21 (idx_main_v22 (ix4 b h q k)) = ix3 b h q := by
    funext a; match a with | ⟨0, _⟩ => rfl | ⟨1, _⟩ => rfl | ⟨2, _⟩ => rfl
  rw [e]
  generalize val_main_v18 (F := Ideal) x0 x1 = y
  have hb : (FloatOps.ofBits .f32 0xFF800000#32 : Ideal .f32) = (⊥ : EReal) := negInf
  rw [hb]
  exact max_eq_right (bot_le (a := (y (ix3 b h q) : EReal)))

/-- The reference's unnormalised weight of a key. -/
theorem weight (b : Fin 4) (h : Fin 8) (q : Fin 2048) (k : Fin 2304) :
    val_main_v24 (F := Ideal) x0 x1 (ix4 b h q k)
      = Ideal.exp (val_main_v17 (F := Ideal) x0 x1 (ix4 b h q k) - Softmax.top (fun k : Fin 2304 => val_main_v17 (F := Ideal) x0 x1 (ix4 b h q k))) := by
  rw [← max_bcast x0 x1 b h q k]
  pointwise [val_main_v24, val_main_v23]

/-- The sum of a row's weights, laid out over the keys. -/
theorem total (b : Fin 4) (h : Fin 8) (q : Fin 2048) (k : Fin 2304) :
    val_main_v27 (F := Ideal) x0 x1 (ix4 b h q k)
      = ∑ k : Fin 2304, val_main_v24 (F := Ideal) x0 x1 (ix4 b h q k) := by
  pointwise [val_main_v27, val_main_v26, val_main_v25, val_main_cst_1]

/-- The reference's result is, entry by entry, the values weighted by the softmax of the row's scores. -/
theorem ref_row (b : Fin 4) (h : Fin 8) (q : Fin 2048) (e : Fin 128) :
    val_main_v29 (F := Ideal) x0 x1 x2 (ix4 b h e q)
      = oneGroup (fun k : Fin 2304 => val_main_v17 (F := Ideal) x0 x1 (ix4 b h q k)) (fun k => val_main_v16 (F := Ideal) x2 (ix4 b k h e)) := by
  unfold oneGroup
  pointwise [val_main_v29, val_main_v28, total]
  simp only [weight]

theorem ref_at (j : S8192x1024.Idx) (b : Fin 4) (h : Fin 8) (q : Fin 2048) (e : Fin 128) (hj0 : (j 0 : ℕ) = b * 2048 + q) (hj1 : (j 1 : ℕ) = h * 128 + e) :
    val_main_v32 (F := Ideal) x0 x1 x2 j = val_main_v29 (F := Ideal) x0 x1 x2 (ix4 b h e q) := by
  pointwise [val_main_v32, val_main_v31, val_main_v30]

  blk_ext

end Cert.Reference6Ideal.Attn
-- ==== Proof.AttnFirstFinal.lean ====
module

public import proofs.«01_k».proof.Proof.AttnFirst
public import proofs.«01_k».proof.Proof.AttnFirstRef
public import proofs.«01_k».proof.Proof.Gen.Pre_scores_finite_joined
public import Idealize.ShloMosaic.Lib.Pipeline.ValueKit
public import Idealize.ShloMosaic.Lib.ReduceAll
public import Idealize.ShloMosaic.Lib.Affine

/-! The first layer's latent attention: what the kernel's output array holds, and that it is the reference's. The arrays are
those of all 9216 rows, the context's 1024 behind the latents' 8192. -/

@[expose] public section
set_option maxRecDepth 16384
noncomputable section
namespace Cert.Kernel6Ideal.Attn
open Cert.Kernel6Ideal Cert.Kernel6Ideal.Gen Idealize.ShloMosaic Idealize.ShloMosaic.TcCoe Idealize.SL.Sem
open Idealize.ShloMosaic.Pipeline (Dat)
open Cert.Softmax

variable (m : (ℓ : Loc nD τ sig) → Buf (Elt Ideal) ℓ)

/-- Where the windows of grid point `t` lie: the point is (batch, head); every block is the batch's rows and the head's lanes,
    and the context's blocks of 256 rows begin behind the 32 of the latents. -/
theorem idx : ∀ t : Fin cfg0.N, win0_0.index t = ![t.val / 8, t.val % 8] ∧ win0_1.index t = ![t.val / 8, t.val % 8]
    ∧ win0_2.index t = ![32 + t.val / 8, t.val % 8] ∧ win0_3.index t = ![t.val / 8, t.val % 8]
    ∧ win0_4.index t = ![32 + t.val / 8, t.val % 8] ∧ win0_5.index t = ![t.val / 8, t.val % 8] :=
  (by decide +kernel : ∀ t : Fin grid0.N, _)

/-- The staged block of queries: the batch's rows, the head's lanes. -/
theorem queries (c : Dev nD) (t : Fin cfg0.N) (y : S2048x256.Idx) (i : S9216x2048.Idx) (h0 : (i 0 : ℕ) = t.val / 8 * 2048 + y 0)
    (h1 : (i 1 : ℕ) = t.val % 8 * 256 + y 1) : X0_0 m c t y = m ((c : Thread nD τ).loc main_arg0) i := by
  unfold X0_0 Pipeline.Window.fill
  rw [dif_pos (moved0_0 t y)]
  blk_ext [iblk, V, idx t]

/-- The staged block of sequence keys. -/
theorem keys (c : Dev nD) (t : Fin cfg0.N) (y : S2048x256.Idx) (i : S9216x2048.Idx) (h0 : (i 0 : ℕ) = t.val / 8 * 2048 + y 0)
    (h1 : (i 1 : ℕ) = t.val % 8 * 256 + y 1) : X0_1 m c t y = m ((c : Thread nD τ).loc main_arg1) i := by
  unfold X0_1 Pipeline.Window.fill
  rw [dif_pos (moved0_1 t y)]
  blk_ext [iblk, V, idx t]

/-- The staged block of sequence values. -/
theorem values (c : Dev nD) (t : Fin cfg0.N) (y : S2048x128.Idx) (i : S9216x1024.Idx) (h0 : (i 0 : ℕ) = t.val / 8 * 2048 + y 0)
    (h1 : (i 1 : ℕ) = t.val % 8 * 128 + y 1) : X0_3 m c t y = m ((c : Thread nD τ).loc main_arg2) i := by
  unfold X0_3 Pipeline.Window.fill
  rw [dif_pos (moved0_3 t y)]
  blk_ext [iblk, V, idx t]

/-- The attention of the latents: entry `j` is the row of query row `j 0`, head `j 1 / 128`, over the batch's sequence keys
    and its context keys, which lie behind all 8192 rows of the latents. -/
def attn (q k : FVec Ideal S9216x2048 .bf16) (v : FVec Ideal S9216x1024 .bf16) : FVec Ideal S8192x1024 .bf16 := fun j =>
  have hj0 : (j 0 : ℕ) < 8192 := (j 0).isLt
  have hj1 : (j 1 : ℕ) < 1024 := (j 1).isLt
  twoGroups
    (fun i : Fin 2048 => ∑ d : Fin 256, q (ix2 ⟨j 0, by omega⟩ ⟨j 1 / 128 * 256 + d, by omega⟩) * k (ix2 ⟨j 0 / 2048 * 2048 + i, by omega⟩ ⟨j 1 / 128 * 256 + d, by omega⟩))
    (fun i => v (ix2 ⟨j 0 / 2048 * 2048 + i, by omega⟩ (j 1)))
    (fun i : Fin 256 => ∑ d : Fin 256, q (ix2 ⟨j 0, by omega⟩ ⟨j 1 / 128 * 256 + d, by omega⟩) * k (ix2 ⟨8192 + (j 0 / 2048 * 256 + i), by omega⟩ ⟨j 1 / 128 * 256 + d, by omega⟩))
    (fun i => v (ix2 ⟨8192 + (j 0 / 2048 * 256 + i), by omega⟩ (j 1)))

/-- What grid point `t` writes is its block of `attn` of the arguments. -/
theorem point (c : Dev nD) (t : Fin cfg0.N) (y : S2048x128.Idx) :
    outsAt0 m c t y
      = attn (m ((c : Thread nD τ).loc main_arg0)) (m ((c : Thread nD τ).loc main_arg1)) (m ((c : Thread nD τ).loc main_arg2))
          (((cfg0.win 5).blk t).view.emb y) := by
  unfold outsAt0
  rw [block]
  have ht : t.val < 32 := lt_of_lt_of_eq t.isLt N_0
  have hy0 : (y 0 : ℕ) < 2048 := (y 0).isLt
  have hy1 : (y 1 : ℕ) < 128 := (y 1).isLt
  unfold attn
  congr 1
  · funext i
    refine Fin.sum_fin_congr fun d => ?_
    congr 1
    · refine queries m c t _ _ ?_ ?_ <;> (blk_simp [idx t]; try (dsimp only; omega))
    · refine keys m c t _ _ ?_ ?_ <;> (blk_simp [idx t]; try (dsimp only; omega))
  · funext i
    refine values m c t _ _ ?_ ?_ <;> (blk_simp [idx t]; try (dsimp only; omega))
  · funext i
    refine Fin.sum_fin_congr fun d => ?_
    congr 1
    · refine queries m c t _ _ ?_ ?_ <;> (blk_simp [idx t]; try (dsimp only; omega))
    · blk_ext [iblk, V, idx t]
  · funext i
    blk_ext [iblk, V, idx t]

/-- The output array after the run is the attention of the arguments. -/
theorem final (c : Dev nD) : (dats m 0 c).arrAt 5 (cfgs 0).N
    = attn (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point m c t y

/-- Over real queries and keys the attention of two groups of keys is the reference. -/
theorem attn_eq (q k : FVec Ideal S9216x2048 .bf16) (v : FVec Ideal S9216x1024 .bf16)
    (hq : ∀ (r : Fin 8192) (c : Fin 2048), IsReal (q (ix2 ⟨r, by omega⟩ c))) (hk : AllReal k) :
    attn q k v = Cert.Reference6Ideal.Read.val_main_v32 (F := Ideal) q k v := by
  funext j
  have hj0 : (j 0 : ℕ) < 8192 := (j 0).isLt
  have hj1 : (j 1 : ℕ) < 1024 := (j 1).isLt
  have eq0 : ((j 0 : ℕ) / 2048) * 2048 + (j 0 : ℕ) % 2048 = j 0 := Nat.div_add_mod' _ _
  have eq1 : ((j 1 : ℕ) / 128) * 128 + (j 1 : ℕ) % 128 = j 1 := Nat.div_add_mod' _ _
  rw [Cert.Reference6Ideal.Attn.ref_at q k v j ⟨j 0 / 2048, by omega⟩ ⟨j 1 / 128, by omega⟩ ⟨j 0 % 2048, by omega⟩ ⟨j 1 % 128, by omega⟩ eq0.symm eq1.symm,
    Cert.Reference6Ideal.Attn.ref_row]
  unfold attn
  refine twoGroups_eq (n := 2048) (p := 256) _ _ _ _ _ _ rfl (by norm_num) ?_ ?_ ?_ ?_ ?_
  · intro i
    by_cases hi : i.val < 256
    · have := Cert.Reference6Ideal.Attn.score_ctx q k ⟨j 0 / 2048, by omega⟩ ⟨j 1 / 128, by omega⟩ ⟨j 0 % 2048, by omega⟩ ⟨i, hi⟩
      simp only [Fin.eta] at this
      rw [this]
      exact dot_real _ _ (fun d => hq ⟨j 0 / 2048 * 2048 + j 0 % 2048, by omega⟩ _) fun d => hk _
    · have := Cert.Reference6Ideal.Attn.score_seq q k ⟨j 0 / 2048, by omega⟩ ⟨j 1 / 128, by omega⟩ ⟨j 0 % 2048, by omega⟩ ⟨i - 256, by omega⟩
      have e : (⟨256 + (i.val - 256), by omega⟩ : Fin 2304) = i := Fin.ext (by simp; omega)
      simp only [e] at this
      rw [this]
      exact dot_real _ _ (fun d => hq ⟨j 0 / 2048 * 2048 + j 0 % 2048, by omega⟩ _) fun d => hk _
  · intro i
    rw [Cert.Reference6Ideal.Attn.score_ctx]
    refine Fin.sum_fin_congr fun d => ?_
    congr 1 <;> blk_ext
  · intro i
    rw [Cert.Reference6Ideal.Attn.score_seq]
    refine Fin.sum_fin_congr fun d => ?_
    congr 1 <;> blk_ext
  · intro i
    rw [Cert.Reference6Ideal.Attn.value_ctx]
    blk_ext
  · intro i
    rw [Cert.Reference6Ideal.Attn.value_seq]
    blk_ext

/-- The rows of the latents. -/
theorem slice_lat (x : FVec Ideal S9216x2048 .bf16) (h : S9216x2048.Slices ![0, 0] ⟨2, ![8192, 2048]⟩) (r : Fin 8192) (c : Fin 2048) :
    extractStridedSlice ⟨2, ![8192, 2048]⟩ ![0, 0] x h (ix2 r c) = x (ix2 ⟨r, by omega⟩ c) := by
  pointwise

/-- The precondition, decoded: the latents' queries and the keys are real. -/
theorem pre_real (q k : FVec Ideal S9216x2048 .bf16) (v : FVec Ideal S9216x1024 .bf16)
    (h : Cert.Pre_scores_finite_joined.fn (F := Ideal) q k v = fun _ => 1#1) :
    (∀ (r : Fin 8192) (c : Fin 2048), IsReal (q (ix2 ⟨r, by omega⟩ c))) ∧ AllReal k := by
  dsimp only [Cert.Pre_scores_finite_joined.fn] at h
  have h' := congrFun h ix0
  obtain ⟨h1, h2⟩ := IntOp.andi_eq_one.1 h'
  generalize e1 : extractStridedSlice Cert.Pre_scores_finite_joined.S8192x2048 ![0, 0] q _ = s1 at h1
  have r1 := allReal_of_test s1 _ (fun _ => rfl) _ (fun _ => posInf) _ _ _ h1
  refine ⟨fun r c => ?_, allReal_of_test k _ (fun _ => rfl) _ (fun _ => posInf) _ _ _ h2⟩
  have := r1 (ix2 r c); rw [← e1, slice_lat] at this; exact this

end Cert.Kernel6Ideal.Attn
-- ==== Proof.ProjLast.lean ====
module

public import proofs.«01_k».proof.Proof.Norm
public import proofs.«01_k».proof.Proof.Gen.Kernel4Ideal.Value
public import Idealize.ShloMosaic.Lib.Pipeline.ValueKit
public import Idealize.ShloMosaic.Lib.Pipeline.ValueKit.Held
public import Idealize.ShloMosaic.Lib.Pipeline.ReadBack

/-! What the last layer's input projection of the sequences' tokens leaves in its output array: every token's row, normed, scaled and shifted, against the weights. -/

@[expose] public section
set_option maxRecDepth 16384
noncomputable section
namespace Cert.Kernel4Ideal.Proj
open Cert.Kernel4Ideal Cert.Kernel4Ideal.Gen Idealize.ShloMosaic Idealize.ShloMosaic.TcCoe Idealize.SL.Sem
open Idealize.ShloMosaic.Pipeline (Dat)
open Cert.Norm

/-- A modulated row of a block of tokens: the layer norm, times one plus the block's scale, plus the block's shift. -/
theorem norm_tile (x : Vec Ideal S1024x2048 .f32) (sc sh : Vec Ideal S1x1x2048 .f32) (y : S1024x2048.Idx) :
    k0_pay1 x sc sh y = lnorm (fun e => x (ix2 (y 0) e)) (y 1) * (1 + sc (ix3 0 0 (y 1))) + sh (ix3 0 0 (y 1)) := by
  unfold lnorm mean
  pointwise [k0_pay1]

/-- A block of modulated rows against a block of the weights' columns. -/
theorem dot_tile (u : Vec Ideal S1024x2048 .bf16) (w : Vec Ideal S1x2048x512 .bf16) (y : S1024x512.Idx) :
    k0_pay2 u w y = ∑ k : Fin 2048, u (ix2 (y 0) k) * w (ix3 0 k (y 1)) := by
  pointwise [k0_pay2]

variable (m : (ℓ : Loc nD τ sig) → Buf (Elt Ideal) ℓ)

/-- Where the windows of grid point `t` lie: the point is (block of tokens, block of columns). -/
theorem idx : ∀ t : Fin cfg0.N, win0_0.index t = ![t.val / 19, 0] ∧ win0_1.index t = ![min (t.val / 19 / 2) 4, 0, 0]
    ∧ win0_2.index t = ![min (t.val / 19 / 2) 4, 0, 1] ∧ win0_3.index t = ![1, 0, t.val % 19]
    ∧ win0_4.index t = ![t.val / 19, t.val % 19] :=
  (by decide +kernel : ∀ t : Fin grid0.N, _)

/-- The modulated rows that the first point of a block of tokens computes. -/
def rows (c : Dev nD) (t : Fin cfg0.N) : Vec Ideal S1024x2048 .bf16 :=
  k0_pay1 (iblk m c 0 t) (iblk m c 2 t) (iblk m c 1 t)

/-- The first point of a block of tokens leaves the block's modulated rows in the scratch buffer. -/
theorem scratch_first (c : Dev nD) (t : Fin cfg0.N) (h : t.val % 19 = 0) (i : S1024x2048.Idx) :
    (outsAt0 m c t.val t.isLt).2 i = rows m c t i := by
  rw [outsAt0_A m c t h]
  frame_out
  rfl

/-- Every point of a block of tokens has the block's modulated rows in the scratch buffer. -/
theorem scratch (c : Dev nD) (t : Fin cfg0.N) (i : S1024x2048.Idx) :
    (outsAt0 m c t.val t.isLt).2 i = rows m c ⟨19 * (t.val / 19), Pipeline.run_start_lt t⟩ i :=
  Pipeline.eq_of_write_hold_apply (fun n h => (outsAt0 m c n h).2) 19 (rows m c) (scratch_first m c)
    (fun t h i => by rw [outsAt0_B m c t h]; rfl) t i

/-- What a point leaves in the output block: the block's modulated rows against the point's columns of the weights. -/
theorem out_point (c : Dev nD) (t : Fin cfg0.N) (y : S1024x512.Idx) :
    (outsAt0 m c t.val t.isLt).1 y = k0_pay2 (rows m c ⟨19 * (t.val / 19), Pipeline.run_start_lt t⟩) (iblk m c 3 t) y := by
  by_cases h : t.val % 19 = 0
  · have e : (⟨19 * (t.val / 19), Pipeline.run_start_lt t⟩ : Fin cfg0.N) = t := Fin.ext (by show 19 * (t.val / 19) = t.val; omega)
    rw [e, outsAt0_A m c t h]
    frame_out
    rfl
  · have h1 := t.isLt
    have e : (⟨19 * ((t.val - 1) / 19), by omega⟩ : Fin cfg0.N) = ⟨19 * (t.val / 19), Pipeline.run_start_lt t⟩ :=
      Fin.ext (by show 19 * ((t.val - 1) / 19) = 19 * (t.val / 19); omega)
    have hs : (outsAt0 m c (t.val - 1) (Nat.lt_of_le_of_lt (Nat.sub_le _ _) t.isLt)).2 = rows m c ⟨19 * (t.val / 19), Pipeline.run_start_lt t⟩ := by
      funext i
      rw [scratch m c ⟨t.val - 1, Nat.lt_of_le_of_lt (Nat.sub_le _ _) t.isLt⟩ i]
      exact congrFun (congrArg (rows m c) e) i
    rw [outsAt0_B m c t h]
    frame_out
    simp only [read_unread_whole, hs]

/-- The last layer's projection of the first 8192 tokens of an array. -/
def proj (x : FVec Ideal S9216x2048 .f32) (md : FVec Ideal S8x1x12288 .f32) (w : FVec Ideal S2x2048x9728 .bf16) :
    FVec Ideal S8192x9728 .bf16 := fun j =>
  ∑ d : Fin 2048, (lnorm (fun e => x (ix2 ⟨(j 0).val, Nat.lt_of_lt_of_le (j 0).isLt (by decide)⟩ e)) d * (1 + md (ix3 (modRow (j 0)) 0 ⟨2048 + d, by omega⟩))
      + md (ix3 (modRow (j 0)) 0 ⟨d, by omega⟩)) * w (ix3 1 d (j 1))

/-- What grid point `t` writes is its block of `proj` of the arguments. -/
theorem point (c : Dev nD) (t : Fin cfg0.N) (y : S1024x512.Idx) :
    (outsAt0 m c t.val t.isLt).1 y = proj (m ((c : Thread nD τ).loc main_arg0)) (m ((c : Thread nD τ).loc main_arg1))
        (m ((c : Thread nD τ).loc main_arg2)) (((cfg0.win 4).blk t).view.emb y) := by
  rw [out_point, dot_tile]
  have ht : t.val < 152 := lt_of_lt_of_eq t.isLt N_0
  have hy0 : (y 0 : ℕ) < 1024 := (y 0).isLt
  have hy1 : (y 1 : ℕ) < 512 := (y 1).isLt
  unfold proj rows
  refine Fin.sum_fin_congr fun d => ?_
  rw [norm_tile]
  have it := idx ⟨19 * (t.val / 19), Pipeline.run_start_lt t⟩
  congr 1
  · congr 1
    · congr 1
      · congr 1
        funext e
        blk_ext [iblk, V, idx t, it]
      · congr 1
        blk_ext [iblk, V, idx t, it, modRow_val]
    · blk_ext [iblk, V, idx t, it, modRow_val]
  · blk_ext [iblk, V, idx t]

/-- The output array after the run is the projection of the arguments. -/
theorem final (c : Dev nD) : (dats m 0 c).arrAt 4 (cfgs 0).N
    = proj (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m c t y

end Cert.Kernel4Ideal.Proj
-- ==== Proof.ProjLastRef.lean ====
module

public import proofs.«01_k».proof.Proof.Norm
public import proofs.«01_k».proof.Proof.Gen.Reference4Ideal.Run
public import proofs.«01_k».proof.Proof.Gen.Reference4Ideal.Read
public import Idealize.ShloMosaic.Lib.Pipeline.ValueKit

/-! What the reference of the last layer's input projection of the sequences' tokens computes. -/

@[expose] public section
set_option maxRecDepth 16384
noncomputable section
namespace Cert.Reference4Ideal.Proj
open Cert.Reference4Ideal Cert.Reference4Ideal.Gen Cert.Reference4Ideal.Read Idealize.ShloMosaic Idealize.ShloMosaic.TcCoe Idealize.SL.Sem
open Cert.Norm

/-- The shift of token `r`. -/
theorem shift_at (x1 : FVec Ideal S8x1x12288 .f32) (r : Fin 8192) (d : Fin 2048) :
    val_main_v8 (F := Ideal) x1 (ix2 r d) = x1 (ix3 (modRow r) 0 ⟨d, by omega⟩) := by
  pointwise [val_main_v8, val_main_v7, val_main_v6, val_main_v5, val_main_v1, val_main_v0]
  blk_point [modRow_val]

/-- The scale of token `r`. -/
theorem scale_at (x1 : FVec Ideal S8x1x12288 .f32) (r : Fin 8192) (d : Fin 2048) :
    val_main_v12 (F := Ideal) x1 (ix2 r d) = x1 (ix3 (modRow r) 0 ⟨2048 + d, by omega⟩) := by
  pointwise [val_main_v12, val_main_v11, val_main_v10, val_main_v9, val_main_v3, val_main_v2]
  blk_point [modRow_val]

/-- The layer norm of token `r`. -/
theorem norm_at (x0 : FVec Ideal S9216x2048 .f32) (r : Fin 8192) (d : Fin 2048) :
    val_main_v30 (F := Ideal) x0 (ix2 r d) = lnorm (fun e => x0 (ix2 ⟨r, by omega⟩ e)) d := by
  unfold lnorm mean
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v4, val_main_cst, val_main_cst_0, val_main_cst_1, val_main_cst_2, val_main_cst_3]

/-- The modulated token `r`. -/
theorem mod_at (x0 : FVec Ideal S9216x2048 .f32) (x1 : FVec Ideal S8x1x12288 .f32) (r : Fin 8192) (d : Fin 2048) :
    val_main_v34 (F := Ideal) x0 x1 (ix2 r d) = lnorm (fun e => x0 (ix2 ⟨r, by omega⟩ e)) d * (1 + x1 (ix3 (modRow r) 0 ⟨2048 + d, by omega⟩))
      + x1 (ix3 (modRow r) 0 ⟨d, by omega⟩) := by
  pointwise [val_main_v34, val_main_v33, val_main_v32, val_main_v31, val_main_cst_4, norm_at, scale_at, shift_at]

/-- The reference: token `r`'s modulated row against column `j` of the weights. -/
theorem ref_at (x0 : FVec Ideal S9216x2048 .f32) (x1 : FVec Ideal S8x1x12288 .f32) (x2 : FVec Ideal S2x2048x9728 .bf16) (r : Fin 8192) (j : Fin 9728) :
    val_main_v39 (F := Ideal) x0 x1 x2 (ix2 r j) = ∑ d : Fin 2048, (lnorm (fun e => x0 (ix2 ⟨r, by omega⟩ e)) d * (1 + x1 (ix3 (modRow r) 0 ⟨2048 + d, by omega⟩))
      + x1 (ix3 (modRow r) 0 ⟨d, by omega⟩)) * x2 (ix3 1 d j) := by
  pointwise [val_main_v39, val_main_v38, val_main_v37, val_main_v36, val_main_v35, mod_at]

end Cert.Reference4Ideal.Proj
-- ==== Proof.ProjCtx.lean ====
module

public import proofs.«01_k».proof.Proof.Norm
public import proofs.«01_k».proof.Proof.Gen.Kernel7Ideal.Value
public import Idealize.ShloMosaic.Lib.Pipeline.ValueKit
public import Idealize.ShloMosaic.Lib.Pipeline.ValueKit.Held
public import Idealize.ShloMosaic.Lib.Pipeline.ReadBack

/-! What the last layer's input projection of the context's tokens leaves in its output array: every token's row, normed, scaled and shifted, against the weights. -/

@[expose] public section
set_option maxRecDepth 16384
noncomputable section
namespace Cert.Kernel7Ideal.Proj
open Cert.Kernel7Ideal Cert.Kernel7Ideal.Gen Idealize.ShloMosaic Idealize.ShloMosaic.TcCoe Idealize.SL.Sem
open Idealize.ShloMosaic.Pipeline (Dat)
open Cert.Norm

/-- A modulated row of a block of tokens: the layer norm, times one plus the block's scale, plus the block's shift. -/
theorem norm_tile (x : Vec Ideal S1024x2048 .f32) (sc sh : Vec Ideal S1x1x2048 .f32) (y : S1024x2048.Idx) :
    k0_pay1 x sc sh y = lnorm (fun e => x (ix2 (y 0) e)) (y 1) * (1 + sc (ix3 0 0 (y 1))) + sh (ix3 0 0 (y 1)) := by
  unfold lnorm mean
  pointwise [k0_pay1]

/-- A block of modulated rows against a block of the weights' columns. -/
theorem dot_tile (u : Vec Ideal S1024x2048 .bf16) (w : Vec Ideal S1x2048x512 .bf16) (y : S1024x512.Idx) :
    k0_pay2 u w y = ∑ k : Fin 2048, u (ix2 (y 0) k) * w (ix3 0 k (y 1)) := by
  pointwise [k0_pay2]

variable (m : (ℓ : Loc nD τ sig) → Buf (Elt Ideal) ℓ)

/-- Where the windows of grid point `t` lie: the point is (block of tokens, block of columns). -/
theorem idx : ∀ t : Fin cfg0.N, win0_0.index t = ![8, 0] ∧ win0_1.index t = ![4, 0, 0]
    ∧ win0_2.index t = ![4, 0, 1] ∧ win0_3.index t = ![1, 0, 13 + t.val]
    ∧ win0_4.index t = ![0, t.val] :=
  (by decide +kernel : ∀ t : Fin grid0.N, _)

/-- The modulated rows that the first point of a block of tokens computes. -/
def rows (c : Dev nD) (t : Fin cfg0.N) : Vec Ideal S1024x2048 .bf16 :=
  k0_pay1 (iblk m c 0 t) (iblk m c 2 t) (iblk m c 1 t)

/-- The first point of a block of tokens leaves the block's modulated rows in the scratch buffer. -/
theorem scratch_first (c : Dev nD) (t : Fin cfg0.N) (h : t.val % 4 = 0) (i : S1024x2048.Idx) :
    (outsAt0 m c t.val t.isLt).2 i = rows m c t i := by
  rw [outsAt0_A m c t h]
  frame_out
  rfl

/-- Every point of a block of tokens has the block's modulated rows in the scratch buffer. -/
theorem scratch (c : Dev nD) (t : Fin cfg0.N) (i : S1024x2048.Idx) :
    (outsAt0 m c t.val t.isLt).2 i = rows m c ⟨4 * (t.val / 4), Pipeline.run_start_lt t⟩ i :=
  Pipeline.eq_of_write_hold_apply (fun n h => (outsAt0 m c n h).2) 4 (rows m c) (scratch_first m c)
    (fun t h i => by rw [outsAt0_B m c t h]; rfl) t i

/-- What a point leaves in the output block: the block's modulated rows against the point's columns of the weights. -/
theorem out_point (c : Dev nD) (t : Fin cfg0.N) (y : S1024x512.Idx) :
    (outsAt0 m c t.val t.isLt).1 y = k0_pay2 (rows m c ⟨4 * (t.val / 4), Pipeline.run_start_lt t⟩) (iblk m c 3 t) y := by
  by_cases h : t.val % 4 = 0
  · have e : (⟨4 * (t.val / 4), Pipeline.run_start_lt t⟩ : Fin cfg0.N) = t := Fin.ext (by show 4 * (t.val / 4) = t.val; omega)
    rw [e, outsAt0_A m c t h]
    frame_out
    rfl
  · have h1 := t.isLt
    have e : (⟨4 * ((t.val - 1) / 4), by omega⟩ : Fin cfg0.N) = ⟨4 * (t.val / 4), Pipeline.run_start_lt t⟩ :=
      Fin.ext (by show 4 * ((t.val - 1) / 4) = 4 * (t.val / 4); omega)
    have hs : (outsAt0 m c (t.val - 1) (Nat.lt_of_le_of_lt (Nat.sub_le _ _) t.isLt)).2 = rows m c ⟨4 * (t.val / 4), Pipeline.run_start_lt t⟩ := by
      funext i
      rw [scratch m c ⟨t.val - 1, Nat.lt_of_le_of_lt (Nat.sub_le _ _) t.isLt⟩ i]
      exact congrFun (congrArg (rows m c) e) i
    rw [outsAt0_B m c t h]
    frame_out
    simp only [read_unread_whole, hs]

/-- The last layer's projection of the context's tokens (rows 8192 and on) to the columns 6656 to 8703. -/
def proj (x : FVec Ideal S9216x2048 .f32) (md : FVec Ideal S8x1x12288 .f32) (w : FVec Ideal S2x2048x9728 .bf16) :
    FVec Ideal S1024x2048 .bf16 := fun j =>
  ∑ d : Fin 2048, (lnorm (fun e => x (ix2 ⟨8192 + (j 0).val, Nat.add_lt_add_left (j 0).isLt 8192⟩ e)) d * (1 + md (ix3 4 0 ⟨2048 + d, by omega⟩))
      + md (ix3 4 0 ⟨d, by omega⟩)) * w (ix3 1 d ⟨6656 + (j 1).val, Nat.lt_of_lt_of_le (Nat.add_lt_add_left (j 1).isLt 6656) (by decide)⟩)

/-- What grid point `t` writes is its block of `proj` of the arguments. -/
theorem point (c : Dev nD) (t : Fin cfg0.N) (y : S1024x512.Idx) :
    (outsAt0 m c t.val t.isLt).1 y = proj (m ((c : Thread nD τ).loc main_arg0)) (m ((c : Thread nD τ).loc main_arg1))
        (m ((c : Thread nD τ).loc main_arg2)) (((cfg0.win 4).blk t).view.emb y) := by
  rw [out_point, dot_tile]
  have ht : t.val < 4 := lt_of_lt_of_eq t.isLt N_0
  have hy0 : (y 0 : ℕ) < 1024 := (y 0).isLt
  have hy1 : (y 1 : ℕ) < 512 := (y 1).isLt
  unfold proj rows
  refine Fin.sum_fin_congr fun d => ?_
  rw [norm_tile]
  have it := idx ⟨4 * (t.val / 4), Pipeline.run_start_lt t⟩
  congr 1
  · congr 1
    · congr 1
      · congr 1
        funext e
        blk_ext [iblk, V, idx t, it]
      · congr 1
        blk_ext [iblk, V, idx t, it, modRow_val]
    · blk_ext [iblk, V, idx t, it, modRow_val]
  · blk_ext [iblk, V, idx t]

/-- The output array after the run is the projection of the arguments. -/
theorem final (c : Dev nD) : (dats m 0 c).arrAt 4 (cfgs 0).N
    = proj (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m c t y

end Cert.Kernel7Ideal.Proj
-- ==== Proof.ProjCtxRef.lean ====
module

public import proofs.«01_k».proof.Proof.Norm
public import proofs.«01_k».proof.Proof.Gen.Reference7Ideal.Run
public import proofs.«01_k».proof.Proof.Gen.Reference7Ideal.Read
public import Idealize.ShloMosaic.Lib.Pipeline.ValueKit

/-! What the reference of the last layer's input projection of the context's tokens computes. -/

@[expose] public section
set_option maxRecDepth 16384
noncomputable section
namespace Cert.Reference7Ideal.Proj
open Cert.Reference7Ideal Cert.Reference7Ideal.Gen Cert.Reference7Ideal.Read Idealize.ShloMosaic Idealize.ShloMosaic.TcCoe Idealize.SL.Sem
open Cert.Norm

/-- The layer norm of the context's token `r`. -/
theorem norm_at (x0 : FVec Ideal S9216x2048 .f32) (r : Fin 1024) (d : Fin 2048) :
    val_main_v22 (F := Ideal) x0 (ix2 r d) = lnorm (fun e => x0 (ix2 ⟨8192 + r, by omega⟩ e)) d := by
  unfold lnorm mean
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v0, val_main_cst, val_main_cst_0, val_main_cst_1, val_main_cst_2, val_main_cst_3]

/-- The modulated token `r` of the context. -/
theorem mod_at (x0 : FVec Ideal S9216x2048 .f32) (x1 : FVec Ideal S8x1x12288 .f32) (r : Fin 1024) (d : Fin 2048) :
    val_main_v30 (F := Ideal) x0 x1 (ix2 r d) = lnorm (fun e => x0 (ix2 ⟨8192 + r, by omega⟩ e)) d * (1 + x1 (ix3 4 0 ⟨2048 + d, by omega⟩))
      + x1 (ix3 4 0 ⟨d, by omega⟩) := by
  pointwise [val_main_v30, val_main_v29, val_main_v28, val_main_v27, val_main_v26, val_main_v25, val_main_v24, val_main_v23, val_main_v4, val_main_v3, val_main_v2, val_main_v1, val_main_cst_4, norm_at]

/-- The reference: the context's token `r`, modulated, against column `6656 + j` of the weights. -/
theorem ref_at (x0 : FVec Ideal S9216x2048 .f32) (x1 : FVec Ideal S8x1x12288 .f32) (x2 : FVec Ideal S2x2048x9728 .bf16) (r : Fin 1024) (j : Fin 2048) :
    val_main_v35 (F := Ideal) x0 x1 x2 (ix2 r j) = ∑ d : Fin 2048, (lnorm (fun e => x0 (ix2 ⟨8192 + r, by omega⟩ e)) d * (1 + x1 (ix3 4 0 ⟨2048 + d, by omega⟩))
      + x1 (ix3 4 0 ⟨d, by omega⟩)) * x2 (ix3 1 d ⟨6656 + j, by omega⟩) := by
  pointwise [val_main_v35, val_main_v34, val_main_v33, val_main_v32, val_main_v31, mod_at]

end Cert.Reference7Ideal.Proj
-- ==== Proof.MergeLast.lean ====
module

public import proofs.«01_k».proof.Proof.Norm
public import proofs.«01_k».proof.Proof.Gen.Kernel5Ideal.Value
public import Idealize.ShloMosaic.Lib.Pipeline.ValueKit

/-! What the last layer's merge leaves in its output array: every token's three branches gated, summed, projected, added to the token and normed. -/

@[expose] public section
set_option maxRecDepth 16384
noncomputable section
namespace Cert.Kernel5Ideal.Merge
open Cert.Kernel5Ideal Cert.Kernel5Ideal.Gen Idealize.ShloMosaic Idealize.ShloMosaic.TcCoe Idealize.SL.Sem
open Idealize.ShloMosaic.Pipeline (Dat)
open Cert.Norm

/-- The first two branches of a block of tokens, each gated. -/
theorem branches (v0 : Vec Ideal S256x1024 .bf16) (v1 : Vec Ideal S1x1024x2048 .bf16) (v4 : Vec Ideal S256x2048 .bf16) (v6 : Vec Ideal S1x2048 .f32)
    (v11 : Vec Ideal S256x512 .bf16) (v12 : Vec Ideal S1x512x2048 .bf16) (v15 : Vec Ideal S256x2048 .bf16) (v17 : Vec Ideal S1x2048 .f32) (y : S256x2048.Idx) :
    k0_pay1 v0 v1 v4 v6 v11 v12 v15 v17 y
      = Ideal.logistic (v4 y + v6 (ix2 0 (y 1))) * (∑ k : Fin 1024, v0 (ix2 (y 0) k) * v1 (ix3 0 k (y 1)))
        + Ideal.logistic (v15 y + v17 (ix2 0 (y 1))) * (∑ k : Fin 512, v11 (ix2 (y 0) k) * v12 (ix3 0 k (y 1))) := by
  pointwise [k0_pay1]

/-- The third branch of a block of tokens. -/
theorem branch2 (v23 : Vec Ideal S256x512 .bf16) (v24 : Vec Ideal S1x512x2048 .bf16) (y : S256x2048.Idx) :
    k0_pay2 v23 v24 y = ∑ k : Fin 512, v23 (ix2 (y 0) k) * v24 (ix3 0 k (y 1)) := by
  pointwise [k0_pay2]

/-- A row of a block of tokens, from the block's gated branches `b01`, third branch `b2` and its gate `g2`. -/
theorem deep (b01 b2 g2 : FVec Ideal S256x2048 .f32) (bg : Vec Ideal S1x2048 .f32) (wo : Vec Ideal S1x2048x2048 .bf16) (x : Vec Ideal S256x2048 .f32)
    (gm : Vec Ideal S1x1x2048 .f32) (lg lb : Vec Ideal S1x2048 .f32) (y : S256x2048.Idx) :
    k0_pay4 b01 b2 g2 bg wo x gm lg lb y = lnorm (fun f => Ideal.ofBits FTy.f32 0x3FB504F3#32 * x (ix2 (y 0) f)
      + gm (ix3 0 0 f) * ∑ e : Fin 2048, (b01 (ix2 (y 0) e) + Ideal.logistic (g2 (ix2 (y 0) e) + bg (ix2 0 e)) * b2 (ix2 (y 0) e)) * wo (ix3 0 e f)) (y 1)
    * lg (ix2 0 (y 1)) + lb (ix2 0 (y 1)) := by
  unfold lnorm mean
  pointwise [k0_pay4]

/-- The merge of a block of 256 tokens, row by row. -/
def blockRows (x : Vec Ideal S256x2048 .f32) (gt : Vec Ideal S256x6144 .bf16) (om : Vec Ideal S256x1024 .bf16) (od op : Vec Ideal S256x512 .bf16)
    (bg : Vec Ideal S3x2048 .f32) (wm : Vec Ideal S1x1024x2048 .bf16) (wd wp : Vec Ideal S1x512x2048 .bf16) (wo : Vec Ideal S1x2048x2048 .bf16)
    (gm : Vec Ideal S1x1x2048 .f32) (lg lb : Vec Ideal S1x2048 .f32) : Vec Ideal S256x2048 .f32 := fun y =>
  mergeRow (fun e => x (ix2 (y 0) e))
      (fun e => gt (ix2 (y 0) ⟨e, by omega⟩) + bg (ix2 0 e))
      (fun e => gt (ix2 (y 0) ⟨2048 + e, by omega⟩) + bg (ix2 1 e))
      (fun e => gt (ix2 (y 0) ⟨4096 + e, by omega⟩) + bg (ix2 2 e))
      (fun e => ∑ k : Fin 1024, om (ix2 (y 0) k) * wm (ix3 0 k e))
      (fun e => ∑ k : Fin 512, od (ix2 (y 0) k) * wd (ix3 0 k e))
      (fun e => ∑ k : Fin 512, op (ix2 (y 0) k) * wp (ix3 0 k e))
      (fun e f => wo (ix3 0 e f)) (fun f => gm (ix3 0 0 f)) (fun f => lg (ix2 0 f)) (fun f => lb (ix2 0 f)) (y 1)

/-- The kernel's terms of a block of tokens are the block's merge, row by row. -/
theorem block (x : Vec Ideal S256x2048 .f32) (gt : Vec Ideal S256x6144 .bf16) (om : Vec Ideal S256x1024 .bf16) (od op : Vec Ideal S256x512 .bf16)
    (bg : Vec Ideal S3x2048 .f32) (wm : Vec Ideal S1x1024x2048 .bf16) (wd wp : Vec Ideal S1x512x2048 .bf16) (wo : Vec Ideal S1x2048x2048 .bf16)
    (gm : Vec Ideal S1x1x2048 .f32) (lg lb : Vec Ideal S1x2048 .f32) (y : S256x2048.Idx) :
    k0_pay4 (k0_pay1 om wm (View.ld gt (Rect.unit (s := S256x6144) ![0, 0] S256x2048.size inb_S256x6144_S256x2048_0_0))
          (View.ld bg (Rect.unit (s := S3x2048) ![0, 0] S1x2048.size inb_S3x2048_S1x2048_0_0)) od wd
          (View.ld gt (Rect.unit (s := S256x6144) ![0, 2048] S256x2048.size inb_S256x6144_S256x2048_0_2048))
          (View.ld bg (Rect.unit (s := S3x2048) ![1, 0] S1x2048.size inb_S3x2048_S1x2048_1_0)))
        (k0_pay2 op wp) (k0_pay3 (View.ld gt (Rect.unit (s := S256x6144) ![0, 4096] S256x2048.size inb_S256x6144_S256x2048_0_4096)))
        (View.ld bg (Rect.unit (s := S3x2048) ![2, 0] S1x2048.size inb_S3x2048_S1x2048_2_0)) wo x gm lg lb y
      = blockRows x gt om od op bg wm wd wp wo gm lg lb y := by
  rw [deep]
  unfold blockRows mergeRow
  congr 3
  funext f
  congr 2
  refine Fin.sum_fin_congr fun e => ?_
  rw [branches, branch2]
  pointwise [k0_pay3]

variable (m : (ℓ : Loc nD τ sig) → Buf (Elt Ideal) ℓ)

/-- What a point writes: the merge of the blocks it reads. -/
theorem out_point (c : Dev nD) (t : Fin cfg0.N) (y : S256x2048.Idx) :
    outsAt0 m c t y = blockRows (iblk m c 0 t) (X0_1 m c t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) y := by
  unfold Gen.outsAt0
  frame_out
  exact block _ _ _ _ _ _ _ _ _ _ _ _ _ y

/-- Where the windows of grid point `t` lie: the point is a block of 256 tokens. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![1, 0, 0] ∧ win0_7.index t = ![1, 0, 0] ∧ win0_8.index t = ![1, 0, 0]
    ∧ win0_9.index t = ![1, 0, 0] ∧ win0_10.index t = ![min (t.val / 8) 4, 0, 2] ∧ win0_11.index t = ![0, 0] ∧ win0_12.index t = ![0, 0]
    ∧ win0_13.index t = ![t.val, 0] :=
  (by decide +kernel : ∀ t : Fin grid0.N, _)

/-- The last layer's merge of the first 8192 tokens: `x` the tokens, `p` their projections (the gates in its first 6144 columns), `om od op` the branches. -/
def merge (x : FVec Ideal S9216x2048 .f32) (p : FVec Ideal S8192x9728 .bf16) (om : FVec Ideal S8192x1024 .bf16) (od op : FVec Ideal S8192x512 .bf16)
    (md : FVec Ideal S8x1x12288 .f32) (bg : FVec Ideal S3x2048 .f32) (wm : FVec Ideal S2x1024x2048 .bf16) (wd wp : FVec Ideal S2x512x2048 .bf16)
    (wo : FVec Ideal S2x2048x2048 .bf16) (lg lb : FVec Ideal S1x2048 .f32) : FVec Ideal S8192x2048 .f32 := fun j =>
  mergeRow (fun e => x (ix2 ⟨(j 0).val, Nat.lt_of_lt_of_le (j 0).isLt (by decide)⟩ e))
      (fun e => p (ix2 (j 0) ⟨e, by omega⟩) + bg (ix2 0 e))
      (fun e => p (ix2 (j 0) ⟨2048 + e, by omega⟩) + bg (ix2 1 e))
      (fun e => p (ix2 (j 0) ⟨4096 + e, by omega⟩) + bg (ix2 2 e))
      (fun e => ∑ k : Fin 1024, om (ix2 (j 0) k) * wm (ix3 1 k e))
      (fun e => ∑ k : Fin 512, od (ix2 (j 0) k) * wd (ix3 1 k e))
      (fun e => ∑ k : Fin 512, op (ix2 (j 0) k) * wp (ix3 1 k e))
      (fun e f => wo (ix3 1 e f)) (fun f => md (ix3 (modRow (j 0)) 0 ⟨4096 + f, by omega⟩))
      (fun f => lg (ix2 0 f)) (fun f => lb (ix2 0 f)) (j 1)

/-- The block of gates that a point reads (the window is never cut, so the staged block is the array's). -/
theorem gates (c : Dev nD) (t : Fin cfg0.N) (y : S256x6144.Idx) (i : S8192x9728.Idx) (h0 : (i 0 : ℕ) = t.val * 256 + y 0) (h1 : (i 1 : ℕ) = y 1) :
    X0_1 m c t y = m ((c : Thread nD τ).loc main_arg1) i := by
  unfold X0_1 Pipeline.Window.fill
  rw [dif_pos (moved0_1 t y)]
  blk_ext [iblk, V, idx t]

set_option maxHeartbeats 2000000 in
/-- What grid point `t` writes is its block of `merge` of the arguments. -/
theorem point (c : Dev nD) (t : Fin cfg0.N) (y : S256x2048.Idx) :
    outsAt0 m c t y = merge (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11))
        (m ((c : Thread nD τ).loc main_arg12)) (((cfg0.win 13).blk t).view.emb y) := by
  rw [out_point]
  unfold blockRows
  have ht : t.val < 32 := lt_of_lt_of_eq t.isLt N_0
  have hy0 : (y 0 : ℕ) < 256 := (y 0).isLt
  have hy1 : (y 1 : ℕ) < 2048 := (y 1).isLt
  unfold merge
  congr 1
  · funext e
    blk_ext [iblk, V, idx t]
  · funext e
    congr 1
    · refine gates m c t _ _ ?_ ?_ <;> blk_simp [idx t]
    · blk_ext [iblk, V, idx t]
  · funext e
    congr 1
    · refine gates m c t _ _ ?_ ?_ <;> blk_simp [idx t]
    · blk_ext [iblk, V, idx t]
  · funext e
    congr 1
    · refine gates m c t _ _ ?_ ?_ <;> blk_simp [idx t]
    · blk_ext [iblk, V, idx t]
  · funext e
    refine Fin.sum_fin_congr fun k => ?_
    congr 1 <;> blk_ext [iblk, V, idx t]
  · funext e
    refine Fin.sum_fin_congr fun k => ?_
    congr 1 <;> blk_ext [iblk, V, idx t]
  · funext e
    refine Fin.sum_fin_congr fun k => ?_
    congr 1 <;> blk_ext [iblk, V, idx t]
  · funext e f
    blk_ext [iblk, V, idx t]
  · funext f
    blk_ext [iblk, V, idx t, modRow_val]
  · funext f
    blk_ext [iblk, V, idx t]
  · funext f
    blk_ext [iblk, V, idx t]
  · exact Fin.ext (by blk_simp [idx t])

/-- The output array after the run is the merge of the arguments. -/
theorem final (c : Dev nD) : (dats m 0 c).arrAt 13 (cfgs 0).N = merge (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11))
        (m ((c : Thread nD τ).loc main_arg12)) := by
  refine (dats m 0 c).arrAt_eq_of_covers 13 _ (by decide +kernel) fun t _ y => ?_
  blk_simp
  rw [after0_13]
  exact point m c t y

end Cert.Kernel5Ideal.Merge
-- ==== Proof.MergeLastRef.lean ====
module

public import proofs.«01_k».proof.Proof.Norm
public import proofs.«01_k».proof.Proof.Gen.Reference5Ideal.Run
public import proofs.«01_k».proof.Proof.Gen.Reference5Ideal.Read
public import Idealize.ShloMosaic.Lib.Pipeline.ValueKit

/-! What the reference of the last layer's merge computes. -/

@[expose] public section
set_option maxRecDepth 16384
noncomputable section
namespace Cert.Reference5Ideal.Merge
open Cert.Reference5Ideal Cert.Reference5Ideal.Gen Cert.Reference5Ideal.Read Idealize.ShloMosaic Idealize.ShloMosaic.TcCoe Idealize.SL.Sem
open Cert.Norm

/-- The scale of token `r`'s sub-layer output. -/
theorem scale_at (x5 : FVec Ideal S8x1x12288 .f32) (r : Fin 8192) (d : Fin 2048) :
    val_main_v69 (F := Ideal) x5 (ix2 r d) = x5 (ix3 (modRow r) 0 ⟨4096 + d, by omega⟩) := by
  pointwise [val_main_v69, val_main_v68, val_main_v67, val_main_v66, val_main_v1, val_main_v0]
  blk_point [modRow_val]

section
variable (x1 : FVec Ideal S8192x9728 .bf16) (x6 : FVec Ideal S3x2048 .f32)

/-- The three gates of token `r`. -/
theorem gate0 (r : Fin 8192) (e : Fin 2048) :
    val_main_v14 (F := Ideal) x1 x6 (ix2 r e) = Ideal.logistic (x1 (ix2 r ⟨e, by omega⟩) + x6 (ix2 0 e)) := by
  unfold Ideal.logistic
  pointwise [val_main_v14, val_main_v13, val_main_v12, val_main_v11, val_main_v10, val_main_v9, val_main_v8, val_main_v7, val_main_v6, val_main_v5, val_main_v4, val_main_v3, val_main_v2, val_main_cst, val_main_cst_0]

theorem gate1 (r : Fin 8192) (e : Fin 2048) :
    val_main_v27 (F := Ideal) x1 x6 (ix2 r e) = Ideal.logistic (x1 (ix2 r ⟨2048 + e, by omega⟩) + x6 (ix2 1 e)) := by
  unfold Ideal.logistic
  pointwise [val_main_v27, val_main_v26, val_main_v25, val_main_v24, val_main_v23, val_main_v22, val_main_v21, val_main_v20, val_main_v19, val_main_v18, val_main_v17, val_main_v16, val_main_v15, val_main_cst_1, val_main_cst_2]

theorem gate2 (r : Fin 8192) (e : Fin 2048) :
    val_main_v40 (F := Ideal) x1 x6 (ix2 r e) = Ideal.logistic (x1 (ix2 r ⟨4096 + e, by omega⟩) + x6 (ix2 2 e)) := by
  unfold Ideal.logistic
  pointwise [val_main_v40, val_main_v39, val_main_v38, val_main_v37, val_main_v36, val_main_v35, val_main_v34, val_main_v33, val_main_v32, val_main_v31, val_main_v30, val_main_v29, val_main_v28, val_main_cst_3, val_main_cst_4]
end

/-- The three branches of token `r`. -/
theorem branch0 (x2 : FVec Ideal S8192x1024 .bf16) (x7 : FVec Ideal S2x1024x2048 .bf16) (r : Fin 8192) (e : Fin 2048) :
    val_main_v45 (F := Ideal) x2 x7 (ix2 r e) = ∑ k : Fin 1024, x2 (ix2 r k) * x7 (ix3 1 k e) := by
  pointwise [val_main_v45, val_main_v44, val_main_v43, val_main_v42, val_main_v41]

theorem branch1 (x3 : FVec Ideal S8192x512 .bf16) (x8 : FVec Ideal S2x512x2048 .bf16) (r : Fin 8192) (e : Fin 2048) :
    val_main_v51 (F := Ideal) x3 x8 (ix2 r e) = ∑ k : Fin 512, x3 (ix2 r k) * x8 (ix3 1 k e) := by
  pointwise [val_main_v51, val_main_v50, val_main_v49, val_main_v48, val_main_v47]

theorem branch2 (x4 : FVec Ideal S8192x512 .bf16) (x9 : FVec Ideal S2x512x2048 .bf16) (r : Fin 8192) (e : Fin 2048) :
    val_main_v58 (F := Ideal) x4 x9 (ix2 r e) = ∑ k : Fin 512, x4 (ix2 r k) * x9 (ix3 1 k e) := by
  pointwise [val_main_v58, val_main_v57, val_main_v56, val_main_v55, val_main_v54]

variable (x0 : FVec Ideal S9216x2048 .f32) (x1 : FVec Ideal S8192x9728 .bf16) (x2 : FVec Ideal S8192x1024 .bf16) (x3 x4 : FVec Ideal S8192x512 .bf16)
  (x5 : FVec Ideal S8x1x12288 .f32) (x6 : FVec Ideal S3x2048 .f32) (x7 : FVec Ideal S2x1024x2048 .bf16) (x8 x9 : FVec Ideal S2x512x2048 .bf16)
  (x10 : FVec Ideal S2x2048x2048 .bf16) (x11 x12 : FVec Ideal S1x2048 .f32)

/-- Token `r` before the norm: its row times the constant, plus its scaled sub-layer output. -/
theorem sum_at (r : Fin 8192) (f : Fin 2048) :
    val_main_v75 (F := Ideal) x0 x1 x2 x3 x4 x5 x6 x7 x8 x9 x10 (ix2 r f) = Ideal.ofBits FTy.f32 0x3FB504F3#32 * x0 (ix2 ⟨r, by omega⟩ f)
      + x5 (ix3 (modRow r) 0 ⟨4096 + f, by omega⟩) * ∑ e : Fin 2048,
        (Ideal.logistic (x1 (ix2 r ⟨e, by omega⟩) + x6 (ix2 0 e)) * (∑ k : Fin 1024, x2 (ix2 r k) * x7 (ix3 1 k e))
          + Ideal.logistic (x1 (ix2 r ⟨2048 + e, by omega⟩) + x6 (ix2 1 e)) * (∑ k : Fin 512, x3 (ix2 r k) * x8 (ix3 1 k e))
          + Ideal.logistic (x1 (ix2 r ⟨4096 + e, by omega⟩) + x6 (ix2 2 e)) * (∑ k : Fin 512, x4 (ix2 r k) * x9 (ix3 1 k e))) * x10 (ix3 1 e f) := by
  pointwise [val_main_v75, val_main_v74, val_main_v73, val_main_cst_5, val_main_v65, val_main_v70, val_main_v64, val_main_v63, val_main_v62, val_main_v61, val_main_v60, val_main_v59, val_main_v53, val_main_v52, val_main_v46,
    scale_at, gate0, gate1, gate2, branch0, branch1, branch2]

/-- The layer norm of token `r`'s row. -/
theorem norm_at (r : Fin 8192) (d : Fin 2048) :
    val_main_v93 (F := Ideal) x0 x1 x2 x3 x4 x5 x6 x7 x8 x9 x10 (ix2 r d)
      = lnorm (fun f => val_main_v75 (F := Ideal) x0 x1 x2 x3 x4 x5 x6 x7 x8 x9 x10 (ix2 r f)) d := by
  unfold val_main_v93 val_main_v92 val_main_v91 val_main_v90 val_main_v88 val_main_v87 val_main_v86 val_main_v84 val_main_v83 val_main_v82 val_main_v81
    val_main_v80 val_main_v79 val_main_v77 val_main_v76
  generalize val_main_v75 (F := Ideal) x0 x1 x2 x3 x4 x5 x6 x7 x8 x9 x10 = s
  unfold lnorm mean
  pointwise [val_main_v89, val_main_v85, val_main_v78, val_main_cst_6, val_main_cst_7, val_main_cst_8, val_main_cst_9, val_main_cst_10]

/-- The reference: token `r`'s merge. -/
theorem ref_at (r : Fin 8192) (d : Fin 2048) :
    val_main_v99 (F := Ideal) x0 x1 x2 x3 x4 x5 x6 x7 x8 x9 x10 x11 x12 (ix2 r d) = mergeRow (fun e => x0 (ix2 ⟨r, by omega⟩ e))
      (fun e => x1 (ix2 r ⟨e, by omega⟩) + x6 (ix2 0 e))
      (fun e => x1 (ix2 r ⟨2048 + e, by omega⟩) + x6 (ix2 1 e))
      (fun e => x1 (ix2 r ⟨4096 + e, by omega⟩) + x6 (ix2 2 e))
      (fun e => ∑ k : Fin 1024, x2 (ix2 r k) * x7 (ix3 1 k e))
      (fun e => ∑ k : Fin 512, x3 (ix2 r k) * x8 (ix3 1 k e))
      (fun e => ∑ k : Fin 512, x4 (ix2 r k) * x9 (ix3 1 k e))
      (fun e f => x10 (ix3 1 e f)) (fun f => x5 (ix3 (modRow r) 0 ⟨4096 + f, by omega⟩))
      (fun f => x11 (ix2 0 f)) (fun f => x12 (ix2 0 f)) d := by
  unfold val_main_v99 val_main_v96
  have h := norm_at x0 x1 x2 x3 x4 x5 x6 x7 x8 x9 x10 r d
  simp only [sum_at] at h
  generalize val_main_v93 (F := Ideal) x0 x1 x2 x3 x4 x5 x6 x7 x8 x9 x10 = s at h
  unfold mergeRow
  rw [← h]
  pointwise [val_main_v98, val_main_v97, val_main_v95, val_main_v94, val_main_v72, val_main_v71]

end Cert.Reference5Ideal.Merge
-- ==== Proof.EqualLast.lean ====
module

public import proofs.«01_k».proof.Proof.ProjLast
public import proofs.«01_k».proof.Proof.ProjLastRef
public import proofs.«01_k».proof.Proof.ProjCtx
public import proofs.«01_k».proof.Proof.ProjCtxRef
public import proofs.«01_k».proof.Proof.MergeLast
public import proofs.«01_k».proof.Proof.MergeLastRef

/-! The last layer: the arrays that its projections and its merge leave are those of their references. -/

@[expose] public section
set_option maxRecDepth 16384
noncomputable section
namespace Cert.EqualLast
open Idealize.ShloMosaic Idealize.SL.Sem

/-- The last layer's projection of the latents: the kernel's array is the reference's. -/
theorem proj_eq (x : FVec Ideal ⟨2, ![9216, 2048]⟩ .f32) (md : FVec Ideal ⟨3, ![8, 1, 12288]⟩ .f32) (w : FVec Ideal ⟨3, ![2, 2048, 9728]⟩ .bf16) :
    Cert.Kernel4Ideal.Proj.proj x md w = Cert.Reference4Ideal.Read.val_main_v39 (F := Ideal) x md w := by
  funext j
  rw [eq_ix2 j]
  exact (Cert.Reference4Ideal.Proj.ref_at x md w (j 0) (j 1)).symm

/-- The last layer's projection of the context to keys and values: the kernel's array is the reference's. -/
theorem ctx_eq (x : FVec Ideal ⟨2, ![9216, 2048]⟩ .f32) (md : FVec Ideal ⟨3, ![8, 1, 12288]⟩ .f32) (w : FVec Ideal ⟨3, ![2, 2048, 9728]⟩ .bf16) :
    Cert.Kernel7Ideal.Proj.proj x md w = Cert.Reference7Ideal.Read.val_main_v35 (F := Ideal) x md w := by
  funext j
  rw [eq_ix2 j]
  exact (Cert.Reference7Ideal.Proj.ref_at x md w (j 0) (j 1)).symm

/-- The last layer's merge: the kernel's array is the reference's. -/
theorem merge_eq (x : FVec Ideal ⟨2, ![9216, 2048]⟩ .f32) (p : FVec Ideal ⟨2, ![8192, 9728]⟩ .bf16) (om : FVec Ideal ⟨2, ![8192, 1024]⟩ .bf16)
    (od op : FVec Ideal ⟨2, ![8192, 512]⟩ .bf16) (md : FVec Ideal ⟨3, ![8, 1, 12288]⟩ .f32) (bg : FVec Ideal ⟨2, ![3, 2048]⟩ .f32)
    (wm : FVec Ideal ⟨3, ![2, 1024, 2048]⟩ .bf16) (wd wp : FVec Ideal ⟨3, ![2, 512, 2048]⟩ .bf16) (wo : FVec Ideal ⟨3, ![2, 2048, 2048]⟩ .bf16)
    (lg lb : FVec Ideal ⟨2, ![1, 2048]⟩ .f32) :
    Cert.Kernel5Ideal.Merge.merge x p om od op md bg wm wd wp wo lg lb
      = Cert.Reference5Ideal.Read.val_main_v99 (F := Ideal) x p om od op md bg wm wd wp wo lg lb := by
  funext j
  rw [eq_ix2 j]
  exact (Cert.Reference5Ideal.Merge.ref_at x p om od op md bg wm wd wp wo lg lb (j 0) (j 1)).symm

end Cert.EqualLast
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scores_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_scores_finite_joined
public import proofs.«01_k».proof.Proof.Gen.Pre_scores_finite_context
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Pre_diff_finite
public import proofs.«01_k».proof.Proof.Gen.Pre_diff_finite_joined
public import proofs.«01_k».proof.Proof.Gen.Pre_diff_finite_context
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.Equal
public import proofs.«01_k».proof.Proof.AdaRef
public import proofs.«01_k».proof.Proof.DiffCtxFinal
public import proofs.«01_k».proof.Proof.AttnCtxFinal
public import proofs.«01_k».proof.Proof.QLastFinal
public import proofs.«01_k».proof.Proof.QFirstFinal
public import proofs.«01_k».proof.Proof.KvCtxFinal
public import proofs.«01_k».proof.Proof.KvLastFinal
public import proofs.«01_k».proof.Proof.KvFirstFinal
public import proofs.«01_k».proof.Proof.DiffFirstFinal
public import proofs.«01_k».proof.Proof.DiffFinal
public import proofs.«01_k».proof.Proof.AttnFirstFinal
public import proofs.«01_k».proof.Proof.EqualLast
public import Idealize.ShloMosaic.Adequacy
public import Idealize.ShloMosaic.Init
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read

@[expose] public section

noncomputable section

namespace Cert.Proof

open Idealize.ShloMosaic Idealize.SL.Sem

/-- The attention kernel and its reference hold the same array, over real queries and keys. -/
theorem attention : haveI := Cert.KernelIdeal.Gen.facts; haveI := Cert.ReferenceIdeal.Gen.facts; haveI := Cert.Pre_scores_finite.Gen.facts
    Cert.algebraic_KernelIdeal_ReferenceIdeal_pre_scores_finite := by
  intro m g m' g' hpre hagree
  refine ⟨fun c => (Cert.KernelIdeal.Gen.dats m 0 c).arrAt 5 Cert.KernelIdeal.cfg0.N, ?_, ?_⟩
  · exact Cert.KernelIdeal.Value.run_blocks m g
  · refine (θ_run _ _ _).mono (fun r h c => ?_) (Cert.ReferenceIdeal.Value.run m' g')
    obtain ⟨h0, h1⟩ := h c
    refine ⟨h0.trans ?_, h1⟩
    obtain ⟨a0, a1, a2, a3, a4⟩ := hagree c
    rw [a0, a1, a2, a3, a4, Cert.ReferenceIdeal.Read.val_main_v27_eq]
    obtain ⟨r0, r1, r2⟩ := Cert.KernelIdeal.Attn.pre_real _ _ _ _ _ (hpre c)
    exact (Cert.KernelIdeal.Attn.attn_eq _ _ _ _ _ r0 r1 r2).symm.trans (Cert.KernelIdeal.Attn.final m c).symm

/-- The reference runs, leaves its arguments as they were, and declares no semaphore. -/
theorem attention_ref : haveI := Cert.ReferenceIdeal.Gen.facts; Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run m ρ)

/-- The projection and its reference hold the same array. -/
theorem projection : haveI := Cert.Kernel2Ideal.Gen.facts; haveI := Cert.Reference2Ideal.Gen.facts;
    Cert.algebraic_Kernel2Ideal_Reference2Ideal := by
  intro m g m' g' _ hagree
  refine ⟨fun c => (Cert.Kernel2Ideal.Gen.dats m 0 c).arrAt 4 Cert.Kernel2Ideal.cfg0.N, ?_, ?_⟩
  · exact Cert.Kernel2Ideal.Value.run_blocks m g
  · refine (θ_run _ _ _).mono (fun r h c => ?_) (Cert.Reference2Ideal.Value.run m' g')
    obtain ⟨h0, h1⟩ := h c
    refine ⟨h0.trans ?_, h1⟩
    obtain ⟨a0, a1, a2⟩ := hagree c
    rw [Cert.Reference2Ideal.Read.val_main_v44_eq, a0, a1, a2]
    exact (Cert.Equal.proj_eq _ _ _).symm.trans (Cert.Kernel2Ideal.Proj.final m c).symm

/-- The reference of the projection runs, leaves its arguments as they were, and declares no semaphore. -/
theorem projection_ref : haveI := Cert.Reference2Ideal.Gen.facts; Cert.quiescent_Reference2Ideal := fun m ρ _ =>
  (θ_run _ _ _).mono (fun r h => ⟨fun c => (h c).2, Idealize.ShloMosaic.sem_eq_zero_of_no_sems (by decide) r.2⟩)
    (Cert.Reference2Ideal.Value.run m ρ)

/-- The merge and its reference hold the same array. -/
theorem merge : haveI := Cert.Kernel3Ideal.Gen.facts; haveI := Cert.Reference3Ideal.Gen.facts;
    Cert.algebraic_Kernel3Ideal_Reference3Ideal := by
  intro m g m' g' _ hagree
  refine ⟨fun c => (Cert.Kernel3Ideal.Gen.dats m 0 c).arrAt 13 Cert.Kernel3Ideal.cfg0.N, ?_, ?_⟩
  · exact Cert.Kernel3Ideal.Value.run_blocks m g
  · refine (θ_run _ _ _).mono (fun r h c => ?_) (Cert.Reference3Ideal.Value.run m' g')
    obtain ⟨h0, h1⟩ := h c
    refine ⟨h0.trans ?_, h1⟩
    obtain ⟨a0, a1, a2, a3, a4, a5, a6, a7, a8, a9, a10, a11, a12⟩ := hagree c
    rw [Cert.Reference3Ideal.Read.val_main_v101_eq, a0, a1, a2, a3, a4, a5, a6, a7, a8, a9, a10, a11, a12]
    exact (Cert.Equal.merge_eq _ _ _ _ _ _ _ _ _ _ _ _ _).symm.trans (Cert.Kernel3Ideal.Merge.final m c).symm

/-- The reference of the merge runs, leaves its arguments as they were, and declares no semaphore. -/
theorem merge_ref : haveI := Cert.Reference3Ideal.Gen.facts; Cert.quiescent_Reference3Ideal := fun m ρ _ =>
  (θ_run _ _ _).mono (fun r h => ⟨fun c => (h c).2, Idealize.ShloMosaic.sem_eq_zero_of_no_sems (by decide) r.2⟩)
    (Cert.Reference3Ideal.Value.run m ρ)

/-- The last layer's projection and its reference hold the same array. -/
theorem projection_last : haveI := Cert.Kernel4Ideal.Gen.facts; haveI := Cert.Reference4Ideal.Gen.facts;
    Cert.algebraic_Kernel4Ideal_Reference4Ideal := by
  intro m g m' g' _ hagree
  refine ⟨fun c => (Cert.Kernel4Ideal.Gen.dats m 0 c).arrAt 4 Cert.Kernel4Ideal.cfg0.N, ?_, ?_⟩
  · exact Cert.Kernel4Ideal.Value.run_blocks m g
  · refine (θ_run _ _ _).mono (fun r h c => ?_) (Cert.Reference4Ideal.Value.run m' g')
    obtain ⟨h0, h1⟩ := h c
    refine ⟨h0.trans ?_, h1⟩
    obtain ⟨a0, a1, a2⟩ := hagree c
    rw [Cert.Reference4Ideal.Read.val_main_v39_eq, a0, a1, a2]
    exact (Cert.EqualLast.proj_eq _ _ _).symm.trans (Cert.Kernel4Ideal.Proj.final m c).symm

/-- The reference of the last layer's projection runs, leaves its arguments as they were, and declares no semaphore. -/
theorem projection_last_ref : haveI := Cert.Reference4Ideal.Gen.facts; Cert.quiescent_Reference4Ideal := fun m ρ _ =>
  (θ_run _ _ _).mono (fun r h => ⟨fun c => (h c).2, Idealize.ShloMosaic.sem_eq_zero_of_no_sems (by decide) r.2⟩)
    (Cert.Reference4Ideal.Value.run m ρ)

/-- The last layer's merge and its reference hold the same array. -/
theorem merge_last : haveI := Cert.Kernel5Ideal.Gen.facts; haveI := Cert.Reference5Ideal.Gen.facts;
    Cert.algebraic_Kernel5Ideal_Reference5Ideal := by
  intro m g m' g' _ hagree
  refine ⟨fun c => (Cert.Kernel5Ideal.Gen.dats m 0 c).arrAt 13 Cert.Kernel5Ideal.cfg0.N, ?_, ?_⟩
  · exact Cert.Kernel5Ideal.Value.run_blocks m g
  · refine (θ_run _ _ _).mono (fun r h c => ?_) (Cert.Reference5Ideal.Value.run m' g')
    obtain ⟨h0, h1⟩ := h c
    refine ⟨h0.trans ?_, h1⟩
    obtain ⟨a0, a1, a2, a3, a4, a5, a6, a7, a8, a9, a10, a11, a12⟩ := hagree c
    rw [Cert.Reference5Ideal.Read.val_main_v99_eq, a0, a1, a2, a3, a4, a5, a6, a7, a8, a9, a10, a11, a12]
    exact (Cert.EqualLast.merge_eq _ _ _ _ _ _ _ _ _ _ _ _ _).symm.trans (Cert.Kernel5Ideal.Merge.final m c).symm

/-- The reference of the last layer's merge runs, leaves its arguments as they were, and declares no semaphore. -/
theorem merge_last_ref : haveI := Cert.Reference5Ideal.Gen.facts; Cert.quiescent_Reference5Ideal := fun m ρ _ =>
  (θ_run _ _ _).mono (fun r h => ⟨fun c => (h c).2, Idealize.ShloMosaic.sem_eq_zero_of_no_sems (by decide) r.2⟩)
    (Cert.Reference5Ideal.Value.run m ρ)

/-- The first layer's attention kernel and its reference hold the same array, over real queries and keys. -/
theorem attention_first : haveI := Cert.Kernel6Ideal.Gen.facts; haveI := Cert.Reference6Ideal.Gen.facts; haveI := Cert.Pre_scores_finite_joined.Gen.facts
    Cert.algebraic_Kernel6Ideal_Reference6Ideal_pre_scores_finite_joined := by
  intro m g m' g' hpre hagree
  refine ⟨fun c => (Cert.Kernel6Ideal.Gen.dats m 0 c).arrAt 5 Cert.Kernel6Ideal.cfg0.N, ?_, ?_⟩
  · exact Cert.Kernel6Ideal.Value.run_blocks m g
  · refine (θ_run _ _ _).mono (fun r h c => ?_) (Cert.Reference6Ideal.Value.run m' g')
    obtain ⟨h0, h1⟩ := h c
    refine ⟨h0.trans ?_, h1⟩
    obtain ⟨a0, a1, a2⟩ := hagree c
    rw [Cert.Reference6Ideal.Read.val_main_v32_eq, a0, a1, a2]
    obtain ⟨r0, r1⟩ := Cert.Kernel6Ideal.Attn.pre_real _ _ _ (hpre c)
    exact (Cert.Kernel6Ideal.Attn.attn_eq _ _ _ r0 r1).symm.trans (Cert.Kernel6Ideal.Attn.final m c).symm

/-- The reference of the first layer's attention runs, leaves its arguments as they were, and declares no semaphore. -/
theorem attention_first_ref : haveI := Cert.Reference6Ideal.Gen.facts; Cert.quiescent_Reference6Ideal := fun m ρ _ =>
  (θ_run _ _ _).mono (fun r h => ⟨fun c => (h c).2, Idealize.ShloMosaic.sem_eq_zero_of_no_sems (by decide) r.2⟩)
    (Cert.Reference6Ideal.Value.run m ρ)

/-- The last layer's projection of the context and its reference hold the same array. -/
theorem projection_context : haveI := Cert.Kernel7Ideal.Gen.facts; haveI := Cert.Reference7Ideal.Gen.facts;
    Cert.algebraic_Kernel7Ideal_Reference7Ideal := by
  intro m g m' g' _ hagree
  refine ⟨fun c => (Cert.Kernel7Ideal.Gen.dats m 0 c).arrAt 4 Cert.Kernel7Ideal.cfg0.N, ?_, ?_⟩
  · exact Cert.Kernel7Ideal.Value.run_blocks m g
  · refine (θ_run _ _ _).mono (fun r h c => ?_) (Cert.Reference7Ideal.Value.run m' g')
    obtain ⟨h0, h1⟩ := h c
    refine ⟨h0.trans ?_, h1⟩
    obtain ⟨a0, a1, a2⟩ := hagree c
    rw [Cert.Reference7Ideal.Read.val_main_v35_eq, a0, a1, a2]
    exact (Cert.EqualLast.ctx_eq _ _ _).symm.trans (Cert.Kernel7Ideal.Proj.final m c).symm

/-- The reference of the last layer's projection of the context runs, leaves its arguments as they were, and declares no semaphore. -/
theorem projection_context_ref : haveI := Cert.Reference7Ideal.Gen.facts; Cert.quiescent_Reference7Ideal := fun m ρ _ =>
  (θ_run _ _ _).mono (fun r h => ⟨fun c => (h c).2, Idealize.ShloMosaic.sem_eq_zero_of_no_sems (by decide) r.2⟩)
    (Cert.Reference7Ideal.Value.run m ρ)

/-- The last layer's differential attention kernel and its reference hold the same array, over real queries, keys, lambda vectors and values. -/
theorem difference_last : haveI := Cert.Kernel8Ideal.Gen.facts; haveI := Cert.Reference8Ideal.Gen.facts;
    haveI := Cert.Pre_diff_finite.Gen.facts
    Cert.algebraic_Kernel8Ideal_Reference8Ideal_pre_diff_finite := by
  intro m g m' g' hpre hagree
  refine ⟨fun c => (Cert.Kernel8Ideal.Gen.dats m 0 c).arrAt 7 Cert.Kernel8Ideal.cfg0.N, ?_, ?_⟩
  · exact Cert.Kernel8Ideal.Value.run_blocks m g
  · refine (θ_run _ _ _).mono (fun r h c => ?_) (Cert.Reference8Ideal.Value.run m' g')
    obtain ⟨h0, h1⟩ := h c
    refine ⟨h0.trans ?_, h1⟩
    obtain ⟨a0, a1, a2, a3, a4, a5, a6⟩ := hagree c
    rw [Cert.Reference8Ideal.Read.val_main_v66_eq, a0, a1, a2, a3, a4, a5, a6]
    obtain ⟨r0, r1, r2, r3, r4, r5⟩ := Cert.Kernel8Ideal.Diff.pre_real _ _ _ _ _ _ _ (hpre c)
    exact (Cert.Kernel8Ideal.Diff.diff_eq _ _ _ _ _ _ _ r0 r1 r2 r3 r4 r5).symm.trans (Cert.Kernel8Ideal.Diff.final m c).symm

/-- The reference of the last layer's differential attention runs, leaves its arguments as they were, and declares no semaphore. -/
theorem difference_last_ref : haveI := Cert.Reference8Ideal.Gen.facts; Cert.quiescent_Reference8Ideal := fun m ρ _ =>
  (θ_run _ _ _).mono (fun r h => ⟨fun c => (h c).2, Idealize.ShloMosaic.sem_eq_zero_of_no_sems (by decide) r.2⟩)
    (Cert.Reference8Ideal.Value.run m ρ)

/-- The first layer's differential attention kernel and its reference hold the same array, over real queries, keys, lambda vectors and values. -/
theorem difference_first : haveI := Cert.Kernel9Ideal.Gen.facts; haveI := Cert.Reference9Ideal.Gen.facts;
    haveI := Cert.Pre_diff_finite_joined.Gen.facts
    Cert.algebraic_Kernel9Ideal_Reference9Ideal_pre_diff_finite_joined := by
  intro m g m' g' hpre hagree
  refine ⟨fun c => (Cert.Kernel9Ideal.Gen.dats m 0 c).arrAt 7 Cert.Kernel9Ideal.cfg0.N, ?_, ?_⟩
  · exact Cert.Kernel9Ideal.Value.run_blocks m g
  · refine (θ_run _ _ _).mono (fun r h c => ?_) (Cert.Reference9Ideal.Value.run m' g')
    obtain ⟨h0, h1⟩ := h c
    refine ⟨h0.trans ?_, h1⟩
    obtain ⟨a0, a1, a2, a3, a4⟩ := hagree c
    rw [Cert.Reference9Ideal.Read.val_main_v69_eq, a0, a1, a2, a3, a4]
    obtain ⟨r0, r1, r2, r3⟩ := Cert.Kernel9Ideal.Diff.pre_real _ _ _ _ _ (hpre c)
    exact (Cert.Kernel9Ideal.Diff.diff_eq _ _ _ _ _ r0 r1 r2 r3).symm.trans (Cert.Kernel9Ideal.Diff.final m c).symm

/-- The reference of the first layer's differential attention runs, leaves its arguments as they were, and declares no semaphore. -/
theorem difference_first_ref : haveI := Cert.Reference9Ideal.Gen.facts; Cert.quiescent_Reference9Ideal := fun m ρ _ =>
  (θ_run _ _ _).mono (fun r h => ⟨fun c => (h c).2, Idealize.ShloMosaic.sem_eq_zero_of_no_sems (by decide) r.2⟩)
    (Cert.Reference9Ideal.Value.run m ρ)

/-- The first layer's key preparation kernel and its reference hold the same arrays. -/
theorem keys_first : haveI := Cert.Kernel10Ideal.Gen.facts; haveI := Cert.Reference10Ideal.Gen.facts;
    Cert.algebraic_Kernel10Ideal_Reference10Ideal := by
  intro m g m' g' _ hagree
  refine ⟨fun c => (Cert.Kernel10Ideal.Gen.dats m 0 c).arrAt 7 Cert.Kernel10Ideal.cfg0.N, fun c => (Cert.Kernel10Ideal.Gen.dats m 0 c).arrAt 8 Cert.Kernel10Ideal.cfg0.N, fun c => (Cert.Kernel10Ideal.Gen.dats m 0 c).arrAt 9 Cert.Kernel10Ideal.cfg0.N, ?_, ?_⟩
  · exact Cert.Kernel10Ideal.Value.run_blocks m g
  · refine (θ_run _ _ _).mono (fun r h c => ?_) (Cert.Reference10Ideal.Value.run m' g')
    obtain ⟨h0, h1, h2, hk⟩ := h c
    obtain ⟨a0, a1, a2, a3, a4⟩ := hagree c
    refine ⟨h0.trans ?_, h1.trans ?_, h2.trans ?_, hk⟩
    · rw [Cert.Reference10Ideal.Read.val_main_v103_eq, a0, a1, a2, a3, a4]
      exact (Cert.Kernel10Ideal.Kv.keys_eq_ref _ _ _ _ _).symm.trans (Cert.Kernel10Ideal.Kv.keys_final m c).symm
    · refine (Cert.Reference10Ideal.Read.val_main_v105_eq _ _ _).trans ?_
      rw [a0, a3, a4]
      exact (Cert.Kernel10Ideal.Kv.values_eq_ref _ _ _).symm.trans (Cert.Kernel10Ideal.Kv.values_final m c).symm
    · rw [Cert.Reference10Ideal.Read.val_main_v107_eq, a0, a1, a2]
      exact (Cert.Kernel10Ideal.Kv.dkeys_eq_ref _ _ _).symm.trans (Cert.Kernel10Ideal.Kv.dkeys_final m c).symm

/-- The reference of the first layer's key preparation runs, leaves its arguments as they were, and declares no semaphore. -/
theorem keys_first_ref : haveI := Cert.Reference10Ideal.Gen.facts; Cert.quiescent_Reference10Ideal := fun m ρ _ =>
  (θ_run _ _ _).mono (fun r h => ⟨fun c => (h c).2.2.2, Idealize.ShloMosaic.sem_eq_zero_of_no_sems (by decide) r.2⟩)
    (Cert.Reference10Ideal.Value.run m ρ)

/-- The last layer's key preparation of the sequences kernel and its reference hold the same arrays. -/
theorem keys_last : haveI := Cert.Kernel12Ideal.Gen.facts; haveI := Cert.Reference12Ideal.Gen.facts;
    Cert.algebraic_Kernel12Ideal_Reference12Ideal := by
  intro m g m' g' _ hagree
  refine ⟨fun c => (Cert.Kernel12Ideal.Gen.dats m 0 c).arrAt 7 Cert.Kernel12Ideal.cfg0.N, fun c => (Cert.Kernel12Ideal.Gen.dats m 0 c).arrAt 8 Cert.Kernel12Ideal.cfg0.N, fun c => (Cert.Kernel12Ideal.Gen.dats m 0 c).arrAt 9 Cert.Kernel12Ideal.cfg0.N, ?_, ?_⟩
  · exact Cert.Kernel12Ideal.Value.run_blocks m g
  · refine (θ_run _ _ _).mono (fun r h c => ?_) (Cert.Reference12Ideal.Value.run m' g')
    obtain ⟨h0, h1, h2, hk⟩ := h c
    obtain ⟨a0, a1, a2, a3, a4⟩ := hagree c
    refine ⟨h0.trans ?_, h1.trans ?_, h2.trans ?_, hk⟩
    · rw [Cert.Reference12Ideal.Read.val_main_v93_eq, a0, a1, a2, a3, a4]
      exact (Cert.Kernel12Ideal.Kv.keys_eq_ref _ _ _ _ _).symm.trans (Cert.Kernel12Ideal.Kv.keys_final m c).symm
    · refine (Cert.Reference12Ideal.Read.val_main_v95_eq _ _ _).trans ?_
      rw [a0, a3, a4]
      exact (Cert.Kernel12Ideal.Kv.values_eq_ref _ _ _).symm.trans (Cert.Kernel12Ideal.Kv.values_final m c).symm
    · rw [Cert.Reference12Ideal.Read.val_main_v97_eq, a0, a1, a2]
      exact (Cert.Kernel12Ideal.Kv.dkeys_eq_ref _ _ _).symm.trans (Cert.Kernel12Ideal.Kv.dkeys_final m c).symm

/-- The reference of the last layer's key preparation of the sequences runs, leaves its arguments as they were, and declares no semaphore. -/
theorem keys_last_ref : haveI := Cert.Reference12Ideal.Gen.facts; Cert.quiescent_Reference12Ideal := fun m ρ _ =>
  (θ_run _ _ _).mono (fun r h => ⟨fun c => (h c).2.2.2, Idealize.ShloMosaic.sem_eq_zero_of_no_sems (by decide) r.2⟩)
    (Cert.Reference12Ideal.Value.run m ρ)

/-- The last layer's key preparation of the context kernel and its reference hold the same arrays. -/
theorem keys_context : haveI := Cert.Kernel13Ideal.Gen.facts; haveI := Cert.Reference13Ideal.Gen.facts;
    Cert.algebraic_Kernel13Ideal_Reference13Ideal := by
  intro m g m' g' _ hagree
  refine ⟨fun c => (Cert.Kernel13Ideal.Gen.dats m 0 c).arrAt 7 Cert.Kernel13Ideal.cfg0.N, fun c => (Cert.Kernel13Ideal.Gen.dats m 0 c).arrAt 8 Cert.Kernel13Ideal.cfg0.N, fun c => (Cert.Kernel13Ideal.Gen.dats m 0 c).arrAt 9 Cert.Kernel13Ideal.cfg0.N, ?_, ?_⟩
  · exact Cert.Kernel13Ideal.Value.run_blocks m g
  · refine (θ_run _ _ _).mono (fun r h c => ?_) (Cert.Reference13Ideal.Value.run m' g')
    obtain ⟨h0, h1, h2, hk⟩ := h c
    obtain ⟨a0, a1, a2, a3, a4⟩ := hagree c
    refine ⟨h0.trans ?_, h1.trans ?_, h2.trans ?_, hk⟩
    · rw [Cert.Reference13Ideal.Read.val_main_v93_eq, a0, a1, a2, a3, a4]
      exact (Cert.Kernel13Ideal.Kv.keys_eq_ref _ _ _ _ _).symm.trans (Cert.Kernel13Ideal.Kv.keys_final m c).symm
    · refine (Cert.Reference13Ideal.Read.val_main_v95_eq _ _ _).trans ?_
      rw [a0, a3, a4]
      exact (Cert.Kernel13Ideal.Kv.values_eq_ref _ _ _).symm.trans (Cert.Kernel13Ideal.Kv.values_final m c).symm
    · rw [Cert.Reference13Ideal.Read.val_main_v97_eq, a0, a1, a2]
      exact (Cert.Kernel13Ideal.Kv.dkeys_eq_ref _ _ _).symm.trans (Cert.Kernel13Ideal.Kv.dkeys_final m c).symm

/-- The reference of the last layer's key preparation of the context runs, leaves its arguments as they were, and declares no semaphore. -/
theorem keys_context_ref : haveI := Cert.Reference13Ideal.Gen.facts; Cert.quiescent_Reference13Ideal := fun m ρ _ =>
  (θ_run _ _ _).mono (fun r h => ⟨fun c => (h c).2.2.2, Idealize.ShloMosaic.sem_eq_zero_of_no_sems (by decide) r.2⟩)
    (Cert.Reference13Ideal.Value.run m ρ)

/-- The first layer's query preparation kernel and its reference hold the same arrays. -/
theorem queries_first : haveI := Cert.Kernel11Ideal.Gen.facts; haveI := Cert.Reference11Ideal.Gen.facts;
    Cert.algebraic_Kernel11Ideal_Reference11Ideal := by
  intro m g m' g' _ hagree
  refine ⟨fun c => (Cert.Kernel11Ideal.Gen.dats m 0 c).arrAt 6 Cert.Kernel11Ideal.cfg0.N, fun c => (Cert.Kernel11Ideal.Gen.dats m 0 c).arrAt 7 Cert.Kernel11Ideal.cfg0.N, ?_, ?_⟩
  · exact Cert.Kernel11Ideal.Value.run_blocks m g
  · refine (θ_run _ _ _).mono (fun r h c => ?_) (Cert.Reference11Ideal.Value.run m' g')
    obtain ⟨h0, h1, hk⟩ := h c
    obtain ⟨a0, a1, a2, a3, a4⟩ := hagree c
    refine ⟨h0.trans ?_, h1.trans ?_, hk⟩
    · rw [Cert.Reference11Ideal.Read.val_main_v108_eq, a0, a1, a2, a3, a4]
      exact (Cert.Kernel11Ideal.Q.queries_eq_ref _ _ _ _ _).symm.trans (Cert.Kernel11Ideal.Q.queries_final m c).symm
    · rw [Cert.Reference11Ideal.Read.val_main_v110_eq, a0, a1, a2]
      exact (Cert.Kernel11Ideal.Q.dqueries_eq_ref _ _ _).symm.trans (Cert.Kernel11Ideal.Q.dqueries_final m c).symm

/-- The reference of the first layer's query preparation runs, leaves its arguments as they were, and declares no semaphore. -/
theorem queries_first_ref : haveI := Cert.Reference11Ideal.Gen.facts; Cert.quiescent_Reference11Ideal := fun m ρ _ =>
  (θ_run _ _ _).mono (fun r h => ⟨fun c => (h c).2.2, Idealize.ShloMosaic.sem_eq_zero_of_no_sems (by decide) r.2⟩)
    (Cert.Reference11Ideal.Value.run m ρ)

/-- The last layer's query preparation kernel and its reference hold the same arrays. -/
theorem queries_last : haveI := Cert.Kernel14Ideal.Gen.facts; haveI := Cert.Reference14Ideal.Gen.facts;
    Cert.algebraic_Kernel14Ideal_Reference14Ideal := by
  intro m g m' g' _ hagree
  refine ⟨fun c => (Cert.Kernel14Ideal.Gen.dats m 0 c).arrAt 6 Cert.Kernel14Ideal.cfg0.N, fun c => (Cert.Kernel14Ideal.Gen.dats m 0 c).arrAt 7 Cert.Kernel14Ideal.cfg0.N, ?_, ?_⟩
  · exact Cert.Kernel14Ideal.Value.run_blocks m g
  · refine (θ_run _ _ _).mono (fun r h c => ?_) (Cert.Reference14Ideal.Value.run m' g')
    obtain ⟨h0, h1, hk⟩ := h c
    obtain ⟨a0, a1, a2, a3, a4⟩ := hagree c
    refine ⟨h0.trans ?_, h1.trans ?_, hk⟩
    · rw [Cert.Reference14Ideal.Read.val_main_v98_eq, a0, a1, a2, a3, a4]
      exact (Cert.Kernel14Ideal.Q.queries_eq_ref _ _ _ _ _).symm.trans (Cert.Kernel14Ideal.Q.queries_final m c).symm
    · rw [Cert.Reference14Ideal.Read.val_main_v100_eq, a0, a1, a2]
      exact (Cert.Kernel14Ideal.Q.dqueries_eq_ref _ _ _).symm.trans (Cert.Kernel14Ideal.Q.dqueries_final m c).symm

/-- The reference of the last layer's query preparation runs, leaves its arguments as they were, and declares no semaphore. -/
theorem queries_last_ref : haveI := Cert.Reference14Ideal.Gen.facts; Cert.quiescent_Reference14Ideal := fun m ρ _ =>
  (θ_run _ _ _).mono (fun r h => ⟨fun c => (h c).2.2, Idealize.ShloMosaic.sem_eq_zero_of_no_sems (by decide) r.2⟩)
    (Cert.Reference14Ideal.Value.run m ρ)

/-- The context's own attention kernel and its reference hold the same array, over real queries and keys of the context. -/
theorem attention_context : haveI := Cert.Kernel15Ideal.Gen.facts; haveI := Cert.Reference15Ideal.Gen.facts;
    haveI := Cert.Pre_scores_finite_context.Gen.facts
    Cert.algebraic_Kernel15Ideal_Reference15Ideal_pre_scores_finite_context := by
  intro m g m' g' hpre hagree
  refine ⟨fun c => (Cert.Kernel15Ideal.Gen.dats m 0 c).arrAt 3 Cert.Kernel15Ideal.cfg0.N, ?_, ?_⟩
  · exact Cert.Kernel15Ideal.Value.run_blocks m g
  · refine (θ_run _ _ _).mono (fun r h c => ?_) (Cert.Reference15Ideal.Value.run m' g')
    obtain ⟨h0, h1⟩ := h c
    refine ⟨h0.trans ?_, h1⟩
    obtain ⟨a0, a1, a2⟩ := hagree c
    rw [Cert.Reference15Ideal.Read.val_main_v24_eq, a0, a1, a2]
    obtain ⟨r0, r1⟩ := Cert.Kernel15Ideal.Attn.pre_real _ _ _ (hpre c)
    exact (Cert.Kernel15Ideal.Attn.attn_eq _ _ _ r0 r1).symm.trans (Cert.Kernel15Ideal.Attn.final m c).symm

/-- The reference of the context's own attention runs, leaves its arguments as they were, and declares no semaphore. -/
theorem attention_context_ref : haveI := Cert.Reference15Ideal.Gen.facts; Cert.quiescent_Reference15Ideal := fun m ρ _ =>
  (θ_run _ _ _).mono (fun r h => ⟨fun c => (h c).2, Idealize.ShloMosaic.sem_eq_zero_of_no_sems (by decide) r.2⟩)
    (Cert.Reference15Ideal.Value.run m ρ)

/-- The context's own differential attention kernel and its reference hold the same array, over real queries, keys, lambda vectors and values of the context. -/
theorem difference_context : haveI := Cert.Kernel16Ideal.Gen.facts; haveI := Cert.Reference16Ideal.Gen.facts;
    haveI := Cert.Pre_diff_finite_context.Gen.facts
    Cert.algebraic_Kernel16Ideal_Reference16Ideal_pre_diff_finite_context := by
  intro m g m' g' hpre hagree
  refine ⟨fun c => (Cert.Kernel16Ideal.Gen.dats m 0 c).arrAt 5 Cert.Kernel16Ideal.cfg0.N, ?_, ?_⟩
  · exact Cert.Kernel16Ideal.Value.run_blocks m g
  · refine (θ_run _ _ _).mono (fun r h c => ?_) (Cert.Reference16Ideal.Value.run m' g')
    obtain ⟨h0, h1⟩ := h c
    refine ⟨h0.trans ?_, h1⟩
    obtain ⟨a0, a1, a2, a3, a4⟩ := hagree c
    rw [Cert.Reference16Ideal.Read.val_main_v61_eq, a0, a1, a2, a3, a4]
    obtain ⟨r0, r1, r2, r3⟩ := Cert.Kernel16Ideal.Diff.pre_real _ _ _ _ _ (hpre c)
    exact (Cert.Kernel16Ideal.Diff.diff_eq _ _ _ _ _ r0 r1 r2 r3).symm.trans (Cert.Kernel16Ideal.Diff.final m c).symm

/-- The reference of the context's own differential attention runs, leaves its arguments as they were, and declares no semaphore. -/
theorem difference_context_ref : haveI := Cert.Reference16Ideal.Gen.facts; Cert.quiescent_Reference16Ideal := fun m ρ _ =>
  (θ_run _ _ _).mono (fun r h => ⟨fun c => (h c).2, Idealize.ShloMosaic.sem_eq_zero_of_no_sems (by decide) r.2⟩)
    (Cert.Reference16Ideal.Value.run m ρ)

/-- The modulation's product and its reference hold the same array. -/
theorem modulation : haveI := Cert.Kernel17Ideal.Gen.facts; haveI := Cert.Reference17Ideal.Gen.facts;
    Cert.algebraic_Kernel17Ideal_Reference17Ideal := by
  intro m g m' g' _ hagree
  refine ⟨fun c => (Cert.Kernel17Ideal.Gen.dats m 0 c).arrAt 3 Cert.Kernel17Ideal.cfg0.N, ?_, ?_⟩
  · exact Cert.Kernel17Ideal.Value.run_blocks m g
  · refine (θ_run _ _ _).mono (fun r h c => ?_) (Cert.Reference17Ideal.Value.run m' g')
    obtain ⟨h0, h1⟩ := h c
    refine ⟨h0.trans ?_, h1⟩
    obtain ⟨a0, a1, a2⟩ := hagree c
    rw [Cert.Reference17Ideal.Read.val_main_v18_eq, a0, a1, a2]
    exact (Cert.Reference17Ideal.Ada.ada_eq _ _ _).symm.trans (Cert.Kernel17Ideal.Ada.final m c).symm

/-- The reference of the modulation's product runs, leaves its arguments as they were, and declares no semaphore. -/
theorem modulation_ref : haveI := Cert.Reference17Ideal.Gen.facts; Cert.quiescent_Reference17Ideal := fun m ρ _ =>
  (θ_run _ _ _).mono (fun r h => ⟨fun c => (h c).2, Idealize.ShloMosaic.sem_eq_zero_of_no_sems (by decide) r.2⟩)
    (Cert.Reference17Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Pre_scores_finite.Gen.facts, Cert.Pre_scores_finite_joined.Gen.facts, Cert.Pre_diff_finite.Gen.facts, Cert.Pre_diff_finite_joined.Gen.facts, Cert.Pre_scores_finite_context.Gen.facts, Cert.Pre_diff_finite_context.Gen.facts,
  fun m ρ _ => Cert.Kernel.Gen.frame m ρ,
  fun m ρ _ => Cert.KernelIdeal.Gen.frame m ρ,
  fun m ρ _ => Cert.KernelIdeal.Gen.frame m ρ,
  fun m ρ _ => attention_ref m ρ trivial,
  fun m ρ _ => attention_ref m ρ trivial,
  fun m ρ _ => Cert.Kernel2.Gen.frame m ρ,
  fun m ρ _ => Cert.Kernel2Ideal.Gen.frame m ρ,
  fun m ρ _ => projection_ref m ρ trivial,
  fun m ρ _ => Cert.Kernel3.Gen.frame m ρ,
  fun m ρ _ => Cert.Kernel3Ideal.Gen.frame m ρ,
  fun m ρ _ => merge_ref m ρ trivial,
  fun m ρ _ => Cert.Kernel4.Gen.frame m ρ,
  fun m ρ _ => Cert.Kernel4Ideal.Gen.frame m ρ,
  fun m ρ _ => projection_last_ref m ρ trivial,
  fun m ρ _ => Cert.Kernel5.Gen.frame m ρ,
  fun m ρ _ => Cert.Kernel5Ideal.Gen.frame m ρ,
  fun m ρ _ => merge_last_ref m ρ trivial,
  fun m ρ _ => Cert.Kernel6.Gen.frame m ρ,
  fun m ρ _ => Cert.Kernel6Ideal.Gen.frame m ρ,
  fun m ρ _ => Cert.Kernel6Ideal.Gen.frame m ρ,
  fun m ρ _ => attention_first_ref m ρ trivial,
  fun m ρ _ => attention_first_ref m ρ trivial,
  fun m ρ _ => Cert.Kernel7.Gen.frame m ρ,
  fun m ρ _ => Cert.Kernel7Ideal.Gen.frame m ρ,
  fun m ρ _ => projection_context_ref m ρ trivial,
  fun m ρ _ => Cert.Kernel8.Gen.frame m ρ,
  fun m ρ _ => Cert.Kernel8Ideal.Gen.frame m ρ,
  fun m ρ _ => Cert.Kernel8Ideal.Gen.frame m ρ,
  fun m ρ _ => difference_last_ref m ρ trivial,
  fun m ρ _ => difference_last_ref m ρ trivial,
  fun m ρ _ => Cert.Kernel9.Gen.frame m ρ,
  fun m ρ _ => Cert.Kernel9Ideal.Gen.frame m ρ,
  fun m ρ _ => Cert.Kernel9Ideal.Gen.frame m ρ,
  fun m ρ _ => difference_first_ref m ρ trivial,
  fun m ρ _ => difference_first_ref m ρ trivial,
  fun m ρ _ => Cert.Kernel10.Gen.frame m ρ,
  fun m ρ _ => Cert.Kernel10Ideal.Gen.frame m ρ,
  fun m ρ _ => keys_first_ref m ρ trivial,
  fun m ρ _ => Cert.Kernel11.Gen.frame m ρ,
  fun m ρ _ => Cert.Kernel11Ideal.Gen.frame m ρ,
  fun m ρ _ => queries_first_ref m ρ trivial,
  fun m ρ _ => Cert.Kernel12.Gen.frame m ρ,
  fun m ρ _ => Cert.Kernel12Ideal.Gen.frame m ρ,
  fun m ρ _ => keys_last_ref m ρ trivial,
  fun m ρ _ => Cert.Kernel13.Gen.frame m ρ,
  fun m ρ _ => Cert.Kernel13Ideal.Gen.frame m ρ,
  fun m ρ _ => keys_context_ref m ρ trivial,
  fun m ρ _ => Cert.Kernel14.Gen.frame m ρ,
  fun m ρ _ => Cert.Kernel14Ideal.Gen.frame m ρ,
  fun m ρ _ => queries_last_ref m ρ trivial,
  fun m ρ _ => Cert.Kernel15.Gen.frame m ρ,
  fun m ρ _ => Cert.Kernel15Ideal.Gen.frame m ρ,
  fun m ρ _ => Cert.Kernel15Ideal.Gen.frame m ρ,
  fun m ρ _ => attention_context_ref m ρ trivial,
  fun m ρ _ => attention_context_ref m ρ trivial,
  fun m ρ _ => Cert.Kernel16.Gen.frame m ρ,
  fun m ρ _ => Cert.Kernel16Ideal.Gen.frame m ρ,
  fun m ρ _ => Cert.Kernel16Ideal.Gen.frame m ρ,
  fun m ρ _ => difference_context_ref m ρ trivial,
  fun m ρ _ => difference_context_ref m ρ trivial,
  fun m ρ _ => Cert.Kernel17.Gen.frame m ρ,
  fun m ρ _ => Cert.Kernel17Ideal.Gen.frame m ρ,
  fun m ρ _ => modulation_ref m ρ trivial,
  trivial, attention, trivial, projection, trivial, merge, trivial, projection_last, trivial, merge_last, trivial, attention_first, trivial, projection_context, trivial, difference_last, trivial, difference_first, trivial, keys_first, trivial, queries_first, trivial, keys_last, trivial, keys_context, trivial, queries_last, trivial, attention_context, trivial, difference_context, trivial, modulation⟩

end Cert.Proof

end
